-- ==== Defs.lean ====
def Pre_Experts [hPre_moe_pre : Cert.Pre_moe_pre.Facts] (m : (ℓ : Loc Cert.Experts.nD Cert.Experts.τ Cert.Experts.sig) → Buf (Elt Bits) ℓ) : Prop :=
  ∀ c : Dev Cert.Experts.nD,
    (Cert.Pre_moe_pre.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_moe_pre : Cert.Pre_moe_pre.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_moe_pre.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ReferenceIdeal [hPre_moe_pre : Cert.Pre_moe_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moe_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_HyenaIn (m : (ℓ : Loc Cert.HyenaIn.nD Cert.HyenaIn.τ Cert.HyenaIn.sig) → Buf (Elt Bits) ℓ) : Prop :=
  True

def Pre_HyenaInIdeal (m : (ℓ : Loc Cert.HyenaInIdeal.nD Cert.HyenaInIdeal.τ Cert.HyenaInIdeal.sig) → Buf (Elt Ideal) ℓ) : Prop :=
  True

def Pre_HyenaInReferenceIdeal (m : (ℓ : Loc Cert.HyenaInReferenceIdeal.nD Cert.HyenaInReferenceIdeal.τ Cert.HyenaInReferenceIdeal.sig) → Buf (Elt Ideal) ℓ) : Prop :=
  True

def Pre_FinalPrompt (m : (ℓ : Loc Cert.FinalPrompt.nD Cert.FinalPrompt.τ Cert.FinalPrompt.sig) → Buf (Elt Bits) ℓ) : Prop :=
  True

def Pre_FinalPromptIdeal (m : (ℓ : Loc Cert.FinalPromptIdeal.nD Cert.FinalPromptIdeal.τ Cert.FinalPromptIdeal.sig) → Buf (Elt Ideal) ℓ) : Prop :=
  True

def Pre_FinalPromptReferenceIdeal (m : (ℓ : Loc Cert.FinalPromptReferenceIdeal.nD Cert.FinalPromptReferenceIdeal.τ Cert.FinalPromptReferenceIdeal.sig) → Buf (Elt Ideal) ℓ) : Prop :=
  True

def Pre_FinalSample (m : (ℓ : Loc Cert.FinalSample.nD Cert.FinalSample.τ Cert.FinalSample.sig) → Buf (Elt Bits) ℓ) : Prop :=
  True

def Pre_FinalSampleIdeal (m : (ℓ : Loc Cert.FinalSampleIdeal.nD Cert.FinalSampleIdeal.τ Cert.FinalSampleIdeal.sig) → Buf (Elt Ideal) ℓ) : Prop :=
  True

def Pre_FinalSampleReferenceIdeal (m : (ℓ : Loc Cert.FinalSampleReferenceIdeal.nD Cert.FinalSampleReferenceIdeal.τ Cert.FinalSampleReferenceIdeal.sig) → Buf (Elt Ideal) ℓ) : Prop :=
  True

def Pre_DeltaIn (m : (ℓ : Loc Cert.DeltaIn.nD Cert.DeltaIn.τ Cert.DeltaIn.sig) → Buf (Elt Bits) ℓ) : Prop :=
  True

def Pre_DeltaInIdeal (m : (ℓ : Loc Cert.DeltaInIdeal.nD Cert.DeltaInIdeal.τ Cert.DeltaInIdeal.sig) → Buf (Elt Ideal) ℓ) : Prop :=
  True

def Pre_DeltaInReferenceIdeal (m : (ℓ : Loc Cert.DeltaInReferenceIdeal.nD Cert.DeltaInReferenceIdeal.τ Cert.DeltaInReferenceIdeal.sig) → Buf (Elt Ideal) ℓ) : Prop :=
  True

def Pre_DeltaOut (m : (ℓ : Loc Cert.DeltaOut.nD Cert.DeltaOut.τ Cert.DeltaOut.sig) → Buf (Elt Bits) ℓ) : Prop :=
  True

def Pre_DeltaOutIdeal (m : (ℓ : Loc Cert.DeltaOutIdeal.nD Cert.DeltaOutIdeal.τ Cert.DeltaOutIdeal.sig) → Buf (Elt Ideal) ℓ) : Prop :=
  True

def Pre_DeltaOutReferenceIdeal (m : (ℓ : Loc Cert.DeltaOutReferenceIdeal.nD Cert.DeltaOutReferenceIdeal.τ Cert.DeltaOutReferenceIdeal.sig) → Buf (Elt Ideal) ℓ) : Prop :=
  True

def Pre_HyenaOut (m : (ℓ : Loc Cert.HyenaOut.nD Cert.HyenaOut.τ Cert.HyenaOut.sig) → Buf (Elt Bits) ℓ) : Prop :=
  True

def Pre_HyenaOutIdeal (m : (ℓ : Loc Cert.HyenaOutIdeal.nD Cert.HyenaOutIdeal.τ Cert.HyenaOutIdeal.sig) → Buf (Elt Ideal) ℓ) : Prop :=
  True

def Pre_HyenaOutReferenceIdeal (m : (ℓ : Loc Cert.HyenaOutReferenceIdeal.nD Cert.HyenaOutReferenceIdeal.τ Cert.HyenaOutReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_HyenaConv (m : (ℓ : Loc Cert.HyenaConv.nD Cert.HyenaConv.τ Cert.HyenaConv.sig) → Buf (Elt Bits) ℓ) : Prop :=
  True

def Pre_HyenaConvIdeal (m : (ℓ : Loc Cert.HyenaConvIdeal.nD Cert.HyenaConvIdeal.τ Cert.HyenaConvIdeal.sig) → Buf (Elt Ideal) ℓ) : Prop :=
  True

def Pre_HyenaConvReferenceIdeal (m : (ℓ : Loc Cert.HyenaConvReferenceIdeal.nD Cert.HyenaConvReferenceIdeal.τ Cert.HyenaConvReferenceIdeal.sig) → Buf (Elt Ideal) ℓ) : Prop :=
  True

def quiescent_Experts [hExperts : Cert.Experts.Facts] [hPre_moe_pre : Cert.Pre_moe_pre.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_moe_pre : Cert.Pre_moe_pre.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ReferenceIdeal [hReferenceIdeal : Cert.ReferenceIdeal.Facts] [hPre_moe_pre : Cert.Pre_moe_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_HyenaIn [hHyenaIn : Cert.HyenaIn.Facts] : Prop :=
  ∀ (m : (ℓ : Loc Cert.HyenaIn.nD Cert.HyenaIn.τ Cert.HyenaIn.sig) → Buf (Elt Bits) ℓ) (g : Dev Cert.HyenaIn.nD → PrngReg), Pre_HyenaIn m →
    θ_run (Cert.HyenaIn.defs (F := Bits)) (onTc (τ := Cert.HyenaIn.τ) (Cert.HyenaIn.main (F := Bits))) ⟨m, fun _ => 0, g⟩ (fun r => (∀ c : Dev Cert.HyenaIn.nD,
      r.2.mem ((c.tc : Thread Cert.HyenaIn.nD Cert.HyenaIn.τ).loc Cert.HyenaIn.main_arg0) = m ((c.tc : Thread Cert.HyenaIn.nD Cert.HyenaIn.τ).loc Cert.HyenaIn.main_arg0)
      ∧ r.2.mem ((c.tc : Thread Cert.HyenaIn.nD Cert.HyenaIn.τ).loc Cert.HyenaIn.main_arg1) = m ((c.tc : Thread Cert.HyenaIn.nD Cert.HyenaIn.τ).loc Cert.HyenaIn.main_arg1)
      ∧ r.2.mem ((c.tc : Thread Cert.HyenaIn.nD Cert.HyenaIn.τ).loc Cert.HyenaIn.main_arg2) = m ((c.tc : Thread Cert.HyenaIn.nD Cert.HyenaIn.τ).loc Cert.HyenaIn.main_arg2)
      ∧ r.2.mem ((c.tc : Thread Cert.HyenaIn.nD Cert.HyenaIn.τ).loc Cert.HyenaIn.main_arg3) = m ((c.tc : Thread Cert.HyenaIn.nD Cert.HyenaIn.τ).loc Cert.HyenaIn.main_arg3))
      ∧ r.2.sem = fun _ => 0)

def quiescent_HyenaInIdeal [hHyenaInIdeal : Cert.HyenaInIdeal.Facts] : Prop :=
  ∀ (m : (ℓ : Loc Cert.HyenaInIdeal.nD Cert.HyenaInIdeal.τ Cert.HyenaInIdeal.sig) → Buf (Elt Ideal) ℓ) (g : Dev Cert.HyenaInIdeal.nD → PrngReg), Pre_HyenaInIdeal m →
    θ_run (Cert.HyenaInIdeal.defs (F := Ideal)) (onTc (τ := Cert.HyenaInIdeal.τ) (Cert.HyenaInIdeal.main (F := Ideal))) ⟨m, fun _ => 0, g⟩ (fun r => (∀ c : Dev Cert.HyenaInIdeal.nD,
      r.2.mem ((c.tc : Thread Cert.HyenaInIdeal.nD Cert.HyenaInIdeal.τ).loc Cert.HyenaInIdeal.main_arg0) = m ((c.tc : Thread Cert.HyenaInIdeal.nD Cert.HyenaInIdeal.τ).loc Cert.HyenaInIdeal.main_arg0)
      ∧ r.2.mem ((c.tc : Thread Cert.HyenaInIdeal.nD Cert.HyenaInIdeal.τ).loc Cert.HyenaInIdeal.main_arg1) = m ((c.tc : Thread Cert.HyenaInIdeal.nD Cert.HyenaInIdeal.τ).loc Cert.HyenaInIdeal.main_arg1)
      ∧ r.2.mem ((c.tc : Thread Cert.HyenaInIdeal.nD Cert.HyenaInIdeal.τ).loc Cert.HyenaInIdeal.main_arg2) = m ((c.tc : Thread Cert.HyenaInIdeal.nD Cert.HyenaInIdeal.τ).loc Cert.HyenaInIdeal.main_arg2)
      ∧ r.2.mem ((c.tc : Thread Cert.HyenaInIdeal.nD Cert.HyenaInIdeal.τ).loc Cert.HyenaInIdeal.main_arg3) = m ((c.tc : Thread Cert.HyenaInIdeal.nD Cert.HyenaInIdeal.τ).loc Cert.HyenaInIdeal.main_arg3))
      ∧ r.2.sem = fun _ => 0)

def quiescent_HyenaInReferenceIdeal [hHyenaInReferenceIdeal : Cert.HyenaInReferenceIdeal.Facts] : Prop :=
  ∀ (m : (ℓ : Loc Cert.HyenaInReferenceIdeal.nD Cert.HyenaInReferenceIdeal.τ Cert.HyenaInReferenceIdeal.sig) → Buf (Elt Ideal) ℓ) (g : Dev Cert.HyenaInReferenceIdeal.nD → PrngReg), Pre_HyenaInReferenceIdeal m →
    θ_run (Cert.HyenaInReferenceIdeal.defs (F := Ideal)) (onTc (τ := Cert.HyenaInReferenceIdeal.τ) (Cert.HyenaInReferenceIdeal.main (F := Ideal))) ⟨m, fun _ => 0, g⟩ (fun r => (∀ c : Dev Cert.HyenaInReferenceIdeal.nD,
      r.2.mem ((c.tc : Thread Cert.HyenaInReferenceIdeal.nD Cert.HyenaInReferenceIdeal.τ).loc Cert.HyenaInReferenceIdeal.main_arg0) = m ((c.tc : Thread Cert.HyenaInReferenceIdeal.nD Cert.HyenaInReferenceIdeal.τ).loc Cert.HyenaInReferenceIdeal.main_arg0)
      ∧ r.2.mem ((c.tc : Thread Cert.HyenaInReferenceIdeal.nD Cert.HyenaInReferenceIdeal.τ).loc Cert.HyenaInReferenceIdeal.main_arg1) = m ((c.tc : Thread Cert.HyenaInReferenceIdeal.nD Cert.HyenaInReferenceIdeal.τ).loc Cert.HyenaInReferenceIdeal.main_arg1)
      ∧ r.2.mem ((c.tc : Thread Cert.HyenaInReferenceIdeal.nD Cert.HyenaInReferenceIdeal.τ).loc Cert.HyenaInReferenceIdeal.main_arg2) = m ((c.tc : Thread Cert.HyenaInReferenceIdeal.nD Cert.HyenaInReferenceIdeal.τ).loc Cert.HyenaInReferenceIdeal.main_arg2)
      ∧ r.2.mem ((c.tc : Thread Cert.HyenaInReferenceIdeal.nD Cert.HyenaInReferenceIdeal.τ).loc Cert.HyenaInReferenceIdeal.main_arg3) = m ((c.tc : Thread Cert.HyenaInReferenceIdeal.nD Cert.HyenaInReferenceIdeal.τ).loc Cert.HyenaInReferenceIdeal.main_arg3))
      ∧ r.2.sem = fun _ => 0)

def quiescent_FinalPrompt [hFinalPrompt : Cert.FinalPrompt.Facts] : Prop :=
  ∀ (m : (ℓ : Loc Cert.FinalPrompt.nD Cert.FinalPrompt.τ Cert.FinalPrompt.sig) → Buf (Elt Bits) ℓ) (g : Dev Cert.FinalPrompt.nD → PrngReg), Pre_FinalPrompt m →
    θ_run (Cert.FinalPrompt.defs (F := Bits)) (onTc (τ := Cert.FinalPrompt.τ) (Cert.FinalPrompt.main (F := Bits))) ⟨m, fun _ => 0, g⟩ (fun r => (∀ c : Dev Cert.FinalPrompt.nD,
      r.2.mem ((c.tc : Thread Cert.FinalPrompt.nD Cert.FinalPrompt.τ).loc Cert.FinalPrompt.main_arg0) = m ((c.tc : Thread Cert.FinalPrompt.nD Cert.FinalPrompt.τ).loc Cert.FinalPrompt.main_arg0)
      ∧ r.2.mem ((c.tc : Thread Cert.FinalPrompt.nD Cert.FinalPrompt.τ).loc Cert.FinalPrompt.main_arg1) = m ((c.tc : Thread Cert.FinalPrompt.nD Cert.FinalPrompt.τ).loc Cert.FinalPrompt.main_arg1))
      ∧ r.2.sem = fun _ => 0)

def quiescent_FinalPromptIdeal [hFinalPromptIdeal : Cert.FinalPromptIdeal.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg), Pre_FinalPromptIdeal m →
    θ_run (Cert.FinalPromptIdeal.defs (F := Ideal)) (onTc (τ := Cert.FinalPromptIdeal.τ) (Cert.FinalPromptIdeal.main (F := Ideal))) ⟨m, fun _ => 0, g⟩ (fun r => (∀ c : Dev Cert.FinalPromptIdeal.nD,
      r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
      ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1))
      ∧ r.2.sem = fun _ => 0)

def quiescent_FinalPromptReferenceIdeal [hFinalPromptReferenceIdeal : Cert.FinalPromptReferenceIdeal.Facts] : Prop :=
  ∀ (m : (ℓ : Loc Cert.FinalPromptReferenceIdeal.nD Cert.FinalPromptReferenceIdeal.τ Cert.FinalPromptReferenceIdeal.sig) → Buf (Elt Ideal) ℓ) (g : Dev Cert.FinalPromptReferenceIdeal.nD → PrngReg), Pre_FinalPromptReferenceIdeal m →
    θ_run (Cert.FinalPromptReferenceIdeal.defs (F := Ideal)) (onTc (τ := Cert.FinalPromptReferenceIdeal.τ) (Cert.FinalPromptReferenceIdeal.main (F := Ideal))) ⟨m, fun _ => 0, g⟩ (fun r => (∀ c : Dev Cert.FinalPromptReferenceIdeal.nD,
      r.2.mem ((c.tc : Thread Cert.FinalPromptReferenceIdeal.nD Cert.FinalPromptReferenceIdeal.τ).loc Cert.FinalPromptReferenceIdeal.main_arg0) = m ((c.tc : Thread Cert.FinalPromptReferenceIdeal.nD Cert.FinalPromptReferenceIdeal.τ).loc Cert.FinalPromptReferenceIdeal.main_arg0)
      ∧ r.2.mem ((c.tc : Thread Cert.FinalPromptReferenceIdeal.nD Cert.FinalPromptReferenceIdeal.τ).loc Cert.FinalPromptReferenceIdeal.main_arg1) = m ((c.tc : Thread Cert.FinalPromptReferenceIdeal.nD Cert.FinalPromptReferenceIdeal.τ).loc Cert.FinalPromptReferenceIdeal.main_arg1))
      ∧ r.2.sem = fun _ => 0)

def quiescent_FinalSample [hFinalSample : Cert.FinalSample.Facts] : Prop :=
  ∀ (m : (ℓ : Loc Cert.FinalSample.nD Cert.FinalSample.τ Cert.FinalSample.sig) → Buf (Elt Bits) ℓ) (g : Dev Cert.FinalSample.nD → PrngReg), Pre_FinalSample m →
    θ_run (Cert.FinalSample.defs (F := Bits)) (onTc (τ := Cert.FinalSample.τ) (Cert.FinalSample.main (F := Bits))) ⟨m, fun _ => 0, g⟩ (fun r => (∀ c : Dev Cert.FinalSample.nD,
      r.2.mem ((c.tc : Thread Cert.FinalSample.nD Cert.FinalSample.τ).loc Cert.FinalSample.main_arg0) = m ((c.tc : Thread Cert.FinalSample.nD Cert.FinalSample.τ).loc Cert.FinalSample.main_arg0)
      ∧ r.2.mem ((c.tc : Thread Cert.FinalSample.nD Cert.FinalSample.τ).loc Cert.FinalSample.main_arg1) = m ((c.tc : Thread Cert.FinalSample.nD Cert.FinalSample.τ).loc Cert.FinalSample.main_arg1))
      ∧ r.2.sem = fun _ => 0)

def quiescent_FinalSampleIdeal [hFinalSampleIdeal : Cert.FinalSampleIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg), Pre_FinalSampleIdeal m →
    θ_run (Cert.FinalSampleIdeal.defs (F := Ideal)) (onTc (τ := Cert.FinalSampleIdeal.τ) (Cert.FinalSampleIdeal.main (F := Ideal))) ⟨m, fun _ => 0, g⟩ (fun r => (∀ c : Dev Cert.FinalSampleIdeal.nD,
      r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
      ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1))
      ∧ r.2.sem = fun _ => 0)

def quiescent_FinalSampleReferenceIdeal [hFinalSampleReferenceIdeal : Cert.FinalSampleReferenceIdeal.Facts] : Prop :=
  ∀ (m : (ℓ : Loc Cert.FinalSampleReferenceIdeal.nD Cert.FinalSampleReferenceIdeal.τ Cert.FinalSampleReferenceIdeal.sig) → Buf (Elt Ideal) ℓ) (g : Dev Cert.FinalSampleReferenceIdeal.nD → PrngReg), Pre_FinalSampleReferenceIdeal m →
    θ_run (Cert.FinalSampleReferenceIdeal.defs (F := Ideal)) (onTc (τ := Cert.FinalSampleReferenceIdeal.τ) (Cert.FinalSampleReferenceIdeal.main (F := Ideal))) ⟨m, fun _ => 0, g⟩ (fun r => (∀ c : Dev Cert.FinalSampleReferenceIdeal.nD,
      r.2.mem ((c.tc : Thread Cert.FinalSampleReferenceIdeal.nD Cert.FinalSampleReferenceIdeal.τ).loc Cert.FinalSampleReferenceIdeal.main_arg0) = m ((c.tc : Thread Cert.FinalSampleReferenceIdeal.nD Cert.FinalSampleReferenceIdeal.τ).loc Cert.FinalSampleReferenceIdeal.main_arg0)
      ∧ r.2.mem ((c.tc : Thread Cert.FinalSampleReferenceIdeal.nD Cert.FinalSampleReferenceIdeal.τ).loc Cert.FinalSampleReferenceIdeal.main_arg1) = m ((c.tc : Thread Cert.FinalSampleReferenceIdeal.nD Cert.FinalSampleReferenceIdeal.τ).loc Cert.FinalSampleReferenceIdeal.main_arg1))
      ∧ r.2.sem = fun _ => 0)

def quiescent_DeltaIn [hDeltaIn : Cert.DeltaIn.Facts] : Prop :=
  ∀ (m : (ℓ : Loc Cert.DeltaIn.nD Cert.DeltaIn.τ Cert.DeltaIn.sig) → Buf (Elt Bits) ℓ) (g : Dev Cert.DeltaIn.nD → PrngReg), Pre_DeltaIn m →
    θ_run (Cert.DeltaIn.defs (F := Bits)) (onTc (τ := Cert.DeltaIn.τ) (Cert.DeltaIn.main (F := Bits))) ⟨m, fun _ => 0, g⟩ (fun r => (∀ c : Dev Cert.DeltaIn.nD,
      r.2.mem ((c.tc : Thread Cert.DeltaIn.nD Cert.DeltaIn.τ).loc Cert.DeltaIn.main_arg0) = m ((c.tc : Thread Cert.DeltaIn.nD Cert.DeltaIn.τ).loc Cert.DeltaIn.main_arg0)
      ∧ r.2.mem ((c.tc : Thread Cert.DeltaIn.nD Cert.DeltaIn.τ).loc Cert.DeltaIn.main_arg1) = m ((c.tc : Thread Cert.DeltaIn.nD Cert.DeltaIn.τ).loc Cert.DeltaIn.main_arg1)
      ∧ r.2.mem ((c.tc : Thread Cert.DeltaIn.nD Cert.DeltaIn.τ).loc Cert.DeltaIn.main_arg2) = m ((c.tc : Thread Cert.DeltaIn.nD Cert.DeltaIn.τ).loc Cert.DeltaIn.main_arg2)
      ∧ r.2.mem ((c.tc : Thread Cert.DeltaIn.nD Cert.DeltaIn.τ).loc Cert.DeltaIn.main_arg3) = m ((c.tc : Thread Cert.DeltaIn.nD Cert.DeltaIn.τ).loc Cert.DeltaIn.main_arg3))
      ∧ r.2.sem = fun _ => 0)

def quiescent_DeltaInIdeal [hDeltaInIdeal : Cert.DeltaInIdeal.Facts] : Prop :=
  ∀ (m : (ℓ : Loc Cert.DeltaInIdeal.nD Cert.DeltaInIdeal.τ Cert.DeltaInIdeal.sig) → Buf (Elt Ideal) ℓ) (g : Dev Cert.DeltaInIdeal.nD → PrngReg), Pre_DeltaInIdeal m →
    θ_run (Cert.DeltaInIdeal.defs (F := Ideal)) (onTc (τ := Cert.DeltaInIdeal.τ) (Cert.DeltaInIdeal.main (F := Ideal))) ⟨m, fun _ => 0, g⟩ (fun r => (∀ c : Dev Cert.DeltaInIdeal.nD,
      r.2.mem ((c.tc : Thread Cert.DeltaInIdeal.nD Cert.DeltaInIdeal.τ).loc Cert.DeltaInIdeal.main_arg0) = m ((c.tc : Thread Cert.DeltaInIdeal.nD Cert.DeltaInIdeal.τ).loc Cert.DeltaInIdeal.main_arg0)
      ∧ r.2.mem ((c.tc : Thread Cert.DeltaInIdeal.nD Cert.DeltaInIdeal.τ).loc Cert.DeltaInIdeal.main_arg1) = m ((c.tc : Thread Cert.DeltaInIdeal.nD Cert.DeltaInIdeal.τ).loc Cert.DeltaInIdeal.main_arg1)
      ∧ r.2.mem ((c.tc : Thread Cert.DeltaInIdeal.nD Cert.DeltaInIdeal.τ).loc Cert.DeltaInIdeal.main_arg2) = m ((c.tc : Thread Cert.DeltaInIdeal.nD Cert.DeltaInIdeal.τ).loc Cert.DeltaInIdeal.main_arg2)
      ∧ r.2.mem ((c.tc : Thread Cert.DeltaInIdeal.nD Cert.DeltaInIdeal.τ).loc Cert.DeltaInIdeal.main_arg3) = m ((c.tc : Thread Cert.DeltaInIdeal.nD Cert.DeltaInIdeal.τ).loc Cert.DeltaInIdeal.main_arg3))
      ∧ r.2.sem = fun _ => 0)

def quiescent_DeltaInReferenceIdeal [hDeltaInReferenceIdeal : Cert.DeltaInReferenceIdeal.Facts] : Prop :=
  ∀ (m : (ℓ : Loc Cert.DeltaInReferenceIdeal.nD Cert.DeltaInReferenceIdeal.τ Cert.DeltaInReferenceIdeal.sig) → Buf (Elt Ideal) ℓ) (g : Dev Cert.DeltaInReferenceIdeal.nD → PrngReg), Pre_DeltaInReferenceIdeal m →
    θ_run (Cert.DeltaInReferenceIdeal.defs (F := Ideal)) (onTc (τ := Cert.DeltaInReferenceIdeal.τ) (Cert.DeltaInReferenceIdeal.main (F := Ideal))) ⟨m, fun _ => 0, g⟩ (fun r => (∀ c : Dev Cert.DeltaInReferenceIdeal.nD,
      r.2.mem ((c.tc : Thread Cert.DeltaInReferenceIdeal.nD Cert.DeltaInReferenceIdeal.τ).loc Cert.DeltaInReferenceIdeal.main_arg0) = m ((c.tc : Thread Cert.DeltaInReferenceIdeal.nD Cert.DeltaInReferenceIdeal.τ).loc Cert.DeltaInReferenceIdeal.main_arg0)
      ∧ r.2.mem ((c.tc : Thread Cert.DeltaInReferenceIdeal.nD Cert.DeltaInReferenceIdeal.τ).loc Cert.DeltaInReferenceIdeal.main_arg1) = m ((c.tc : Thread Cert.DeltaInReferenceIdeal.nD Cert.DeltaInReferenceIdeal.τ).loc Cert.DeltaInReferenceIdeal.main_arg1)
      ∧ r.2.mem ((c.tc : Thread Cert.DeltaInReferenceIdeal.nD Cert.DeltaInReferenceIdeal.τ).loc Cert.DeltaInReferenceIdeal.main_arg2) = m ((c.tc : Thread Cert.DeltaInReferenceIdeal.nD Cert.DeltaInReferenceIdeal.τ).loc Cert.DeltaInReferenceIdeal.main_arg2)
      ∧ r.2.mem ((c.tc : Thread Cert.DeltaInReferenceIdeal.nD Cert.DeltaInReferenceIdeal.τ).loc Cert.DeltaInReferenceIdeal.main_arg3) = m ((c.tc : Thread Cert.DeltaInReferenceIdeal.nD Cert.DeltaInReferenceIdeal.τ).loc Cert.DeltaInReferenceIdeal.main_arg3))
      ∧ r.2.sem = fun _ => 0)

def quiescent_DeltaOut [hDeltaOut : Cert.DeltaOut.Facts] : Prop :=
  ∀ (m : (ℓ : Loc Cert.DeltaOut.nD Cert.DeltaOut.τ Cert.DeltaOut.sig) → Buf (Elt Bits) ℓ) (g : Dev Cert.DeltaOut.nD → PrngReg), Pre_DeltaOut m →
    θ_run (Cert.DeltaOut.defs (F := Bits)) (onTc (τ := Cert.DeltaOut.τ) (Cert.DeltaOut.main (F := Bits))) ⟨m, fun _ => 0, g⟩ (fun r => (∀ c : Dev Cert.DeltaOut.nD,
      r.2.mem ((c.tc : Thread Cert.DeltaOut.nD Cert.DeltaOut.τ).loc Cert.DeltaOut.main_arg0) = m ((c.tc : Thread Cert.DeltaOut.nD Cert.DeltaOut.τ).loc Cert.DeltaOut.main_arg0)
      ∧ r.2.mem ((c.tc : Thread Cert.DeltaOut.nD Cert.DeltaOut.τ).loc Cert.DeltaOut.main_arg1) = m ((c.tc : Thread Cert.DeltaOut.nD Cert.DeltaOut.τ).loc Cert.DeltaOut.main_arg1)
      ∧ r.2.mem ((c.tc : Thread Cert.DeltaOut.nD Cert.DeltaOut.τ).loc Cert.DeltaOut.main_arg2) = m ((c.tc : Thread Cert.DeltaOut.nD Cert.DeltaOut.τ).loc Cert.DeltaOut.main_arg2)
      ∧ r.2.mem ((c.tc : Thread Cert.DeltaOut.nD Cert.DeltaOut.τ).loc Cert.DeltaOut.main_arg3) = m ((c.tc : Thread Cert.DeltaOut.nD Cert.DeltaOut.τ).loc Cert.DeltaOut.main_arg3))
      ∧ r.2.sem = fun _ => 0)

def quiescent_DeltaOutIdeal [hDeltaOutIdeal : Cert.DeltaOutIdeal.Facts] : Prop :=
  ∀ (m : (ℓ : Loc Cert.DeltaOutIdeal.nD Cert.DeltaOutIdeal.τ Cert.DeltaOutIdeal.sig) → Buf (Elt Ideal) ℓ) (g : Dev Cert.DeltaOutIdeal.nD → PrngReg), Pre_DeltaOutIdeal m →
    θ_run (Cert.DeltaOutIdeal.defs (F := Ideal)) (onTc (τ := Cert.DeltaOutIdeal.τ) (Cert.DeltaOutIdeal.main (F := Ideal))) ⟨m, fun _ => 0, g⟩ (fun r => (∀ c : Dev Cert.DeltaOutIdeal.nD,
      r.2.mem ((c.tc : Thread Cert.DeltaOutIdeal.nD Cert.DeltaOutIdeal.τ).loc Cert.DeltaOutIdeal.main_arg0) = m ((c.tc : Thread Cert.DeltaOutIdeal.nD Cert.DeltaOutIdeal.τ).loc Cert.DeltaOutIdeal.main_arg0)
      ∧ r.2.mem ((c.tc : Thread Cert.DeltaOutIdeal.nD Cert.DeltaOutIdeal.τ).loc Cert.DeltaOutIdeal.main_arg1) = m ((c.tc : Thread Cert.DeltaOutIdeal.nD Cert.DeltaOutIdeal.τ).loc Cert.DeltaOutIdeal.main_arg1)
      ∧ r.2.mem ((c.tc : Thread Cert.DeltaOutIdeal.nD Cert.DeltaOutIdeal.τ).loc Cert.DeltaOutIdeal.main_arg2) = m ((c.tc : Thread Cert.DeltaOutIdeal.nD Cert.DeltaOutIdeal.τ).loc Cert.DeltaOutIdeal.main_arg2)
      ∧ r.2.mem ((c.tc : Thread Cert.DeltaOutIdeal.nD Cert.DeltaOutIdeal.τ).loc Cert.DeltaOutIdeal.main_arg3) = m ((c.tc : Thread Cert.DeltaOutIdeal.nD Cert.DeltaOutIdeal.τ).loc Cert.DeltaOutIdeal.main_arg3))
      ∧ r.2.sem = fun _ => 0)

def quiescent_DeltaOutReferenceIdeal [hDeltaOutReferenceIdeal : Cert.DeltaOutReferenceIdeal.Facts] : Prop :=
  ∀ (m : (ℓ : Loc Cert.DeltaOutReferenceIdeal.nD Cert.DeltaOutReferenceIdeal.τ Cert.DeltaOutReferenceIdeal.sig) → Buf (Elt Ideal) ℓ) (g : Dev Cert.DeltaOutReferenceIdeal.nD → PrngReg), Pre_DeltaOutReferenceIdeal m →
    θ_run (Cert.DeltaOutReferenceIdeal.defs (F := Ideal)) (onTc (τ := Cert.DeltaOutReferenceIdeal.τ) (Cert.DeltaOutReferenceIdeal.main (F := Ideal))) ⟨m, fun _ => 0, g⟩ (fun r => (∀ c : Dev Cert.DeltaOutReferenceIdeal.nD,
      r.2.mem ((c.tc : Thread Cert.DeltaOutReferenceIdeal.nD Cert.DeltaOutReferenceIdeal.τ).loc Cert.DeltaOutReferenceIdeal.main_arg0) = m ((c.tc : Thread Cert.DeltaOutReferenceIdeal.nD Cert.DeltaOutReferenceIdeal.τ).loc Cert.DeltaOutReferenceIdeal.main_arg0)
      ∧ r.2.mem ((c.tc : Thread Cert.DeltaOutReferenceIdeal.nD Cert.DeltaOutReferenceIdeal.τ).loc Cert.DeltaOutReferenceIdeal.main_arg1) = m ((c.tc : Thread Cert.DeltaOutReferenceIdeal.nD Cert.DeltaOutReferenceIdeal.τ).loc Cert.DeltaOutReferenceIdeal.main_arg1)
      ∧ r.2.mem ((c.tc : Thread Cert.DeltaOutReferenceIdeal.nD Cert.DeltaOutReferenceIdeal.τ).loc Cert.DeltaOutReferenceIdeal.main_arg2) = m ((c.tc : Thread Cert.DeltaOutReferenceIdeal.nD Cert.DeltaOutReferenceIdeal.τ).loc Cert.DeltaOutReferenceIdeal.main_arg2)
      ∧ r.2.mem ((c.tc : Thread Cert.DeltaOutReferenceIdeal.nD Cert.DeltaOutReferenceIdeal.τ).loc Cert.DeltaOutReferenceIdeal.main_arg3) = m ((c.tc : Thread Cert.DeltaOutReferenceIdeal.nD Cert.DeltaOutReferenceIdeal.τ).loc Cert.DeltaOutReferenceIdeal.main_arg3))
      ∧ r.2.sem = fun _ => 0)

def quiescent_HyenaOut [hHyenaOut : Cert.HyenaOut.Facts] : Prop :=
  ∀ (m : (ℓ : Loc Cert.HyenaOut.nD Cert.HyenaOut.τ Cert.HyenaOut.sig) → Buf (Elt Bits) ℓ) (g : Dev Cert.HyenaOut.nD → PrngReg), Pre_HyenaOut m →
    θ_run (Cert.HyenaOut.defs (F := Bits)) (onTc (τ := Cert.HyenaOut.τ) (Cert.HyenaOut.main (F := Bits))) ⟨m, fun _ => 0, g⟩ (fun r => (∀ c : Dev Cert.HyenaOut.nD,
      r.2.mem ((c.tc : Thread Cert.HyenaOut.nD Cert.HyenaOut.τ).loc Cert.HyenaOut.main_arg0) = m ((c.tc : Thread Cert.HyenaOut.nD Cert.HyenaOut.τ).loc Cert.HyenaOut.main_arg0)
      ∧ r.2.mem ((c.tc : Thread Cert.HyenaOut.nD Cert.HyenaOut.τ).loc Cert.HyenaOut.main_arg1) = m ((c.tc : Thread Cert.HyenaOut.nD Cert.HyenaOut.τ).loc Cert.HyenaOut.main_arg1)
      ∧ r.2.mem ((c.tc : Thread Cert.HyenaOut.nD Cert.HyenaOut.τ).loc Cert.HyenaOut.main_arg2) = m ((c.tc : Thread Cert.HyenaOut.nD Cert.HyenaOut.τ).loc Cert.HyenaOut.main_arg2)
      ∧ r.2.mem ((c.tc : Thread Cert.HyenaOut.nD Cert.HyenaOut.τ).loc Cert.HyenaOut.main_arg3) = m ((c.tc : Thread Cert.HyenaOut.nD Cert.HyenaOut.τ).loc Cert.HyenaOut.main_arg3)
      ∧ r.2.mem ((c.tc : Thread Cert.HyenaOut.nD Cert.HyenaOut.τ).loc Cert.HyenaOut.main_arg4) = m ((c.tc : Thread Cert.HyenaOut.nD Cert.HyenaOut.τ).loc Cert.HyenaOut.main_arg4)
      ∧ r.2.mem ((c.tc : Thread Cert.HyenaOut.nD Cert.HyenaOut.τ).loc Cert.HyenaOut.main_arg5) = m ((c.tc : Thread Cert.HyenaOut.nD Cert.HyenaOut.τ).loc Cert.HyenaOut.main_arg5)
      ∧ r.2.mem ((c.tc : Thread Cert.HyenaOut.nD Cert.HyenaOut.τ).loc Cert.HyenaOut.main_arg6) = m ((c.tc : Thread Cert.HyenaOut.nD Cert.HyenaOut.τ).loc Cert.HyenaOut.main_arg6))
      ∧ r.2.sem = fun _ => 0)

def quiescent_HyenaOutIdeal [hHyenaOutIdeal : Cert.HyenaOutIdeal.Facts] : Prop :=
  ∀ (m : (ℓ : Loc Cert.HyenaOutIdeal.nD Cert.HyenaOutIdeal.τ Cert.HyenaOutIdeal.sig) → Buf (Elt Ideal) ℓ) (g : Dev Cert.HyenaOutIdeal.nD → PrngReg), Pre_HyenaOutIdeal m →
    θ_run (Cert.HyenaOutIdeal.defs (F := Ideal)) (onTc (τ := Cert.HyenaOutIdeal.τ) (Cert.HyenaOutIdeal.main (F := Ideal))) ⟨m, fun _ => 0, g⟩ (fun r => (∀ c : Dev Cert.HyenaOutIdeal.nD,
      r.2.mem ((c.tc : Thread Cert.HyenaOutIdeal.nD Cert.HyenaOutIdeal.τ).loc Cert.HyenaOutIdeal.main_arg0) = m ((c.tc : Thread Cert.HyenaOutIdeal.nD Cert.HyenaOutIdeal.τ).loc Cert.HyenaOutIdeal.main_arg0)
      ∧ r.2.mem ((c.tc : Thread Cert.HyenaOutIdeal.nD Cert.HyenaOutIdeal.τ).loc Cert.HyenaOutIdeal.main_arg1) = m ((c.tc : Thread Cert.HyenaOutIdeal.nD Cert.HyenaOutIdeal.τ).loc Cert.HyenaOutIdeal.main_arg1)
      ∧ r.2.mem ((c.tc : Thread Cert.HyenaOutIdeal.nD Cert.HyenaOutIdeal.τ).loc Cert.HyenaOutIdeal.main_arg2) = m ((c.tc : Thread Cert.HyenaOutIdeal.nD Cert.HyenaOutIdeal.τ).loc Cert.HyenaOutIdeal.main_arg2)
      ∧ r.2.mem ((c.tc : Thread Cert.HyenaOutIdeal.nD Cert.HyenaOutIdeal.τ).loc Cert.HyenaOutIdeal.main_arg3) = m ((c.tc : Thread Cert.HyenaOutIdeal.nD Cert.HyenaOutIdeal.τ).loc Cert.HyenaOutIdeal.main_arg3)
      ∧ r.2.mem ((c.tc : Thread Cert.HyenaOutIdeal.nD Cert.HyenaOutIdeal.τ).loc Cert.HyenaOutIdeal.main_arg4) = m ((c.tc : Thread Cert.HyenaOutIdeal.nD Cert.HyenaOutIdeal.τ).loc Cert.HyenaOutIdeal.main_arg4)
      ∧ r.2.mem ((c.tc : Thread Cert.HyenaOutIdeal.nD Cert.HyenaOutIdeal.τ).loc Cert.HyenaOutIdeal.main_arg5) = m ((c.tc : Thread Cert.HyenaOutIdeal.nD Cert.HyenaOutIdeal.τ).loc Cert.HyenaOutIdeal.main_arg5)
      ∧ r.2.mem ((c.tc : Thread Cert.HyenaOutIdeal.nD Cert.HyenaOutIdeal.τ).loc Cert.HyenaOutIdeal.main_arg6) = m ((c.tc : Thread Cert.HyenaOutIdeal.nD Cert.HyenaOutIdeal.τ).loc Cert.HyenaOutIdeal.main_arg6))
      ∧ r.2.sem = fun _ => 0)

def quiescent_HyenaOutReferenceIdeal [hHyenaOutReferenceIdeal : Cert.HyenaOutReferenceIdeal.Facts] : Prop :=
  ∀ (m : (ℓ : Loc Cert.HyenaOutReferenceIdeal.nD Cert.HyenaOutReferenceIdeal.τ Cert.HyenaOutReferenceIdeal.sig) → Buf (Elt Ideal) ℓ) (g : Dev Cert.HyenaOutReferenceIdeal.nD → PrngReg), Pre_HyenaOutReferenceIdeal m →
    θ_run (Cert.HyenaOutReferenceIdeal.defs (F := Ideal)) (onTc (τ := Cert.HyenaOutReferenceIdeal.τ) (Cert.HyenaOutReferenceIdeal.main (F := Ideal))) ⟨m, fun _ => 0, g⟩ (fun r => (∀ c : Dev Cert.HyenaOutReferenceIdeal.nD,
      r.2.mem ((c.tc : Thread Cert.HyenaOutReferenceIdeal.nD Cert.HyenaOutReferenceIdeal.τ).loc Cert.HyenaOutReferenceIdeal.main_arg0) = m ((c.tc : Thread Cert.HyenaOutReferenceIdeal.nD Cert.HyenaOutReferenceIdeal.τ).loc Cert.HyenaOutReferenceIdeal.main_arg0)
      ∧ r.2.mem ((c.tc : Thread Cert.HyenaOutReferenceIdeal.nD Cert.HyenaOutReferenceIdeal.τ).loc Cert.HyenaOutReferenceIdeal.main_arg1) = m ((c.tc : Thread Cert.HyenaOutReferenceIdeal.nD Cert.HyenaOutReferenceIdeal.τ).loc Cert.HyenaOutReferenceIdeal.main_arg1)
      ∧ r.2.mem ((c.tc : Thread Cert.HyenaOutReferenceIdeal.nD Cert.HyenaOutReferenceIdeal.τ).loc Cert.HyenaOutReferenceIdeal.main_arg2) = m ((c.tc : Thread Cert.HyenaOutReferenceIdeal.nD Cert.HyenaOutReferenceIdeal.τ).loc Cert.HyenaOutReferenceIdeal.main_arg2)
      ∧ r.2.mem ((c.tc : Thread Cert.HyenaOutReferenceIdeal.nD Cert.HyenaOutReferenceIdeal.τ).loc Cert.HyenaOutReferenceIdeal.main_arg3) = m ((c.tc : Thread Cert.HyenaOutReferenceIdeal.nD Cert.HyenaOutReferenceIdeal.τ).loc Cert.HyenaOutReferenceIdeal.main_arg3)
      ∧ r.2.mem ((c.tc : Thread Cert.HyenaOutReferenceIdeal.nD Cert.HyenaOutReferenceIdeal.τ).loc Cert.HyenaOutReferenceIdeal.main_arg4) = m ((c.tc : Thread Cert.HyenaOutReferenceIdeal.nD Cert.HyenaOutReferenceIdeal.τ).loc Cert.HyenaOutReferenceIdeal.main_arg4)
      ∧ r.2.mem ((c.tc : Thread Cert.HyenaOutReferenceIdeal.nD Cert.HyenaOutReferenceIdeal.τ).loc Cert.HyenaOutReferenceIdeal.main_arg5) = m ((c.tc : Thread Cert.HyenaOutReferenceIdeal.nD Cert.HyenaOutReferenceIdeal.τ).loc Cert.HyenaOutReferenceIdeal.main_arg5)
      ∧ r.2.mem ((c.tc : Thread Cert.HyenaOutReferenceIdeal.nD Cert.HyenaOutReferenceIdeal.τ).loc Cert.HyenaOutReferenceIdeal.main_arg6) = m ((c.tc : Thread Cert.HyenaOutReferenceIdeal.nD Cert.HyenaOutReferenceIdeal.τ).loc Cert.HyenaOutReferenceIdeal.main_arg6))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_HyenaConv [hHyenaConv : Cert.HyenaConv.Facts] : Prop :=
  ∀ (m : (ℓ : Loc Cert.HyenaConv.nD Cert.HyenaConv.τ Cert.HyenaConv.sig) → Buf (Elt Bits) ℓ) (g : Dev Cert.HyenaConv.nD → PrngReg), Pre_HyenaConv m →
    θ_run (Cert.HyenaConv.defs (F := Bits)) (onTc (τ := Cert.HyenaConv.τ) (Cert.HyenaConv.main (F := Bits))) ⟨m, fun _ => 0, g⟩ (fun r => (∀ c : Dev Cert.HyenaConv.nD,
      r.2.mem ((c.tc : Thread Cert.HyenaConv.nD Cert.HyenaConv.τ).loc Cert.HyenaConv.main_arg0) = m ((c.tc : Thread Cert.HyenaConv.nD Cert.HyenaConv.τ).loc Cert.HyenaConv.main_arg0)
      ∧ r.2.mem ((c.tc : Thread Cert.HyenaConv.nD Cert.HyenaConv.τ).loc Cert.HyenaConv.main_arg1) = m ((c.tc : Thread Cert.HyenaConv.nD Cert.HyenaConv.τ).loc Cert.HyenaConv.main_arg1))
      ∧ r.2.sem = fun _ => 0)

def quiescent_HyenaConvIdeal [hHyenaConvIdeal : Cert.HyenaConvIdeal.Facts] : Prop :=
  ∀ (m : (ℓ : Loc Cert.HyenaConvIdeal.nD Cert.HyenaConvIdeal.τ Cert.HyenaConvIdeal.sig) → Buf (Elt Ideal) ℓ) (g : Dev Cert.HyenaConvIdeal.nD → PrngReg), Pre_HyenaConvIdeal m →
    θ_run (Cert.HyenaConvIdeal.defs (F := Ideal)) (onTc (τ := Cert.HyenaConvIdeal.τ) (Cert.HyenaConvIdeal.main (F := Ideal))) ⟨m, fun _ => 0, g⟩ (fun r => (∀ c : Dev Cert.HyenaConvIdeal.nD,
      r.2.mem ((c.tc : Thread Cert.HyenaConvIdeal.nD Cert.HyenaConvIdeal.τ).loc Cert.HyenaConvIdeal.main_arg0) = m ((c.tc : Thread Cert.HyenaConvIdeal.nD Cert.HyenaConvIdeal.τ).loc Cert.HyenaConvIdeal.main_arg0)
      ∧ r.2.mem ((c.tc : Thread Cert.HyenaConvIdeal.nD Cert.HyenaConvIdeal.τ).loc Cert.HyenaConvIdeal.main_arg1) = m ((c.tc : Thread Cert.HyenaConvIdeal.nD Cert.HyenaConvIdeal.τ).loc Cert.HyenaConvIdeal.main_arg1))
      ∧ r.2.sem = fun _ => 0)

def quiescent_HyenaConvReferenceIdeal [hHyenaConvReferenceIdeal : Cert.HyenaConvReferenceIdeal.Facts] : Prop :=
  ∀ (m : (ℓ : Loc Cert.HyenaConvReferenceIdeal.nD Cert.HyenaConvReferenceIdeal.τ Cert.HyenaConvReferenceIdeal.sig) → Buf (Elt Ideal) ℓ) (g : Dev Cert.HyenaConvReferenceIdeal.nD → PrngReg), Pre_HyenaConvReferenceIdeal m →
    θ_run (Cert.HyenaConvReferenceIdeal.defs (F := Ideal)) (onTc (τ := Cert.HyenaConvReferenceIdeal.τ) (Cert.HyenaConvReferenceIdeal.main (F := Ideal))) ⟨m, fun _ => 0, g⟩ (fun r => (∀ c : Dev Cert.HyenaConvReferenceIdeal.nD,
      r.2.mem ((c.tc : Thread Cert.HyenaConvReferenceIdeal.nD Cert.HyenaConvReferenceIdeal.τ).loc Cert.HyenaConvReferenceIdeal.main_arg0) = m ((c.tc : Thread Cert.HyenaConvReferenceIdeal.nD Cert.HyenaConvReferenceIdeal.τ).loc Cert.HyenaConvReferenceIdeal.main_arg0)
      ∧ r.2.mem ((c.tc : Thread Cert.HyenaConvReferenceIdeal.nD Cert.HyenaConvReferenceIdeal.τ).loc Cert.HyenaConvReferenceIdeal.main_arg1) = m ((c.tc : Thread Cert.HyenaConvReferenceIdeal.nD Cert.HyenaConvReferenceIdeal.τ).loc Cert.HyenaConvReferenceIdeal.main_arg1))
      ∧ r.2.sem = fun _ => 0)

def preserves_Experts_ExpertsIdeal : Prop :=
  True

def algebraic_ExpertsIdeal_ReferenceIdeal [hExpertsIdeal : Cert.ExpertsIdeal.Facts] [hReferenceIdeal : Cert.ReferenceIdeal.Facts] [hPre_moe_pre : Cert.Pre_moe_pre.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_ExpertsIdeal m →
    (∀ c : Dev Cert.ExpertsIdeal.nD,
      m' ((c.tc : Thread Cert.ReferenceIdeal.nD Cert.ReferenceIdeal.τ).loc Cert.ReferenceIdeal.main_arg0) = m ((c.tc : Thread Cert.ExpertsIdeal.nD Cert.ExpertsIdeal.τ).loc Cert.ExpertsIdeal.main_arg0)
      ∧ m' ((c.tc : Thread Cert.ReferenceIdeal.nD Cert.ReferenceIdeal.τ).loc Cert.ReferenceIdeal.main_arg1) = m ((c.tc : Thread Cert.ExpertsIdeal.nD Cert.ExpertsIdeal.τ).loc Cert.ExpertsIdeal.main_arg1)
      ∧ m' ((c.tc : Thread Cert.ReferenceIdeal.nD Cert.ReferenceIdeal.τ).loc Cert.ReferenceIdeal.main_arg2) = m ((c.tc : Thread Cert.ExpertsIdeal.nD Cert.ExpertsIdeal.τ).loc Cert.ExpertsIdeal.main_arg2)
      ∧ m' ((c.tc : Thread Cert.ReferenceIdeal.nD Cert.ReferenceIdeal.τ).loc Cert.ReferenceIdeal.main_arg3) = m ((c.tc : Thread Cert.ExpertsIdeal.nD Cert.ExpertsIdeal.τ).loc Cert.ExpertsIdeal.main_arg3)
      ∧ m' ((c.tc : Thread Cert.ReferenceIdeal.nD Cert.ReferenceIdeal.τ).loc Cert.ReferenceIdeal.main_arg4) = m ((c.tc : Thread Cert.ExpertsIdeal.nD Cert.ExpertsIdeal.τ).loc Cert.ExpertsIdeal.main_arg4)
      ∧ m' ((c.tc : Thread Cert.ReferenceIdeal.nD Cert.ReferenceIdeal.τ).loc Cert.ReferenceIdeal.main_arg5) = m ((c.tc : Thread Cert.ExpertsIdeal.nD Cert.ExpertsIdeal.τ).loc Cert.ExpertsIdeal.main_arg5)
      ∧ m' ((c.tc : Thread Cert.ReferenceIdeal.nD Cert.ReferenceIdeal.τ).loc Cert.ReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v5)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v5) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_HyenaIn_HyenaInIdeal : Prop :=
  True

def algebraic_HyenaInIdeal_HyenaInReferenceIdeal [hHyenaInIdeal : Cert.HyenaInIdeal.Facts] [hHyenaInReferenceIdeal : Cert.HyenaInReferenceIdeal.Facts] : Prop :=
  ∀ (m : (ℓ : Loc Cert.HyenaInIdeal.nD Cert.HyenaInIdeal.τ Cert.HyenaInIdeal.sig) → Buf (Elt Ideal) ℓ) (g : Dev Cert.HyenaInIdeal.nD → PrngReg)
    (m' : (ℓ : Loc Cert.HyenaInReferenceIdeal.nD Cert.HyenaInReferenceIdeal.τ Cert.HyenaInReferenceIdeal.sig) → Buf (Elt Ideal) ℓ) (g' : Dev Cert.HyenaInReferenceIdeal.nD → PrngReg), Pre_HyenaInIdeal m →
    (∀ c : Dev Cert.HyenaInIdeal.nD,
      m' ((c.tc : Thread Cert.HyenaInReferenceIdeal.nD Cert.HyenaInReferenceIdeal.τ).loc Cert.HyenaInReferenceIdeal.main_arg0) = m ((c.tc : Thread Cert.HyenaInIdeal.nD Cert.HyenaInIdeal.τ).loc Cert.HyenaInIdeal.main_arg0)
      ∧ m' ((c.tc : Thread Cert.HyenaInReferenceIdeal.nD Cert.HyenaInReferenceIdeal.τ).loc Cert.HyenaInReferenceIdeal.main_arg1) = m ((c.tc : Thread Cert.HyenaInIdeal.nD Cert.HyenaInIdeal.τ).loc Cert.HyenaInIdeal.main_arg1)
      ∧ m' ((c.tc : Thread Cert.HyenaInReferenceIdeal.nD Cert.HyenaInReferenceIdeal.τ).loc Cert.HyenaInReferenceIdeal.main_arg2) = m ((c.tc : Thread Cert.HyenaInIdeal.nD Cert.HyenaInIdeal.τ).loc Cert.HyenaInIdeal.main_arg2)
      ∧ m' ((c.tc : Thread Cert.HyenaInReferenceIdeal.nD Cert.HyenaInReferenceIdeal.τ).loc Cert.HyenaInReferenceIdeal.main_arg3) = m ((c.tc : Thread Cert.HyenaInIdeal.nD Cert.HyenaInIdeal.τ).loc Cert.HyenaInIdeal.main_arg3)) →
    ∃ (v0 : (c : Dev Cert.HyenaInIdeal.nD) → Buf (Elt Ideal) ((c.tc : Thread Cert.HyenaInIdeal.nD Cert.HyenaInIdeal.τ).loc Cert.HyenaInIdeal.main_v2)),
      θ_run (Cert.HyenaInIdeal.defs (F := Ideal)) (onTc (τ := Cert.HyenaInIdeal.τ) (Cert.HyenaInIdeal.main (F := Ideal))) ⟨m, fun _ => 0, g⟩ (fun r => ∀ c : Dev Cert.HyenaInIdeal.nD,
          r.2.mem ((c.tc : Thread Cert.HyenaInIdeal.nD Cert.HyenaInIdeal.τ).loc Cert.HyenaInIdeal.main_v2) = v0 c
          ∧ r.2.mem ((c.tc : Thread Cert.HyenaInIdeal.nD Cert.HyenaInIdeal.τ).loc Cert.HyenaInIdeal.main_arg0) = m ((c.tc : Thread Cert.HyenaInIdeal.nD Cert.HyenaInIdeal.τ).loc Cert.HyenaInIdeal.main_arg0)
          ∧ r.2.mem ((c.tc : Thread Cert.HyenaInIdeal.nD Cert.HyenaInIdeal.τ).loc Cert.HyenaInIdeal.main_arg1) = m ((c.tc : Thread Cert.HyenaInIdeal.nD Cert.HyenaInIdeal.τ).loc Cert.HyenaInIdeal.main_arg1)
          ∧ r.2.mem ((c.tc : Thread Cert.HyenaInIdeal.nD Cert.HyenaInIdeal.τ).loc Cert.HyenaInIdeal.main_arg2) = m ((c.tc : Thread Cert.HyenaInIdeal.nD Cert.HyenaInIdeal.τ).loc Cert.HyenaInIdeal.main_arg2)
          ∧ r.2.mem ((c.tc : Thread Cert.HyenaInIdeal.nD Cert.HyenaInIdeal.τ).loc Cert.HyenaInIdeal.main_arg3) = m ((c.tc : Thread Cert.HyenaInIdeal.nD Cert.HyenaInIdeal.τ).loc Cert.HyenaInIdeal.main_arg3))
      ∧ θ_run (Cert.HyenaInReferenceIdeal.defs (F := Ideal)) (onTc (τ := Cert.HyenaInReferenceIdeal.τ) (Cert.HyenaInReferenceIdeal.main (F := Ideal))) ⟨m', fun _ => 0, g'⟩ (fun r => ∀ c : Dev Cert.HyenaInReferenceIdeal.nD,
          r.2.mem ((c.tc : Thread Cert.HyenaInReferenceIdeal.nD Cert.HyenaInReferenceIdeal.τ).loc Cert.HyenaInReferenceIdeal.main_v26) = v0 c
          ∧ r.2.mem ((c.tc : Thread Cert.HyenaInReferenceIdeal.nD Cert.HyenaInReferenceIdeal.τ).loc Cert.HyenaInReferenceIdeal.main_arg0) = m' ((c.tc : Thread Cert.HyenaInReferenceIdeal.nD Cert.HyenaInReferenceIdeal.τ).loc Cert.HyenaInReferenceIdeal.main_arg0)
          ∧ r.2.mem ((c.tc : Thread Cert.HyenaInReferenceIdeal.nD Cert.HyenaInReferenceIdeal.τ).loc Cert.HyenaInReferenceIdeal.main_arg1) = m' ((c.tc : Thread Cert.HyenaInReferenceIdeal.nD Cert.HyenaInReferenceIdeal.τ).loc Cert.HyenaInReferenceIdeal.main_arg1)
          ∧ r.2.mem ((c.tc : Thread Cert.HyenaInReferenceIdeal.nD Cert.HyenaInReferenceIdeal.τ).loc Cert.HyenaInReferenceIdeal.main_arg2) = m' ((c.tc : Thread Cert.HyenaInReferenceIdeal.nD Cert.HyenaInReferenceIdeal.τ).loc Cert.HyenaInReferenceIdeal.main_arg2)
          ∧ r.2.mem ((c.tc : Thread Cert.HyenaInReferenceIdeal.nD Cert.HyenaInReferenceIdeal.τ).loc Cert.HyenaInReferenceIdeal.main_arg3) = m' ((c.tc : Thread Cert.HyenaInReferenceIdeal.nD Cert.HyenaInReferenceIdeal.τ).loc Cert.HyenaInReferenceIdeal.main_arg3))

def preserves_FinalPrompt_FinalPromptIdeal : Prop :=
  True

def algebraic_FinalPromptIdeal_FinalPromptReferenceIdeal [hFinalPromptIdeal : Cert.FinalPromptIdeal.Facts] [hFinalPromptReferenceIdeal : Cert.FinalPromptReferenceIdeal.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg)
    (m' : (ℓ : Loc Cert.FinalPromptReferenceIdeal.nD Cert.FinalPromptReferenceIdeal.τ Cert.FinalPromptReferenceIdeal.sig) → Buf (Elt Ideal) ℓ) (g' : Dev Cert.FinalPromptReferenceIdeal.nD → PrngReg), Pre_FinalPromptIdeal m →
    (∀ c : Dev Cert.FinalPromptIdeal.nD,
      m' ((c.tc : Thread Cert.FinalPromptReferenceIdeal.nD Cert.FinalPromptReferenceIdeal.τ).loc Cert.FinalPromptReferenceIdeal.main_arg0) = m ((c.tc : Thread Cert.FinalPromptIdeal.nD Cert.FinalPromptIdeal.τ).loc Cert.FinalPromptIdeal.main_arg0)
      ∧ m' ((c.tc : Thread Cert.FinalPromptReferenceIdeal.nD Cert.FinalPromptReferenceIdeal.τ).loc Cert.FinalPromptReferenceIdeal.main_arg1) = m ((c.tc : Thread Cert.FinalPromptIdeal.nD Cert.FinalPromptIdeal.τ).loc Cert.FinalPromptIdeal.main_arg1)) →
    ∃ (v0 : (c : Dev Cert.FinalPromptIdeal.nD) → Buf (Elt Ideal) ((c.tc : Thread Cert.FinalPromptIdeal.nD Cert.FinalPromptIdeal.τ).loc Cert.FinalPromptIdeal.main_v1)),
      θ_run (Cert.FinalPromptIdeal.defs (F := Ideal)) (onTc (τ := Cert.FinalPromptIdeal.τ) (Cert.FinalPromptIdeal.main (F := Ideal))) ⟨m, fun _ => 0, g⟩ (fun r => ∀ c : Dev Cert.FinalPromptIdeal.nD,
          r.2.mem ((c.tc : Thread Cert.FinalPromptIdeal.nD Cert.FinalPromptIdeal.τ).loc Cert.FinalPromptIdeal.main_v1) = v0 c
          ∧ r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
          ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1))
      ∧ θ_run (Cert.FinalPromptReferenceIdeal.defs (F := Ideal)) (onTc (τ := Cert.FinalPromptReferenceIdeal.τ) (Cert.FinalPromptReferenceIdeal.main (F := Ideal))) ⟨m', fun _ => 0, g'⟩ (fun r => ∀ c : Dev Cert.FinalPromptReferenceIdeal.nD,
          r.2.mem ((c.tc : Thread Cert.FinalPromptReferenceIdeal.nD Cert.FinalPromptReferenceIdeal.τ).loc Cert.FinalPromptReferenceIdeal.main_v15) = v0 c
          ∧ r.2.mem ((c.tc : Thread Cert.FinalPromptReferenceIdeal.nD Cert.FinalPromptReferenceIdeal.τ).loc Cert.FinalPromptReferenceIdeal.main_arg0) = m' ((c.tc : Thread Cert.FinalPromptReferenceIdeal.nD Cert.FinalPromptReferenceIdeal.τ).loc Cert.FinalPromptReferenceIdeal.main_arg0)
          ∧ r.2.mem ((c.tc : Thread Cert.FinalPromptReferenceIdeal.nD Cert.FinalPromptReferenceIdeal.τ).loc Cert.FinalPromptReferenceIdeal.main_arg1) = m' ((c.tc : Thread Cert.FinalPromptReferenceIdeal.nD Cert.FinalPromptReferenceIdeal.τ).loc Cert.FinalPromptReferenceIdeal.main_arg1))

def preserves_FinalSample_FinalSampleIdeal : Prop :=
  True

def algebraic_FinalSampleIdeal_FinalSampleReferenceIdeal [hFinalSampleIdeal : Cert.FinalSampleIdeal.Facts] [hFinalSampleReferenceIdeal : Cert.FinalSampleReferenceIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg)
    (m' : (ℓ : Loc Cert.FinalSampleReferenceIdeal.nD Cert.FinalSampleReferenceIdeal.τ Cert.FinalSampleReferenceIdeal.sig) → Buf (Elt Ideal) ℓ) (g' : Dev Cert.FinalSampleReferenceIdeal.nD → PrngReg), Pre_FinalSampleIdeal m →
    (∀ c : Dev Cert.FinalSampleIdeal.nD,
      m' ((c.tc : Thread Cert.FinalSampleReferenceIdeal.nD Cert.FinalSampleReferenceIdeal.τ).loc Cert.FinalSampleReferenceIdeal.main_arg0) = m ((c.tc : Thread Cert.FinalSampleIdeal.nD Cert.FinalSampleIdeal.τ).loc Cert.FinalSampleIdeal.main_arg0)
      ∧ m' ((c.tc : Thread Cert.FinalSampleReferenceIdeal.nD Cert.FinalSampleReferenceIdeal.τ).loc Cert.FinalSampleReferenceIdeal.main_arg1) = m ((c.tc : Thread Cert.FinalSampleIdeal.nD Cert.FinalSampleIdeal.τ).loc Cert.FinalSampleIdeal.main_arg1)) →
    ∃ (v0 : (c : Dev Cert.FinalSampleIdeal.nD) → Buf (Elt Ideal) ((c.tc : Thread Cert.FinalSampleIdeal.nD Cert.FinalSampleIdeal.τ).loc Cert.FinalSampleIdeal.main_v1)),
      θ_run (Cert.FinalSampleIdeal.defs (F := Ideal)) (onTc (τ := Cert.FinalSampleIdeal.τ) (Cert.FinalSampleIdeal.main (F := Ideal))) ⟨m, fun _ => 0, g⟩ (fun r => ∀ c : Dev Cert.FinalSampleIdeal.nD,
          r.2.mem ((c.tc : Thread Cert.FinalSampleIdeal.nD Cert.FinalSampleIdeal.τ).loc Cert.FinalSampleIdeal.main_v1) = v0 c
          ∧ r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
          ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1))
      ∧ θ_run (Cert.FinalSampleReferenceIdeal.defs (F := Ideal)) (onTc (τ := Cert.FinalSampleReferenceIdeal.τ) (Cert.FinalSampleReferenceIdeal.main (F := Ideal))) ⟨m', fun _ => 0, g'⟩ (fun r => ∀ c : Dev Cert.FinalSampleReferenceIdeal.nD,
          r.2.mem ((c.tc : Thread Cert.FinalSampleReferenceIdeal.nD Cert.FinalSampleReferenceIdeal.τ).loc Cert.FinalSampleReferenceIdeal.main_v15) = v0 c
          ∧ r.2.mem ((c.tc : Thread Cert.FinalSampleReferenceIdeal.nD Cert.FinalSampleReferenceIdeal.τ).loc Cert.FinalSampleReferenceIdeal.main_arg0) = m' ((c.tc : Thread Cert.FinalSampleReferenceIdeal.nD Cert.FinalSampleReferenceIdeal.τ).loc Cert.FinalSampleReferenceIdeal.main_arg0)
          ∧ r.2.mem ((c.tc : Thread Cert.FinalSampleReferenceIdeal.nD Cert.FinalSampleReferenceIdeal.τ).loc Cert.FinalSampleReferenceIdeal.main_arg1) = m' ((c.tc : Thread Cert.FinalSampleReferenceIdeal.nD Cert.FinalSampleReferenceIdeal.τ).loc Cert.FinalSampleReferenceIdeal.main_arg1))

def preserves_DeltaIn_DeltaInIdeal : Prop :=
  True

def algebraic_DeltaInIdeal_DeltaInReferenceIdeal [hDeltaInIdeal : Cert.DeltaInIdeal.Facts] [hDeltaInReferenceIdeal : Cert.DeltaInReferenceIdeal.Facts] : Prop :=
  ∀ (m : (ℓ : Loc Cert.DeltaInIdeal.nD Cert.DeltaInIdeal.τ Cert.DeltaInIdeal.sig) → Buf (Elt Ideal) ℓ) (g : Dev Cert.DeltaInIdeal.nD → PrngReg)
    (m' : (ℓ : Loc Cert.DeltaInReferenceIdeal.nD Cert.DeltaInReferenceIdeal.τ Cert.DeltaInReferenceIdeal.sig) → Buf (Elt Ideal) ℓ) (g' : Dev Cert.DeltaInReferenceIdeal.nD → PrngReg), Pre_DeltaInIdeal m →
    (∀ c : Dev Cert.DeltaInIdeal.nD,
      m' ((c.tc : Thread Cert.DeltaInReferenceIdeal.nD Cert.DeltaInReferenceIdeal.τ).loc Cert.DeltaInReferenceIdeal.main_arg0) = m ((c.tc : Thread Cert.DeltaInIdeal.nD Cert.DeltaInIdeal.τ).loc Cert.DeltaInIdeal.main_arg0)
      ∧ m' ((c.tc : Thread Cert.DeltaInReferenceIdeal.nD Cert.DeltaInReferenceIdeal.τ).loc Cert.DeltaInReferenceIdeal.main_arg1) = m ((c.tc : Thread Cert.DeltaInIdeal.nD Cert.DeltaInIdeal.τ).loc Cert.DeltaInIdeal.main_arg1)
      ∧ m' ((c.tc : Thread Cert.DeltaInReferenceIdeal.nD Cert.DeltaInReferenceIdeal.τ).loc Cert.DeltaInReferenceIdeal.main_arg2) = m ((c.tc : Thread Cert.DeltaInIdeal.nD Cert.DeltaInIdeal.τ).loc Cert.DeltaInIdeal.main_arg2)
      ∧ m' ((c.tc : Thread Cert.DeltaInReferenceIdeal.nD Cert.DeltaInReferenceIdeal.τ).loc Cert.DeltaInReferenceIdeal.main_arg3) = m ((c.tc : Thread Cert.DeltaInIdeal.nD Cert.DeltaInIdeal.τ).loc Cert.DeltaInIdeal.main_arg3)) →
    ∃ (v0 : (c : Dev Cert.DeltaInIdeal.nD) → Buf (Elt Ideal) ((c.tc : Thread Cert.DeltaInIdeal.nD Cert.DeltaInIdeal.τ).loc Cert.DeltaInIdeal.main_v8_0)) (v1 : (c : Dev Cert.DeltaInIdeal.nD) → Buf (Elt Ideal) ((c.tc : Thread Cert.DeltaInIdeal.nD Cert.DeltaInIdeal.τ).loc Cert.DeltaInIdeal.main_v8_1)),
      θ_run (Cert.DeltaInIdeal.defs (F := Ideal)) (onTc (τ := Cert.DeltaInIdeal.τ) (Cert.DeltaInIdeal.main (F := Ideal))) ⟨m, fun _ => 0, g⟩ (fun r => ∀ c : Dev Cert.DeltaInIdeal.nD,
          r.2.mem ((c.tc : Thread Cert.DeltaInIdeal.nD Cert.DeltaInIdeal.τ).loc Cert.DeltaInIdeal.main_v8_0) = v0 c
          ∧ r.2.mem ((c.tc : Thread Cert.DeltaInIdeal.nD Cert.DeltaInIdeal.τ).loc Cert.DeltaInIdeal.main_v8_1) = v1 c
          ∧ r.2.mem ((c.tc : Thread Cert.DeltaInIdeal.nD Cert.DeltaInIdeal.τ).loc Cert.DeltaInIdeal.main_arg0) = m ((c.tc : Thread Cert.DeltaInIdeal.nD Cert.DeltaInIdeal.τ).loc Cert.DeltaInIdeal.main_arg0)
          ∧ r.2.mem ((c.tc : Thread Cert.DeltaInIdeal.nD Cert.DeltaInIdeal.τ).loc Cert.DeltaInIdeal.main_arg1) = m ((c.tc : Thread Cert.DeltaInIdeal.nD Cert.DeltaInIdeal.τ).loc Cert.DeltaInIdeal.main_arg1)
          ∧ r.2.mem ((c.tc : Thread Cert.DeltaInIdeal.nD Cert.DeltaInIdeal.τ).loc Cert.DeltaInIdeal.main_arg2) = m ((c.tc : Thread Cert.DeltaInIdeal.nD Cert.DeltaInIdeal.τ).loc Cert.DeltaInIdeal.main_arg2)
          ∧ r.2.mem ((c.tc : Thread Cert.DeltaInIdeal.nD Cert.DeltaInIdeal.τ).loc Cert.DeltaInIdeal.main_arg3) = m ((c.tc : Thread Cert.DeltaInIdeal.nD Cert.DeltaInIdeal.τ).loc Cert.DeltaInIdeal.main_arg3))
      ∧ θ_run (Cert.DeltaInReferenceIdeal.defs (F := Ideal)) (onTc (τ := Cert.DeltaInReferenceIdeal.τ) (Cert.DeltaInReferenceIdeal.main (F := Ideal))) ⟨m', fun _ => 0, g'⟩ (fun r => ∀ c : Dev Cert.DeltaInReferenceIdeal.nD,
          r.2.mem ((c.tc : Thread Cert.DeltaInReferenceIdeal.nD Cert.DeltaInReferenceIdeal.τ).loc Cert.DeltaInReferenceIdeal.main_v27) = v0 c
          ∧ r.2.mem ((c.tc : Thread Cert.DeltaInReferenceIdeal.nD Cert.DeltaInReferenceIdeal.τ).loc Cert.DeltaInReferenceIdeal.main_v29) = v1 c
          ∧ r.2.mem ((c.tc : Thread Cert.DeltaInReferenceIdeal.nD Cert.DeltaInReferenceIdeal.τ).loc Cert.DeltaInReferenceIdeal.main_arg0) = m' ((c.tc : Thread Cert.DeltaInReferenceIdeal.nD Cert.DeltaInReferenceIdeal.τ).loc Cert.DeltaInReferenceIdeal.main_arg0)
          ∧ r.2.mem ((c.tc : Thread Cert.DeltaInReferenceIdeal.nD Cert.DeltaInReferenceIdeal.τ).loc Cert.DeltaInReferenceIdeal.main_arg1) = m' ((c.tc : Thread Cert.DeltaInReferenceIdeal.nD Cert.DeltaInReferenceIdeal.τ).loc Cert.DeltaInReferenceIdeal.main_arg1)
          ∧ r.2.mem ((c.tc : Thread Cert.DeltaInReferenceIdeal.nD Cert.DeltaInReferenceIdeal.τ).loc Cert.DeltaInReferenceIdeal.main_arg2) = m' ((c.tc : Thread Cert.DeltaInReferenceIdeal.nD Cert.DeltaInReferenceIdeal.τ).loc Cert.DeltaInReferenceIdeal.main_arg2)
          ∧ r.2.mem ((c.tc : Thread Cert.DeltaInReferenceIdeal.nD Cert.DeltaInReferenceIdeal.τ).loc Cert.DeltaInReferenceIdeal.main_arg3) = m' ((c.tc : Thread Cert.DeltaInReferenceIdeal.nD Cert.DeltaInReferenceIdeal.τ).loc Cert.DeltaInReferenceIdeal.main_arg3))

def preserves_DeltaOut_DeltaOutIdeal : Prop :=
  True

def algebraic_DeltaOutIdeal_DeltaOutReferenceIdeal [hDeltaOutIdeal : Cert.DeltaOutIdeal.Facts] [hDeltaOutReferenceIdeal : Cert.DeltaOutReferenceIdeal.Facts] : Prop :=
  ∀ (m : (ℓ : Loc Cert.DeltaOutIdeal.nD Cert.DeltaOutIdeal.τ Cert.DeltaOutIdeal.sig) → Buf (Elt Ideal) ℓ) (g : Dev Cert.DeltaOutIdeal.nD → PrngReg)
    (m' : (ℓ : Loc Cert.DeltaOutReferenceIdeal.nD Cert.DeltaOutReferenceIdeal.τ Cert.DeltaOutReferenceIdeal.sig) → Buf (Elt Ideal) ℓ) (g' : Dev Cert.DeltaOutReferenceIdeal.nD → PrngReg), Pre_DeltaOutIdeal m →
    (∀ c : Dev Cert.DeltaOutIdeal.nD,
      m' ((c.tc : Thread Cert.DeltaOutReferenceIdeal.nD Cert.DeltaOutReferenceIdeal.τ).loc Cert.DeltaOutReferenceIdeal.main_arg0) = m ((c.tc : Thread Cert.DeltaOutIdeal.nD Cert.DeltaOutIdeal.τ).loc Cert.DeltaOutIdeal.main_arg0)
      ∧ m' ((c.tc : Thread Cert.DeltaOutReferenceIdeal.nD Cert.DeltaOutReferenceIdeal.τ).loc Cert.DeltaOutReferenceIdeal.main_arg1) = m ((c.tc : Thread Cert.DeltaOutIdeal.nD Cert.DeltaOutIdeal.τ).loc Cert.DeltaOutIdeal.main_arg1)
      ∧ m' ((c.tc : Thread Cert.DeltaOutReferenceIdeal.nD Cert.DeltaOutReferenceIdeal.τ).loc Cert.DeltaOutReferenceIdeal.main_arg2) = m ((c.tc : Thread Cert.DeltaOutIdeal.nD Cert.DeltaOutIdeal.τ).loc Cert.DeltaOutIdeal.main_arg2)
      ∧ m' ((c.tc : Thread Cert.DeltaOutReferenceIdeal.nD Cert.DeltaOutReferenceIdeal.τ).loc Cert.DeltaOutReferenceIdeal.main_arg3) = m ((c.tc : Thread Cert.DeltaOutIdeal.nD Cert.DeltaOutIdeal.τ).loc Cert.DeltaOutIdeal.main_arg3)) →
    ∃ (v0 : (c : Dev Cert.DeltaOutIdeal.nD) → Buf (Elt Ideal) ((c.tc : Thread Cert.DeltaOutIdeal.nD Cert.DeltaOutIdeal.τ).loc Cert.DeltaOutIdeal.main_v1)),
      θ_run (Cert.DeltaOutIdeal.defs (F := Ideal)) (onTc (τ := Cert.DeltaOutIdeal.τ) (Cert.DeltaOutIdeal.main (F := Ideal))) ⟨m, fun _ => 0, g⟩ (fun r => ∀ c : Dev Cert.DeltaOutIdeal.nD,
          r.2.mem ((c.tc : Thread Cert.DeltaOutIdeal.nD Cert.DeltaOutIdeal.τ).loc Cert.DeltaOutIdeal.main_v1) = v0 c
          ∧ r.2.mem ((c.tc : Thread Cert.DeltaOutIdeal.nD Cert.DeltaOutIdeal.τ).loc Cert.DeltaOutIdeal.main_arg0) = m ((c.tc : Thread Cert.DeltaOutIdeal.nD Cert.DeltaOutIdeal.τ).loc Cert.DeltaOutIdeal.main_arg0)
          ∧ r.2.mem ((c.tc : Thread Cert.DeltaOutIdeal.nD Cert.DeltaOutIdeal.τ).loc Cert.DeltaOutIdeal.main_arg1) = m ((c.tc : Thread Cert.DeltaOutIdeal.nD Cert.DeltaOutIdeal.τ).loc Cert.DeltaOutIdeal.main_arg1)
          ∧ r.2.mem ((c.tc : Thread Cert.DeltaOutIdeal.nD Cert.DeltaOutIdeal.τ).loc Cert.DeltaOutIdeal.main_arg2) = m ((c.tc : Thread Cert.DeltaOutIdeal.nD Cert.DeltaOutIdeal.τ).loc Cert.DeltaOutIdeal.main_arg2)
          ∧ r.2.mem ((c.tc : Thread Cert.DeltaOutIdeal.nD Cert.DeltaOutIdeal.τ).loc Cert.DeltaOutIdeal.main_arg3) = m ((c.tc : Thread Cert.DeltaOutIdeal.nD Cert.DeltaOutIdeal.τ).loc Cert.DeltaOutIdeal.main_arg3))
      ∧ θ_run (Cert.DeltaOutReferenceIdeal.defs (F := Ideal)) (onTc (τ := Cert.DeltaOutReferenceIdeal.τ) (Cert.DeltaOutReferenceIdeal.main (F := Ideal))) ⟨m', fun _ => 0, g'⟩ (fun r => ∀ c : Dev Cert.DeltaOutReferenceIdeal.nD,
          r.2.mem ((c.tc : Thread Cert.DeltaOutReferenceIdeal.nD Cert.DeltaOutReferenceIdeal.τ).loc Cert.DeltaOutReferenceIdeal.main_v9) = v0 c
          ∧ r.2.mem ((c.tc : Thread Cert.DeltaOutReferenceIdeal.nD Cert.DeltaOutReferenceIdeal.τ).loc Cert.DeltaOutReferenceIdeal.main_arg0) = m' ((c.tc : Thread Cert.DeltaOutReferenceIdeal.nD Cert.DeltaOutReferenceIdeal.τ).loc Cert.DeltaOutReferenceIdeal.main_arg0)
          ∧ r.2.mem ((c.tc : Thread Cert.DeltaOutReferenceIdeal.nD Cert.DeltaOutReferenceIdeal.τ).loc Cert.DeltaOutReferenceIdeal.main_arg1) = m' ((c.tc : Thread Cert.DeltaOutReferenceIdeal.nD Cert.DeltaOutReferenceIdeal.τ).loc Cert.DeltaOutReferenceIdeal.main_arg1)
          ∧ r.2.mem ((c.tc : Thread Cert.DeltaOutReferenceIdeal.nD Cert.DeltaOutReferenceIdeal.τ).loc Cert.DeltaOutReferenceIdeal.main_arg2) = m' ((c.tc : Thread Cert.DeltaOutReferenceIdeal.nD Cert.DeltaOutReferenceIdeal.τ).loc Cert.DeltaOutReferenceIdeal.main_arg2)
          ∧ r.2.mem ((c.tc : Thread Cert.DeltaOutReferenceIdeal.nD Cert.DeltaOutReferenceIdeal.τ).loc Cert.DeltaOutReferenceIdeal.main_arg3) = m' ((c.tc : Thread Cert.DeltaOutReferenceIdeal.nD Cert.DeltaOutReferenceIdeal.τ).loc Cert.DeltaOutReferenceIdeal.main_arg3))

def preserves_HyenaOut_HyenaOutIdeal : Prop :=
  True

def algebraic_HyenaOutIdeal_HyenaOutReferenceIdeal [hHyenaOutIdeal : Cert.HyenaOutIdeal.Facts] [hHyenaOutReferenceIdeal : Cert.HyenaOutReferenceIdeal.Facts] : Prop :=
  ∀ (m : (ℓ : Loc Cert.HyenaOutIdeal.nD Cert.HyenaOutIdeal.τ Cert.HyenaOutIdeal.sig) → Buf (Elt Ideal) ℓ) (g : Dev Cert.HyenaOutIdeal.nD → PrngReg)
    (m' : (ℓ : Loc Cert.HyenaOutReferenceIdeal.nD Cert.HyenaOutReferenceIdeal.τ Cert.HyenaOutReferenceIdeal.sig) → Buf (Elt Ideal) ℓ) (g' : Dev Cert.HyenaOutReferenceIdeal.nD → PrngReg), Pre_HyenaOutIdeal m →
    (∀ c : Dev Cert.HyenaOutIdeal.nD,
      m' ((c.tc : Thread Cert.HyenaOutReferenceIdeal.nD Cert.HyenaOutReferenceIdeal.τ).loc Cert.HyenaOutReferenceIdeal.main_arg0) = m ((c.tc : Thread Cert.HyenaOutIdeal.nD Cert.HyenaOutIdeal.τ).loc Cert.HyenaOutIdeal.main_arg0)
      ∧ m' ((c.tc : Thread Cert.HyenaOutReferenceIdeal.nD Cert.HyenaOutReferenceIdeal.τ).loc Cert.HyenaOutReferenceIdeal.main_arg1) = m ((c.tc : Thread Cert.HyenaOutIdeal.nD Cert.HyenaOutIdeal.τ).loc Cert.HyenaOutIdeal.main_arg1)
      ∧ m' ((c.tc : Thread Cert.HyenaOutReferenceIdeal.nD Cert.HyenaOutReferenceIdeal.τ).loc Cert.HyenaOutReferenceIdeal.main_arg2) = m ((c.tc : Thread Cert.HyenaOutIdeal.nD Cert.HyenaOutIdeal.τ).loc Cert.HyenaOutIdeal.main_arg2)
      ∧ m' ((c.tc : Thread Cert.HyenaOutReferenceIdeal.nD Cert.HyenaOutReferenceIdeal.τ).loc Cert.HyenaOutReferenceIdeal.main_arg3) = m ((c.tc : Thread Cert.HyenaOutIdeal.nD Cert.HyenaOutIdeal.τ).loc Cert.HyenaOutIdeal.main_arg3)
      ∧ m' ((c.tc : Thread Cert.HyenaOutReferenceIdeal.nD Cert.HyenaOutReferenceIdeal.τ).loc Cert.HyenaOutReferenceIdeal.main_arg4) = m ((c.tc : Thread Cert.HyenaOutIdeal.nD Cert.HyenaOutIdeal.τ).loc Cert.HyenaOutIdeal.main_arg4)
      ∧ m' ((c.tc : Thread Cert.HyenaOutReferenceIdeal.nD Cert.HyenaOutReferenceIdeal.τ).loc Cert.HyenaOutReferenceIdeal.main_arg5) = m ((c.tc : Thread Cert.HyenaOutIdeal.nD Cert.HyenaOutIdeal.τ).loc Cert.HyenaOutIdeal.main_arg5)
      ∧ m' ((c.tc : Thread Cert.HyenaOutReferenceIdeal.nD Cert.HyenaOutReferenceIdeal.τ).loc Cert.HyenaOutReferenceIdeal.main_arg6) = m ((c.tc : Thread Cert.HyenaOutIdeal.nD Cert.HyenaOutIdeal.τ).loc Cert.HyenaOutIdeal.main_arg6)) →
    ∃ (v0 : (c : Dev Cert.HyenaOutIdeal.nD) → Buf (Elt Ideal) ((c.tc : Thread Cert.HyenaOutIdeal.nD Cert.HyenaOutIdeal.τ).loc Cert.HyenaOutIdeal.main_v2)),
      θ_run (Cert.HyenaOutIdeal.defs (F := Ideal)) (onTc (τ := Cert.HyenaOutIdeal.τ) (Cert.HyenaOutIdeal.main (F := Ideal))) ⟨m, fun _ => 0, g⟩ (fun r => ∀ c : Dev Cert.HyenaOutIdeal.nD,
          r.2.mem ((c.tc : Thread Cert.HyenaOutIdeal.nD Cert.HyenaOutIdeal.τ).loc Cert.HyenaOutIdeal.main_v2) = v0 c
          ∧ r.2.mem ((c.tc : Thread Cert.HyenaOutIdeal.nD Cert.HyenaOutIdeal.τ).loc Cert.HyenaOutIdeal.main_arg0) = m ((c.tc : Thread Cert.HyenaOutIdeal.nD Cert.HyenaOutIdeal.τ).loc Cert.HyenaOutIdeal.main_arg0)
          ∧ r.2.mem ((c.tc : Thread Cert.HyenaOutIdeal.nD Cert.HyenaOutIdeal.τ).loc Cert.HyenaOutIdeal.main_arg1) = m ((c.tc : Thread Cert.HyenaOutIdeal.nD Cert.HyenaOutIdeal.τ).loc Cert.HyenaOutIdeal.main_arg1)
          ∧ r.2.mem ((c.tc : Thread Cert.HyenaOutIdeal.nD Cert.HyenaOutIdeal.τ).loc Cert.HyenaOutIdeal.main_arg2) = m ((c.tc : Thread Cert.HyenaOutIdeal.nD Cert.HyenaOutIdeal.τ).loc Cert.HyenaOutIdeal.main_arg2)
          ∧ r.2.mem ((c.tc : Thread Cert.HyenaOutIdeal.nD Cert.HyenaOutIdeal.τ).loc Cert.HyenaOutIdeal.main_arg3) = m ((c.tc : Thread Cert.HyenaOutIdeal.nD Cert.HyenaOutIdeal.τ).loc Cert.HyenaOutIdeal.main_arg3)
          ∧ r.2.mem ((c.tc : Thread Cert.HyenaOutIdeal.nD Cert.HyenaOutIdeal.τ).loc Cert.HyenaOutIdeal.main_arg4) = m ((c.tc : Thread Cert.HyenaOutIdeal.nD Cert.HyenaOutIdeal.τ).loc Cert.HyenaOutIdeal.main_arg4)
          ∧ r.2.mem ((c.tc : Thread Cert.HyenaOutIdeal.nD Cert.HyenaOutIdeal.τ).loc Cert.HyenaOutIdeal.main_arg5) = m ((c.tc : Thread Cert.HyenaOutIdeal.nD Cert.HyenaOutIdeal.τ).loc Cert.HyenaOutIdeal.main_arg5)
          ∧ r.2.mem ((c.tc : Thread Cert.HyenaOutIdeal.nD Cert.HyenaOutIdeal.τ).loc Cert.HyenaOutIdeal.main_arg6) = m ((c.tc : Thread Cert.HyenaOutIdeal.nD Cert.HyenaOutIdeal.τ).loc Cert.HyenaOutIdeal.main_arg6))
      ∧ θ_run (Cert.HyenaOutReferenceIdeal.defs (F := Ideal)) (onTc (τ := Cert.HyenaOutReferenceIdeal.τ) (Cert.HyenaOutReferenceIdeal.main (F := Ideal))) ⟨m', fun _ => 0, g'⟩ (fun r => ∀ c : Dev Cert.HyenaOutReferenceIdeal.nD,
          r.2.mem ((c.tc : Thread Cert.HyenaOutReferenceIdeal.nD Cert.HyenaOutReferenceIdeal.τ).loc Cert.HyenaOutReferenceIdeal.main_v16) = v0 c
          ∧ r.2.mem ((c.tc : Thread Cert.HyenaOutReferenceIdeal.nD Cert.HyenaOutReferenceIdeal.τ).loc Cert.HyenaOutReferenceIdeal.main_arg0) = m' ((c.tc : Thread Cert.HyenaOutReferenceIdeal.nD Cert.HyenaOutReferenceIdeal.τ).loc Cert.HyenaOutReferenceIdeal.main_arg0)
          ∧ r.2.mem ((c.tc : Thread Cert.HyenaOutReferenceIdeal.nD Cert.HyenaOutReferenceIdeal.τ).loc Cert.HyenaOutReferenceIdeal.main_arg1) = m' ((c.tc : Thread Cert.HyenaOutReferenceIdeal.nD Cert.HyenaOutReferenceIdeal.τ).loc Cert.HyenaOutReferenceIdeal.main_arg1)
          ∧ r.2.mem ((c.tc : Thread Cert.HyenaOutReferenceIdeal.nD Cert.HyenaOutReferenceIdeal.τ).loc Cert.HyenaOutReferenceIdeal.main_arg2) = m' ((c.tc : Thread Cert.HyenaOutReferenceIdeal.nD Cert.HyenaOutReferenceIdeal.τ).loc Cert.HyenaOutReferenceIdeal.main_arg2)
          ∧ r.2.mem ((c.tc : Thread Cert.HyenaOutReferenceIdeal.nD Cert.HyenaOutReferenceIdeal.τ).loc Cert.HyenaOutReferenceIdeal.main_arg3) = m' ((c.tc : Thread Cert.HyenaOutReferenceIdeal.nD Cert.HyenaOutReferenceIdeal.τ).loc Cert.HyenaOutReferenceIdeal.main_arg3)
          ∧ r.2.mem ((c.tc : Thread Cert.HyenaOutReferenceIdeal.nD Cert.HyenaOutReferenceIdeal.τ).loc Cert.HyenaOutReferenceIdeal.main_arg4) = m' ((c.tc : Thread Cert.HyenaOutReferenceIdeal.nD Cert.HyenaOutReferenceIdeal.τ).loc Cert.HyenaOutReferenceIdeal.main_arg4)
          ∧ r.2.mem ((c.tc : Thread Cert.HyenaOutReferenceIdeal.nD Cert.HyenaOutReferenceIdeal.τ).loc Cert.HyenaOutReferenceIdeal.main_arg5) = m' ((c.tc : Thread Cert.HyenaOutReferenceIdeal.nD Cert.HyenaOutReferenceIdeal.τ).loc Cert.HyenaOutReferenceIdeal.main_arg5)
          ∧ r.2.mem ((c.tc : Thread Cert.HyenaOutReferenceIdeal.nD Cert.HyenaOutReferenceIdeal.τ).loc Cert.HyenaOutReferenceIdeal.main_arg6) = m' ((c.tc : Thread Cert.HyenaOutReferenceIdeal.nD Cert.HyenaOutReferenceIdeal.τ).loc Cert.HyenaOutReferenceIdeal.main_arg6))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v20) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def preserves_HyenaConv_HyenaConvIdeal : Prop :=
  True

def algebraic_HyenaConvIdeal_HyenaConvReferenceIdeal [hHyenaConvIdeal : Cert.HyenaConvIdeal.Facts] [hHyenaConvReferenceIdeal : Cert.HyenaConvReferenceIdeal.Facts] : Prop :=
  ∀ (m : (ℓ : Loc Cert.HyenaConvIdeal.nD Cert.HyenaConvIdeal.τ Cert.HyenaConvIdeal.sig) → Buf (Elt Ideal) ℓ) (g : Dev Cert.HyenaConvIdeal.nD → PrngReg)
    (m' : (ℓ : Loc Cert.HyenaConvReferenceIdeal.nD Cert.HyenaConvReferenceIdeal.τ Cert.HyenaConvReferenceIdeal.sig) → Buf (Elt Ideal) ℓ) (g' : Dev Cert.HyenaConvReferenceIdeal.nD → PrngReg), Pre_HyenaConvIdeal m →
    (∀ c : Dev Cert.HyenaConvIdeal.nD,
      m' ((c.tc : Thread Cert.HyenaConvReferenceIdeal.nD Cert.HyenaConvReferenceIdeal.τ).loc Cert.HyenaConvReferenceIdeal.main_arg0) = m ((c.tc : Thread Cert.HyenaConvIdeal.nD Cert.HyenaConvIdeal.τ).loc Cert.HyenaConvIdeal.main_arg0)
      ∧ m' ((c.tc : Thread Cert.HyenaConvReferenceIdeal.nD Cert.HyenaConvReferenceIdeal.τ).loc Cert.HyenaConvReferenceIdeal.main_arg1) = m ((c.tc : Thread Cert.HyenaConvIdeal.nD Cert.HyenaConvIdeal.τ).loc Cert.HyenaConvIdeal.main_arg1)) →
    ∃ (v0 : (c : Dev Cert.HyenaConvIdeal.nD) → Buf (Elt Ideal) ((c.tc : Thread Cert.HyenaConvIdeal.nD Cert.HyenaConvIdeal.τ).loc Cert.HyenaConvIdeal.main_v0_0)) (v1 : (c : Dev Cert.HyenaConvIdeal.nD) → Buf (Elt Ideal) ((c.tc : Thread Cert.HyenaConvIdeal.nD Cert.HyenaConvIdeal.τ).loc Cert.HyenaConvIdeal.main_v0_1)),
      θ_run (Cert.HyenaConvIdeal.defs (F := Ideal)) (onTc (τ := Cert.HyenaConvIdeal.τ) (Cert.HyenaConvIdeal.main (F := Ideal))) ⟨m, fun _ => 0, g⟩ (fun r => ∀ c : Dev Cert.HyenaConvIdeal.nD,
          r.2.mem ((c.tc : Thread Cert.HyenaConvIdeal.nD Cert.HyenaConvIdeal.τ).loc Cert.HyenaConvIdeal.main_v0_0) = v0 c
          ∧ r.2.mem ((c.tc : Thread Cert.HyenaConvIdeal.nD Cert.HyenaConvIdeal.τ).loc Cert.HyenaConvIdeal.main_v0_1) = v1 c
          ∧ r.2.mem ((c.tc : Thread Cert.HyenaConvIdeal.nD Cert.HyenaConvIdeal.τ).loc Cert.HyenaConvIdeal.main_arg0) = m ((c.tc : Thread Cert.HyenaConvIdeal.nD Cert.HyenaConvIdeal.τ).loc Cert.HyenaConvIdeal.main_arg0)
          ∧ r.2.mem ((c.tc : Thread Cert.HyenaConvIdeal.nD Cert.HyenaConvIdeal.τ).loc Cert.HyenaConvIdeal.main_arg1) = m ((c.tc : Thread Cert.HyenaConvIdeal.nD Cert.HyenaConvIdeal.τ).loc Cert.HyenaConvIdeal.main_arg1))
      ∧ θ_run (Cert.HyenaConvReferenceIdeal.defs (F := Ideal)) (onTc (τ := Cert.HyenaConvReferenceIdeal.τ) (Cert.HyenaConvReferenceIdeal.main (F := Ideal))) ⟨m', fun _ => 0, g'⟩ (fun r => ∀ c : Dev Cert.HyenaConvReferenceIdeal.nD,
          r.2.mem ((c.tc : Thread Cert.HyenaConvReferenceIdeal.nD Cert.HyenaConvReferenceIdeal.τ).loc Cert.HyenaConvReferenceIdeal.main_v57) = v0 c
          ∧ r.2.mem ((c.tc : Thread Cert.HyenaConvReferenceIdeal.nD Cert.HyenaConvReferenceIdeal.τ).loc Cert.HyenaConvReferenceIdeal.main_v59) = v1 c
          ∧ r.2.mem ((c.tc : Thread Cert.HyenaConvReferenceIdeal.nD Cert.HyenaConvReferenceIdeal.τ).loc Cert.HyenaConvReferenceIdeal.main_arg0) = m' ((c.tc : Thread Cert.HyenaConvReferenceIdeal.nD Cert.HyenaConvReferenceIdeal.τ).loc Cert.HyenaConvReferenceIdeal.main_arg0)
          ∧ r.2.mem ((c.tc : Thread Cert.HyenaConvReferenceIdeal.nD Cert.HyenaConvReferenceIdeal.τ).loc Cert.HyenaConvReferenceIdeal.main_arg1) = m' ((c.tc : Thread Cert.HyenaConvReferenceIdeal.nD Cert.HyenaConvReferenceIdeal.τ).loc Cert.HyenaConvReferenceIdeal.main_arg1))

def Claim : Prop :=
  ∃ (hExperts : Cert.Experts.Facts) (hExpertsIdeal : Cert.ExpertsIdeal.Facts) (hReferenceIdeal : Cert.ReferenceIdeal.Facts) (hHyenaIn : Cert.HyenaIn.Facts) (hHyenaInIdeal : Cert.HyenaInIdeal.Facts) (hHyenaInReferenceIdeal : Cert.HyenaInReferenceIdeal.Facts) (hFinalPrompt : Cert.FinalPrompt.Facts) (hFinalPromptIdeal : Cert.FinalPromptIdeal.Facts) (hFinalPromptReferenceIdeal : Cert.FinalPromptReferenceIdeal.Facts) (hFinalSample : Cert.FinalSample.Facts) (hFinalSampleIdeal : Cert.FinalSampleIdeal.Facts) (hFinalSampleReferenceIdeal : Cert.FinalSampleReferenceIdeal.Facts) (hDeltaIn : Cert.DeltaIn.Facts) (hDeltaInIdeal : Cert.DeltaInIdeal.Facts) (hDeltaInReferenceIdeal : Cert.DeltaInReferenceIdeal.Facts) (hDeltaOut : Cert.DeltaOut.Facts) (hDeltaOutIdeal : Cert.DeltaOutIdeal.Facts) (hDeltaOutReferenceIdeal : Cert.DeltaOutReferenceIdeal.Facts) (hHyenaOut : Cert.HyenaOut.Facts) (hHyenaOutIdeal : Cert.HyenaOutIdeal.Facts) (hHyenaOutReferenceIdeal : Cert.HyenaOutReferenceIdeal.Facts) (hModulation : Cert.Modulation.Facts) (hModulationIdeal : Cert.ModulationIdeal.Facts) (hModulationReferenceIdeal : Cert.ModulationReferenceIdeal.Facts) (hHyenaConv : Cert.HyenaConv.Facts) (hHyenaConvIdeal : Cert.HyenaConvIdeal.Facts) (hHyenaConvReferenceIdeal : Cert.HyenaConvReferenceIdeal.Facts) (hPre_moe_pre : Cert.Pre_moe_pre.Facts),
    quiescent_Experts (hExperts := hExperts) (hPre_moe_pre := hPre_moe_pre)
    ∧ quiescent_ExpertsIdeal (hExpertsIdeal := hExpertsIdeal) (hPre_moe_pre := hPre_moe_pre)
    ∧ quiescent_ReferenceIdeal (hReferenceIdeal := hReferenceIdeal) (hPre_moe_pre := hPre_moe_pre)
    ∧ quiescent_HyenaIn (hHyenaIn := hHyenaIn)
    ∧ quiescent_HyenaInIdeal (hHyenaInIdeal := hHyenaInIdeal)
    ∧ quiescent_HyenaInReferenceIdeal (hHyenaInReferenceIdeal := hHyenaInReferenceIdeal)
    ∧ quiescent_FinalPrompt (hFinalPrompt := hFinalPrompt)
    ∧ quiescent_FinalPromptIdeal (hFinalPromptIdeal := hFinalPromptIdeal)
    ∧ quiescent_FinalPromptReferenceIdeal (hFinalPromptReferenceIdeal := hFinalPromptReferenceIdeal)
    ∧ quiescent_FinalSample (hFinalSample := hFinalSample)
    ∧ quiescent_FinalSampleIdeal (hFinalSampleIdeal := hFinalSampleIdeal)
    ∧ quiescent_FinalSampleReferenceIdeal (hFinalSampleReferenceIdeal := hFinalSampleReferenceIdeal)
    ∧ quiescent_DeltaIn (hDeltaIn := hDeltaIn)
    ∧ quiescent_DeltaInIdeal (hDeltaInIdeal := hDeltaInIdeal)
    ∧ quiescent_DeltaInReferenceIdeal (hDeltaInReferenceIdeal := hDeltaInReferenceIdeal)
    ∧ quiescent_DeltaOut (hDeltaOut := hDeltaOut)
    ∧ quiescent_DeltaOutIdeal (hDeltaOutIdeal := hDeltaOutIdeal)
    ∧ quiescent_DeltaOutReferenceIdeal (hDeltaOutReferenceIdeal := hDeltaOutReferenceIdeal)
    ∧ quiescent_HyenaOut (hHyenaOut := hHyenaOut)
    ∧ quiescent_HyenaOutIdeal (hHyenaOutIdeal := hHyenaOutIdeal)
    ∧ quiescent_HyenaOutReferenceIdeal (hHyenaOutReferenceIdeal := hHyenaOutReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_HyenaConv (hHyenaConv := hHyenaConv)
    ∧ quiescent_HyenaConvIdeal (hHyenaConvIdeal := hHyenaConvIdeal)
    ∧ quiescent_HyenaConvReferenceIdeal (hHyenaConvReferenceIdeal := hHyenaConvReferenceIdeal)
    ∧ preserves_Experts_ExpertsIdeal
    ∧ algebraic_ExpertsIdeal_ReferenceIdeal (hExpertsIdeal := hExpertsIdeal) (hReferenceIdeal := hReferenceIdeal) (hPre_moe_pre := hPre_moe_pre)
    ∧ preserves_HyenaIn_HyenaInIdeal
    ∧ algebraic_HyenaInIdeal_HyenaInReferenceIdeal (hHyenaInIdeal := hHyenaInIdeal) (hHyenaInReferenceIdeal := hHyenaInReferenceIdeal)
    ∧ preserves_FinalPrompt_FinalPromptIdeal
    ∧ algebraic_FinalPromptIdeal_FinalPromptReferenceIdeal (hFinalPromptIdeal := hFinalPromptIdeal) (hFinalPromptReferenceIdeal := hFinalPromptReferenceIdeal)
    ∧ preserves_FinalSample_FinalSampleIdeal
    ∧ algebraic_FinalSampleIdeal_FinalSampleReferenceIdeal (hFinalSampleIdeal := hFinalSampleIdeal) (hFinalSampleReferenceIdeal := hFinalSampleReferenceIdeal)
    ∧ preserves_DeltaIn_DeltaInIdeal
    ∧ algebraic_DeltaInIdeal_DeltaInReferenceIdeal (hDeltaInIdeal := hDeltaInIdeal) (hDeltaInReferenceIdeal := hDeltaInReferenceIdeal)
    ∧ preserves_DeltaOut_DeltaOutIdeal
    ∧ algebraic_DeltaOutIdeal_DeltaOutReferenceIdeal (hDeltaOutIdeal := hDeltaOutIdeal) (hDeltaOutReferenceIdeal := hDeltaOutReferenceIdeal)
    ∧ preserves_HyenaOut_HyenaOutIdeal
    ∧ algebraic_HyenaOutIdeal_HyenaOutReferenceIdeal (hHyenaOutIdeal := hHyenaOutIdeal) (hHyenaOutReferenceIdeal := hHyenaOutReferenceIdeal)
    ∧ preserves_Modulation_ModulationIdeal
    ∧ algebraic_ModulationIdeal_ModulationReferenceIdeal (hModulationIdeal := hModulationIdeal) (hModulationReferenceIdeal := hModulationReferenceIdeal)
    ∧ preserves_HyenaConv_HyenaConvIdeal
    ∧ algebraic_HyenaConvIdeal_HyenaConvReferenceIdeal (hHyenaConvIdeal := hHyenaConvIdeal) (hHyenaConvReferenceIdeal := hHyenaConvReferenceIdeal)
-- ==== Pre_moe_pre.lean ====
abbrev S163840x2048 : Shape := ⟨2, ![163840, 2048]⟩
abbrev S320 : Shape := ⟨1, ![320]⟩
abbrev S1 : Shape := ⟨1, ![1]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S_ : Shape := ⟨0, ![]⟩

class Facts : Prop where
  bcast_S_S320 : S_.BroadcastsInDim S320 (![] : Fin 0 → Fin S320.rank)
  reducesTo_S320_S_d0 : S320.ReducesTo [0] S_
  h_S_ : 0 < S_.numel

variable [Facts]

def fn {F : FTy → Type} [FloatOps F] (main_arg0 : FVec F S163840x2048 .bf16) (main_arg1 : IVec S320 32) (main_arg2 : IVec S1 32) (main_arg3 : FVec F S32x2048x4096 .f32) (main_arg4 : FVec F S32x4096 .f32) (main_arg5 : FVec F S32x2048x2048 .f32) (main_arg6 : FVec F S32x2048 .f32) : IVec S_ 1 :=
  let main_c : IVec S_ 32 := constantI S_ 32 0#32
  let main_v0 : IVec S320 32 := broadcastInDim S320 ![] bcast_S_S320 main_c
  let main_v1 : IVec S320 1 := cmpi .sge main_arg1 main_v0
  let main_c_0 : IVec S_ 32 := constantI S_ 32 32#32
  let main_v2 : IVec S320 32 := broadcastInDim S320 ![] bcast_S_S320 main_c_0
  let main_v3 : IVec S320 1 := cmpi .slt main_arg1 main_v2
  let main_v4 : IVec S320 1 := andi main_v1 main_v3
  let main_c_1 : IVec S_ 1 := constantI S_ 1 1#1
  let main_v5 : IVec S_ 1 := (fun x v => Host.reduce IntOp.andi x v reducesTo_S320_S_d0 h_S_) main_v4 main_c_1
  main_v5
-- ==== Experts.lean ====
abbrev S163840x2048 : Shape := ⟨2, ![163840, 2048]⟩
abbrev S320 : Shape := ⟨1, ![320]⟩
abbrev S1 : Shape := ⟨1, ![1]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S32x1x4096 : Shape := ⟨3, ![32, 1, 4096]⟩
abbrev S32x1x2048 : Shape := ⟨3, ![32, 1, 2048]⟩
abbrev S512x2048 : Shape := ⟨2, ![512, 2048]⟩
abbrev S1x2048x512 : Shape := ⟨3, ![1, 2048, 512]⟩
abbrev S1x1x512 : Shape := ⟨3, ![1, 1, 512]⟩
abbrev S1x512x2048 : Shape := ⟨3, ![1, 512, 2048]⟩
abbrev S1x1x2048 : Shape := ⟨3, ![1, 1, 2048]⟩
abbrev S2048x512 : Shape := ⟨2, ![2048, 512]⟩
abbrev S512x512 : Shape := ⟨2, ![512, 512]⟩
abbrev S1x512 : Shape := ⟨2, ![1, 512]⟩
abbrev S1x2048 : Shape := ⟨2, ![1, 2048]⟩

abbrev nBuf : Space → Nat
  | .hbm => 11
  | .vmem => 17
  | .smem => 2
  | _ => 0

abbrev bufTy : (tb : Table) → Fin (tcTables nBuf tb) → BufTy
  | .hbm, ⟨0, _⟩ => ⟨S163840x2048, .bf16⟩
  | .hbm, ⟨1, _⟩ => ⟨S32x2048x4096, .f32⟩
  | .hbm, ⟨2, _⟩ => ⟨S32x4096, .f32⟩
  | .hbm, ⟨3, _⟩ => ⟨S32x2048x2048, .f32⟩
  | .hbm, ⟨4, _⟩ => ⟨S32x2048, .f32⟩
  | .hbm, ⟨5, _⟩ => ⟨S32x2048x4096, .bf16⟩
  | .hbm, ⟨6, _⟩ => ⟨S32x2048x2048, .bf16⟩
  | .hbm, ⟨7, _⟩ => ⟨S32x1x4096, .f32⟩
  | .hbm, ⟨8, _⟩ => ⟨S32x1x4096, .f32⟩
  | .hbm, ⟨9, _⟩ => ⟨S32x1x2048, .f32⟩
  | .hbm, ⟨10, _⟩ => ⟨S163840x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x512x2048, .bf16⟩
  | .local _ .vmem, ⟨11, _⟩ => ⟨S1x512x2048, .bf16⟩
  | .local _ .vmem, ⟨12, _⟩ => ⟨S1x1x2048, .f32⟩
  | .local _ .vmem, ⟨13, _⟩ => ⟨S1x1x2048, .f32⟩
  | .local _ .vmem, ⟨14, _⟩ => ⟨S512x2048, .bf16⟩
  | .local _ .vmem, ⟨15, _⟩ => ⟨S512x2048, .bf16⟩
  | .local _ .vmem, ⟨16, _⟩ => ⟨S512x2048, .f32⟩
  | .local _ .smem, ⟨0, _⟩ => ⟨S320, .i32⟩
  | .local _ .smem, ⟨1, _⟩ => ⟨S1, .i32⟩
  | _, _ => ⟨S163840x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![320, 4], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond4 (i : grid0.Coords) : BitVec 1 :=
  let arg1 : BitVec 32 := BitVec.ofNat 32 (i 1).val
  let c3_i32_29 : BitVec 32 := 3#32
  let v47 : BitVec 1 := Scalar.cmpi .eq arg1 c3_i32_29
  let v48 : BitVec 32 := Scalar.extui v47
  let c0_i32_30 : BitVec 32 := 0#32
  let v49 : BitVec 1 := Scalar.cmpi .ne v48 c0_i32_30
  v49

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let arg1 : BitVec 32 := BitVec.ofNat 32 (i 1).val
  let c3_i32 : BitVec 32 := 3#32
  let v5 : BitVec 1 := Scalar.cmpi .eq arg1 c3_i32
  let v6 : BitVec 1 := Scalar.andi v4 v5
  let v7 : BitVec 32 := Scalar.extui v6
  let c0_i32_0 : BitVec 32 := 0#32
  let v8 : BitVec 1 := Scalar.cmpi .ne v7 c0_i32_0
  v8

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S320.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S320) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S320.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S320) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c4_i32 : BitVec 32 := 4#32
  let v5 : BitVec 32 := Scalar.addi c4_i32 v4
  let c0_i32 : BitVec 32 := 0#32
  let c0_i32_0 : BitVec 32 := 0#32
  ![v1.toNat, c0_i32.toNat, v5.toNat]

def cc0_transform_3 (k0_off1_inb : ∀ i : grid0.Coords, ∀ a, (k0_off1 i) a + S1.size a ≤ S320.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S320) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S320.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S320) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c4_i32 : BitVec 32 := 4#32
  let v5 : BitVec 32 := Scalar.addi c4_i32 v4
  let c0_i32 : BitVec 32 := 0#32
  let c0_i32_0 : BitVec 32 := 0#32
  ![v1.toNat, c0_i32.toNat, v5.toNat]

def cc0_transform_5 (k0_off1_inb : ∀ i : grid0.Coords, ∀ a, (k0_off1 i) a + S1.size a ≤ S320.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S320) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, v4.toNat, c0_i32.toNat]

def cc0_transform_6 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S163840x2048 : Shape := ⟨2, ![163840, 2048]⟩
abbrev S320 : Shape := ⟨1, ![320]⟩
abbrev S1 : Shape := ⟨1, ![1]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S320x512x2048 : Shape := ⟨3, ![320, 512, 2048]⟩
abbrev S_ : Shape := ⟨0, ![]⟩
abbrev S320x1 : Shape := ⟨2, ![320, 1]⟩
abbrev S320x2048x4096 : Shape := ⟨3, ![320, 2048, 4096]⟩
abbrev S320x512x4096 : Shape := ⟨3, ![320, 512, 4096]⟩
abbrev S320x4096 : Shape := ⟨2, ![320, 4096]⟩
abbrev S320x1x4096 : Shape := ⟨3, ![320, 1, 4096]⟩
abbrev S320x2048x2048 : Shape := ⟨3, ![320, 2048, 2048]⟩
abbrev S320x2048 : Shape := ⟨2, ![320, 2048]⟩
abbrev S320x1x2048 : Shape := ⟨3, ![320, 1, 2048]⟩
abbrev S320x1x1 : Shape := ⟨3, ![320, 1, 1]⟩

abbrev nBuf : Space → Nat
  | .hbm => 94
  | .vmem => 0
  | .smem => 0
  | _ => 0

abbrev bufTy : (tb : Table) → Fin (tcTables nBuf tb) → BufTy
  | .hbm, ⟨0, _⟩ => ⟨S163840x2048, .bf16⟩
  | .hbm, ⟨1, _⟩ => ⟨S320, .i32⟩
  | .hbm, ⟨2, _⟩ => ⟨S1, .i32⟩
  | .hbm, ⟨3, _⟩ => ⟨S32x2048x4096, .f32⟩
  | .hbm, ⟨4, _⟩ => ⟨S32x4096, .f32⟩
  | .hbm, ⟨5, _⟩ => ⟨S32x2048x2048, .f32⟩
  | .hbm, ⟨6, _⟩ => ⟨S32x2048, .f32⟩
  | .hbm, ⟨7, _⟩ => ⟨S163840x2048, .f32⟩
  | .hbm, ⟨8, _⟩ => ⟨S320x512x2048, .f32⟩
  | .hbm, ⟨9, _⟩ => ⟨S_, .i32⟩
  | .hbm, ⟨10, _⟩ => ⟨S320, .i32⟩
  | .hbm, ⟨11, _⟩ => ⟨S320, .i1⟩
  | .hbm, ⟨12, _⟩ => ⟨S_, .i32⟩
  | .hbm, ⟨13, _⟩ => ⟨S320, .i32⟩
  | .hbm, ⟨14, _⟩ => ⟨S320, .i32⟩
  | .hbm, ⟨15, _⟩ => ⟨S320, .i32⟩
  | .hbm, ⟨16, _⟩ => ⟨S320x1, .i32⟩
  | .hbm, ⟨17, _⟩ => ⟨S320x2048x4096, .f32⟩
  | .hbm, ⟨18, _⟩ => ⟨S320x512x4096, .f32⟩
  | .hbm, ⟨19, _⟩ => ⟨S_, .i32⟩
  | .hbm, ⟨20, _⟩ => ⟨S320, .i32⟩
  | .hbm, ⟨21, _⟩ => ⟨S320, .i1⟩
  | .hbm, ⟨22, _⟩ => ⟨S_, .i32⟩
  | .hbm, ⟨23, _⟩ => ⟨S320, .i32⟩
  | .hbm, ⟨24, _⟩ => ⟨S320, .i32⟩
  | .hbm, ⟨25, _⟩ => ⟨S320, .i32⟩
  | .hbm, ⟨26, _⟩ => ⟨S320x1, .i32⟩
  | .hbm, ⟨27, _⟩ => ⟨S320x4096, .f32⟩
  | .hbm, ⟨28, _⟩ => ⟨S320x1x4096, .f32⟩
  | .hbm, ⟨29, _⟩ => ⟨S320x512x4096, .f32⟩
  | .hbm, ⟨30, _⟩ => ⟨S320x512x4096, .f32⟩
  | .hbm, ⟨31, _⟩ => ⟨S320x512x2048, .f32⟩
  | .hbm, ⟨32, _⟩ => ⟨S_, .f32⟩
  | .hbm, ⟨33, _⟩ => ⟨S320x512x2048, .f32⟩
  | .hbm, ⟨34, _⟩ => ⟨S320x512x2048, .f32⟩
  | .hbm, ⟨35, _⟩ => ⟨S320x512x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S320x512x2048, .f32⟩
  | .hbm, ⟨40, _⟩ => ⟨S320x512x2048, .f32⟩
  | .hbm, ⟨41, _⟩ => ⟨S_, .f32⟩
  | .hbm, ⟨42, _⟩ => ⟨S320x512x2048, .f32⟩
  | .hbm, ⟨43, _⟩ => ⟨S320x512x2048, .f32⟩
  | .hbm, ⟨44, _⟩ => ⟨S_, .f32⟩
  | .hbm, ⟨45, _⟩ => ⟨S320x512x2048, .f32⟩
  | .hbm, ⟨46, _⟩ => ⟨S320x512x2048, .f32⟩
  | .hbm, ⟨47, _⟩ => ⟨S320x512x2048, .f32⟩
  | .hbm, ⟨48, _⟩ => ⟨S_, .f32⟩
  | .hbm, ⟨49, _⟩ => ⟨S320x512x2048, .f32⟩
  | .hbm, ⟨50, _⟩ => ⟨S320x512x2048, .f32⟩
  | .hbm, ⟨51, _⟩ => ⟨S320x512x2048, .f32⟩
  | .hbm, ⟨52, _⟩ => ⟨S320x512x2048, .f32⟩
  | .hbm, ⟨53, _⟩ => ⟨S_, .f32⟩
  | .hbm, ⟨54, _⟩ => ⟨S320x512x2048, .f32⟩
  | .hbm, ⟨55, _⟩ => ⟨S320x512x2048, .f32⟩
  | .hbm, ⟨56, _⟩ => ⟨S_, .f32⟩
  | .hbm, ⟨57, _⟩ => ⟨S320x512x2048, .f32⟩
  | .hbm, ⟨58, _⟩ => ⟨S320x512x2048, .f32⟩
  | .hbm, ⟨59, _⟩ => ⟨S320x512x2048, .f32⟩
  | .hbm, ⟨60, _⟩ => ⟨S_, .i32⟩
  | .hbm, ⟨61, _⟩ => ⟨S320, .i32⟩
  | .hbm, ⟨62, _⟩ => ⟨S320, .i1⟩
  | .hbm, ⟨63, _⟩ => ⟨S_, .i32⟩
  | .hbm, ⟨64, _⟩ => ⟨S320, .i32⟩
  | .hbm, ⟨65, _⟩ => ⟨S320, .i32⟩
  | .hbm, ⟨66, _⟩ => ⟨S320, .i32⟩
  | .hbm, ⟨67, _⟩ => ⟨S320x1, .i32⟩
  | .hbm, ⟨68, _⟩ => ⟨S320x2048x2048, .f32⟩
  | .hbm, ⟨69, _⟩ => ⟨S320x512x2048, .f32⟩
  | .hbm, ⟨70, _⟩ => ⟨S_, .i32⟩
  | .hbm, ⟨71, _⟩ => ⟨S320, .i32⟩
  | .hbm, ⟨72, _⟩ => ⟨S320, .i1⟩
  | .hbm, ⟨73, _⟩ => ⟨S_, .i32⟩
  | .hbm, ⟨74, _⟩ => ⟨S320, .i32⟩
  | .hbm, ⟨75, _⟩ => ⟨S320, .i32⟩
  | .hbm, ⟨76, _⟩ => ⟨S320, .i32⟩
  | .hbm, ⟨77, _⟩ => ⟨S320x1, .i32⟩
  | .hbm, ⟨78, _⟩ => ⟨S320x2048, .f32⟩
  | .hbm, ⟨79, _⟩ => ⟨S320x1x2048, .f32⟩
  | .hbm, ⟨80, _⟩ => ⟨S320x512x2048, .f32⟩
  | .hbm, ⟨81, _⟩ => ⟨S320x512x2048, .f32⟩
  | .hbm, ⟨82, _⟩ => ⟨S320, .i32⟩
  | .hbm, ⟨83, _⟩ => ⟨S_, .i32⟩
  | .hbm, ⟨84, _⟩ => ⟨S320, .i32⟩
  | .hbm, ⟨85, _⟩ => ⟨S320, .i1⟩
  | .hbm, ⟨86, _⟩ => ⟨S320x1x1, .i1⟩
  | .hbm, ⟨87, _⟩ => ⟨S_, .f32⟩
  | .hbm, ⟨88, _⟩ => ⟨S_, .f32⟩
  | .hbm, ⟨89, _⟩ => ⟨S320x512x2048, .i1⟩
  | .hbm, ⟨90, _⟩ => ⟨S320x512x2048, .f32⟩
  | .hbm, ⟨91, _⟩ => ⟨S320x512x2048, .f32⟩
  | .hbm, ⟨92, _⟩ => ⟨S163840x2048, .f32⟩
  | .hbm, ⟨93, _⟩ => ⟨S163840x2048, .bf16⟩
  | _, _ => ⟨S163840x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== HyenaIn.lean ====
abbrev S36864x2048 : Shape := ⟨2, ![36864, 2048]⟩
abbrev S2048 : Shape := ⟨1, ![2048]⟩
abbrev S16x6x1x2048 : Shape := ⟨4, ![16, 6, 1, 2048]⟩
abbrev S2048x6144 : Shape := ⟨2, ![2048, 6144]⟩
abbrev S144 : Shape := ⟨1, ![144]⟩
abbrev S1x2048 : Shape := ⟨2, ![1, 2048]⟩
abbrev S36864x6144 : Shape := ⟨2, ![36864, 6144]⟩
abbrev S256x2048 : Shape := ⟨2, ![256, 2048]⟩
abbrev S1x1x1x2048 : Shape := ⟨4, ![1, 1, 1, 2048]⟩
abbrev S1 : Shape := ⟨1, ![1]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 12
  | .smem => 1
  | _ => 0

abbrev bufTy : (tb : Table) → Fin (tcTables nBuf tb) → BufTy
  | .hbm, ⟨0, _⟩ => ⟨S36864x2048, .f32⟩
  | .hbm, ⟨1, _⟩ => ⟨S2048, .f32⟩
  | .hbm, ⟨2, _⟩ => ⟨S16x6x1x2048, .f32⟩
  | .hbm, ⟨3, _⟩ => ⟨S2048x6144, .f32⟩
  | .hbm, ⟨4, _⟩ => ⟨S2048x6144, .bf16⟩
  | .hbm, ⟨5, _⟩ => ⟨S1x2048, .f32⟩
  | .hbm, ⟨6, _⟩ => ⟨S36864x6144, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S256x1024, .bf16⟩
  | .local _ .vmem, ⟨10, _⟩ => ⟨S256x1024, .bf16⟩
  | .local _ .vmem, ⟨11, _⟩ => ⟨S256x2048, .bf16⟩
  | .local _ .smem, ⟨0, _⟩ => ⟨S144, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![144, 6], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S144) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![v1.toNat, c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== HyenaInReferenceIdeal.lean ====
abbrev S36864x2048 : Shape := ⟨2, ![36864, 2048]⟩
abbrev S2048 : Shape := ⟨1, ![2048]⟩
abbrev S16x6x1x2048 : Shape := ⟨4, ![16, 6, 1, 2048]⟩
abbrev S2048x6144 : Shape := ⟨2, ![2048, 6144]⟩
abbrev S9x4096x2048 : Shape := ⟨3, ![9, 4096, 2048]⟩
abbrev S_ : Shape := ⟨0, ![]⟩
abbrev S9x4096 : Shape := ⟨2, ![9, 4096]⟩
abbrev S9x4096x1 : Shape := ⟨3, ![9, 4096, 1]⟩
abbrev S1x1x2048 : Shape := ⟨3, ![1, 1, 2048]⟩
abbrev S9x1x1x2048 : Shape := ⟨4, ![9, 1, 1, 2048]⟩
abbrev S9x1x2048 : Shape := ⟨3, ![9, 1, 2048]⟩
abbrev S36864x6144 : Shape := ⟨2, ![36864, 6144]⟩

abbrev nBuf : Space → Nat
  | .hbm => 35
  | .vmem => 0
  | .smem => 0
  | _ => 0

abbrev bufTy : (tb : Table) → Fin (tcTables nBuf tb) → BufTy
  | .hbm, ⟨0, _⟩ => ⟨S36864x2048, .f32⟩
  | .hbm, ⟨1, _⟩ => ⟨S2048, .f32⟩
  | .hbm, ⟨2, _⟩ => ⟨S16x6x1x2048, .f32⟩
  | .hbm, ⟨3, _⟩ => ⟨S2048x6144, .f32⟩
  | .hbm, ⟨4, _⟩ => ⟨S9x4096x2048, .f32⟩
  | .hbm, ⟨5, _⟩ => ⟨S9x4096x2048, .f32⟩
  | .hbm, ⟨6, _⟩ => ⟨S_, .f32⟩
  | .hbm, ⟨7, _⟩ => ⟨S9x4096, .f32⟩
  | .hbm, ⟨8, _⟩ => ⟨S9x4096x1, .f32⟩
  | .hbm, ⟨9, _⟩ => ⟨S_, .f32⟩
  | .hbm, ⟨10, _⟩ => ⟨S9x4096x1, .f32⟩
  | .hbm, ⟨11, _⟩ => ⟨S9x4096x1, .f32⟩
  | .hbm, ⟨12, _⟩ => ⟨S_, .f32⟩
  | .hbm, ⟨13, _⟩ => ⟨S9x4096x1, .f32⟩
  | .hbm, ⟨14, _⟩ => ⟨S9x4096x1, .f32⟩
  | .hbm, ⟨15, _⟩ => ⟨S9x4096x1, .f32⟩
  | .hbm, ⟨16, _⟩ => ⟨S9x4096x2048, .f32⟩
  | .hbm, ⟨17, _⟩ => ⟨S9x4096x2048, .f32⟩
  | .hbm, ⟨18, _⟩ => ⟨S1x1x2048, .f32⟩
  | .hbm, ⟨19, _⟩ => ⟨S9x4096x2048, .f32⟩
  | .hbm, ⟨20, _⟩ => ⟨S9x4096x2048, .f32⟩
  | .hbm, ⟨21, _⟩ => ⟨S9x1x1x2048, .f32⟩
  | .hbm, ⟨22, _⟩ => ⟨S9x1x2048, .f32⟩
  | .hbm, ⟨23, _⟩ => ⟨S9x1x1x2048, .f32⟩
  | .hbm, ⟨24, _⟩ => ⟨S9x1x2048, .f32⟩
  | .hbm, ⟨25, _⟩ => ⟨S_, .f32⟩
  | .hbm, ⟨26, _⟩ => ⟨S9x1x2048, .f32⟩
  | .hbm, ⟨27, _⟩ => ⟨S9x1x2048, .f32⟩
  | .hbm, ⟨28, _⟩ => ⟨S9x4096x2048, .f32⟩
  | .hbm, ⟨29, _⟩ => ⟨S9x4096x2048, .f32⟩
  | .hbm, ⟨30, _⟩ => ⟨S9x4096x2048, .f32⟩
  | .hbm, ⟨31, _⟩ => ⟨S9x4096x2048, .f32⟩
  | .hbm, ⟨32, _⟩ => ⟨S36864x2048, .f32⟩
  | .hbm, ⟨33, _⟩ => ⟨S36864x6144, .f32⟩
  | .hbm, ⟨34, _⟩ => ⟨S36864x6144, .bf16⟩
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== FinalPrompt.lean ====
abbrev S36864x2048 : Shape := ⟨2, ![36864, 2048]⟩
abbrev S2048 : Shape := ⟨1, ![2048]⟩
abbrev S1x2048 : Shape := ⟨2, ![1, 2048]⟩
abbrev S4096x2048 : Shape := ⟨2, ![4096, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S36864x2048, .f32⟩
  | .hbm, ⟨1, _⟩ => ⟨S2048, .f32⟩
  | .hbm, ⟨2, _⟩ => ⟨S1x2048, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalPromptReferenceIdeal.lean ====
abbrev S36864x2048 : Shape := ⟨2, ![36864, 2048]⟩
abbrev S2048 : Shape := ⟨1, ![2048]⟩
abbrev S4096x2048 : Shape := ⟨2, ![4096, 2048]⟩
abbrev S16x256x2048 : Shape := ⟨3, ![16, 256, 2048]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S36864x2048, .f32⟩
  | .hbm, ⟨1, _⟩ => ⟨S2048, .f32⟩
  | .hbm, ⟨2, _⟩ => ⟨S4096x2048, .f32⟩
  | .hbm, ⟨3, _⟩ => ⟨S16x256x2048, .f32⟩
  | .hbm, ⟨4, _⟩ => ⟨S16x256x2048, .f32⟩
  | .hbm, ⟨5, _⟩ => ⟨S_, .f32⟩
  | .hbm, ⟨6, _⟩ => ⟨S16x256, .f32⟩
  | .hbm, ⟨7, _⟩ => ⟨S16x256x1, .f32⟩
  | .hbm, ⟨8, _⟩ => ⟨S_, .f32⟩
  | .hbm, ⟨9, _⟩ => ⟨S16x256x1, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S16x256x1, .f32⟩
  | .hbm, ⟨15, _⟩ => ⟨S16x256x2048, .f32⟩
  | .hbm, ⟨16, _⟩ => ⟨S16x256x2048, .f32⟩
  | .hbm, ⟨17, _⟩ => ⟨S1x1x2048, .f32⟩
  | .hbm, ⟨18, _⟩ => ⟨S16x256x2048, .f32⟩
  | .hbm, ⟨19, _⟩ => ⟨S16x256x2048, .f32⟩
  | .hbm, ⟨20, _⟩ => ⟨S4096x2048, .f32⟩
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== FinalSample.lean ====
abbrev S36864x2048 : Shape := ⟨2, ![36864, 2048]⟩
abbrev S2048 : Shape := ⟨1, ![2048]⟩
abbrev S1x2048 : Shape := ⟨2, ![1, 2048]⟩
abbrev S32768x2048 : Shape := ⟨2, ![32768, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S36864x2048, .f32⟩
  | .hbm, ⟨1, _⟩ => ⟨S2048, .f32⟩
  | .hbm, ⟨2, _⟩ => ⟨S1x2048, .f32⟩
  | .hbm, ⟨3, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalSampleReferenceIdeal.lean ====
abbrev S36864x2048 : Shape := ⟨2, ![36864, 2048]⟩
abbrev S2048 : Shape := ⟨1, ![2048]⟩
abbrev S32768x2048 : Shape := ⟨2, ![32768, 2048]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S36864x2048, .f32⟩
  | .hbm, ⟨1, _⟩ => ⟨S2048, .f32⟩
  | .hbm, ⟨2, _⟩ => ⟨S32768x2048, .f32⟩
  | .hbm, ⟨3, _⟩ => ⟨S8x4096x2048, .f32⟩
  | .hbm, ⟨4, _⟩ => ⟨S8x4096x2048, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x2048, .f32⟩
  | .hbm, ⟨16, _⟩ => ⟨S8x4096x2048, .f32⟩
  | .hbm, ⟨17, _⟩ => ⟨S1x1x2048, .f32⟩
  | .hbm, ⟨18, _⟩ => ⟨S8x4096x2048, .f32⟩
  | .hbm, ⟨19, _⟩ => ⟨S8x4096x2048, .f32⟩
  | .hbm, ⟨20, _⟩ => ⟨S32768x2048, .f32⟩
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== DeltaIn.lean ====
abbrev S36864x2048 : Shape := ⟨2, ![36864, 2048]⟩
abbrev S2048 : Shape := ⟨1, ![2048]⟩
abbrev S16x6x1x2048 : Shape := ⟨4, ![16, 6, 1, 2048]⟩
abbrev S2048x8256 : Shape := ⟨2, ![2048, 8256]⟩
abbrev S144 : Shape := ⟨1, ![144]⟩
abbrev S_ : Shape := ⟨0, ![]⟩
abbrev S2048x128 : Shape := ⟨2, ![2048, 128]⟩
abbrev S2048x64 : Shape := ⟨2, ![2048, 64]⟩
abbrev S1 : Shape := ⟨1, ![1]⟩
abbrev S2048x8192 : Shape := ⟨2, ![2048, 8192]⟩
abbrev S1x2048 : Shape := ⟨2, ![1, 2048]⟩
abbrev S36864x8192 : Shape := ⟨2, ![36864, 8192]⟩
abbrev S36864x128 : Shape := ⟨2, ![36864, 128]⟩
abbrev S256x2048 : Shape := ⟨2, ![256, 2048]⟩
abbrev S1x1x1x2048 : Shape := ⟨4, ![1, 1, 1, 2048]⟩
abbrev S2048x1024 : Shape := ⟨2, ![2048, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 16
  | .vmem => 15
  | .smem => 1
  | _ => 0

abbrev bufTy : (tb : Table) → Fin (tcTables nBuf tb) → BufTy
  | .hbm, ⟨0, _⟩ => ⟨S36864x2048, .f32⟩
  | .hbm, ⟨1, _⟩ => ⟨S2048, .f32⟩
  | .hbm, ⟨2, _⟩ => ⟨S16x6x1x2048, .f32⟩
  | .hbm, ⟨3, _⟩ => ⟨S2048x8256, .f32⟩
  | .hbm, ⟨4, _⟩ => ⟨S_, .f32⟩
  | .hbm, ⟨5, _⟩ => ⟨S2048x128, .f32⟩
  | .hbm, ⟨6, _⟩ => ⟨S2048x64, .f32⟩
  | .hbm, ⟨7, _⟩ => ⟨S_, .i32⟩
  | .hbm, ⟨8, _⟩ => ⟨S1, .i32⟩
  | .hbm, ⟨9, _⟩ => ⟨S2048x128, .f32⟩
  | .hbm, ⟨10, _⟩ => ⟨S2048x128, .bf16⟩
  | .hbm, ⟨11, _⟩ => ⟨S2048x8192, .f32⟩
  | .hbm, ⟨12, _⟩ => ⟨S2048x8192, .bf16⟩
  | .hbm, ⟨13, _⟩ => ⟨S1x2048, .f32⟩
  | .hbm, ⟨14, _⟩ => ⟨S36864x8192, .bf16⟩
  | .hbm, ⟨15, _⟩ => ⟨S36864x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S2048x128, .bf16⟩
  | .local _ .vmem, ⟨10, _⟩ => ⟨S256x1024, .bf16⟩
  | .local _ .vmem, ⟨11, _⟩ => ⟨S256x1024, .bf16⟩
  | .local _ .vmem, ⟨12, _⟩ => ⟨S256x128, .f32⟩
  | .local _ .vmem, ⟨13, _⟩ => ⟨S256x128, .f32⟩
  | .local _ .vmem, ⟨14, _⟩ => ⟨S256x2048, .bf16⟩
  | .local _ .smem, ⟨0, _⟩ => ⟨S144, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![144, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S144) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![v1.toNat, c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DeltaInReferenceIdeal.lean ====
abbrev S36864x2048 : Shape := ⟨2, ![36864, 2048]⟩
abbrev S2048 : Shape := ⟨1, ![2048]⟩
abbrev S16x6x1x2048 : Shape := ⟨4, ![16, 6, 1, 2048]⟩
abbrev S2048x8256 : Shape := ⟨2, ![2048, 8256]⟩
abbrev S9x4096x2048 : Shape := ⟨3, ![9, 4096, 2048]⟩
abbrev S_ : Shape := ⟨0, ![]⟩
abbrev S9x4096 : Shape := ⟨2, ![9, 4096]⟩
abbrev S9x4096x1 : Shape := ⟨3, ![9, 4096, 1]⟩
abbrev S1x1x2048 : Shape := ⟨3, ![1, 1, 2048]⟩
abbrev S9x1x1x2048 : Shape := ⟨4, ![9, 1, 1, 2048]⟩
abbrev S9x1x2048 : Shape := ⟨3, ![9, 1, 2048]⟩
abbrev S36864x8256 : Shape := ⟨2, ![36864, 8256]⟩
abbrev S36864x8192 : Shape := ⟨2, ![36864, 8192]⟩
abbrev S36864x64 : Shape := ⟨2, ![36864, 64]⟩
abbrev S36864x128 : Shape := ⟨2, ![36864, 128]⟩

abbrev nBuf : Space → Nat
  | .hbm => 40
  | .vmem => 0
  | .smem => 0
  | _ => 0

abbrev bufTy : (tb : Table) → Fin (tcTables nBuf tb) → BufTy
  | .hbm, ⟨0, _⟩ => ⟨S36864x2048, .f32⟩
  | .hbm, ⟨1, _⟩ => ⟨S2048, .f32⟩
  | .hbm, ⟨2, _⟩ => ⟨S16x6x1x2048, .f32⟩
  | .hbm, ⟨3, _⟩ => ⟨S2048x8256, .f32⟩
  | .hbm, ⟨4, _⟩ => ⟨S9x4096x2048, .f32⟩
  | .hbm, ⟨5, _⟩ => ⟨S9x4096x2048, .f32⟩
  | .hbm, ⟨6, _⟩ => ⟨S_, .f32⟩
  | .hbm, ⟨7, _⟩ => ⟨S9x4096, .f32⟩
  | .hbm, ⟨8, _⟩ => ⟨S9x4096x1, .f32⟩
  | .hbm, ⟨9, _⟩ => ⟨S_, .f32⟩
  | .hbm, ⟨10, _⟩ => ⟨S9x4096x1, .f32⟩
  | .hbm, ⟨11, _⟩ => ⟨S9x4096x1, .f32⟩
  | .hbm, ⟨12, _⟩ => ⟨S_, .f32⟩
  | .hbm, ⟨13, _⟩ => ⟨S9x4096x1, .f32⟩
  | .hbm, ⟨14, _⟩ => ⟨S9x4096x1, .f32⟩
  | .hbm, ⟨15, _⟩ => ⟨S9x4096x1, .f32⟩
  | .hbm, ⟨16, _⟩ => ⟨S9x4096x2048, .f32⟩
  | .hbm, ⟨17, _⟩ => ⟨S9x4096x2048, .f32⟩
  | .hbm, ⟨18, _⟩ => ⟨S1x1x2048, .f32⟩
  | .hbm, ⟨19, _⟩ => ⟨S9x4096x2048, .f32⟩
  | .hbm, ⟨20, _⟩ => ⟨S9x4096x2048, .f32⟩
  | .hbm, ⟨21, _⟩ => ⟨S9x1x1x2048, .f32⟩
  | .hbm, ⟨22, _⟩ => ⟨S9x1x2048, .f32⟩
  | .hbm, ⟨23, _⟩ => ⟨S9x1x1x2048, .f32⟩
  | .hbm, ⟨24, _⟩ => ⟨S9x1x2048, .f32⟩
  | .hbm, ⟨25, _⟩ => ⟨S_, .f32⟩
  | .hbm, ⟨26, _⟩ => ⟨S9x1x2048, .f32⟩
  | .hbm, ⟨27, _⟩ => ⟨S9x1x2048, .f32⟩
  | .hbm, ⟨28, _⟩ => ⟨S9x4096x2048, .f32⟩
  | .hbm, ⟨29, _⟩ => ⟨S9x4096x2048, .f32⟩
  | .hbm, ⟨30, _⟩ => ⟨S9x4096x2048, .f32⟩
  | .hbm, ⟨31, _⟩ => ⟨S9x4096x2048, .f32⟩
  | .hbm, ⟨32, _⟩ => ⟨S36864x2048, .f32⟩
  | .hbm, ⟨33, _⟩ => ⟨S36864x8256, .f32⟩
  | .hbm, ⟨34, _⟩ => ⟨S36864x8192, .f32⟩
  | .hbm, ⟨35, _⟩ => ⟨S36864x8192, .bf16⟩
  | .hbm, ⟨36, _⟩ => ⟨S36864x64, .f32⟩
  | .hbm, ⟨37, _⟩ => ⟨S_, .i32⟩
  | .hbm, ⟨38, _⟩ => ⟨S_, .f32⟩
  | .hbm, ⟨39, _⟩ => ⟨S36864x128, .f32⟩
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_call0_v0 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== DeltaOut.lean ====
abbrev S36864x2048 : Shape := ⟨2, ![36864, 2048]⟩
abbrev S2048x2048 : Shape := ⟨2, ![2048, 2048]⟩
abbrev S16x6x1x2048 : Shape := ⟨4, ![16, 6, 1, 2048]⟩
abbrev S144 : Shape := ⟨1, ![144]⟩
abbrev S256x2048 : Shape := ⟨2, ![256, 2048]⟩
abbrev S2048x1024 : Shape := ⟨2, ![2048, 1024]⟩
abbrev S256x1024 : Shape := ⟨2, ![256, 1024]⟩
abbrev S1x1x1x1024 : Shape := ⟨4, ![1, 1, 1, 1024]⟩
abbrev S1 : Shape := ⟨1, ![1]⟩
abbrev S1x1024 : Shape := ⟨2, ![1, 1024]⟩

abbrev nBuf : Space → Nat
  | .hbm => 6
  | .vmem => 11
  | .smem => 1
  | _ => 0

abbrev bufTy : (tb : Table) → Fin (tcTables nBuf tb) → BufTy
  | .hbm, ⟨0, _⟩ => ⟨S36864x2048, .bf16⟩
  | .hbm, ⟨1, _⟩ => ⟨S2048x2048, .f32⟩
  | .hbm, ⟨2, _⟩ => ⟨S16x6x1x2048, .f32⟩
  | .hbm, ⟨3, _⟩ => ⟨S36864x2048, .f32⟩
  | .hbm, ⟨4, _⟩ => ⟨S2048x2048, .bf16⟩
  | .hbm, ⟨5, _⟩ => ⟨S36864x2048, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S256x1024, .f32⟩
  | .local _ .vmem, ⟨9, _⟩ => ⟨S256x1024, .f32⟩
  | .local _ .vmem, ⟨10, _⟩ => ⟨S256x2048, .bf16⟩
  | .local _ .smem, ⟨0, _⟩ => ⟨S144, .i32⟩
  | _, _ => ⟨S36864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![144, 2], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S144) ![v0.toNat] S1.size (k0_off1_inb i)) numel1_S1
  let c2_i32 : BitVec 32 := 2#32
  let c0_i32 : BitVec 32 := 0#32
  let c0_i32_0 : BitVec 32 := 0#32
  ![v1.toNat, c2_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DeltaOutReferenceIdeal.lean ====
abbrev S36864x2048 : Shape := ⟨2, ![36864, 2048]⟩
abbrev S2048x2048 : Shape := ⟨2, ![2048, 2048]⟩
abbrev S16x6x1x2048 : Shape := ⟨4, ![16, 6, 1, 2048]⟩
abbrev S9x4096x2048 : Shape := ⟨3, ![9, 4096, 2048]⟩
abbrev S9x1x1x2048 : Shape := ⟨4, ![9, 1, 1, 2048]⟩
abbrev S9x1x2048 : Shape := ⟨3, ![9, 1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S36864x2048, .bf16⟩
  | .hbm, ⟨1, _⟩ => ⟨S2048x2048, .f32⟩
  | .hbm, ⟨2, _⟩ => ⟨S16x6x1x2048, .f32⟩
  | .hbm, ⟨3, _⟩ => ⟨S36864x2048, .f32⟩
  | .hbm, ⟨4, _⟩ => ⟨S36864x2048, .f32⟩
  | .hbm, ⟨5, _⟩ => ⟨S36864x2048, .f32⟩
  | .hbm, ⟨6, _⟩ => ⟨S9x4096x2048, .f32⟩
  | .hbm, ⟨7, _⟩ => ⟨S9x1x1x2048, .f32⟩
  | .hbm, ⟨8, _⟩ => ⟨S9x1x2048, .f32⟩
  | .hbm, ⟨9, _⟩ => ⟨S9x4096x2048, .f32⟩
  | .hbm, ⟨10, _⟩ => ⟨S9x4096x2048, .f32⟩
  | .hbm, ⟨11, _⟩ => ⟨S9x4096x2048, .f32⟩
  | .hbm, ⟨12, _⟩ => ⟨S9x4096x2048, .f32⟩
  | .hbm, ⟨13, _⟩ => ⟨S36864x2048, .f32⟩
  | _, _ => ⟨S36864x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== HyenaOut.lean ====
abbrev S36864x2048 : Shape := ⟨2, ![36864, 2048]⟩
abbrev S2048 : Shape := ⟨1, ![2048]⟩
abbrev S2048x2048 : Shape := ⟨2, ![2048, 2048]⟩
abbrev S16x6x1x2048 : Shape := ⟨4, ![16, 6, 1, 2048]⟩
abbrev S144 : Shape := ⟨1, ![144]⟩
abbrev S1x2048 : Shape := ⟨2, ![1, 2048]⟩
abbrev S256x2048 : Shape := ⟨2, ![256, 2048]⟩
abbrev S2048x1024 : Shape := ⟨2, ![2048, 1024]⟩
abbrev S256x1024 : Shape := ⟨2, ![256, 1024]⟩
abbrev S1x1x1x1024 : Shape := ⟨4, ![1, 1, 1, 1024]⟩
abbrev S1 : Shape := ⟨1, ![1]⟩
abbrev S1x1024 : Shape := ⟨2, ![1, 1024]⟩

abbrev nBuf : Space → Nat
  | .hbm => 10
  | .vmem => 16
  | .smem => 1
  | _ => 0

abbrev bufTy : (tb : Table) → Fin (tcTables nBuf tb) → BufTy
  | .hbm, ⟨0, _⟩ => ⟨S36864x2048, .bf16⟩
  | .hbm, ⟨1, _⟩ => ⟨S36864x2048, .bf16⟩
  | .hbm, ⟨2, _⟩ => ⟨S36864x2048, .bf16⟩
  | .hbm, ⟨3, _⟩ => ⟨S2048, .f32⟩
  | .hbm, ⟨4, _⟩ => ⟨S2048x2048, .f32⟩
  | .hbm, ⟨5, _⟩ => ⟨S16x6x1x2048, .f32⟩
  | .hbm, ⟨6, _⟩ => ⟨S36864x2048, .f32⟩
  | .hbm, ⟨7, _⟩ => ⟨S2048x2048, .bf16⟩
  | .hbm, ⟨8, _⟩ => ⟨S1x2048, .f32⟩
  | .hbm, ⟨9, _⟩ => ⟨S36864x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S256x1024, .f32⟩
  | .local _ .vmem, ⟨10, _⟩ => ⟨S256x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S256x1024, .f32⟩
  | .local _ .vmem, ⟨14, _⟩ => ⟨S256x1024, .f32⟩
  | .local _ .vmem, ⟨15, _⟩ => ⟨S256x2048, .bf16⟩
  | .local _ .smem, ⟨0, _⟩ => ⟨S144, .i32⟩
  | _, _ => ⟨S36864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![144, 2], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S144) ![v0.toNat] S1.size (k0_off1_inb i)) numel1_S1
  let c2_i32 : BitVec 32 := 2#32
  let c0_i32 : BitVec 32 := 0#32
  let c0_i32_0 : BitVec 32 := 0#32
  ![v1.toNat, c2_i32.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== HyenaOutReferenceIdeal.lean ====
abbrev S36864x2048 : Shape := ⟨2, ![36864, 2048]⟩
abbrev S2048 : Shape := ⟨1, ![2048]⟩
abbrev S2048x2048 : Shape := ⟨2, ![2048, 2048]⟩
abbrev S16x6x1x2048 : Shape := ⟨4, ![16, 6, 1, 2048]⟩
abbrev S1x2048 : Shape := ⟨2, ![1, 2048]⟩
abbrev S9x4096x2048 : Shape := ⟨3, ![9, 4096, 2048]⟩
abbrev S9x1x1x2048 : Shape := ⟨4, ![9, 1, 1, 2048]⟩
abbrev S9x1x2048 : Shape := ⟨3, ![9, 1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S36864x2048, .bf16⟩
  | .hbm, ⟨1, _⟩ => ⟨S36864x2048, .bf16⟩
  | .hbm, ⟨2, _⟩ => ⟨S36864x2048, .bf16⟩
  | .hbm, ⟨3, _⟩ => ⟨S2048, .f32⟩
  | .hbm, ⟨4, _⟩ => ⟨S2048x2048, .f32⟩
  | .hbm, ⟨5, _⟩ => ⟨S16x6x1x2048, .f32⟩
  | .hbm, ⟨6, _⟩ => ⟨S36864x2048, .f32⟩
  | .hbm, ⟨7, _⟩ => ⟨S36864x2048, .f32⟩
  | .hbm, ⟨8, _⟩ => ⟨S36864x2048, .f32⟩
  | .hbm, ⟨9, _⟩ => ⟨S36864x2048, .f32⟩
  | .hbm, ⟨10, _⟩ => ⟨S1x2048, .f32⟩
  | .hbm, ⟨11, _⟩ => ⟨S36864x2048, .f32⟩
  | .hbm, ⟨12, _⟩ => ⟨S36864x2048, .f32⟩
  | .hbm, ⟨13, _⟩ => ⟨S36864x2048, .f32⟩
  | .hbm, ⟨14, _⟩ => ⟨S36864x2048, .f32⟩
  | .hbm, ⟨15, _⟩ => ⟨S36864x2048, .f32⟩
  | .hbm, ⟨16, _⟩ => ⟨S9x4096x2048, .f32⟩
  | .hbm, ⟨17, _⟩ => ⟨S9x1x1x2048, .f32⟩
  | .hbm, ⟨18, _⟩ => ⟨S9x1x2048, .f32⟩
  | .hbm, ⟨19, _⟩ => ⟨S9x4096x2048, .f32⟩
  | .hbm, ⟨20, _⟩ => ⟨S9x4096x2048, .f32⟩
  | .hbm, ⟨21, _⟩ => ⟨S9x4096x2048, .f32⟩
  | .hbm, ⟨22, _⟩ => ⟨S9x4096x2048, .f32⟩
  | .hbm, ⟨23, _⟩ => ⟨S36864x2048, .f32⟩
  | _, _ => ⟨S36864x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Modulation.lean ====
abbrev S16x2048 : Shape := ⟨2, ![16, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x16x12288 : Shape := ⟨3, ![2, 16, 12288]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S16x2048 : Shape := ⟨2, ![16, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S16x12288 : Shape := ⟨2, ![16, 12288]⟩
abbrev S1x12288 : Shape := ⟨2, ![1, 12288]⟩
abbrev S12288 : Shape := ⟨1, ![12288]⟩
abbrev S1x16x12288 : Shape := ⟨3, ![1, 16, 12288]⟩
abbrev S2x16x12288 : Shape := ⟨3, ![2, 16, 12288]⟩

abbrev nBuf : Space → Nat
  | .hbm => 40
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x12288, .f32⟩
  | .hbm, ⟨2, _⟩ => ⟨S2x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S1x2048x12288, .f32⟩
  | .hbm, ⟨13, _⟩ => ⟨S2048x12288, .f32⟩
  | .hbm, ⟨14, _⟩ => ⟨S16x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S16x12288, .f32⟩
  | .hbm, ⟨19, _⟩ => ⟨S16x12288, .f32⟩
  | .hbm, ⟨20, _⟩ => ⟨S16x2048, .f32⟩
  | .hbm, ⟨21, _⟩ => ⟨S16x2048, .f32⟩
  | .hbm, ⟨22, _⟩ => ⟨S_, .f32⟩
  | .hbm, ⟨23, _⟩ => ⟨S16x2048, .f32⟩
  | .hbm, ⟨24, _⟩ => ⟨S16x2048, .f32⟩
  | .hbm, ⟨25, _⟩ => ⟨S_, .f32⟩
  | .hbm, ⟨26, _⟩ => ⟨S16x2048, .f32⟩
  | .hbm, ⟨27, _⟩ => ⟨S16x2048, .f32⟩
  | .hbm, ⟨28, _⟩ => ⟨S16x2048, .f32⟩
  | .hbm, ⟨29, _⟩ => ⟨S1x2048x12288, .f32⟩
  | .hbm, ⟨30, _⟩ => ⟨S2048x12288, .f32⟩
  | .hbm, ⟨31, _⟩ => ⟨S16x12288, .f32⟩
  | .hbm, ⟨32, _⟩ => ⟨S1x12288, .f32⟩
  | .hbm, ⟨33, _⟩ => ⟨S12288, .f32⟩
  | .hbm, ⟨34, _⟩ => ⟨S1x12288, .f32⟩
  | .hbm, ⟨35, _⟩ => ⟨S16x12288, .f32⟩
  | .hbm, ⟨36, _⟩ => ⟨S16x12288, .f32⟩
  | .hbm, ⟨37, _⟩ => ⟨S1x16x12288, .f32⟩
  | .hbm, ⟨38, _⟩ => ⟨S1x16x12288, .f32⟩
  | .hbm, ⟨39, _⟩ => ⟨S2x16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== HyenaConv.lean ====
abbrev S36864x6144 : Shape := ⟨2, ![36864, 6144]⟩
abbrev S3x6144 : Shape := ⟨2, ![3, 6144]⟩
abbrev S144 : Shape := ⟨1, ![144]⟩
abbrev S36864x2048 : Shape := ⟨2, ![36864, 2048]⟩
abbrev S256x6144 : Shape := ⟨2, ![256, 6144]⟩
abbrev S16x6144 : Shape := ⟨2, ![16, 6144]⟩
abbrev S1 : Shape := ⟨1, ![1]⟩
abbrev S256x2048 : Shape := ⟨2, ![256, 2048]⟩
abbrev S256x256 : Shape := ⟨2, ![256, 256]⟩
abbrev S16x256 : Shape := ⟨2, ![16, 256]⟩
abbrev S1x256 : Shape := ⟨2, ![1, 256]⟩
abbrev S3x256 : Shape := ⟨2, ![3, 256]⟩

abbrev nBuf : Space → Nat
  | .hbm => 4
  | .vmem => 11
  | .smem => 2
  | _ => 0

abbrev bufTy : (tb : Table) → Fin (tcTables nBuf tb) → BufTy
  | .hbm, ⟨0, _⟩ => ⟨S36864x6144, .bf16⟩
  | .hbm, ⟨1, _⟩ => ⟨S3x6144, .f32⟩
  | .hbm, ⟨2, _⟩ => ⟨S36864x2048, .bf16⟩
  | .hbm, ⟨3, _⟩ => ⟨S36864x2048, .bf16⟩
  | .local _ .vmem, ⟨0, _⟩ => ⟨S256x6144, .bf16⟩
  | .local _ .vmem, ⟨1, _⟩ => ⟨S256x6144, .bf16⟩
  | .local _ .vmem, ⟨2, _⟩ => ⟨S16x6144, .bf16⟩
  | .local _ .vmem, ⟨3, _⟩ => ⟨S16x6144, .bf16⟩
  | .local _ .vmem, ⟨4, _⟩ => ⟨S16x6144, .bf16⟩
  | .local _ .vmem, ⟨5, _⟩ => ⟨S16x6144, .bf16⟩
  | .local _ .vmem, ⟨6, _⟩ => ⟨S3x6144, .f32⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .smem, ⟨0, _⟩ => ⟨S144, .i32⟩
  | .local _ .smem, ⟨1, _⟩ => ⟨S144, .i32⟩
  | _, _ => ⟨S36864x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![144], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v2 : Index := Scalar.indexCast arg0
  ![v2.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (k0_off1_inb : ∀ i : grid0.Coords, ∀ a, (k0_off1 i) a + S1.size a ≤ S144.size a) (numel1_S1 : S1.numel = 1) (pf : pre0.Contents (Elt F)) (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let v2 : Index := Scalar.indexCast arg0
  let v3 : BitVec 32 := pf.at 1 (Rect.unit (s := S144) ![v2.toNat] S1.size (k0_off1_inb i)) numel1_S1
  let v4 : BitVec 32 := Scalar.muli v1 v3
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HyenaConvReferenceIdeal.lean ====
abbrev S36864x6144 : Shape := ⟨2, ![36864, 6144]⟩
abbrev S3x6144 : Shape := ⟨2, ![3, 6144]⟩
abbrev S4096x6144 : Shape := ⟨2, ![4096, 6144]⟩
abbrev S16x256x6144 : Shape := ⟨3, ![16, 256, 6144]⟩
abbrev S_ : Shape := ⟨0, ![]⟩
abbrev S16x258x6144 : Shape := ⟨3, ![16, 258, 6144]⟩
abbrev S1x6144 : Shape := ⟨2, ![1, 6144]⟩
abbrev S6144 : Shape := ⟨1, ![6144]⟩
abbrev S1x1x6144 : Shape := ⟨3, ![1, 1, 6144]⟩
abbrev S32768x6144 : Shape := ⟨2, ![32768, 6144]⟩
abbrev S8x4096x6144 : Shape := ⟨3, ![8, 4096, 6144]⟩
abbrev S8x4098x6144 : Shape := ⟨3, ![8, 4098, 6144]⟩
abbrev S36864x2048 : Shape := ⟨2, ![36864, 2048]⟩

abbrev nBuf : Space → Nat
  | .hbm => 68
  | .vmem => 0
  | .smem => 0
  | _ => 0

abbrev bufTy : (tb : Table) → Fin (tcTables nBuf tb) → BufTy
  | .hbm, ⟨0, _⟩ => ⟨S36864x6144, .bf16⟩
  | .hbm, ⟨1, _⟩ => ⟨S3x6144, .f32⟩
  | .hbm, ⟨2, _⟩ => ⟨S36864x6144, .f32⟩
  | .hbm, ⟨3, _⟩ => ⟨S4096x6144, .f32⟩
  | .hbm, ⟨4, _⟩ => ⟨S16x256x6144, .f32⟩
  | .hbm, ⟨5, _⟩ => ⟨S_, .i32⟩
  | .hbm, ⟨6, _⟩ => ⟨S_, .f32⟩
  | .hbm, ⟨7, _⟩ => ⟨S16x258x6144, .f32⟩
  | .hbm, ⟨8, _⟩ => ⟨S16x256x6144, .f32⟩
  | .hbm, ⟨9, _⟩ => ⟨S1x6144, .f32⟩
  | .hbm, ⟨10, _⟩ => ⟨S6144, .f32⟩
  | .hbm, ⟨11, _⟩ => ⟨S1x1x6144, .f32⟩
  | .hbm, ⟨12, _⟩ => ⟨S16x256x6144, .f32⟩
  | .hbm, ⟨13, _⟩ => ⟨S16x256x6144, .f32⟩
  | .hbm, ⟨14, _⟩ => ⟨S_, .f32⟩
  | .hbm, ⟨15, _⟩ => ⟨S16x256x6144, .f32⟩
  | .hbm, ⟨16, _⟩ => ⟨S16x256x6144, .f32⟩
  | .hbm, ⟨17, _⟩ => ⟨S16x256x6144, .f32⟩
  | .hbm, ⟨18, _⟩ => ⟨S1x6144, .f32⟩
  | .hbm, ⟨19, _⟩ => ⟨S6144, .f32⟩
  | .hbm, ⟨20, _⟩ => ⟨S1x1x6144, .f32⟩
  | .hbm, ⟨21, _⟩ => ⟨S16x256x6144, .f32⟩
  | .hbm, ⟨22, _⟩ => ⟨S16x256x6144, .f32⟩
  | .hbm, ⟨23, _⟩ => ⟨S16x256x6144, .f32⟩
  | .hbm, ⟨24, _⟩ => ⟨S16x256x6144, .f32⟩
  | .hbm, ⟨25, _⟩ => ⟨S1x6144, .f32⟩
  | .hbm, ⟨26, _⟩ => ⟨S6144, .f32⟩
  | .hbm, ⟨27, _⟩ => ⟨S1x1x6144, .f32⟩
  | .hbm, ⟨28, _⟩ => ⟨S16x256x6144, .f32⟩
  | .hbm, ⟨29, _⟩ => ⟨S16x256x6144, .f32⟩
  | .hbm, ⟨30, _⟩ => ⟨S16x256x6144, .f32⟩
  | .hbm, ⟨31, _⟩ => ⟨S4096x6144, .f32⟩
  | .hbm, ⟨32, _⟩ => ⟨S32768x6144, .f32⟩
  | .hbm, ⟨33, _⟩ => ⟨S8x4096x6144, .f32⟩
  | .hbm, ⟨34, _⟩ => ⟨S_, .i32⟩
  | .hbm, ⟨35, _⟩ => ⟨S_, .f32⟩
  | .hbm, ⟨36, _⟩ => ⟨S8x4098x6144, .f32⟩
  | .hbm, ⟨37, _⟩ => ⟨S8x4096x6144, .f32⟩
  | .hbm, ⟨38, _⟩ => ⟨S1x6144, .f32⟩
  | .hbm, ⟨39, _⟩ => ⟨S6144, .f32⟩
  | .hbm, ⟨40, _⟩ => ⟨S1x1x6144, .f32⟩
  | .hbm, ⟨41, _⟩ => ⟨S8x4096x6144, .f32⟩
  | .hbm, ⟨42, _⟩ => ⟨S8x4096x6144, .f32⟩
  | .hbm, ⟨43, _⟩ => ⟨S_, .f32⟩
  | .hbm, ⟨44, _⟩ => ⟨S8x4096x6144, .f32⟩
  | .hbm, ⟨45, _⟩ => ⟨S8x4096x6144, .f32⟩
  | .hbm, ⟨46, _⟩ => ⟨S8x4096x6144, .f32⟩
  | .hbm, ⟨47, _⟩ => ⟨S1x6144, .f32⟩
  | .hbm, ⟨48, _⟩ => ⟨S6144, .f32⟩
  | .hbm, ⟨49, _⟩ => ⟨S1x1x6144, .f32⟩
  | .hbm, ⟨50, _⟩ => ⟨S8x4096x6144, .f32⟩
  | .hbm, ⟨51, _⟩ => ⟨S8x4096x6144, .f32⟩
  | .hbm, ⟨52, _⟩ => ⟨S8x4096x6144, .f32⟩
  | .hbm, ⟨53, _⟩ => ⟨S8x4096x6144, .f32⟩
  | .hbm, ⟨54, _⟩ => ⟨S1x6144, .f32⟩
  | .hbm, ⟨55, _⟩ => ⟨S6144, .f32⟩
  | .hbm, ⟨56, _⟩ => ⟨S1x1x6144, .f32⟩
  | .hbm, ⟨57, _⟩ => ⟨S8x4096x6144, .f32⟩
  | .hbm, ⟨58, _⟩ => ⟨S8x4096x6144, .f32⟩
  | .hbm, ⟨59, _⟩ => ⟨S8x4096x6144, .f32⟩
  | .hbm, ⟨60, _⟩ => ⟨S32768x6144, .f32⟩
  | .hbm, ⟨61, _⟩ => ⟨S36864x6144, .f32⟩
  | .hbm, ⟨62, _⟩ => ⟨S36864x2048, .f32⟩
  | .hbm, ⟨63, _⟩ => ⟨S36864x2048, .f32⟩
  | .hbm, ⟨64, _⟩ => ⟨S36864x2048, .f32⟩
  | .hbm, ⟨65, _⟩ => ⟨S36864x2048, .bf16⟩
  | .hbm, ⟨66, _⟩ => ⟨S36864x2048, .f32⟩
  | .hbm, ⟨67, _⟩ => ⟨S36864x2048, .bf16⟩
  | _, _ => ⟨S36864x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_c_0 : Ref sig .tc := ⟨.hbm, 34, rfl⟩
abbrev main_call1_v0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩

abbrev nD : Nat := 1
abbrev τ : Topo := Topo.v7x

variable {F : FTy → Type} [FloatOps F]
-- ==== Proof.ExpertsIdealBody.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp

@[expose] public section

/-!
# The body of the experts' kernel, case by case

A grid point is a block of 512 rows and one quarter of the hidden width. Five cases: the first, a middle or the last
quarter of a block that holds routed rows; a quarter of a block past the routed rows, before its last; its last.
-/

set_option maxRecDepth 16384

noncomputable section

namespace Cert.ExpertsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

/-- The two tables as the body is handed them, held at half the full share. -/
abbrev tabE : Memref sig .tc .smem S320 .i32 := Memref.whole main_arg1
abbrev tabN : Memref sig .tc .smem S1 .i32 := Memref.whole main_arg2
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- Whether the point is the first of its block, and whether it is a later one, as the body computes them. -/
def isFirst (i : grid0.Coords) : BitVec 1 := Scalar.cmpi .ne (Scalar.extui (Scalar.cmpi .eq (BitVec.ofNat 32 (i 1).val) 0#32) : BitVec 32) 0#32
def isLater (i : grid0.Coords) : BitVec 1 := Scalar.cmpi .ne (Scalar.extui (Scalar.cmpi .sgt (BitVec.ofNat 32 (i 1).val) 0#32) : BitVec 32) 0#32

/-- Loads of a whole buffer read its contents. -/
theorem ld2 {e : EltTy} (a : Memref sig .tc .vmem S512x2048 e) (v : S512x2048.Idx → Elt F e) (inb) :
    View.readAt (Elt F) a.view (Rect.unit (s := S512x2048) ![0, 0] ![512, 2048] inb).toLoadRect (a.view.rep v) = v := View.readAt_rep_full a.view v inb
theorem ldG {e : EltTy} (a : Memref sig .tc .vmem S1x2048x512 e) (v : S1x2048x512.Idx → Elt F e) (inb) :
    View.readAt (Elt F) a.view (Rect.unit (s := S1x2048x512) ![0, 0, 0] ![1, 2048, 512] inb).toLoadRect (a.view.rep v) = v := View.readAt_rep_full a.view v inb
theorem ldB {e : EltTy} (a : Memref sig .tc .vmem S1x1x512 e) (v : S1x1x512.Idx → Elt F e) (inb) :
    View.readAt (Elt F) a.view (Rect.unit (s := S1x1x512) ![0, 0, 0] ![1, 1, 512] inb).toLoadRect (a.view.rep v) = v := View.readAt_rep_full a.view v inb
theorem ldW {e : EltTy} (a : Memref sig .tc .vmem S1x512x2048 e) (v : S1x512x2048.Idx → Elt F e) (inb) :
    View.readAt (Elt F) a.view (Rect.unit (s := S1x512x2048) ![0, 0, 0] ![1, 512, 2048] inb).toLoadRect (a.view.rep v) = v := View.readAt_rep_full a.view v inb
theorem ldO {e : EltTy} (a : Memref sig .tc .vmem S1x1x2048 e) (v : S1x1x2048.Idx → Elt F e) (inb) :
    View.readAt (Elt F) a.view (Rect.unit (s := S1x1x2048) ![0, 0, 0] ![1, 1, 2048] inb).toLoadRect (a.view.rep v) = v := View.readAt_rep_full a.view v inb
/-- After a store of a whole buffer it holds the value stored, and a load reads it. -/
theorem st2 {e : EltTy} (a : Memref sig .tc .vmem S512x2048 e) (f : a.view.ty.Contents (Elt F)) (w : S512x2048.Idx → Elt F e) (inb) (L) :
    View.read (Elt F) a.view (a.view.writes (Elt F) f (⟨Rect.unit (s := S512x2048) ![0, 0] ![512, 2048] inb, w⟩ :: L)) = w := View.read_writes_full a.view f inb w L
theorem cv2 {e : EltTy} (a : Memref sig .tc .vmem S512x2048 e) (w : S512x2048.Idx → Elt F e) (inb inb') (L) :
    a.view.readCov (⟨Rect.unit (s := S512x2048) ![0, 0] ![512, 2048] inb', w⟩ :: L) (Rect.unit (s := S512x2048) ![0, 0] ![512, 2048] inb).toLoadRect = w :=
  View.readCov_full a.view inb inb' w L

section Triples

variable (c : Dev nD) (i : grid0.Coords)
  {a4 : Memref sig .tc .vmem S512x2048 .bf16} (h4 : a4.IsWhole) {a5 : Memref sig .tc .vmem S1x2048x512 .bf16} (h5 : a5.IsWhole)
  {a6 : Memref sig .tc .vmem S1x2048x512 .bf16} (h6 : a6.IsWhole) {a7 : Memref sig .tc .vmem S1x1x512 .f32} (h7 : a7.IsWhole)
  {a8 : Memref sig .tc .vmem S1x1x512 .f32} (h8 : a8.IsWhole) {a9 : Memref sig .tc .vmem S1x512x2048 .bf16} (h9 : a9.IsWhole)
  {a10 : Memref sig .tc .vmem S1x1x2048 .f32} (h10 : a10.IsWhole) {a11 : Memref sig .tc .vmem S512x2048 .bf16} (h11 : a11.IsWhole)
  {a12 : Memref sig .tc .vmem S512x2048 .f32} (h12 : a12.IsWhole)
  (x : Vec F S512x2048 .bf16) (wg wu : Vec F S1x2048x512 .bf16) (bg bu : Vec F S1x1x512 .f32) (wo : Vec F S1x512x2048 .bf16)
  (bo : Vec F S1x1x2048 .f32) (te : TabBuf (F := F) c tabE) (nv : TabBuf (F := F) c tabN)

/-- The word of the table of one: how many blocks hold routed rows. -/
def word : BitVec 32 := View.readAt (Elt F) tabN.view (Rect.unit ![0] ![1] inb_S1_S1_0).toLoadRect nv (Shape.Idx.first (by decide))

set_option maxHeartbeats 1000000

/-- The first quarter: the sum starts at the product plus the bias. -/
theorem run_first (hv : k0_cond1 i (word c nv) = 1#1) (hf : isFirst i = 1#1) (hl : ¬isLater i = 1#1) (h3 : ¬k0_cond4 i = 1#1) (h5' : ¬k0_cond5 i (word c nv) = 1#1) (E : Set ℕ) (K : PUnit → sProp 𝕄) :
    iprop((owns (c : Thread nD τ) a4 fullShare x ∗ owns (c : Thread nD τ) a5 fullShare wg ∗ owns (c : Thread nD τ) a6 fullShare wu ∗ owns (c : Thread nD τ) a7 fullShare bg ∗ owns (c : Thread nD τ) a8 fullShare bu ∗ owns (c : Thread nD τ) a9 fullShare wo ∗ owns (c : Thread nD τ) a10 fullShare bo ∗ tabPt c tabE te ∗ tabPt c tabN nv)
        ∗ (∃ d, owns (c : Thread nD τ) a12 fullShare d)
        ∗ (iprop((owns (c : Thread nD τ) a4 fullShare x ∗ owns (c : Thread nD τ) a5 fullShare wg ∗ owns (c : Thread nD τ) a6 fullShare wu ∗ owns (c : Thread nD τ) a7 fullShare bg ∗ owns (c : Thread nD τ) a8 fullShare bu ∗ owns (c : Thread nD τ) a9 fullShare wo ∗ owns (c : Thread nD τ) a10 fullShare bo ∗ tabPt c tabE te ∗ tabPt c tabN nv)
            ∗ owns (c : Thread nD τ) a12 fullShare (k0_pay1 (k0_pay5 x wg bg wu bu wo) bo) ) -∗ K ⟨⟩))
      ⊢ wp frame (wpE (defs₀ (F := F)) Variants.none c none) E
          (cc0_moe_experts i tabE (Memref.isWhole_whole _) tabN (Memref.isWhole_whole _) a4 h4 a5 h5 a6 h6 a7 h7 a8 h8 a9 h9 a10 h10 a11 h11 a12 h12) K := by
  simp only [cc0_moe_experts_eq_skeleton]; unfold cc0_moe_experts_skel
  simp only [owns_eq_rep]
  iintro ⟨⟨H4, H5, H6, H7, H8, H9, H10, HE, HN⟩, ⟨%d, HA⟩, Hk⟩
  sl_exec (disch := first | exact hv | exact hf | exact hl | exact h3 | exact h5')
  sl_step
  iapply Hk
  isplitl [H4 H5 H6 H7 H8 H9 H10 HE HN]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HE]; · iexact HE
    iexact HN

  · rw [← owns_eq_rep]; unfold owns; iexists _; isplitr
    swap; · iexact HA
    ipureintro
    (try unfold run_first.sl.HA_1); (try unfold run_first.sl.v50); (try unfold run_first.sl.HA_1); (try unfold run_first.sl.r_1)
    simp only [st2, cv2, ld2, ldG, ldB, ldW, ldO]

/-- A middle quarter: the product is added to the sum. -/
theorem run_later (hv : k0_cond1 i (word c nv) = 1#1) (hf : ¬isFirst i = 1#1) (hl : isLater i = 1#1) (h3 : ¬k0_cond4 i = 1#1) (h5' : ¬k0_cond5 i (word c nv) = 1#1) (acc : Vec F S512x2048 .f32) (E : Set ℕ) (K : PUnit → sProp 𝕄) :
    iprop((owns (c : Thread nD τ) a4 fullShare x ∗ owns (c : Thread nD τ) a5 fullShare wg ∗ owns (c : Thread nD τ) a6 fullShare wu ∗ owns (c : Thread nD τ) a7 fullShare bg ∗ owns (c : Thread nD τ) a8 fullShare bu ∗ owns (c : Thread nD τ) a9 fullShare wo ∗ owns (c : Thread nD τ) a10 fullShare bo ∗ tabPt c tabE te ∗ tabPt c tabN nv)
        ∗ owns (c : Thread nD τ) a12 fullShare acc
        ∗ (iprop((owns (c : Thread nD τ) a4 fullShare x ∗ owns (c : Thread nD τ) a5 fullShare wg ∗ owns (c : Thread nD τ) a6 fullShare wu ∗ owns (c : Thread nD τ) a7 fullShare bg ∗ owns (c : Thread nD τ) a8 fullShare bu ∗ owns (c : Thread nD τ) a9 fullShare wo ∗ owns (c : Thread nD τ) a10 fullShare bo ∗ tabPt c tabE te ∗ tabPt c tabN nv)
            ∗ owns (c : Thread nD τ) a12 fullShare (k0_pay2 (k0_pay5 x wg bg wu bu wo) acc) ) -∗ K ⟨⟩))
      ⊢ wp frame (wpE (defs₀ (F := F)) Variants.none c none) E
          (cc0_moe_experts i tabE (Memref.isWhole_whole _) tabN (Memref.isWhole_whole _) a4 h4 a5 h5 a6 h6 a7 h7 a8 h8 a9 h9 a10 h10 a11 h11 a12 h12) K := by
  simp only [cc0_moe_experts_eq_skeleton]; unfold cc0_moe_experts_skel
  simp only [owns_eq_rep]
  iintro ⟨⟨H4, H5, H6, H7, H8, H9, H10, HE, HN⟩, HA, Hk⟩
  sl_exec (disch := first | exact hv | exact hf | exact hl | exact h3 | exact h5')
  sl_step
  iapply Hk
  isplitl [H4 H5 H6 H7 H8 H9 H10 HE HN]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HE]; · iexact HE
    iexact HN

  · rw [← owns_eq_rep]; unfold owns; iexists _; isplitr
    swap; · iexact HA
    ipureintro
    (try unfold run_later.sl.HA_1); (try unfold run_later.sl.v50); (try unfold run_later.sl.HA_1); (try unfold run_later.sl.r_1)
    simp only [st2, cv2, ld2, ldG, ldB, ldW, ldO]

/-- The last quarter: the product is added to the sum and the sum, rounded, is the block of the result. -/
theorem run_last (hv : k0_cond1 i (word c nv) = 1#1) (hf : ¬isFirst i = 1#1) (hl : isLater i = 1#1) (h3 : k0_cond4 i = 1#1) (h5' : ¬k0_cond5 i (word c nv) = 1#1) (acc : Vec F S512x2048 .f32) (E : Set ℕ) (K : PUnit → sProp 𝕄) :
    iprop((owns (c : Thread nD τ) a4 fullShare x ∗ owns (c : Thread nD τ) a5 fullShare wg ∗ owns (c : Thread nD τ) a6 fullShare wu ∗ owns (c : Thread nD τ) a7 fullShare bg ∗ owns (c : Thread nD τ) a8 fullShare bu ∗ owns (c : Thread nD τ) a9 fullShare wo ∗ owns (c : Thread nD τ) a10 fullShare bo ∗ tabPt c tabE te ∗ tabPt c tabN nv)
        ∗ owns (c : Thread nD τ) a12 fullShare acc ∗ (∃ d, owns (c : Thread nD τ) a11 fullShare d)
        ∗ (iprop((owns (c : Thread nD τ) a4 fullShare x ∗ owns (c : Thread nD τ) a5 fullShare wg ∗ owns (c : Thread nD τ) a6 fullShare wu ∗ owns (c : Thread nD τ) a7 fullShare bg ∗ owns (c : Thread nD τ) a8 fullShare bu ∗ owns (c : Thread nD τ) a9 fullShare wo ∗ owns (c : Thread nD τ) a10 fullShare bo ∗ tabPt c tabE te ∗ tabPt c tabN nv)
            ∗ owns (c : Thread nD τ) a12 fullShare (k0_pay2 (k0_pay5 x wg bg wu bu wo) acc) ∗ owns (c : Thread nD τ) a11 fullShare (k0_pay3 (k0_pay2 (k0_pay5 x wg bg wu bu wo) acc)) ) -∗ K ⟨⟩))
      ⊢ wp frame (wpE (defs₀ (F := F)) Variants.none c none) E
          (cc0_moe_experts i tabE (Memref.isWhole_whole _) tabN (Memref.isWhole_whole _) a4 h4 a5 h5 a6 h6 a7 h7 a8 h8 a9 h9 a10 h10 a11 h11 a12 h12) K := by
  simp only [cc0_moe_experts_eq_skeleton]; unfold cc0_moe_experts_skel
  simp only [owns_eq_rep]
  iintro ⟨⟨H4, H5, H6, H7, H8, H9, H10, HE, HN⟩, HA, ⟨%d', HO⟩, Hk⟩
  sl_exec (disch := first | exact hv | exact hf | exact hl | exact h3 | exact h5')
  sl_step
  iapply Hk
  isplitl [H4 H5 H6 H7 H8 H9 H10 HE HN]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HE]; · iexact HE
    iexact HN
  isplitl [HA]
  · rw [← owns_eq_rep]; unfold owns; iexists _; isplitr
    swap; · iexact HA
    ipureintro
    (try unfold run_last.sl.HA_1); (try unfold run_last.sl.v50); (try unfold run_last.sl.HA_1); (try unfold run_last.sl.r_1)
    simp only [st2, cv2, ld2, ldG, ldB, ldW, ldO]

  · rw [← owns_eq_rep]; unfold owns; iexists _; isplitr
    swap; · iexact HO
    ipureintro
    (try unfold run_last.sl.HA_1); (try unfold run_last.sl.v50); (try unfold run_last.sl.HA_1); (try unfold run_last.sl.r_1)
    simp only [st2, cv2, ld2, ldG, ldB, ldW, ldO]

/-- A block past the routed rows, before its last quarter: nothing is stored. -/
theorem run_pass (hv : ¬k0_cond1 i (word c nv) = 1#1) (h5' : ¬k0_cond5 i (word c nv) = 1#1) (E : Set ℕ) (K : PUnit → sProp 𝕄) :
    iprop((owns (c : Thread nD τ) a4 fullShare x ∗ owns (c : Thread nD τ) a5 fullShare wg ∗ owns (c : Thread nD τ) a6 fullShare wu ∗ owns (c : Thread nD τ) a7 fullShare bg ∗ owns (c : Thread nD τ) a8 fullShare bu ∗ owns (c : Thread nD τ) a9 fullShare wo ∗ owns (c : Thread nD τ) a10 fullShare bo ∗ tabPt c tabE te ∗ tabPt c tabN nv)

        ∗ (iprop((owns (c : Thread nD τ) a4 fullShare x ∗ owns (c : Thread nD τ) a5 fullShare wg ∗ owns (c : Thread nD τ) a6 fullShare wu ∗ owns (c : Thread nD τ) a7 fullShare bg ∗ owns (c : Thread nD τ) a8 fullShare bu ∗ owns (c : Thread nD τ) a9 fullShare wo ∗ owns (c : Thread nD τ) a10 fullShare bo ∗ tabPt c tabE te ∗ tabPt c tabN nv)
            ) -∗ K ⟨⟩))
      ⊢ wp frame (wpE (defs₀ (F := F)) Variants.none c none) E
          (cc0_moe_experts i tabE (Memref.isWhole_whole _) tabN (Memref.isWhole_whole _) a4 h4 a5 h5 a6 h6 a7 h7 a8 h8 a9 h9 a10 h10 a11 h11 a12 h12) K := by
  simp only [cc0_moe_experts_eq_skeleton]; unfold cc0_moe_experts_skel
  simp only [owns_eq_rep]
  iintro ⟨⟨H4, H5, H6, H7, H8, H9, H10, HE, HN⟩, Hk⟩
  sl_exec (disch := first | exact hv | exact h5')
  sl_step
  iapply Hk
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HE]; · iexact HE
    iexact HN

/-- The last quarter of a block past the routed rows: the block of the result is zero. -/
theorem run_zero (hv : ¬k0_cond1 i (word c nv) = 1#1) (h5' : k0_cond5 i (word c nv) = 1#1) (E : Set ℕ) (K : PUnit → sProp 𝕄) :
    iprop((owns (c : Thread nD τ) a4 fullShare x ∗ owns (c : Thread nD τ) a5 fullShare wg ∗ owns (c : Thread nD τ) a6 fullShare wu ∗ owns (c : Thread nD τ) a7 fullShare bg ∗ owns (c : Thread nD τ) a8 fullShare bu ∗ owns (c : Thread nD τ) a9 fullShare wo ∗ owns (c : Thread nD τ) a10 fullShare bo ∗ tabPt c tabE te ∗ tabPt c tabN nv)
        ∗ (∃ d, owns (c : Thread nD τ) a11 fullShare d)
        ∗ (iprop((owns (c : Thread nD τ) a4 fullShare x ∗ owns (c : Thread nD τ) a5 fullShare wg ∗ owns (c : Thread nD τ) a6 fullShare wu ∗ owns (c : Thread nD τ) a7 fullShare bg ∗ owns (c : Thread nD τ) a8 fullShare bu ∗ owns (c : Thread nD τ) a9 fullShare wo ∗ owns (c : Thread nD τ) a10 fullShare bo ∗ tabPt c tabE te ∗ tabPt c tabN nv)
            ∗ owns (c : Thread nD τ) a11 fullShare k0_pay4 ) -∗ K ⟨⟩))
      ⊢ wp frame (wpE (defs₀ (F := F)) Variants.none c none) E
          (cc0_moe_experts i tabE (Memref.isWhole_whole _) tabN (Memref.isWhole_whole _) a4 h4 a5 h5 a6 h6 a7 h7 a8 h8 a9 h9 a10 h10 a11 h11 a12 h12) K := by
  simp only [cc0_moe_experts_eq_skeleton]; unfold cc0_moe_experts_skel
  simp only [owns_eq_rep]
  iintro ⟨⟨H4, H5, H6, H7, H8, H9, H10, HE, HN⟩, ⟨%d', HO⟩, Hk⟩
  sl_exec (disch := first | exact hv | exact h5')
  sl_step
  iapply Hk
  isplitl [H4 H5 H6 H7 H8 H9 H10 HE HN]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HE]; · iexact HE
    iexact HN

  · rw [← owns_eq_rep]; unfold owns; iexists _; isplitr
    swap; · iexact HO
    ipureintro
    (try unfold run_zero.sl.HA_1); (try unfold run_zero.sl.v50); (try unfold run_zero.sl.HA_1); (try unfold run_zero.sl.r_1)
    simp only [st2, cv2, ld2, ldG, ldB, ldW, ldO]

end Triples

end Cert.ExpertsIdeal.Hand

end
-- ==== Proof.ExpertsIdealFrame.lean ====
module

public import proofs.«01_k».proof.Proof.ExpertsIdealBody
public import Idealize.ShloMosaic.Lib.Quiescent

@[expose] public section

/-!
# The experts' kernel over its grid

What the carried sum and the block of the result hold at every point, the obligation of the body at every point, the
run of the whole program and its frame, for tables whose every block lies inside its array.
-/

set_option maxRecDepth 16384

noncomputable section

namespace Cert.ExpertsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers when the region is entered: the host operations have run. -/
abbrev V (c : Dev nD) (b : Ref sig .tc) : Buf (Elt F) ((c : Thread nD τ).loc b) := StableHlo.after hostOps0 (fun b => m (c, b)) b

theorem fresh_host : (hostOps0 : List (HloOp τ sig (Elt F))).Forall fun op => op.fresh = ∅ := by
  simp only [List.Forall]; repeat' constructor

set_option maxHeartbeats 800000 in
theorem to_region (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh_host main_chain

/-- A buffer none of the five host results is, is found as launched. -/
theorem V_arg (c : Dev nD) (b : Ref sig .tc) (h0 : b ≠ main_v0) (h1 : b ≠ main_v1) (h2 : b ≠ main_v2) (h3 : b ≠ main_v3) (h4 : b ≠ main_v4) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by assumption)))

/-! ## The tables -/

/-- The two tables' contents when the region is entered. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The two tables as one core holds them. -/
def teT (c : Dev nD) : TabBuf (F := F) c tabE := tbl m 0
def nvT (c : Dev nD) : TabBuf (F := F) c tabN := tbl m 1
/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄) = iprop(tabPt c tabE (teT m c) ∗ tabPt c tabN (nvT m c)) := by
  unfold Pipeline.ΦT Pipeline.prefHeld
  rw [show (Finset.univ : Finset (Fin 2)) = insert (0 : Fin 2) {(1 : Fin 2)} from by decide,
    bigSep_insert (by decide), bigSep_singleton]
  rfl

abbrev scM : Memref sig .tc .vmem S512x2048 .f32 := Memref.whole cc0_scratch0
theorem scratch_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-! ## The blocks, and what the body leaves -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The number of blocks with routed rows; whether point `t` is in one of them. -/
abbrev nvWord : BitVec 32 := word (0 : Dev nD) (nvT m 0)
abbrev Live (t : Fin grid0.N) : Prop := k0_cond1 (grid0.coords t) (nvWord m) = 1#1

/-- The product at point `t`: the rows' activations on one quarter of the hidden width, through that quarter of the
    output matrix. -/
def part (hO : Ok m) (c : Dev nD) (t : Fin (cfgM m hO).N) : FVec F S512x2048 .f32 :=
  k0_pay5 (iblk m hO c 0 t) (iblk m hO c 1 t) (iblk m hO c 3 t) (iblk m hO c 2 t) (iblk m hO c 4 t) (iblk m hO c 5 t)

/-- The carried sum after point `n`, in a block with routed rows. -/
def acc (hO : Ok m) (c : Dev nD) : (n : ℕ) → n < (cfgM m hO).N → FVec F S512x2048 .f32
  | 0, h => k0_pay1 (part m hO c ⟨0, h⟩) (iblk m hO c 6 ⟨0, h⟩)
  | n + 1, h => if (n + 1) % 4 = 0 then k0_pay1 (part m hO c ⟨n + 1, h⟩) (iblk m hO c 6 ⟨n + 1, h⟩)
      else k0_pay2 (part m hO c ⟨n + 1, h⟩) (acc hO c n (Nat.lt_of_succ_lt h))

theorem acc_first (hO : Ok m) (c : Dev nD) (t : Fin (cfgM m hO).N) (h : t.val % 4 = 0) :
    acc m hO c t.val t.isLt = k0_pay1 (part m hO c t) (iblk m hO c 6 t) := by
  obtain ⟨n, hn⟩ := t
  cases n with
  | zero => rfl
  | succ n => exact if_pos h
theorem acc_later (hO : Ok m) (c : Dev nD) (t : Fin (cfgM m hO).N) (h : ¬t.val % 4 = 0) (h' : t.val - 1 < (cfgM m hO).N) :
    acc m hO c t.val t.isLt = k0_pay2 (part m hO c t) (acc m hO c (t.val - 1) h') := by
  obtain ⟨n, hn⟩ := t
  cases n with
  | zero => exact absurd (Nat.zero_mod 4) h
  | succ n => exact if_neg h

/-- The block of the result: the sum rounded, or zero past the routed rows. -/
def res (hO : Ok m) (c : Dev nD) (t : Fin (cfgM m hO).N) : FVec F S512x2048 .bf16 :=
  if Live m t then k0_pay3 (acc m hO c t.val t.isLt) else k0_pay4

/-- Between points: the carried sum at what the point before left, when both are in one block with routed rows. -/
def Inv (hO : Ok m) (c : Dev nD) (n : ℕ) : sProp 𝕄 :=
  iprop((∃ a, ⌜∀ (k : ℕ) (hk : k < (cfgM m hO).N), n = k + 1 → ¬n % 4 = 0 → Live m ⟨k, hk⟩ → a = acc m hO c k hk⌝
      ∗ owns (c : Thread nD τ) scM fullShare a)
    ∗ (∃ r, prngReg c r) ∗ tabPt c tabE (teT m c) ∗ tabPt c tabN (nvT m c))

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => res m hO c t
  Φ t := Inv m hO c t.val
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = iblk m hO c 6 t := by dsimp only [dats]; try rfl
theorem after_7 (hO : Ok m) (c : Dev nD) (t : Fin (cfgM m hO).N) : (dats m hO 0 c).after 7 t = res m hO c t := by dsimp only [dats]; try rfl

/-! An input's buffer holds its block at every point, fetched there or not. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (hO : Ok m) (c : Dev nD) (t : Fin (cfgM m hO).N) (d) : (dats m hO 0 c).before 6 t d = iblk m hO c 6 t :=
  ((dats m hO 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-! ## Which case a point is in -/

theorem first_iff : ∀ t : Fin grid0.N, isFirst (grid0.coords t) = 1#1 ↔ t.val % 4 = 0 := by decide +kernel
theorem later_iff : ∀ t : Fin grid0.N, isLater (grid0.coords t) = 1#1 ↔ ¬t.val % 4 = 0 := by decide +kernel
theorem last_iff : ∀ t : Fin grid0.N, k0_cond4 (grid0.coords t) = 1#1 ↔ t.val % 4 = 3 := by decide +kernel
theorem row_eq : ∀ t : Fin grid0.N, (grid0.coords t 0).val = t.val / 4 := by decide +kernel

theorem zero_iff (i : grid0.Coords) (w : BitVec 32) : k0_cond5 i w = 1#1 ↔ ¬k0_cond1 i w = 1#1 ∧ k0_cond4 i = 1#1 := by
  unfold k0_cond5 k0_cond1 k0_cond4
  dsimp only
  generalize Scalar.cmpi .slt (BitVec.ofNat 32 (i 0).val) w = p
  generalize Scalar.cmpi .eq (BitVec.ofNat 32 (i 1).val) (3#32) = q
  revert p q
  decide

theorem live_succ (k : ℕ) (hk : k < grid0.N) (hk' : k + 1 < grid0.N) (h : ¬(k + 1) % 4 = 0) : Live m ⟨k + 1, hk'⟩ ↔ Live m ⟨k, hk⟩ := by
  unfold Live k0_cond1
  rw [row_eq, row_eq]
  dsimp only
  rw [show (k + 1) / 4 = k / 4 by omega]

theorem idle_word : ∀ p q r : BitVec 1, (r = 1#1 ↔ ¬p = 1#1 ∧ q = 1#1) → ((!(p == 1#1 && q == 1#1) && !(r == 1#1)) = true ↔ ¬q = 1#1) := by decide

set_option maxHeartbeats 4000000 in
/-- The result's window is idle exactly before a block's last quarter. -/
theorem idle_iff (hO : Ok m) (t : Fin (cfgM m hO).N) : (cfgM m hO).idle 7 ((cfgM m hO).grid.coords t) = true ↔ ¬t.val % 4 = 3 :=
  (idle_word (k0_cond1 (grid0.coords t) ((tbl m).atD 1 ![0])) (k0_cond4 (grid0.coords t)) (k0_cond5 (grid0.coords t) ((tbl m).atD 1 ![0]))
    (zero_iff (grid0.coords t) ((tbl m).atD 1 ![0]))).trans (not_congr (last_iff t))

theorem flush_iff (a : (pcfg0 (F := F)).Adm) : ∀ t : Fin (cfg0 a).N, ((cfg0 a).win 7).flush t = true ↔ t.val % 4 = 3 :=
  (fun t => Pipeline.Window.flushOf_reads cc0_transform_7 reads0_7 hreads0_7 0 (by decide) (by decide) (Pipeline.Window.sep_of_coord cc0_transform_7 0 0 (fun _ => rfl) (by decide)) (P := 4) (m := 3) (by decide) rfl t : ∀ t : Fin grid0.N, Pipeline.Window.flushOf grid0 true cc0_transform_7 t = true ↔ t.val % 4 = 3)

/-! ## The obligation of the body -/

/-- The body at point `t`. -/
abbrev bodyAt (hO : Ok m) (t : Fin (cfgM m hO).N) : Prog (TpuEff nD τ sig (Elt F) Λ₀ .tc) PUnit :=
  cc0_moe_experts (grid0.coords t) tabE (Memref.isWhole_whole _) tabN (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (spec0_6.stage ((cfgM m hO).slots t 6)) (hstage0_6 (((cfgM m hO).slots t 6).cast nbuf0_6)) (spec0_7.stage ((cfgM m hO).slots t 7)) (hstage0_7 (((cfgM m hO).slots t 7).cast nbuf0_7)) scM (Memref.isWhole_whole _)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d))
    ∗ (∃ d, owns (c : Thread nD τ) (spec0_6.stage ((cfgM m hO).slots t 6)) fullShare ((dats m hO 0 c).before 6 t d))
    ∗ (∃ d, owns (c : Thread nD τ) (spec0_7.stage ((cfgM m hO).slots t 7)) fullShare ((dats m hO 0 c).before 7 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ owns (c : Thread nD τ) (spec0_5.stage ((cfgM m hO).slots t 5)) fullShare ((dats m hO 0 c).after 5 t)
    ∗ owns (c : Thread nD τ) (spec0_6.stage ((cfgM m hO).slots t 6)) fullShare ((dats m hO 0 c).after 6 t)
    ∗ (dats m hO 0 c).leavesExact 7 t)

theorem defs_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem leaves_last (hO : Ok m) (c : Dev nD) (t : Fin (cfgM m hO).N) (h : t.val % 4 = 3) :
    (dats m hO 0 c).leavesExact 7 t = owns (c : Thread nD τ) (spec0_7.stage ((cfgM m hO).slots t 7)) fullShare (res m hO c t) := by
  have hi : (cfgM m hO).idle 7 ((cfgM m hO).grid.coords t) = false := by
    rw [← Bool.not_eq_true, idle_iff]; exact fun h' => h' h
  unfold Dat.leavesExact; rw [hi, after_7]
  rfl

theorem leaves_early (hO : Ok m) (c : Dev nD) (t : Fin (cfgM m hO).N) (h : ¬t.val % 4 = 3) :
    (dats m hO 0 c).leavesExact 7 t = iprop(∃ d, owns (c : Thread nD τ) (spec0_7.stage ((cfgM m hO).slots t 7)) fullShare ((dats m hO 0 c).before 7 t d)) :=
  (dats m hO 0 c).leavesExact_idle 7 t ((idle_iff m hO t).mpr h) (by rw [← Bool.not_eq_true, flush_iff]; exact h)

set_option maxHeartbeats 1600000 in
theorem body_first (hO : Ok m) (c : Dev nD) (t : Fin (cfgM m hO).N) (hv : Live m t) (h0 : t.val % 4 = 0) (h3 : ¬t.val % 4 = 3) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5, before_6]
  rw [show (dats m hO 0 c).owesAt () t.succ = (dats m hO 0 c).owesAt () t.castSucc from rfl,
    after_0, after_1, after_2, after_3, after_4, after_5, after_6, leaves_early m hO c t h3,
    show (dats m hO 0 c).Φ t.succ = Inv m hO c (t.val + 1) from rfl, show (dats m hO 0 c).Φ t.castSucc = Inv m hO c t.val from rfl]
  conv_lhs => unfold Inv
  iintro ⟨⟨⟨%a, %ha, HS⟩, Hg, HE, HN⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c (grid0.coords t) _ _ _ _ _ _ _ _ _ (iblk m hO c 0 t) (iblk m hO c 1 t) (iblk m hO c 2 t) (iblk m hO c 3 t) (iblk m hO c 4 t) (iblk m hO c 5 t) (iblk m hO c 6 t) (teT m c) (nvT m c) hv ((first_iff t).mpr h0) (fun h => (later_iff t).mp h h0) (fun h => h3 ((last_iff t).mp h)) (fun h => ((zero_iff _ _).mp h).1 hv) Set.univ _)
  isplitl [H0 H1 H2 H3 H4 H5 H6 HE HN]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HE]; · iexact HE
    iexact HN
  isplitl [HS]; · iexists _; iexact HS
  iintro ⟨⟨H0, H1, H2, H3, H4, H5, H6, HE, HN⟩, HS⟩
  isplitl [HS Hg HE HN]
  · unfold Inv
    isplitl [HS]
    · iexists _; isplitr
      swap; · iexact HS
      ipureintro
      intro k hk e _ _; obtain rfl : t.val = k := Nat.succ.inj e; exact (acc_first m hO c t h0).symm
    isplitl [Hg]; · iexact Hg
    isplitl [HE]; · iexact HE
    iexact HN
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

/-- Inside a block with routed rows the carried sum is what the point before left. -/
theorem held (hO : Ok m) (c : Dev nD) (t : Fin (cfgM m hO).N) (hv : Live m t) (h0 : ¬t.val % 4 = 0) {a : FVec F S512x2048 .f32}
    (ha : ∀ (k : ℕ) (hk : k < (cfgM m hO).N), t.val = k + 1 → ¬t.val % 4 = 0 → Live m ⟨k, hk⟩ → a = acc m hO c k hk) :
    k0_pay2 (part m hO c t) a = acc m hO c t.val t.isLt := by
  obtain ⟨n, hn⟩ := t
  cases n with
  | zero => exact absurd (Nat.zero_mod 4) h0
  | succ n =>
    rw [acc_later m hO c ⟨n + 1, hn⟩ h0 (Nat.lt_of_succ_lt hn), ha n (Nat.lt_of_succ_lt hn) rfl h0 ((live_succ m n _ hn h0).mp hv)]
    rfl

set_option maxHeartbeats 1600000 in
theorem body_later (hO : Ok m) (c : Dev nD) (t : Fin (cfgM m hO).N) (hv : Live m t) (h0 : ¬t.val % 4 = 0) (h3 : ¬t.val % 4 = 3) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5, before_6]
  rw [show (dats m hO 0 c).owesAt () t.succ = (dats m hO 0 c).owesAt () t.castSucc from rfl,
    after_0, after_1, after_2, after_3, after_4, after_5, after_6, leaves_early m hO c t h3,
    show (dats m hO 0 c).Φ t.succ = Inv m hO c (t.val + 1) from rfl, show (dats m hO 0 c).Φ t.castSucc = Inv m hO c t.val from rfl]
  conv_lhs => unfold Inv
  iintro ⟨⟨⟨%a, %ha, HS⟩, Hg, HE, HN⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_later c (grid0.coords t) _ _ _ _ _ _ _ _ _ (iblk m hO c 0 t) (iblk m hO c 1 t) (iblk m hO c 2 t) (iblk m hO c 3 t) (iblk m hO c 4 t) (iblk m hO c 5 t) (iblk m hO c 6 t) (teT m c) (nvT m c) hv (fun h => h0 ((first_iff t).mp h)) ((later_iff t).mpr h0) (fun h => h3 ((last_iff t).mp h)) (fun h => ((zero_iff _ _).mp h).1 hv) a Set.univ _)
  isplitl [H0 H1 H2 H3 H4 H5 H6 HE HN]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HE]; · iexact HE
    iexact HN
  isplitl [HS]; · iexact HS
  iintro ⟨⟨H0, H1, H2, H3, H4, H5, H6, HE, HN⟩, HS⟩
  isplitl [HS Hg HE HN]
  · unfold Inv
    isplitl [HS]
    · iexists _; isplitr
      swap; · iexact HS
      ipureintro
      intro k hk e _ _; obtain rfl : t.val = k := Nat.succ.inj e; exact held m hO c t hv h0 ha
    isplitl [Hg]; · iexact Hg
    isplitl [HE]; · iexact HE
    iexact HN
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

set_option maxHeartbeats 1600000 in
theorem body_last (hO : Ok m) (c : Dev nD) (t : Fin (cfgM m hO).N) (hv : Live m t) (h0 : ¬t.val % 4 = 0) (h3 : t.val % 4 = 3) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5, before_6]
  rw [show (dats m hO 0 c).owesAt () t.succ = (dats m hO 0 c).owesAt () t.castSucc from rfl,
    after_0, after_1, after_2, after_3, after_4, after_5, after_6, leaves_last m hO c t h3,
    show (dats m hO 0 c).Φ t.succ = Inv m hO c (t.val + 1) from rfl, show (dats m hO 0 c).Φ t.castSucc = Inv m hO c t.val from rfl]
  conv_lhs => unfold Inv
  iintro ⟨⟨⟨%a, %ha, HS⟩, Hg, HE, HN⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_last c (grid0.coords t) _ _ _ _ _ _ _ _ _ (iblk m hO c 0 t) (iblk m hO c 1 t) (iblk m hO c 2 t) (iblk m hO c 3 t) (iblk m hO c 4 t) (iblk m hO c 5 t) (iblk m hO c 6 t) (teT m c) (nvT m c) hv (fun h => h0 ((first_iff t).mp h)) ((later_iff t).mpr h0) ((last_iff t).mpr h3) (fun h => ((zero_iff _ _).mp h).1 hv) a Set.univ _)
  isplitl [H0 H1 H2 H3 H4 H5 H6 HE HN]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HE]; · iexact HE
    iexact HN
  isplitl [HS]; · iexact HS
  isplitl [H7]; · iexists _; iexact H7
  iintro ⟨⟨H0, H1, H2, H3, H4, H5, H6, HE, HN⟩, HS, H7⟩
  isplitl [HS Hg HE HN]
  · unfold Inv
    isplitl [HS]
    · iexists _; isplitr
      swap; · iexact HS
      ipureintro
      intro k hk e _ _; obtain rfl : t.val = k := Nat.succ.inj e; exact held m hO c t hv h0 ha
    isplitl [Hg]; · iexact Hg
    isplitl [HE]; · iexact HE
    iexact HN
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  rw [show res m hO c t = k0_pay3 (k0_pay2 (part m hO c t) a) by rw [held m hO c t hv h0 ha]; exact if_pos hv]; iexact H7

set_option maxHeartbeats 1600000 in
theorem body_pass (hO : Ok m) (c : Dev nD) (t : Fin (cfgM m hO).N) (hv : ¬Live m t) (h3 : ¬t.val % 4 = 3) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5, before_6]
  rw [show (dats m hO 0 c).owesAt () t.succ = (dats m hO 0 c).owesAt () t.castSucc from rfl,
    after_0, after_1, after_2, after_3, after_4, after_5, after_6, leaves_early m hO c t h3,
    show (dats m hO 0 c).Φ t.succ = Inv m hO c (t.val + 1) from rfl, show (dats m hO 0 c).Φ t.castSucc = Inv m hO c t.val from rfl]
  conv_lhs => unfold Inv
  iintro ⟨⟨⟨%a, %ha, HS⟩, Hg, HE, HN⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_pass c (grid0.coords t) _ _ _ _ _ _ _ _ _ (iblk m hO c 0 t) (iblk m hO c 1 t) (iblk m hO c 2 t) (iblk m hO c 3 t) (iblk m hO c 4 t) (iblk m hO c 5 t) (iblk m hO c 6 t) (teT m c) (nvT m c) hv (fun h => h3 ((last_iff t).mp ((zero_iff _ _).mp h).2)) Set.univ _)
  isplitl [H0 H1 H2 H3 H4 H5 H6 HE HN]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HE]; · iexact HE
    iexact HN
  iintro ⟨H0, H1, H2, H3, H4, H5, H6, HE, HN⟩
  isplitl [HS Hg HE HN]
  · unfold Inv
    isplitl [HS]
    · iexists _; isplitr
      swap; · iexact HS
      ipureintro
      intro k hk e _ hv'; obtain rfl : t.val = k := Nat.succ.inj e; exact absurd hv' hv
    isplitl [Hg]; · iexact Hg
    isplitl [HE]; · iexact HE
    iexact HN
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

set_option maxHeartbeats 1600000 in
theorem body_zero (hO : Ok m) (c : Dev nD) (t : Fin (cfgM m hO).N) (hv : ¬Live m t) (h3 : t.val % 4 = 3) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5, before_6]
  rw [show (dats m hO 0 c).owesAt () t.succ = (dats m hO 0 c).owesAt () t.castSucc from rfl,
    after_0, after_1, after_2, after_3, after_4, after_5, after_6, leaves_last m hO c t h3,
    show (dats m hO 0 c).Φ t.succ = Inv m hO c (t.val + 1) from rfl, show (dats m hO 0 c).Φ t.castSucc = Inv m hO c t.val from rfl]
  conv_lhs => unfold Inv
  iintro ⟨⟨⟨%a, %ha, HS⟩, Hg, HE, HN⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_zero c (grid0.coords t) _ _ _ _ _ _ _ _ _ (iblk m hO c 0 t) (iblk m hO c 1 t) (iblk m hO c 2 t) (iblk m hO c 3 t) (iblk m hO c 4 t) (iblk m hO c 5 t) (iblk m hO c 6 t) (teT m c) (nvT m c) hv ((zero_iff _ _).mpr ⟨hv, (last_iff t).mpr h3⟩) Set.univ _)
  isplitl [H0 H1 H2 H3 H4 H5 H6 HE HN]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HE]; · iexact HE
    iexact HN
  isplitl [H7]; · iexists _; iexact H7
  iintro ⟨⟨H0, H1, H2, H3, H4, H5, H6, HE, HN⟩, H7⟩
  isplitl [HS Hg HE HN]
  · unfold Inv
    isplitl [HS]
    · iexists _; isplitr
      swap; · iexact HS
      ipureintro
      intro k hk e _ hv'; obtain rfl : t.val = k := Nat.succ.inj e; exact absurd hv' hv
    isplitl [Hg]; · iexact Hg
    isplitl [HE]; · iexact HE
    iexact HN
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  rw [show res m hO c t = k0_pay4 from if_neg hv]; iexact H7

set_option maxHeartbeats 4000000 in
theorem body_obligation (hO : Ok m) (c : Dev nD) : BodyObligation (dats (F := F) m hO 0 c) (defs₀ (F := F)) Variants.none () Set.univ := fun t => by
  rw [bigSep_W0, bigSep_W0, defs_row m hO]
  have h : bodyPre m hO c t ⊢ wp frame (wpE (defs₀ (F := F)) Variants.none c none) Set.univ (bodyAt m hO t) (fun _ => bodyPost m hO c t) := by
    by_cases hv : Live m t
    · by_cases h0 : t.val % 4 = 0
      · exact body_first m hO c t hv h0 (by omega)
      · by_cases h3 : t.val % 4 = 3
        · exact body_last m hO c t hv h0 h3
        · exact body_later m hO c t hv h0 h3
    · by_cases h3 : t.val % 4 = 3
      · exact body_zero m hO c t hv h3
      · exact body_pass m hO c t hv h3
  exact triple_restated h rfl .rfl fun _ => .rfl

theorem enters (hO : Ok m) (c : Dev nD) : iprop(Pipeline.ΦA spec0 c ∗ Pipeline.ΦT pre0 (tbl m) c) ⊢ (dats m hO 0 c).Φ 0 := by
  rw [show (dats m hO 0 c).Φ 0 = Inv m hO c 0 from rfl, scratch_eq, tables_eq]
  unfold Inv
  iintro ⟨⟨⟨%d, HS⟩, Hg⟩, HE, HN⟩
  isplitl [HS]
  · iexists d; isplitr
    · ipureintro; intro k hk e; exact absurd e (Nat.succ_ne_zero k).symm
    iexact HS
  isplitl [Hg]; · iexact Hg
  isplitl [HE]; · iexact HE
  iexact HN

theorem leavesRegion (hO : Ok m) (c : Dev nD) : (dats m hO 0 c).Φ (Fin.last (cfgM m hO).N) ⊢ Pipeline.ΦA spec0 c := by
  rw [show (dats m hO 0 c).Φ (Fin.last (cfgM m hO).N) = Inv m hO c (cfgM m hO).N from rfl, scratch_eq]
  unfold Inv
  iintro ⟨⟨%a, %ha, HS⟩, Hg, -, -⟩
  isplitl [HS]
  · iexists _; iexact HS
  iexact Hg

/-! ## The run and the frame -/

set_option backward.isDefEq.respectTransparency.types false in
/-- Every fair run ends with every array at what the blocks left and every counter at zero. -/
theorem run_counters (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := to_region m Variants.none) (hA := A_eq m hO) (hpf := V_pre m)
    (hin := enters m hO) (hout := leavesRegion m hO)

/-- The arguments end as they were, and every counter at zero. -/
theorem quiet (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).1 0).trans (((dats m hO 0 c).arrAt_in 0 rfl _).trans
      ((A_eq m hO c 0).trans (V_arg m c main_arg0 (by decide) (by decide) (by decide) (by decide) (by decide)))),
      ((h.1 c).2 main_arg1 (by decide : main_arg1 ∈ Pipeline.restRefs sig spec0)).trans (V_arg m c main_arg1 (by decide) (by decide) (by decide) (by decide) (by decide)),
      ((h.1 c).2 main_arg2 (by decide : main_arg2 ∈ Pipeline.restRefs sig spec0)).trans (V_arg m c main_arg2 (by decide) (by decide) (by decide) (by decide) (by decide)),
      ((h.1 c).2 main_arg3 (by decide : main_arg3 ∈ Pipeline.restRefs sig spec0)).trans (V_arg m c main_arg3 (by decide) (by decide) (by decide) (by decide) (by decide)),
      ((h.1 c).2 main_arg4 (by decide : main_arg4 ∈ Pipeline.restRefs sig spec0)).trans (V_arg m c main_arg4 (by decide) (by decide) (by decide) (by decide) (by decide)),
      ((h.1 c).2 main_arg5 (by decide : main_arg5 ∈ Pipeline.restRefs sig spec0)).trans (V_arg m c main_arg5 (by decide) (by decide) (by decide) (by decide) (by decide)),
      ((h.1 c).2 main_arg6 (by decide : main_arg6 ∈ Pipeline.restRefs sig spec0)).trans (V_arg m c main_arg6 (by decide) (by decide) (by decide) (by decide) (by decide))⟩, h.2⟩) (run_counters m ρ hO)

end Cert.ExpertsIdeal.Hand

end
-- ==== Proof.ExpertsIdealOk.lean ====
module

public import proofs.«01_k».proof.Defs
public import proofs.«01_k».proof.Proof.ExpertsIdealFrame
public import proofs.«01_k».proof.Proof.Gen.Pre_moe_pre
public import Idealize.ShloMosaic.Lib.Affine
public import Idealize.ShloMosaic.Lib.Pointwise.Index
public import Idealize.ShloMosaic.Lib.StableHlo.Predicate
public import Idealize.ShloMosaic.Lib.ReduceAll

@[expose] public section

/-!
# The experts' kernel: where its tables point

The index maps in closed form, and every block inside its array when every tile's expert is one of the 32.
-/

set_option maxRecDepth 16384

noncomputable section

namespace Cert.ExpertsIdeal.Hand

open Idealize.ShloMosaic Idealize.ShloMosaic.TcCoe Idealize.SL.Sem
open Cert.ExpertsIdeal Cert.ExpertsIdeal.Gen

variable {F : FTy → Type} [FloatOps F]

/-! ## The words the index maps read -/

/-- The expert of a grid point's tile, and the number of live tiles. -/
def expert (pf : pre0.Contents (Elt F)) (i : grid0.Coords) : BitVec 32 := pf 0 (ix1 (⟨(i 0).val, (i 0).isLt⟩ : Fin 320))
def live (pf : pre0.Contents (Elt F)) : BitVec 32 := pf 1 (ix1 (0 : Fin 1))

theorem at_expert (pf : pre0.Contents (Elt F)) (i : grid0.Coords) (h) (h1) :
    pf.at 0 (Rect.unit (s := S320) ![(Scalar.indexCast (BitVec.ofNat 32 (i 0).val)).toNat] S1.size h) h1 = expert pf i := by
  unfold expert
  refine congrArg (pf 0) (funext fun a => Fin.ext ?_)
  match a with
  | ⟨0, _⟩ =>
    have hi : (i 0).val < 320 := (i 0).isLt
    have e : (Scalar.indexCast (BitVec.ofNat 32 (i 0).val)).toNat = (i 0).val := by
      show (BitVec.ofNat 32 (i 0).val).toNat = _
      rw [BitVec.toNat_ofNat]; omega
    show (Scalar.indexCast (BitVec.ofNat 32 (i 0).val)).toNat + 1 * 0 = (i 0).val
    omega

theorem at_live (pf : pre0.Contents (Elt F)) (h) (h1) :
    pf.at 1 (Rect.unit (s := S1) ![0] S1.size h) h1 = live pf := by
  unfold live
  refine congrArg (pf 1) (funext fun a => Fin.ext ?_)
  match a with
  | ⟨0, _⟩ => rfl

/-- The quarter of the hidden units a point fetches: its own on a live tile, the last one past them. -/
def quarter (pf : pre0.Contents (Elt F)) (i : grid0.Coords) : BitVec 32 :=
  Scalar.select (Scalar.cmpi .slt (BitVec.ofNat 32 (i 0).val) (live pf)) (BitVec.ofNat 32 (i 1).val) 3#32

/-- The row block a point fetches: its own tile's on a live tile, the last live one past them. -/
def rows (pf : pre0.Contents (Elt F)) (i : grid0.Coords) : BitVec 32 :=
  Scalar.minsi (BitVec.ofNat 32 (i 0).val) (Scalar.maxsi (Scalar.subi (live pf) 1#32) 0#32)

theorem quarter_lt (pf : pre0.Contents (Elt F)) (i : grid0.Coords) : (quarter pf i).toNat < 4 := by
  have h1 : (i 1).val < 4 := (i 1).isLt
  unfold quarter Scalar.select
  split
  · rw [BitVec.toNat_ofNat]; omega
  · decide

theorem quarter_live (pf : pre0.Contents (Elt F)) (i : grid0.Coords) (hl : (BitVec.ofNat 32 (i 0).val).slt (live pf) = true) :
    (quarter pf i).toNat = (i 1).val := by
  have h1 : (i 1).val < 4 := (i 1).isLt
  unfold quarter
  have e : Scalar.cmpi .slt (BitVec.ofNat 32 (i 0).val) (live pf) = 1#1 := by
    show BitVec.ofBool ((BitVec.ofNat 32 (i 0).val).slt (live pf)) = 1#1
    rw [hl]; rfl
  rw [e]
  show (BitVec.ofNat 32 (i 1).val).toNat = _
  rw [BitVec.toNat_ofNat]; omega

theorem rows_le (pf : pre0.Contents (Elt F)) (i : grid0.Coords) : (rows pf i).toNat ≤ (i 0).val := by
  have hi : (i 0).val < 320 := (i 0).isLt
  have hI : (BitVec.ofNat 32 (i 0).val).toNat = (i 0).val := by rw [BitVec.toNat_ofNat]; omega
  show (if (BitVec.ofNat 32 (i 0).val).slt (if (0#32).slt (Scalar.subi (live pf) 1#32) then Scalar.subi (live pf) 1#32 else 0#32)
    then BitVec.ofNat 32 (i 0).val else (if (0#32).slt (Scalar.subi (live pf) 1#32) then Scalar.subi (live pf) 1#32 else 0#32)).toNat ≤ _
  generalize Scalar.subi (live pf) 1#32 = x
  generalize (BitVec.ofNat 32 (i 0).val) = j at hI
  simp only [BitVec.slt, decide_eq_true_eq]
  have hj : j.toInt = (i 0).val := by rw [BitVec.toInt_eq_toNat_of_lt (by omega), hI]
  have h0 : (0#32).toInt = 0 := by decide
  have hx := BitVec.toInt_eq_toNat_cond x
  have hz : (0#32).toNat = 0 := by decide
  split_ifs at * <;> omega

theorem rows_live (pf : pre0.Contents (Elt F)) (i : grid0.Coords) (hl : (BitVec.ofNat 32 (i 0).val).slt (live pf) = true) :
    (rows pf i).toNat = (i 0).val := by
  have hi : (i 0).val < 320 := (i 0).isLt
  have hI : (BitVec.ofNat 32 (i 0).val).toNat = (i 0).val := by rw [BitVec.toNat_ofNat]; omega
  show (if (BitVec.ofNat 32 (i 0).val).slt (if (0#32).slt (live pf - 1#32) then live pf - 1#32 else 0#32)
    then BitVec.ofNat 32 (i 0).val else (if (0#32).slt (live pf - 1#32) then live pf - 1#32 else 0#32)).toNat = _
  generalize live pf = x at *
  generalize (BitVec.ofNat 32 (i 0).val) = j at hI hl ⊢
  simp only [BitVec.slt, decide_eq_true_eq] at hl ⊢
  have hj : j.toInt = (i 0).val := by rw [BitVec.toInt_eq_toNat_of_lt (by omega), hI]
  have h0 : (0#32).toInt = 0 := by decide
  have hx := BitVec.toInt_eq_toNat_cond x
  have hz : (0#32).toNat = 0 := by decide
  have hs : (x - 1#32).toNat = x.toNat - 1 := by
    rw [BitVec.toNat_sub]
    have : (1#32).toNat = 1 := by decide
    split_ifs at hx <;> omega
  have hx' := BitVec.toInt_eq_toNat_cond (x - 1#32)
  rw [hs] at hx'
  split_ifs at * <;> omega

/-! ## The index maps -/

theorem map_0 (pf : pre0.Contents (Elt F)) (i : grid0.Coords) : cc0_transform_0 inb_S1_S1_0 numel1_S1 pf i = ![(rows pf i).toNat, 0] :=
  congrArg (fun b : BitVec 32 => ![(Scalar.minsi (BitVec.ofNat 32 (i 0).val) (Scalar.maxsi (Scalar.subi b 1#32) 0#32)).toNat, 0])
    (at_live pf inb_S1_S1_0 numel1_S1)
theorem four_add (q : BitVec 32) (h : q.toNat < 4) : (Scalar.addi 4#32 q).toNat = 4 + q.toNat := by
  show (4#32 + q).toNat = _
  rw [BitVec.toNat_add]
  have : (4#32).toNat = 4 := by decide
  omega
theorem map_1 (pf : pre0.Contents (Elt F)) (i : grid0.Coords) :
    cc0_transform_1 k0_off1_inb numel1_S1 inb_S1_S1_0 pf i = ![(expert pf i).toNat, 0, (quarter pf i).toNat] :=
  congrArg₂ (fun a b : BitVec 32 => ![a.toNat, 0, (Scalar.select (Scalar.cmpi .slt (BitVec.ofNat 32 (i 0).val) b) (BitVec.ofNat 32 (i 1).val) 3#32).toNat])
    (at_expert pf i (k0_off1_inb i) numel1_S1) (at_live pf inb_S1_S1_0 numel1_S1)
theorem map_2 (pf : pre0.Contents (Elt F)) (i : grid0.Coords) :
    cc0_transform_2 k0_off1_inb numel1_S1 inb_S1_S1_0 pf i = ![(expert pf i).toNat, 0, 4 + (quarter pf i).toNat] :=
  (congrArg₂ (fun a b : BitVec 32 => ![a.toNat, 0, (Scalar.addi 4#32 (Scalar.select (Scalar.cmpi .slt (BitVec.ofNat 32 (i 0).val) b) (BitVec.ofNat 32 (i 1).val) 3#32)).toNat])
    (at_expert pf i (k0_off1_inb i) numel1_S1) (at_live pf inb_S1_S1_0 numel1_S1)).trans
    (congrArg (fun n => ![(expert pf i).toNat, 0, n]) (four_add _ (quarter_lt pf i)))
theorem map_3 (pf : pre0.Contents (Elt F)) (i : grid0.Coords) :
    cc0_transform_3 k0_off1_inb numel1_S1 inb_S1_S1_0 pf i = ![(expert pf i).toNat, 0, (quarter pf i).toNat] :=
  congrArg₂ (fun a b : BitVec 32 => ![a.toNat, 0, (Scalar.select (Scalar.cmpi .slt (BitVec.ofNat 32 (i 0).val) b) (BitVec.ofNat 32 (i 1).val) 3#32).toNat])
    (at_expert pf i (k0_off1_inb i) numel1_S1) (at_live pf inb_S1_S1_0 numel1_S1)
theorem map_4 (pf : pre0.Contents (Elt F)) (i : grid0.Coords) :
    cc0_transform_4 k0_off1_inb numel1_S1 inb_S1_S1_0 pf i = ![(expert pf i).toNat, 0, 4 + (quarter pf i).toNat] :=
  (congrArg₂ (fun a b : BitVec 32 => ![a.toNat, 0, (Scalar.addi 4#32 (Scalar.select (Scalar.cmpi .slt (BitVec.ofNat 32 (i 0).val) b) (BitVec.ofNat 32 (i 1).val) 3#32)).toNat])
    (at_expert pf i (k0_off1_inb i) numel1_S1) (at_live pf inb_S1_S1_0 numel1_S1)).trans
    (congrArg (fun n => ![(expert pf i).toNat, 0, n]) (four_add _ (quarter_lt pf i)))
theorem map_5 (pf : pre0.Contents (Elt F)) (i : grid0.Coords) :
    cc0_transform_5 k0_off1_inb numel1_S1 inb_S1_S1_0 pf i = ![(expert pf i).toNat, (quarter pf i).toNat, 0] :=
  congrArg₂ (fun a b : BitVec 32 => ![a.toNat, (Scalar.select (Scalar.cmpi .slt (BitVec.ofNat 32 (i 0).val) b) (BitVec.ofNat 32 (i 1).val) 3#32).toNat, 0])
    (at_expert pf i (k0_off1_inb i) numel1_S1) (at_live pf inb_S1_S1_0 numel1_S1)
theorem map_6 (pf : pre0.Contents (Elt F)) (i : grid0.Coords) :
    cc0_transform_6 k0_off1_inb numel1_S1 pf i = ![(expert pf i).toNat, 0, 0] :=
  congrArg (fun a : BitVec 32 => ![a.toNat, 0, 0]) (at_expert pf i (k0_off1_inb i) numel1_S1)

/-! ## The side condition -/

theorem ok_of (pf : pre0.Contents (Elt F)) (h : ∀ i : grid0.Coords, (expert pf i).toNat < 32) : ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inl rfl⟩, fun i => ⟨fun a => ?_, .inl rfl⟩,
    fun i => ⟨fun a => ?_, .inr (Affine.block_words_dvd (of_decide_eq_true rfl) (by decide))⟩,
    fun i => ⟨fun a => ?_, .inl rfl⟩⟩
  · rw [map_0]
    have h0 : (i 0).val < 320 := (i 0).isLt
    have h1 := rows_le pf i
    match a with
    | ⟨0, _⟩ => show ((rows pf i).toNat + 1) * 512 ≤ 163840; omega
    | ⟨1, _⟩ => show (0 + 1) * 2048 ≤ 2048; omega
  · rw [map_1]
    have h0 := h i
    have h1 := quarter_lt pf i
    match a with
    | ⟨0, _⟩ => show ((expert pf i).toNat + 1) * 1 ≤ 32; omega
    | ⟨1, _⟩ => show (0 + 1) * 2048 ≤ 2048; omega
    | ⟨2, _⟩ => show ((quarter pf i).toNat + 1) * 512 ≤ 4096; omega
  · rw [map_2]
    have h0 := h i
    have h1 := quarter_lt pf i
    match a with
    | ⟨0, _⟩ => show ((expert pf i).toNat + 1) * 1 ≤ 32; omega
    | ⟨1, _⟩ => show (0 + 1) * 2048 ≤ 2048; omega
    | ⟨2, _⟩ => show (4 + (quarter pf i).toNat + 1) * 512 ≤ 4096; omega
  · rw [map_3]
    have h0 := h i
    have h1 := quarter_lt pf i
    match a with
    | ⟨0, _⟩ => show ((expert pf i).toNat + 1) * 1 ≤ 32; omega
    | ⟨1, _⟩ => show (0 + 1) * 1 ≤ 1; omega
    | ⟨2, _⟩ => show ((quarter pf i).toNat + 1) * 512 ≤ 4096; omega
  · rw [map_4]
    have h0 := h i
    have h1 := quarter_lt pf i
    match a with
    | ⟨0, _⟩ => show ((expert pf i).toNat + 1) * 1 ≤ 32; omega
    | ⟨1, _⟩ => show (0 + 1) * 1 ≤ 1; omega
    | ⟨2, _⟩ => show (4 + (quarter pf i).toNat + 1) * 512 ≤ 4096; omega
  · rw [map_5]
    have h0 := h i
    have h1 := quarter_lt pf i
    match a with
    | ⟨0, _⟩ => show ((expert pf i).toNat + 1) * 1 ≤ 32; omega
    | ⟨1, _⟩ => show ((quarter pf i).toNat + 1) * 512 ≤ 2048; omega
    | ⟨2, _⟩ => show (0 + 1) * 2048 ≤ 2048; omega
  · rw [map_6]
    have h0 := h i
    match a with
    | ⟨0, _⟩ => show ((expert pf i).toNat + 1) * 1 ≤ 32; omega
    | ⟨1, _⟩ => show (0 + 1) * 1 ≤ 1; omega
    | ⟨2, _⟩ => show (0 + 1) * 2048 ≤ 2048; omega

/-! ## From the precondition -/

/-- The table of experts is the argument's array. -/
theorem table_eq (m : (ℓ : Loc nD τ sig) → Buf (Elt F) ℓ) (c : Dev nD) : tbl m 0 = m ((c : Thread nD τ).loc main_arg1) :=
  (V_pre m c 0).symm.trans (V_arg m c main_arg1 (by decide) (by decide) (by decide) (by decide) (by decide))
theorem count_eq (m : (ℓ : Loc nD τ sig) → Buf (Elt F) ℓ) (c : Dev nD) : tbl m 1 = m ((c : Thread nD τ).loc main_arg2) :=
  (V_pre m c 1).symm.trans (V_arg m c main_arg2 (by decide) (by decide) (by decide) (by decide) (by decide))

/-- A table all of whose entries the predicate accepts names one of the 32 experts everywhere. -/
theorem range_of (x : FVec F S163840x2048 .bf16) (te : IVec S320 32) (nv : IVec S1 32) (w : FVec F S32x2048x4096 .f32) (b : FVec F S32x4096 .f32)
    (w' : FVec F S32x2048x2048 .f32) (b' : FVec F S32x2048 .f32)
    (h : Cert.Pre_moe_pre.fn (F := F) x te nv w b w' b' = (fun _ => 1#1)) (k : S320.Idx) : (te k).toNat < 32 := by
  haveI : Subsingleton Cert.Pre_moe_pre.S_.Idx := ⟨fun a b => funext fun x => x.elim0⟩
  have h1 : IntOp.andi (IntOp.cmpi .sge (te k) 0#32) (IntOp.cmpi .slt (te k) 32#32) = 1#1 :=
    Host.reduce_andi_all _ _ _ _ _ (congrFun h fun a => a.elim0) k
  obtain ⟨h2, h3⟩ := IntOp.andi_eq_one.mp h1
  have h4 : (0#32).sle (te k) = true := (StableHlo.Predicate.ofBool_eq_one_iff _).mp h2
  have h5 : (te k).slt 32#32 = true := (StableHlo.Predicate.ofBool_eq_one_iff _).mp h3
  simp only [BitVec.sle, BitVec.slt, decide_eq_true_eq] at h4 h5
  have h6 := BitVec.toInt_eq_toNat_cond (te k)
  have h7 : (0#32).toInt = 0 := by decide
  have h8 : (32#32).toInt = 32 := by decide
  split_ifs at h6 <;> omega

theorem expert_eq (m : (ℓ : Loc nD τ sig) → Buf (Elt F) ℓ) (c : Dev nD) (i : grid0.Coords) :
    expert (tbl m) i = (m ((c : Thread nD τ).loc main_arg1) : IVec S320 32) (ix1 (⟨(i 0).val, (i 0).isLt⟩ : Fin 320)) := by
  unfold expert
  exact congrFun (table_eq m c) _

theorem live_eq (m : (ℓ : Loc nD τ sig) → Buf (Elt F) ℓ) (c : Dev nD) :
    live (tbl m) = (m ((c : Thread nD τ).loc main_arg2) : IVec S1 32) (ix1 (0 : Fin 1)) := by
  unfold live
  exact congrFun (count_eq m c) _

theorem expert_lt (m : (ℓ : Loc nD τ sig) → Buf (Elt F) ℓ) (c : Dev nD)
    (h : Cert.Pre_moe_pre.fn (F := F) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      = (fun _ => 1#1)) (i : grid0.Coords) : (expert (tbl m) i).toNat < 32 := by
  rw [expert_eq m c i]
  exact range_of _ _ _ _ _ _ _ h _

theorem ok (m : (ℓ : Loc nD τ sig) → Buf (Elt F) ℓ) (c : Dev nD)
    (h : Cert.Pre_moe_pre.fn (F := F) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      = (fun _ => 1#1)) : Ok m := ok_of _ (expert_lt m c h)

end Cert.ExpertsIdeal.Hand

namespace Cert.ExpertsIdeal.Claims

open Idealize.ShloMosaic Idealize.ShloMosaic.TcCoe Idealize.SL.Sem

theorem quiescent : Cert.quiescent_ExpertsIdeal :=
  fun m g h => Cert.ExpertsIdeal.Hand.quiet m g (Cert.ExpertsIdeal.Hand.ok m 0 (h 0))

end Cert.ExpertsIdeal.Claims

end
-- ==== Proof.ExpertsReference.lean ====
/-
  The reference of the experts' layer, read at an index: a row's tile names an expert, the hidden unit is the gated
  product of two projections by that expert's matrices, and the result is their combination, zero past the live tiles.
-/
module

public import proofs.«01_k».proof.Defs
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.ReferenceIdeal.Read

open Idealize.ShloMosaic Idealize.ShloMosaic.TcCoe
open Cert.ReferenceIdeal Cert.ReferenceIdeal.Gen

/-- The experts of the tiles as a column of gather indices, negative entries wrapped. -/
def column (te : IVec S320 32) : IVec S320x1 32 :=
  broadcastInDim S320x1 ![0] bcast_S320_S320x1_0 (select (cmpi .slt te (broadcastInDim S320 ![] bcast_S_S320 (constantI S_ 32 0#32))) (addi te (broadcastInDim S320 ![] bcast_S_S320 (constantI S_ 32 32#32))) te)

/-- The two projections side by side, with their bias. -/
def proj (x : FVec Ideal S163840x2048 .bf16) (te : IVec S320 32) (w : FVec Ideal S32x2048x4096 .f32) (b : FVec Ideal S32x4096 .f32) :
    FVec Ideal S320x512x4096 .f32 :=
  addf (Host.dotGeneral dot_S320x512x2048_S320x2048x4096_S320x512x4096_2_1_1_2_0_0 none (shapeCast S320x512x2048 (extf .f32 x bitsLt_bf16_f32) shapeCasts_S163840x2048_S320x512x2048) (Host.gather gather_S32x2048x4096_S320x1_S320x2048x4096_12_0_n_n_0_1_120484096 w (column te))) (broadcastInDim S320x512x4096 ![0, 1, 2] bcast_S320x1x4096_S320x512x4096_0_1_2 (broadcastInDim S320x1x4096 ![0, 2] bcast_S320x4096_S320x1x4096_0_2 (Host.gather gather_S32x4096_S320x1_S320x4096_1_0_n_n_0_1_14096 b (column te))))

/-- The hidden units of a pair of projections. -/
def units (p : FVec Ideal S320x512x4096 .f32) : FVec Ideal S320x512x2048 .f32 :=
  mulf (mulf (addf (minimumf (broadcastInDim S320x512x2048 ![] bcast_S_S320x512x2048 (id (constant S_ .f32 0x40E00000#32))) (maximumf (broadcastInDim S320x512x2048 ![] bcast_S_S320x512x2048 (id (constant S_ .f32 0xC0E00000#32))) (extractStridedSlice S320x512x2048 ![0, 0, 2048] p slices_S320x512x4096_S320x512x2048_0_0_2048))) (broadcastInDim S320x512x2048 ![] bcast_S_S320x512x2048 (constant S_ .f32 0x3F800000#32))) (minimumf (extractStridedSlice S320x512x2048 ![0, 0, 0] p slices_S320x512x4096_S320x512x2048_0_0_0) (broadcastInDim S320x512x2048 ![] bcast_S_S320x512x2048 (constant S_ .f32 0x40E00000#32)))) (Host.divf (broadcastInDim S320x512x2048 ![] bcast_S_S320x512x2048 (constant S_ .f32 0x3F800000#32)) (addf (broadcastInDim S320x512x2048 ![] bcast_S_S320x512x2048 (constant S_ .f32 0x3F800000#32)) (Host.exp (Host.negf (mulf (broadcastInDim S320x512x2048 ![] bcast_S_S320x512x2048 (constant S_ .f32 0x3FD9DB23#32)) (minimumf (extractStridedSlice S320x512x2048 ![0, 0, 0] p slices_S320x512x4096_S320x512x2048_0_0_0) (broadcastInDim S320x512x2048 ![] bcast_S_S320x512x2048 (constant S_ .f32 0x40E00000#32))))))))

/-- The layer over its arguments. -/
def layer (x : FVec Ideal S163840x2048 .bf16) (te : IVec S320 32) (nv : IVec S1 32) (w : FVec Ideal S32x2048x4096 .f32) (b : FVec Ideal S32x4096 .f32)
    (w' : FVec Ideal S32x2048x2048 .f32) (b' : FVec Ideal S32x2048 .f32) : FVec Ideal S163840x2048 .bf16 :=
  truncf .bf16 (shapeCast S163840x2048 (select (broadcastInDim S320x512x2048 ![0, 1, 2] bcast_S320x1x1_S320x512x2048_0_1_2 (broadcastInDim S320x1x1 ![0] bcast_S320_S320x1x1_0 (cmpi .slt (iotaInDim S320 32 0) (broadcastInDim S320 ![] bcast_S_S320 (shapeCast S_ nv shapeCasts_S1_S_))))) (addf (Host.dotGeneral dot_S320x512x2048_S320x2048x2048_S320x512x2048_2_1_1_2_0_0 none (units (proj x te w b)) (Host.gather gather_S32x2048x2048_S320x1_S320x2048x2048_12_0_n_n_0_1_120482048 w' (column te))) (broadcastInDim S320x512x2048 ![0, 1, 2] bcast_S320x1x2048_S320x512x2048_0_1_2 (broadcastInDim S320x1x2048 ![0, 2] bcast_S320x2048_S320x1x2048_0_2 (Host.gather gather_S32x2048_S320x1_S320x2048_1_0_n_n_0_1_12048 b' (column te))))) (broadcastInDim S320x512x2048 ![] bcast_S_S320x512x2048 (id (constant S_ .f32 0x00000000#32)))) shapeCasts_S320x512x2048_S163840x2048) bitsLt_bf16_f32

theorem res_eq (m : (ℓ : Loc nD τ sig) → Buf (Elt Ideal) ℓ) (c : Dev nD) :
    Cert.ReferenceIdeal.Value.res_main_v62 (F := Ideal) m c = layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold Cert.ReferenceIdeal.Value.res_main_v62 layer units proj column
  rfl

theorem column_at (te : IVec S320 32) (t : Fin 320) (e : Fin 32) (he : (te (ix1 t)).toNat = e.val) :
    min (column te (ix2 t 0)).toInt.toNat 31 = e.val := by
  have h1 : (te (ix1 t)).toInt = (e.val : Int) := by
    rw [BitVec.toInt_eq_toNat_of_lt (by omega), he]
  have h2 : column te (ix2 t 0) = te (ix1 t) := by
    unfold column
    pointwise
    have h3 : IntOp.cmpi CmpIPredicate.slt (te (ix1 t)) 0#32 = 0#1 := by
      have : ¬ (te (ix1 t)).toInt < 0 := by omega
      simp [IntOp.cmpi, BitVec.slt, this]
    rw [h3]
    rfl
  rw [h2, h1]
  omega

theorem rows_in (w : FVec Ideal S32x2048x4096 .f32) (i : IVec S320x1 32) (t : Fin 320) (k : Fin 2048) (f : Fin 4096) (e : Fin 32)
    (he : min (i (ix2 t 0)).toInt.toNat 31 = e.val) :
    Host.gather gather_S32x2048x4096_S320x1_S320x2048x4096_12_0_n_n_0_1_120484096 w i (ix3 t k f) = w (ix3 e k f) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine Eq.trans (dif_pos (show (0 : Fin 3) ∈ gather_S32x2048x4096_S320x1_S320x2048x4096_12_0_n_n_0_1_120484096.startIndexMap from List.mem_singleton.mpr rfl)) (Eq.trans ?_ he)
    have hsi : GatherDims.siIdx gather_S32x2048x4096_S320x1_S320x2048x4096_12_0_n_n_0_1_120484096 (ix3 t k f) ⟨List.idxOf (0 : Fin 3) [(0 : Fin 3)], by decide⟩ = ix2 t 0 := by
      funext b; refine Fin.ext ?_
      match b with
      | ⟨0, _⟩ => rfl
      | ⟨1, _⟩ => rfl
    exact congrArg (fun q => min (i q).toInt.toNat 31) hsi
  | ⟨1, _⟩ =>
    unfold GatherDims.start
    refine (congrArg (· + _) (dif_neg (show (1 : Fin 3) ∉ gather_S32x2048x4096_S320x1_S320x2048x4096_12_0_n_n_0_1_120484096.startIndexMap from fun h => absurd (List.mem_singleton.mp h) (by decide)))).trans ?_
    exact (Nat.zero_add _).trans rfl
  | ⟨2, _⟩ =>
    unfold GatherDims.start
    refine (congrArg (· + _) (dif_neg (show (2 : Fin 3) ∉ gather_S32x2048x4096_S320x1_S320x2048x4096_12_0_n_n_0_1_120484096.startIndexMap from fun h => absurd (List.mem_singleton.mp h) (by decide)))).trans ?_
    exact (Nat.zero_add _).trans rfl

theorem rows_out (w : FVec Ideal S32x2048x2048 .f32) (i : IVec S320x1 32) (t : Fin 320) (k : Fin 2048) (f : Fin 2048) (e : Fin 32)
    (he : min (i (ix2 t 0)).toInt.toNat 31 = e.val) :
    Host.gather gather_S32x2048x2048_S320x1_S320x2048x2048_12_0_n_n_0_1_120482048 w i (ix3 t k f) = w (ix3 e k f) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine Eq.trans (dif_pos (show (0 : Fin 3) ∈ gather_S32x2048x2048_S320x1_S320x2048x2048_12_0_n_n_0_1_120482048.startIndexMap from List.mem_singleton.mpr rfl)) (Eq.trans ?_ he)
    have hsi : GatherDims.siIdx gather_S32x2048x2048_S320x1_S320x2048x2048_12_0_n_n_0_1_120482048 (ix3 t k f) ⟨List.idxOf (0 : Fin 3) [(0 : Fin 3)], by decide⟩ = ix2 t 0 := by
      funext b; refine Fin.ext ?_
      match b with
      | ⟨0, _⟩ => rfl
      | ⟨1, _⟩ => rfl
    exact congrArg (fun q => min (i q).toInt.toNat 31) hsi
  | ⟨1, _⟩ =>
    unfold GatherDims.start
    refine (congrArg (· + _) (dif_neg (show (1 : Fin 3) ∉ gather_S32x2048x2048_S320x1_S320x2048x2048_12_0_n_n_0_1_120482048.startIndexMap from fun h => absurd (List.mem_singleton.mp h) (by decide)))).trans ?_
    exact (Nat.zero_add _).trans rfl
  | ⟨2, _⟩ =>
    unfold GatherDims.start
    refine (congrArg (· + _) (dif_neg (show (2 : Fin 3) ∉ gather_S32x2048x2048_S320x1_S320x2048x2048_12_0_n_n_0_1_120482048.startIndexMap from fun h => absurd (List.mem_singleton.mp h) (by decide)))).trans ?_
    exact (Nat.zero_add _).trans rfl

theorem bias_in (w : FVec Ideal S32x4096 .f32) (i : IVec S320x1 32) (t : Fin 320) (f : Fin 4096) (e : Fin 32)
    (he : min (i (ix2 t 0)).toInt.toNat 31 = e.val) :
    Host.gather gather_S32x4096_S320x1_S320x4096_1_0_n_n_0_1_14096 w i (ix2 t f) = w (ix2 e f) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine Eq.trans (dif_pos (show (0 : Fin 2) ∈ gather_S32x4096_S320x1_S320x4096_1_0_n_n_0_1_14096.startIndexMap from List.mem_singleton.mpr rfl)) (Eq.trans ?_ he)
    have hsi : GatherDims.siIdx gather_S32x4096_S320x1_S320x4096_1_0_n_n_0_1_14096 (ix2 t f) ⟨List.idxOf (0 : Fin 2) [(0 : Fin 2)], by decide⟩ = ix2 t 0 := by
      funext b; refine Fin.ext ?_
      match b with
      | ⟨0, _⟩ => rfl
      | ⟨1, _⟩ => rfl
    exact congrArg (fun q => min (i q).toInt.toNat 31) hsi
  | ⟨1, _⟩ =>
    unfold GatherDims.start
    refine (congrArg (· + _) (dif_neg (show (1 : Fin 2) ∉ gather_S32x4096_S320x1_S320x4096_1_0_n_n_0_1_14096.startIndexMap from fun h => absurd (List.mem_singleton.mp h) (by decide)))).trans ?_
    exact (Nat.zero_add _).trans rfl

theorem bias_out (w : FVec Ideal S32x2048 .f32) (i : IVec S320x1 32) (t : Fin 320) (f : Fin 2048) (e : Fin 32)
    (he : min (i (ix2 t 0)).toInt.toNat 31 = e.val) :
    Host.gather gather_S32x2048_S320x1_S320x2048_1_0_n_n_0_1_12048 w i (ix2 t f) = w (ix2 e f) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine Eq.trans (dif_pos (show (0 : Fin 2) ∈ gather_S32x2048_S320x1_S320x2048_1_0_n_n_0_1_12048.startIndexMap from List.mem_singleton.mpr rfl)) (Eq.trans ?_ he)
    have hsi : GatherDims.siIdx gather_S32x2048_S320x1_S320x2048_1_0_n_n_0_1_12048 (ix2 t f) ⟨List.idxOf (0 : Fin 2) [(0 : Fin 2)], by decide⟩ = ix2 t 0 := by
      funext b; refine Fin.ext ?_
      match b with
      | ⟨0, _⟩ => rfl
      | ⟨1, _⟩ => rfl
    exact congrArg (fun q => min (i q).toInt.toNat 31) hsi
  | ⟨1, _⟩ =>
    unfold GatherDims.start
    refine (congrArg (· + _) (dif_neg (show (1 : Fin 2) ∉ gather_S32x2048_S320x1_S320x2048_1_0_n_n_0_1_12048.startIndexMap from fun h => absurd (List.mem_singleton.mp h) (by decide)))).trans ?_
    exact (Nat.zero_add _).trans rfl

theorem proj_at (x : FVec Ideal S163840x2048 .bf16) (te : IVec S320 32) (w : FVec Ideal S32x2048x4096 .f32) (b : FVec Ideal S32x4096 .f32)
    (t : Fin 320) (r : Fin 512) (f : Fin 4096) (e : Fin 32) (he : (te (ix1 t)).toNat = e.val) :
    proj x te w b (ix3 t r f) = ∑ k : Fin 2048, x (ix2 ⟨t.val * 512 + r.val, by omega⟩ k) * w (ix3 e k f) + b (ix2 e f) := by
  pointwise [proj]
  rw [bias_in b _ t f e (column_at te t e he)]
  refine congrArg (· + _) (Finset.sum_congr rfl fun k _ => ?_)
  rw [rows_in w _ t k f e (column_at te t e he)]

/-- One hidden unit of its two projections. -/
def unit (g u : EReal) : EReal :=
  (min (Ideal.ofBits FTy.f32 1088421888#32) (max (Ideal.ofBits FTy.f32 3235905536#32) u) + 1) * min g (Ideal.ofBits FTy.f32 1088421888#32)
    * Ideal.div 1 (1 + Ideal.exp (-(Ideal.ofBits FTy.f32 1071242019#32 * min g (Ideal.ofBits FTy.f32 1088421888#32))))

theorem units_at (p : FVec Ideal S320x512x4096 .f32) (t : Fin 320) (r : Fin 512) (f : Fin 2048) :
    units p (ix3 t r f) = unit (p (ix3 t r ⟨f.val, by omega⟩)) (p (ix3 t r ⟨2048 + f.val, by omega⟩)) := by
  pointwise [units]
  rfl

theorem layer_at (x : FVec Ideal S163840x2048 .bf16) (te : IVec S320 32) (nv : IVec S1 32) (w : FVec Ideal S32x2048x4096 .f32) (b : FVec Ideal S32x4096 .f32)
    (w' : FVec Ideal S32x2048x2048 .f32) (b' : FVec Ideal S32x2048 .f32) (i : S163840x2048.Idx) (t : Fin 320) (ht : t.val = (i 0).val / 512)
    (e : Fin 32) (he : (te (ix1 t)).toNat = e.val) :
    layer x te nv w b w' b' i = Scalar.select (IntOp.cmpi CmpIPredicate.slt (BitVec.ofNat 32 t.val) (nv (ix1 0)))
      (∑ f : Fin 2048, unit (∑ k : Fin 2048, x (ix2 (i 0) k) * w (ix3 e k ⟨f.val, by omega⟩) + b (ix2 e ⟨f.val, by omega⟩))
          (∑ k : Fin 2048, x (ix2 (i 0) k) * w (ix3 e k ⟨2048 + f.val, by omega⟩) + b (ix2 e ⟨2048 + f.val, by omega⟩)) * w' (ix3 e f (i 1))
        + b' (ix2 e (i 1))) 0 := by
  pointwise [layer]
  have hi : (i 0).val < 163840 := (i 0).isLt
  have h1 : (⟨(i 0).val / 512, by omega⟩ : Fin 320) = t := Fin.ext ht.symm
  have h2 : (⟨t.val * 512 + (i 0).val % 512, by omega⟩ : Fin 163840) = i 0 := Fin.ext (by show t.val * 512 + (i 0).val % 512 = (i 0).val; omega)
  have key : ∀ f : Fin 4096, proj x te w b (ix3 t ⟨(i 0).val % 512, by omega⟩ f)
      = ∑ k : Fin 2048, x (ix2 (i 0) k) * w (ix3 e k f) + b (ix2 e f) := fun f => by
    rw [proj_at x te w b t _ f e he]
    exact congrArg (fun q => ∑ k : Fin 2048, x (ix2 q k) * w (ix3 e k f) + b (ix2 e f)) h2
  rw [h1, bias_out b' _ t (i 1) e (column_at te t e he), ← ht]
  refine congrArg₂ (Scalar.select _) (congrArg (· + _) (Finset.sum_congr rfl fun f _ => ?_)) ?_
  · rw [rows_out w' _ t f (i 1) e (column_at te t e he), units_at, key, key]
  · show constant S_ FTy.f32 0#32 ix0 = 0
    pointwise

end Cert.ReferenceIdeal.Read

end
-- ==== Proof.ExpertsBlocks.lean ====
module

public import proofs.«01_k».proof.Defs
public import proofs.«01_k».proof.Proof.ExpertsIdealOk
public import proofs.«01_k».proof.Proof.ExpertsReference
public import Idealize.ShloMosaic.Lib.Pipeline.ValueKit
public import Idealize.ShloMosaic.Lib.Pipeline.Covers
public import Idealize.ShloMosaic.Lib.StableHlo.Run
public import Idealize.ShloMosaic.Lib.Tactic
public import Idealize.ShloMosaic.Lib.Claim

@[expose] public section

set_option maxRecDepth 16384

noncomputable section

namespace Cert.ExpertsIdeal.Closed

open Idealize.ShloMosaic Idealize.ShloMosaic.TcCoe Idealize.SL.Sem
open Cert.ExpertsIdeal Cert.ExpertsIdeal.Gen Cert.ExpertsIdeal.Hand
open Cert.ReferenceIdeal.Read (unit)
open Idealize.ShloMosaic.Pipeline (Dat)

variable (m : (ℓ : Loc nD τ sig) → Buf (Elt Ideal) ℓ)

theorem part_at (x : FVec Ideal S512x2048 .bf16) (wg wu : FVec Ideal S1x2048x512 .bf16) (bg bu : FVec Ideal S1x1x512 .f32)
    (wo : FVec Ideal S1x512x2048 .bf16) (j : S512x2048.Idx) :
    k0_pay5 (F := Ideal) x wg bg wu bu wo j
      = ∑ l : Fin 512, unit (∑ k : Fin 2048, x (ix2 (j 0) k) * wg (ix3 0 k l) + bg (ix3 0 0 l))
          (∑ k : Fin 2048, x (ix2 (j 0) k) * wu (ix3 0 k l) + bu (ix3 0 0 l)) * wo (ix3 0 l (j 1)) := by
  pointwise [k0_pay5, unit]
  rfl

theorem first_at (p : FVec Ideal S512x2048 .f32) (b : FVec Ideal S1x1x2048 .f32) (j : S512x2048.Idx) :
    k0_pay1 (F := Ideal) p b j = p j + b (ix3 0 0 (j 1)) := by
  pointwise [k0_pay1]

theorem later_at (p a : FVec Ideal S512x2048 .f32) (j : S512x2048.Idx) : k0_pay2 (F := Ideal) p a j = a j + p j := by
  pointwise [k0_pay2]

theorem left_at (a : FVec Ideal S512x2048 .f32) (j : S512x2048.Idx) : k0_pay3 (F := Ideal) a j = a j := by
  pointwise [k0_pay3]

theorem zero_at (j : S512x2048.Idx) : k0_pay4 (F := Ideal) j = 0 := by
  pointwise [k0_pay4]

/-! ## What the arrays hold when the region starts -/

theorem V_in (c : Dev nD) : V m c main_v0 = (m ((c : Thread nD τ).loc main_arg3) : FVec Ideal S32x2048x4096 .f32) := by
  entry_read
  rfl
theorem V_out (c : Dev nD) : V m c main_v1 = (m ((c : Thread nD τ).loc main_arg5) : FVec Ideal S32x2048x2048 .f32) := by
  entry_read
  rfl
theorem row_at (b : FVec Ideal S32x4096 .f32) (e : Fin 32) (q : Fin 4096) :
    shapeCast S32x1x4096 b shapeCasts_S32x4096_S32x1x4096 (ix3 e 0 q) = b (ix2 e q) := by
  pointwise
theorem row_at_out (b : FVec Ideal S32x2048 .f32) (e : Fin 32) (q : Fin 2048) :
    shapeCast S32x1x2048 b shapeCasts_S32x2048_S32x1x2048 (ix3 e 0 q) = b (ix2 e q) := by
  pointwise
theorem V_gate (c : Dev nD) : V m c main_v2 = shapeCast S32x1x4096 (m ((c : Thread nD τ).loc main_arg4) : FVec Ideal S32x4096 .f32) shapeCasts_S32x4096_S32x1x4096 := by
  entry_read
  rfl
theorem V_up (c : Dev nD) : V m c main_v3 = shapeCast S32x1x4096 (m ((c : Thread nD τ).loc main_arg4) : FVec Ideal S32x4096 .f32) shapeCasts_S32x4096_S32x1x4096 := by
  entry_read
  rfl
theorem V_last (c : Dev nD) : V m c main_v4 = shapeCast S32x1x2048 (m ((c : Thread nD τ).loc main_arg6) : FVec Ideal S32x2048 .f32) shapeCasts_S32x2048_S32x1x2048 := by
  entry_read
  rfl

/-! ## The blocks at coordinates -/

theorem place_0 (hO : Ok m) (t : Fin (cfgM m hO).N) (y : S512x2048.Idx) (a : Fin 2) :
    ((((cfgM m hO).win 0).rect t).emb y a : ℕ) = (![(rows (tbl m) (grid0.coords t)).toNat,0] : Fin 2 → ℕ) a * S512x2048.size a + (y a).val :=
  (Pipeline.Window.rect_emb_val ((cfgM m hO).win 0) t y a rfl).trans
    (congrArg (fun n : ℕ => n * S512x2048.size a + (y a).val) (congrFun (map_0 (tbl m) (grid0.coords t)) a))
theorem rows_blk (hO : Ok m) (c : Dev nD) (t : Fin (cfgM m hO).N) (r : Fin 512) (k : Fin 2048) (i : Fin 163840)
    (hi : i.val = (rows (tbl m) (grid0.coords t)).toNat * 512 + r.val) :
    (show FVec Ideal S512x2048 .bf16 from iblk m hO c 0 t) (ix2 r k) = (m ((c : Thread nD τ).loc main_arg0) : FVec Ideal S163840x2048 .bf16) (ix2 i k) := by
  refine Eq.trans (b := (V m c main_arg0 : FVec Ideal S163840x2048 .bf16) (ix2 i k)) ?_ (congrFun (V_arg m c main_arg0 (by decide) (by decide) (by decide) (by decide) (by decide)) _)
  refine (congrArg (V m c main_arg0 : FVec Ideal S163840x2048 .bf16) (funext fun a => Fin.ext ((place_0 m hO t (ix2 r k) a).trans ?_)))
  match a with
  | ⟨0, _⟩ =>
    show (rows (tbl m) (grid0.coords t)).toNat * 512 + r.val = i.val
    omega
  | ⟨1, _⟩ =>
    show 0 * 2048 + k.val = k.val
    omega

theorem place_1 (hO : Ok m) (t : Fin (cfgM m hO).N) (y : S1x2048x512.Idx) (a : Fin 3) :
    ((((cfgM m hO).win 1).rect t).emb y a : ℕ) = (![(expert (tbl m) (grid0.coords t)).toNat,0,(quarter (tbl m) (grid0.coords t)).toNat] : Fin 3 → ℕ) a * S1x2048x512.size a + (y a).val :=
  (Pipeline.Window.rect_emb_val ((cfgM m hO).win 1) t y a rfl).trans
    (congrArg (fun n : ℕ => n * S1x2048x512.size a + (y a).val) (congrFun (map_1 (tbl m) (grid0.coords t)) a))
theorem gate_blk (hO : Ok m) (c : Dev nD) (t : Fin (cfgM m hO).N) (k : Fin 2048) (l : Fin 512) (e : Fin 32) (q : Fin 4096)
    (he : (expert (tbl m) (grid0.coords t)).toNat = e.val) (hq : q.val = (quarter (tbl m) (grid0.coords t)).toNat * 512 + l.val) :
    (show FVec Ideal S1x2048x512 .bf16 from iblk m hO c 1 t) (ix3 0 k l) = (m ((c : Thread nD τ).loc main_arg3) : FVec Ideal S32x2048x4096 .f32) (ix3 e k q) := by
  refine Eq.trans (b := (V m c main_v0 : FVec Ideal S32x2048x4096 .bf16) (ix3 e k q)) ?_ (congrFun (V_in m c) _)
  refine (congrArg (V m c main_v0 : FVec Ideal S32x2048x4096 .bf16) (funext fun a => Fin.ext ((place_1 m hO t (ix3 0 k l) a).trans ?_)))
  match a with
  | ⟨0, _⟩ =>
    show (expert (tbl m) (grid0.coords t)).toNat * 1 + 0 = e.val
    omega
  | ⟨1, _⟩ =>
    show 0 * 2048 + k.val = k.val
    omega
  | ⟨2, _⟩ =>
    show (quarter (tbl m) (grid0.coords t)).toNat * 512 + l.val = q.val
    omega

theorem place_2 (hO : Ok m) (t : Fin (cfgM m hO).N) (y : S1x2048x512.Idx) (a : Fin 3) :
    ((((cfgM m hO).win 2).rect t).emb y a : ℕ) = (![(expert (tbl m) (grid0.coords t)).toNat,0,(4 + (quarter (tbl m) (grid0.coords t)).toNat)] : Fin 3 → ℕ) a * S1x2048x512.size a + (y a).val :=
  (Pipeline.Window.rect_emb_val ((cfgM m hO).win 2) t y a rfl).trans
    (congrArg (fun n : ℕ => n * S1x2048x512.size a + (y a).val) (congrFun (map_2 (tbl m) (grid0.coords t)) a))
theorem up_blk (hO : Ok m) (c : Dev nD) (t : Fin (cfgM m hO).N) (k : Fin 2048) (l : Fin 512) (e : Fin 32) (q : Fin 4096)
    (he : (expert (tbl m) (grid0.coords t)).toNat = e.val) (hq : q.val = (4 + (quarter (tbl m) (grid0.coords t)).toNat) * 512 + l.val) :
    (show FVec Ideal S1x2048x512 .bf16 from iblk m hO c 2 t) (ix3 0 k l) = (m ((c : Thread nD τ).loc main_arg3) : FVec Ideal S32x2048x4096 .f32) (ix3 e k q) := by
  refine Eq.trans (b := (V m c main_v0 : FVec Ideal S32x2048x4096 .bf16) (ix3 e k q)) ?_ (congrFun (V_in m c) _)
  refine (congrArg (V m c main_v0 : FVec Ideal S32x2048x4096 .bf16) (funext fun a => Fin.ext ((place_2 m hO t (ix3 0 k l) a).trans ?_)))
  match a with
  | ⟨0, _⟩ =>
    show (expert (tbl m) (grid0.coords t)).toNat * 1 + 0 = e.val
    omega
  | ⟨1, _⟩ =>
    show 0 * 2048 + k.val = k.val
    omega
  | ⟨2, _⟩ =>
    show (4 + (quarter (tbl m) (grid0.coords t)).toNat) * 512 + l.val = q.val
    omega

theorem place_3 (hO : Ok m) (t : Fin (cfgM m hO).N) (y : S1x1x512.Idx) (a : Fin 3) :
    ((((cfgM m hO).win 3).rect t).emb y a : ℕ) = (![(expert (tbl m) (grid0.coords t)).toNat,0,(quarter (tbl m) (grid0.coords t)).toNat] : Fin 3 → ℕ) a * S1x1x512.size a + (y a).val :=
  (Pipeline.Window.rect_emb_val ((cfgM m hO).win 3) t y a rfl).trans
    (congrArg (fun n : ℕ => n * S1x1x512.size a + (y a).val) (congrFun (map_3 (tbl m) (grid0.coords t)) a))
theorem gate_bias_blk (hO : Ok m) (c : Dev nD) (t : Fin (cfgM m hO).N) (l : Fin 512) (e : Fin 32) (q : Fin 4096)
    (he : (expert (tbl m) (grid0.coords t)).toNat = e.val) (hq : q.val = (quarter (tbl m) (grid0.coords t)).toNat * 512 + l.val) :
    (show FVec Ideal S1x1x512 .f32 from iblk m hO c 3 t) (ix3 0 0 l) = (m ((c : Thread nD τ).loc main_arg4) : FVec Ideal S32x4096 .f32) (ix2 e q) := by
  refine Eq.trans (b := (V m c main_v2 : FVec Ideal S32x1x4096 .f32) (ix3 e 0 q)) ?_ ((congrFun (V_gate m c) _).trans (row_at _ e q))
  refine (congrArg (V m c main_v2 : FVec Ideal S32x1x4096 .f32) (funext fun a => Fin.ext ((place_3 m hO t (ix3 0 0 l) a).trans ?_)))
  match a with
  | ⟨0, _⟩ =>
    show (expert (tbl m) (grid0.coords t)).toNat * 1 + 0 = e.val
    omega
  | ⟨1, _⟩ =>
    show 0 * 1 + 0 = 0
    omega
  | ⟨2, _⟩ =>
    show (quarter (tbl m) (grid0.coords t)).toNat * 512 + l.val = q.val
    omega

theorem place_4 (hO : Ok m) (t : Fin (cfgM m hO).N) (y : S1x1x512.Idx) (a : Fin 3) :
    ((((cfgM m hO).win 4).rect t).emb y a : ℕ) = (![(expert (tbl m) (grid0.coords t)).toNat,0,(4 + (quarter (tbl m) (grid0.coords t)).toNat)] : Fin 3 → ℕ) a * S1x1x512.size a + (y a).val :=
  (Pipeline.Window.rect_emb_val ((cfgM m hO).win 4) t y a rfl).trans
    (congrArg (fun n : ℕ => n * S1x1x512.size a + (y a).val) (congrFun (map_4 (tbl m) (grid0.coords t)) a))
theorem up_bias_blk (hO : Ok m) (c : Dev nD) (t : Fin (cfgM m hO).N) (l : Fin 512) (e : Fin 32) (q : Fin 4096)
    (he : (expert (tbl m) (grid0.coords t)).toNat = e.val) (hq : q.val = (4 + (quarter (tbl m) (grid0.coords t)).toNat) * 512 + l.val) :
    (show FVec Ideal S1x1x512 .f32 from iblk m hO c 4 t) (ix3 0 0 l) = (m ((c : Thread nD τ).loc main_arg4) : FVec Ideal S32x4096 .f32) (ix2 e q) := by
  refine Eq.trans (b := (V m c main_v3 : FVec Ideal S32x1x4096 .f32) (ix3 e 0 q)) ?_ ((congrFun (V_up m c) _).trans (row_at _ e q))
  refine (congrArg (V m c main_v3 : FVec Ideal S32x1x4096 .f32) (funext fun a => Fin.ext ((place_4 m hO t (ix3 0 0 l) a).trans ?_)))
  match a with
  | ⟨0, _⟩ =>
    show (expert (tbl m) (grid0.coords t)).toNat * 1 + 0 = e.val
    omega
  | ⟨1, _⟩ =>
    show 0 * 1 + 0 = 0
    omega
  | ⟨2, _⟩ =>
    show (4 + (quarter (tbl m) (grid0.coords t)).toNat) * 512 + l.val = q.val
    omega

theorem place_5 (hO : Ok m) (t : Fin (cfgM m hO).N) (y : S1x512x2048.Idx) (a : Fin 3) :
    ((((cfgM m hO).win 5).rect t).emb y a : ℕ) = (![(expert (tbl m) (grid0.coords t)).toNat,(quarter (tbl m) (grid0.coords t)).toNat,0] : Fin 3 → ℕ) a * S1x512x2048.size a + (y a).val :=
  (Pipeline.Window.rect_emb_val ((cfgM m hO).win 5) t y a rfl).trans
    (congrArg (fun n : ℕ => n * S1x512x2048.size a + (y a).val) (congrFun (map_5 (tbl m) (grid0.coords t)) a))
theorem out_blk (hO : Ok m) (c : Dev nD) (t : Fin (cfgM m hO).N) (l : Fin 512) (d : Fin 2048) (e : Fin 32) (q : Fin 2048)
    (he : (expert (tbl m) (grid0.coords t)).toNat = e.val) (hq : q.val = (quarter (tbl m) (grid0.coords t)).toNat * 512 + l.val) :
    (show FVec Ideal S1x512x2048 .bf16 from iblk m hO c 5 t) (ix3 0 l d) = (m ((c : Thread nD τ).loc main_arg5) : FVec Ideal S32x2048x2048 .f32) (ix3 e q d) := by
  refine Eq.trans (b := (V m c main_v1 : FVec Ideal S32x2048x2048 .bf16) (ix3 e q d)) ?_ (congrFun (V_out m c) _)
  refine (congrArg (V m c main_v1 : FVec Ideal S32x2048x2048 .bf16) (funext fun a => Fin.ext ((place_5 m hO t (ix3 0 l d) a).trans ?_)))
  match a with
  | ⟨0, _⟩ =>
    show (expert (tbl m) (grid0.coords t)).toNat * 1 + 0 = e.val
    omega
  | ⟨1, _⟩ =>
    show (quarter (tbl m) (grid0.coords t)).toNat * 512 + l.val = q.val
    omega
  | ⟨2, _⟩ =>
    show 0 * 2048 + d.val = d.val
    omega

theorem place_6 (hO : Ok m) (t : Fin (cfgM m hO).N) (y : S1x1x2048.Idx) (a : Fin 3) :
    ((((cfgM m hO).win 6).rect t).emb y a : ℕ) = (![(expert (tbl m) (grid0.coords t)).toNat,0,0] : Fin 3 → ℕ) a * S1x1x2048.size a + (y a).val :=
  (Pipeline.Window.rect_emb_val ((cfgM m hO).win 6) t y a rfl).trans
    (congrArg (fun n : ℕ => n * S1x1x2048.size a + (y a).val) (congrFun (map_6 (tbl m) (grid0.coords t)) a))
theorem last_blk (hO : Ok m) (c : Dev nD) (t : Fin (cfgM m hO).N) (d : Fin 2048) (e : Fin 32)
    (he : (expert (tbl m) (grid0.coords t)).toNat = e.val) :
    (show FVec Ideal S1x1x2048 .f32 from iblk m hO c 6 t) (ix3 0 0 d) = (m ((c : Thread nD τ).loc main_arg6) : FVec Ideal S32x2048 .f32) (ix2 e d) := by
  refine Eq.trans (b := (V m c main_v4 : FVec Ideal S32x1x2048 .f32) (ix3 e 0 d)) ?_ ((congrFun (V_last m c) _).trans (row_at_out _ e d))
  refine (congrArg (V m c main_v4 : FVec Ideal S32x1x2048 .f32) (funext fun a => Fin.ext ((place_6 m hO t (ix3 0 0 d) a).trans ?_)))
  match a with
  | ⟨0, _⟩ =>
    show (expert (tbl m) (grid0.coords t)).toNat * 1 + 0 = e.val
    omega
  | ⟨1, _⟩ =>
    show 0 * 1 + 0 = 0
    omega
  | ⟨2, _⟩ =>
    show 0 * 2048 + d.val = d.val
    omega

theorem nblk_0 (hO : Ok m) : ((cfgM m hO).win 7).nblk (0 : Fin 2) = 320 := by
  show (163840 + 512 - 1) / 512 = 320
  norm_num
theorem nblk_1 (hO : Ok m) : ((cfgM m hO).win 7).nblk (1 : Fin 2) = 1 := by
  show (2048 + 2048 - 1) / 2048 = 1
  norm_num
/-- The result's window walks the 320 row blocks. -/
theorem cov (hO : Ok m) : ((cfgM m hO).win 7).Covers := by
  refine ((cfgM m hO).win 7).covers_of_indexMap_surj rfl (fun a => ?_) fun β => ?_
  · match a with
    | ⟨0, _⟩ => exact (by decide : 0 < 512)
    | ⟨1, _⟩ => exact (by decide : 0 < 2048)
  · have h0 : (β (0 : Fin 2)).val < 320 := lt_of_lt_of_eq (β (0 : Fin 2)).isLt (nblk_0 m hO)
    have h1 : (β (1 : Fin 2)).val < 1 := lt_of_lt_of_eq (β (1 : Fin 2)).isLt (nblk_1 m hO)
    refine ⟨(fun a => match a with | ⟨0, _⟩ => ⟨(β (0 : Fin 2)).val, h0⟩ | ⟨1, _⟩ => ⟨0, Nat.zero_lt_succ 3⟩ : grid0.Coords), fun a => ?_⟩
    match a with
    | ⟨0, _⟩ =>
      show (BitVec.ofNat 32 (β (0 : Fin 2)).val).toNat = (β (0 : Fin 2)).val
      rw [BitVec.toNat_ofNat]; omega
    | ⟨1, _⟩ =>
      show 0 = (β (1 : Fin 2)).val
      omega

end Cert.ExpertsIdeal.Closed

end
-- ==== Proof.ExpertsValue.lean ====
/-
  The routed experts: the row blocks that the grid's points write back tile the result array, and in each of them the sum
  carried over the four quarters of the hidden units is the reference's sum over all of them.
-/
module

public import proofs.«01_k».proof.Defs
public import proofs.«01_k».proof.Proof.ExpertsBlocks
public import proofs.«01_k».proof.Proof.ExpertsReference

@[expose] public section

set_option maxRecDepth 16384

noncomputable section

namespace Cert.ExpertsIdeal.Closed

open Idealize.ShloMosaic Idealize.ShloMosaic.TcCoe Idealize.SL.Sem
open Cert.ExpertsIdeal Cert.ExpertsIdeal.Gen Cert.ExpertsIdeal.Hand
open Cert.ReferenceIdeal.Read (unit layer layer_at)
open Idealize.ShloMosaic.Pipeline (Dat)

variable (m : (ℓ : Loc nD τ sig) → Buf (Elt Ideal) ℓ)

/-- The call's arguments: the routed rows, the experts' two matrices and their biases. -/
def argX (c : Dev nD) : FVec Ideal S163840x2048 .bf16 := m ((c : Thread nD τ).loc main_arg0)
def argE (c : Dev nD) : IVec S320 32 := m ((c : Thread nD τ).loc main_arg1)
def argN (c : Dev nD) : IVec S1 32 := m ((c : Thread nD τ).loc main_arg2)
def argW (c : Dev nD) : FVec Ideal S32x2048x4096 .f32 := m ((c : Thread nD τ).loc main_arg3)
def argB (c : Dev nD) : FVec Ideal S32x4096 .f32 := m ((c : Thread nD τ).loc main_arg4)
def argW' (c : Dev nD) : FVec Ideal S32x2048x2048 .f32 := m ((c : Thread nD τ).loc main_arg5)
def argB' (c : Dev nD) : FVec Ideal S32x2048 .f32 := m ((c : Thread nD τ).loc main_arg6)

theorem col_eq : ∀ t : Fin grid0.N, (grid0.coords t 1).val = t.val % 4 := by decide +kernel

/-! ## Which blocks have routed rows -/

theorem nvWord_eq : nvWord m = live (tbl m) := by
  unfold live
  refine congrArg (tbl m 1) (funext fun a => Fin.ext ?_)
  match a with
  | ⟨0, _⟩ => rfl

theorem bit_iff : ∀ b : Bool, Scalar.cmpi .ne (Scalar.extui (BitVec.ofBool b) : BitVec 32) 0#32 = 1#1 ↔ b = true := by decide
theorem word_iff (a b : BitVec 32) : Scalar.cmpi .ne (Scalar.extui (Scalar.cmpi .slt a b) : BitVec 32) 0#32 = 1#1 ↔ a.slt b = true := bit_iff (a.slt b)

theorem live_iff (t : Fin grid0.N) : Live m t ↔ (BitVec.ofNat 32 (t.val / 4)).slt (live (tbl m)) = true := by
  unfold Live k0_cond1
  rw [nvWord_eq, row_eq]
  exact word_iff _ _

/-! ## The carried sum -/

theorem acc_run (hO : Ok m) (c : Dev nD) (a : ℕ) (h : 4 * a + 3 < (cfgM m hO).N) (j : S512x2048.Idx) :
    acc m hO c (4 * a + 3) h j
      = part m hO c ⟨4 * a, by omega⟩ j + (show FVec Ideal S1x1x2048 .f32 from iblk m hO c 6 ⟨4 * a, by omega⟩) (ix3 0 0 (j 1))
        + part m hO c ⟨4 * a + 1, by omega⟩ j + part m hO c ⟨4 * a + 2, by omega⟩ j + part m hO c ⟨4 * a + 3, h⟩ j := by
  have e3 := acc_later m hO c ⟨4 * a + 3, h⟩ (by show ¬(4 * a + 3) % 4 = 0; omega) (by show 4 * a + 2 < _; omega)
  have e2 := acc_later m hO c ⟨4 * a + 2, by omega⟩ (by show ¬(4 * a + 2) % 4 = 0; omega) (by show 4 * a + 1 < _; omega)
  have e1 := acc_later m hO c ⟨4 * a + 1, by omega⟩ (by show ¬(4 * a + 1) % 4 = 0; omega) (by show 4 * a < _; omega)
  have e0 := acc_first m hO c ⟨4 * a, by omega⟩ (by show (4 * a) % 4 = 0; omega)
  refine (congrFun e3 j).trans ((later_at _ _ j).trans (congrArg (· + part m hO c ⟨4 * a + 3, h⟩ j) ?_))
  refine (congrFun e2 j).trans ((later_at _ _ j).trans (congrArg (· + part m hO c ⟨4 * a + 2, _⟩ j) ?_))
  refine (congrFun e1 j).trans ((later_at _ _ j).trans (congrArg (· + part m hO c ⟨4 * a + 1, _⟩ j) ?_))
  exact (congrFun e0 j).trans (first_at _ _ j)

/-- The product at the point of quarter `s` of a tile with routed rows. -/
theorem part_live (hO : Ok m) (c : Dev nD) (t : Fin (cfgM m hO).N) (hl : Live m t) (e : Fin 32)
    (he : (expert (tbl m) (grid0.coords t)).toNat = e.val) (s : Fin 4) (hs : t.val % 4 = s.val) (j : S512x2048.Idx)
    (i : S163840x2048.Idx) (h0 : (i 0).val = t.val / 4 * 512 + (j 0).val) (h1 : (i 1 : Fin 2048) = j 1) :
    part m hO c t j = ∑ l : Fin 512,
      unit (∑ k : Fin 2048, argX m c (ix2 (i 0) k)
            * argW m c (ix3 e k ⟨s.val * 512 + l.val, by omega⟩)
          + argB m c (ix2 e ⟨s.val * 512 + l.val, by omega⟩))
        (∑ k : Fin 2048, argX m c (ix2 (i 0) k)
            * argW m c (ix3 e k ⟨2048 + (s.val * 512 + l.val), by omega⟩)
          + argB m c (ix2 e ⟨2048 + (s.val * 512 + l.val), by omega⟩))
        * argW' m c (ix3 e ⟨s.val * 512 + l.val, by omega⟩ (i 1)) := by
  have hl' : (BitVec.ofNat 32 (grid0.coords t 0).val).slt (live (tbl m)) = true := by rw [row_eq]; exact (live_iff m t).mp hl
  have hr : (rows (tbl m) (grid0.coords t)).toNat = t.val / 4 := (rows_live _ _ hl').trans (row_eq t)
  have hq : (quarter (tbl m) (grid0.coords t)).toNat = s.val := (quarter_live _ _ hl').trans ((col_eq t).trans hs)
  refine (part_at _ _ _ _ _ _ j).trans (Finset.sum_congr rfl fun l _ => ?_)
  rw [h1]
  refine congrArg₂ (fun a b : EReal => a * b) (congrArg₂ unit ?_ ?_) (out_blk m hO c t l (j 1) e ⟨s.val * 512 + l.val, by omega⟩ he (by rw [hq]))
  · exact congrArg₂ (fun a b : EReal => a + b) (Finset.sum_congr rfl fun k _ => congrArg₂ (fun a b : EReal => a * b)
      (rows_blk m hO c t (j 0) k (i 0) (by rw [hr]; exact h0)) (gate_blk m hO c t k l e ⟨s.val * 512 + l.val, by omega⟩ he (by rw [hq])))
      (gate_bias_blk m hO c t l e ⟨s.val * 512 + l.val, by omega⟩ he (by rw [hq]))
  · exact congrArg₂ (fun a b : EReal => a + b) (Finset.sum_congr rfl fun k _ => congrArg₂ (fun a b : EReal => a * b)
      (rows_blk m hO c t (j 0) k (i 0) (by rw [hr]; exact h0)) (up_blk m hO c t k l e ⟨2048 + (s.val * 512 + l.val), by omega⟩ he (by rw [hq]; show 2048 + (s.val * 512 + l.val) = (4 + s.val) * 512 + l.val; omega)))
      (up_bias_blk m hO c t l e ⟨2048 + (s.val * 512 + l.val), by omega⟩ he (by rw [hq]; show 2048 + (s.val * 512 + l.val) = (4 + s.val) * 512 + l.val; omega))

theorem quarters (f : Fin 2048 → EReal) (b : EReal) (p : Fin 4 → EReal) (hp : ∀ s, p s = ∑ l : Fin 512, f ⟨s.val * 512 + l.val, by omega⟩) :
    p 0 + b + p 1 + p 2 + p 3 = ∑ k : Fin 2048, f k + b := by
  have h : ∑ s : Fin 4, ∑ l : Fin 512, f ⟨s.val * 512 + l.val, by omega⟩ = ∑ k : Fin 2048, f k :=
    Fin.sum_mul_add_congr fun s l hl => rfl
  rw [← h, Fin.sum_univ_four, ← hp, ← hp, ← hp, ← hp]
  abel

/-! ## The result array -/

theorem select_lt (a b : BitVec 32) (x y : EReal) :
    Scalar.select (IntOp.cmpi CmpIPredicate.slt a b) x y = if a.slt b = true then x else y := by
  show (if BitVec.ofBool (a.slt b) = 1#1 then x else y) = _
  cases a.slt b <;> rfl

/-- The block a tile's last point leaves is the reference's at the tile's rows. -/
theorem block (hO : Ok m) (hE : ∀ i, (expert (tbl m) i).toNat < 32) (c : Dev nD) (a : ℕ) (h : 4 * a + 3 < (cfgM m hO).N) (j : S512x2048.Idx)
    (i : S163840x2048.Idx) (h0 : (i 0).val = a * 512 + (j 0).val) (h1 : (i 1 : Fin 2048) = j 1) :
    res m hO c ⟨4 * a + 3, h⟩ j = layer (argX m c) (argE m c) (argN m c) (argW m c) (argB m c) (argW' m c) (argB' m c) i := by
  have hN : (cfgM m hO).N = 1280 := rfl
  have hj : (j 0).val < 512 := (j 0).isLt
  have ha : a < 320 := by omega
  have hx : ∀ (t : Fin (cfgM m hO).N) (ht : t.val / 4 = a), expert (tbl m) (grid0.coords t) = argE m c (ix1 (⟨a, ha⟩ : Fin 320)) := fun t ht =>
    (expert_eq m c (grid0.coords t)).trans (congrArg (fun q : Fin 320 => argE m c (ix1 q)) (Fin.ext ((row_eq t).trans ht)))
  have hb : (argE m c (ix1 (⟨a, ha⟩ : Fin 320))).toNat < 32 := by
    rw [← hx ⟨4 * a + 3, h⟩ (by show (4 * a + 3) / 4 = a; omega)]; exact hE _
  have hX : ∀ (t : Fin (cfgM m hO).N) (ht : t.val / 4 = a), (expert (tbl m) (grid0.coords t)).toNat = (⟨_, hb⟩ : Fin 32).val := fun t ht => by rw [hx t ht]
  rw [layer_at _ _ _ _ _ _ _ i ⟨a, ha⟩ (by show a = (i 0).val / 512; omega) ⟨_, hb⟩ rfl, select_lt]
  have hL : ∀ (t : Fin (cfgM m hO).N) (ht : t.val / 4 = a), Live m t ↔ (BitVec.ofNat 32 a).slt (argN m c (ix1 0)) = true := fun t ht => by
    rw [live_iff, ht, live_eq m c]; rfl
  unfold res
  by_cases hl : (BitVec.ofNat 32 a).slt (argN m c (ix1 0)) = true
  · rw [if_pos hl, if_pos ((hL _ (by show (4 * a + 3) / 4 = a; omega)).mpr hl), left_at, acc_run, last_blk m hO c ⟨4 * a, by omega⟩ (j 1) ⟨_, hb⟩ (hX _ (by show 4 * a / 4 = a; omega)), h1]
    have hp : ∀ (s : Fin 4) (t : Fin (cfgM m hO).N) (ht : t.val = 4 * a + s.val), _ := fun s t ht =>
      part_live m hO c t ((hL t (by omega)).mpr hl) ⟨_, hb⟩ (hX t (by omega)) s (by omega) j i (by rw [h0, show t.val / 4 = a by omega]) h1
    refine quarters _ _ (fun s => part m hO c ⟨4 * a + s.val, by omega⟩ j) fun s => (hp s ⟨4 * a + s.val, by omega⟩ rfl).trans ?_
    rw [h1]
  · rw [if_neg hl, if_neg (mt (hL _ (by show (4 * a + 3) / 4 = a; omega)).mp hl)]
    exact zero_at j

theorem place_7 (hO : Ok m) (t : Fin (cfgM m hO).N) (y : S512x2048.Idx) (a : Fin 2) :
    ((((cfgM m hO).win 7).rect t).emb y a : ℕ) = (![(BitVec.ofNat 32 (grid0.coords t 0).val).toNat, 0] : Fin 2 → ℕ) a * S512x2048.size a + (y a).val :=
  Pipeline.Window.rect_emb_val ((cfgM m hO).win 7) t y a rfl

theorem final (hO : Ok m) (hE : ∀ i, (expert (tbl m) i).toNat < 32) (c : Dev nD) : (dats m hO 0 c).arrAt 7 (cfgM m hO).N
    = layer (argX m c) (argE m c) (argN m c) (argW m c) (argB m c) (argW' m c) (argB' m c) := by
  refine (dats m hO 0 c).arrAt_eq_of_covers 7 _ (cov m hO) fun t hf y => ?_
  have h3 : t.val % 4 = 3 := (flush_iff (adm m hO) t).mp hf
  have hN : t.val < 1280 := t.isLt
  obtain ⟨n, hn⟩ := t
  have h3' : n % 4 = 3 := h3
  obtain ⟨a, rfl⟩ : ∃ a, n = 4 * a + 3 := ⟨n / 4, by omega⟩
  have hN' : 4 * a + 3 < 1280 := hN
  refine (congrFun (after_7 m hO c _) y).trans (block m hO hE c a hn y _ ?_ (Fin.ext ?_))
  · refine (place_7 m hO ⟨4 * a + 3, hn⟩ y 0).trans ?_
    show (BitVec.ofNat 32 (grid0.coords ⟨4 * a + 3, hn⟩ 0).val).toNat * 512 + (y (0 : Fin 2)).val = a * 512 + (y (0 : Fin 2)).val
    refine congrArg (fun n : ℕ => n * 512 + (y (0 : Fin 2)).val) ?_
    rw [row_eq, BitVec.toNat_ofNat]
    show (4 * a + 3) / 4 % 4294967296 = a
    omega
  · refine (place_7 m hO ⟨4 * a + 3, hn⟩ y 1).trans ?_
    show 0 * 2048 + (y (1 : Fin 2)).val = (y (1 : Fin 2)).val
    omega

end Cert.ExpertsIdeal.Closed

namespace Cert.ExpertsClaims

open Idealize.ShloMosaic Idealize.ShloMosaic.TcCoe Idealize.SL.Sem

theorem algebraic : Cert.algebraic_ExpertsIdeal_ReferenceIdeal := by
  intro m g m' g' hp hargs
  have hO := Cert.ExpertsIdeal.Hand.ok m 0 (hp 0)
  have hE := Cert.ExpertsIdeal.Hand.expert_lt m 0 (hp 0)
  refine ⟨fun c => Cert.ReferenceIdeal.Read.layer (Cert.ExpertsIdeal.Closed.argX m c) (Cert.ExpertsIdeal.Closed.argE m c) (Cert.ExpertsIdeal.Closed.argN m c)
    (Cert.ExpertsIdeal.Closed.argW m c) (Cert.ExpertsIdeal.Closed.argB m c) (Cert.ExpertsIdeal.Closed.argW' m c) (Cert.ExpertsIdeal.Closed.argB' m c), ?_, ?_⟩
  · exact (θ_run Cert.ExpertsIdeal.defs _ _).mono (fun r h c => ⟨((h.1 c).1 7).trans (Cert.ExpertsIdeal.Closed.final m hO hE c),
      ((h.1 c).1 0).trans (((Cert.ExpertsIdeal.Hand.dats m hO 0 c).arrAt_in 0 rfl _).trans ((Cert.ExpertsIdeal.Hand.A_eq m hO c 0).trans
        (Cert.ExpertsIdeal.Hand.V_arg m c Cert.ExpertsIdeal.main_arg0 (by decide) (by decide) (by decide) (by decide) (by decide)))),
      ((h.1 c).2 Cert.ExpertsIdeal.main_arg1 (by decide : Cert.ExpertsIdeal.main_arg1 ∈ Pipeline.restRefs Cert.ExpertsIdeal.sig Cert.ExpertsIdeal.spec0)).trans (Cert.ExpertsIdeal.Hand.V_arg m c Cert.ExpertsIdeal.main_arg1 (by decide) (by decide) (by decide) (by decide) (by decide)),
      ((h.1 c).2 Cert.ExpertsIdeal.main_arg2 (by decide : Cert.ExpertsIdeal.main_arg2 ∈ Pipeline.restRefs Cert.ExpertsIdeal.sig Cert.ExpertsIdeal.spec0)).trans (Cert.ExpertsIdeal.Hand.V_arg m c Cert.ExpertsIdeal.main_arg2 (by decide) (by decide) (by decide) (by decide) (by decide)),
      ((h.1 c).2 Cert.ExpertsIdeal.main_arg3 (by decide : Cert.ExpertsIdeal.main_arg3 ∈ Pipeline.restRefs Cert.ExpertsIdeal.sig Cert.ExpertsIdeal.spec0)).trans (Cert.ExpertsIdeal.Hand.V_arg m c Cert.ExpertsIdeal.main_arg3 (by decide) (by decide) (by decide) (by decide) (by decide)),
      ((h.1 c).2 Cert.ExpertsIdeal.main_arg4 (by decide : Cert.ExpertsIdeal.main_arg4 ∈ Pipeline.restRefs Cert.ExpertsIdeal.sig Cert.ExpertsIdeal.spec0)).trans (Cert.ExpertsIdeal.Hand.V_arg m c Cert.ExpertsIdeal.main_arg4 (by decide) (by decide) (by decide) (by decide) (by decide)),
      ((h.1 c).2 Cert.ExpertsIdeal.main_arg5 (by decide : Cert.ExpertsIdeal.main_arg5 ∈ Pipeline.restRefs Cert.ExpertsIdeal.sig Cert.ExpertsIdeal.spec0)).trans (Cert.ExpertsIdeal.Hand.V_arg m c Cert.ExpertsIdeal.main_arg5 (by decide) (by decide) (by decide) (by decide) (by decide)),
      ((h.1 c).2 Cert.ExpertsIdeal.main_arg6 (by decide : Cert.ExpertsIdeal.main_arg6 ∈ Pipeline.restRefs Cert.ExpertsIdeal.sig Cert.ExpertsIdeal.spec0)).trans (Cert.ExpertsIdeal.Hand.V_arg m c Cert.ExpertsIdeal.main_arg6 (by decide) (by decide) (by decide) (by decide) (by decide))⟩) (Cert.ExpertsIdeal.Hand.run_counters m g hO)
  · refine (θ_run Cert.ReferenceIdeal.defs _ _).mono (fun r h c => ⟨(h c).1.trans ((Cert.ReferenceIdeal.Read.res_eq m' c).trans ?_), (h c).2⟩)
      (Cert.ReferenceIdeal.Value.run m' g')
    obtain ⟨h0, h1, h2, h3, h4, h5, h6⟩ := hargs c
    rw [h0, h1, h2, h3, h4, h5, h6]
    rfl

end Cert.ExpertsClaims

end
-- ==== Proof.HyenaInIdealOk.lean ====
/-
  The Hyena branch's input projection: the table of the rows' groups is a constant, its entries are below 16, so every block
  that it names lies inside its array.
-/
module

public import proofs.«01_k».proof.Defs
public import proofs.«01_k».proof.Proof.Gen.HyenaInIdeal.Frame
public import Idealize.ShloMosaic.Lib.Pointwise.Index
public import Idealize.ShloMosaic.Lib.StableHlo.Run
public import Idealize.ShloMosaic.Lib.Tactic
public import Idealize.ShloMosaic.Lib.Claim

@[expose] public section

set_option maxRecDepth 16384

noncomputable section

namespace Cert.HyenaInIdeal.Hand

open Idealize.ShloMosaic Idealize.ShloMosaic.TcCoe Idealize.SL.Sem
open Cert.HyenaInIdeal Cert.HyenaInIdeal.Gen

variable {F : FTy → Type} [FloatOps F]

/-- The group of the rows of a grid point. -/
def group (pf : pre0.Contents (Elt F)) (i : grid0.Coords) : BitVec 32 := pf 0 (ix1 (⟨(i 0).val, (i 0).isLt⟩ : Fin 144))

theorem at_group (pf : pre0.Contents (Elt F)) (i : grid0.Coords) (h) (h1) :
    pf.at 0 (Rect.unit (s := S144) ![(Scalar.indexCast (BitVec.ofNat 32 (i 0).val)).toNat] S1.size h) h1 = group pf i := by
  unfold group
  refine congrArg (pf 0) (funext fun a => Fin.ext ?_)
  match a with
  | ⟨0, _⟩ =>
    have hi : (i 0).val < 144 := (i 0).isLt
    have e : (Scalar.indexCast (BitVec.ofNat 32 (i 0).val)).toNat = (i 0).val := by
      show (BitVec.ofNat 32 (i 0).val).toNat = _
      rw [BitVec.toNat_ofNat]; omega
    show (Scalar.indexCast (BitVec.ofNat 32 (i 0).val)).toNat + 1 * 0 = (i 0).val
    omega

theorem map_2 (pf : pre0.Contents (Elt F)) (i : grid0.Coords) : cc0_transform_2 k0_off1_inb numel1_S1 pf i = ![(group pf i).toNat, 0, 0, 0] :=
  congrArg (fun a : BitVec 32 => ![a.toNat, 0, 0, 0]) (at_group pf i (k0_off1_inb i) numel1_S1)
theorem map_3 (pf : pre0.Contents (Elt F)) (i : grid0.Coords) : cc0_transform_3 k0_off1_inb numel1_S1 pf i = ![(group pf i).toNat, 1, 0, 0] :=
  congrArg (fun a : BitVec 32 => ![a.toNat, 1, 0, 0]) (at_group pf i (k0_off1_inb i) numel1_S1)

theorem ok_of (pf : pre0.Contents (Elt F)) (h : ∀ i : grid0.Coords, (group pf i).toNat < 16) : ok0 pf := by
  refine ⟨fun i => ⟨fun a => ?_, .inl rfl⟩, fun i => ⟨fun a => ?_, .inl rfl⟩⟩
  · rw [map_2]
    have h0 := h i
    match a with
    | ⟨0, _⟩ => show ((group pf i).toNat + 1) * 1 ≤ 16; omega
    | ⟨1, _⟩ => show (0 + 1) * 1 ≤ 6; omega
    | ⟨2, _⟩ => show (0 + 1) * 1 ≤ 1; omega
    | ⟨3, _⟩ => show (0 + 1) * 2048 ≤ 2048; omega
  · rw [map_3]
    have h0 := h i
    match a with
    | ⟨0, _⟩ => show ((group pf i).toNat + 1) * 1 ≤ 16; omega
    | ⟨1, _⟩ => show (1 + 1) * 1 ≤ 6; omega
    | ⟨2, _⟩ => show (0 + 1) * 1 ≤ 1; omega
    | ⟨3, _⟩ => show (0 + 1) * 2048 ≤ 2048; omega

theorem word_eq : ∀ k : Fin 144, (lit0 k).toNat = k.val / 16 := by decide +kernel

theorem table_eq (m : (ℓ : Loc nD τ sig) → Buf (Elt F) ℓ) : tbl m 0 = (fun i => lit0 (S144.rowMajor i) : IVec S144 32) := by
  show V m (0 : Dev nD) main_c = _
  entry_read
  rfl

theorem row_ix1 (k : Fin 144) : (S144.rowMajor (ix1 k)).val = k.val := by
  show k.val * 1 + 0 = k.val
  omega

theorem group_eq (m : (ℓ : Loc nD τ sig) → Buf (Elt F) ℓ) (i : grid0.Coords) : (group (tbl m) i).toNat = (i 0).val / 16 := by
  have e : group (tbl m) i = lit0 (S144.rowMajor (ix1 (⟨(i 0).val, (i 0).isLt⟩ : Fin 144))) := congrFun (table_eq m) _
  exact (congrArg BitVec.toNat e).trans ((word_eq _).trans (congrArg (fun n : ℕ => n / 16) (row_ix1 _)))

theorem ok (m : (ℓ : Loc nD τ sig) → Buf (Elt F) ℓ) : Ok m := ok_of _ fun i => by
  have hi : (i 0).val < 144 := (i 0).isLt
  rw [group_eq]; omega

end Cert.HyenaInIdeal.Hand

namespace Cert.HyenaInIdeal.Claims

open Idealize.ShloMosaic Idealize.ShloMosaic.TcCoe Idealize.SL.Sem

theorem quiescent : Cert.quiescent_HyenaInIdeal :=
  fun m g _ => Cert.HyenaInIdeal.Gen.frame m g (Cert.HyenaInIdeal.Hand.ok m)

end Cert.HyenaInIdeal.Claims

end
-- ==== Proof.HyenaInReference.lean ====
/-
  The Hyena branch's input projection: the reference read at an index — the row normalised, scaled and shifted for its group,
  times a column of the matrix.
-/
module

public import proofs.«01_k».proof.Defs
public import proofs.«01_k».proof.Proof.Gen.HyenaInReferenceIdeal.Run
public import Idealize.ShloMosaic.Lib.Pointwise
public import Idealize.ShloMosaic.Lib.Pipeline.ValueKit
public import Idealize.ShloMosaic.Lib.Tactic

@[expose] public section

set_option maxRecDepth 16384

noncomputable section

namespace Cert.HyenaInReferenceIdeal.Read

open Idealize.ShloMosaic Idealize.ShloMosaic.TcCoe Idealize.SL.Sem
open Cert.HyenaInReferenceIdeal Cert.HyenaInReferenceIdeal.Gen

/-- The rows before the product. -/
def hidden (x : FVec Ideal S36864x2048 .f32) (g : FVec Ideal S2048 .f32) (md : FVec Ideal S16x6x1x2048 .f32) : FVec Ideal S36864x2048 .f32 :=
  shapeCast _ (addf (mulf (mulf (mulf (shapeCast _ x shapeCasts_S36864x2048_S9x4096x2048) (broadcastInDim S9x4096x2048 ![0, 1, 2] bcast_S9x4096x1_S9x4096x2048_0_1_2 (Host.rsqrt (addf (Host.divf (broadcastInDim S9x4096x1 ![0, 1] bcast_S9x4096_S9x4096x1_0_1 (Host.reduceAdd (mulf (shapeCast _ x shapeCasts_S36864x2048_S9x4096x2048) (shapeCast _ x shapeCasts_S36864x2048_S9x4096x2048)) (constant S_ .f32 0x00000000#32) reducesTo_S9x4096x2048_S9x4096_d2 h_S_)) (broadcastInDim S9x4096x1 ![] bcast_S_S9x4096x1 (constant S_ .f32 0x45000000#32))) (broadcastInDim S9x4096x1 ![] bcast_S_S9x4096x1 (constant S_ .f32 0x358637BD#32)))))) (broadcastInDim S9x4096x2048 ![0, 1, 2] bcast_S1x1x2048_S9x4096x2048_0_1_2 (broadcastInDim S1x1x2048 ![2] bcast_S2048_S1x1x2048_2 g))) (broadcastInDim S9x4096x2048 ![0, 1, 2] bcast_S9x1x2048_S9x4096x2048_0_1_2 (addf (broadcastInDim S9x1x2048 ![] bcast_S_S9x1x2048 (constant S_ .f32 0x3F800000#32)) (shapeCast _ (extractStridedSlice S9x1x1x2048 ![0, 1, 0, 0] md slices_S16x6x1x2048_S9x1x1x2048_0_1_0_0) shapeCasts_S9x1x1x2048_S9x1x2048)))) (broadcastInDim S9x4096x2048 ![0, 1, 2] bcast_S9x1x2048_S9x4096x2048_0_1_2 (shapeCast _ (extractStridedSlice S9x1x1x2048 ![0, 0, 0, 0] md slices_S16x6x1x2048_S9x1x1x2048_0_0_0_0) shapeCasts_S9x1x1x2048_S9x1x2048))) shapeCasts_S9x4096x2048_S36864x2048

/-- The projection over the arguments. -/
def proj (x : FVec Ideal S36864x2048 .f32) (g : FVec Ideal S2048 .f32) (md : FVec Ideal S16x6x1x2048 .f32) (w : FVec Ideal S2048x6144 .f32) : FVec Ideal S36864x6144 .bf16 :=
  truncf .bf16 (Host.dotGeneral dot_S36864x2048_S2048x6144_S36864x6144_1_0_0_1_n_n none (hidden x g md) w) bitsLt_bf16_f32

theorem proj_at (x : FVec Ideal S36864x2048 .f32) (g : FVec Ideal S2048 .f32) (md : FVec Ideal S16x6x1x2048 .f32) (w : FVec Ideal S2048x6144 .f32) (i : S36864x6144.Idx) :
    proj x g md w i = ∑ k : Fin 2048, hidden x g md (ix2 (i 0) k) * w (ix2 k (i 1)) := by
  pointwise [proj]

/-- An entry of a row normalised by its mean square, then scaled and shifted. -/
def entry (row : Fin 2048 → EReal) (k : Fin 2048) (g scale shift : EReal) : EReal :=
  row k * Ideal.rsqrt (Ideal.div (∑ q : Fin 2048, row q * row q) (Ideal.ofBits FTy.f32 1157627904#32) + Ideal.ofBits FTy.f32 897988541#32) * g * (1 + scale) + shift

theorem hidden_at (x : FVec Ideal S36864x2048 .f32) (g : FVec Ideal S2048 .f32) (md : FVec Ideal S16x6x1x2048 .f32) (r : Fin 36864) (k : Fin 2048) (p : Fin 16) (hp : p.val = r.val / 4096) :
    hidden x g md (ix2 r k) = entry (fun q => x (ix2 r q)) k (g (ix1 k)) (md (ix4 p 1 0 k)) (md (ix4 p 0 0 k)) := by
  have e : (⟨r.val / 4096, by omega⟩ : Fin 16) = p := Fin.ext hp.symm
  rw [← e]
  pointwise [hidden, entry]

end Cert.HyenaInReferenceIdeal.Read

end
-- ==== Proof.HyenaInValue.lean ====
/-
  The Hyena branch's input projection: the scratch holds a block's normalised rows through its six column blocks, every point
  writes their product with its columns, and the 864 blocks tile the result array.
-/
module

public import proofs.«01_k».proof.Defs
public import proofs.«01_k».proof.Proof.HyenaInIdealOk
public import proofs.«01_k».proof.Proof.HyenaInReference
public import Idealize.ShloMosaic.Lib.Pipeline.ValueKit
public import Idealize.ShloMosaic.Lib.Pipeline.ValueKit.Held
public import Idealize.ShloMosaic.Lib.Pipeline.Covers
public import Idealize.ShloMosaic.Lib.Pipeline.ReadBack
public import Idealize.ShloMosaic.Lib.StableHlo.Run
public import Idealize.ShloMosaic.Lib.Tactic
public import Idealize.ShloMosaic.Lib.Claim

@[expose] public section

set_option maxRecDepth 16384

noncomputable section

namespace Cert.HyenaInIdeal.Closed

open Idealize.ShloMosaic Idealize.ShloMosaic.TcCoe Idealize.SL.Sem
open Cert.HyenaInIdeal Cert.HyenaInIdeal.Gen Cert.HyenaInIdeal.Hand
open Cert.HyenaInReferenceIdeal.Read (entry hidden hidden_at proj proj_at)
open Idealize.ShloMosaic.Pipeline (Dat)

variable (m : (ℓ : Loc nD τ sig) → Buf (Elt Ideal) ℓ)

/-- The call's arguments: the rows, the norm's gains, the groups' modulation and the matrix. -/
def argX (c : Dev nD) : FVec Ideal S36864x2048 .f32 := m ((c : Thread nD τ).loc main_arg0)
def argG (c : Dev nD) : FVec Ideal S2048 .f32 := m ((c : Thread nD τ).loc main_arg1)
def argM (c : Dev nD) : FVec Ideal S16x6x1x2048 .f32 := m ((c : Thread nD τ).loc main_arg2)
def argW (c : Dev nD) : FVec Ideal S2048x6144 .f32 := m ((c : Thread nD τ).loc main_arg3)

theorem norm_at (x : FVec Ideal S256x2048 .f32) (g : FVec Ideal S1x2048 .f32) (sh sc : FVec Ideal S1x1x1x2048 .f32) (r : Fin 256) (k : Fin 2048) :
    k0_pay1 (F := Ideal) x g sh sc (ix2 r k) = entry (fun q => x (ix2 r q)) k (g (ix2 0 k)) (sc (ix4 0 0 0 k)) (sh (ix4 0 0 0 k)) := by
  pointwise [k0_pay1, entry]

theorem prod_at (a : FVec Ideal S256x2048 .bf16) (w : FVec Ideal S2048x1024 .bf16) (j : S256x1024.Idx) :
    k0_pay2 (F := Ideal) a w j = ∑ k : Fin 2048, a (ix2 (j 0) k) * w (ix2 k (j 1)) := by
  pointwise [k0_pay2]

/-! ## What the arrays hold when the region starts -/

theorem V_w (c : Dev nD) : V m c main_v0 = argW m c := by
  unfold argW
  entry_read
  rfl
theorem row_at (b : FVec Ideal S2048 .f32) (k : Fin 2048) : shapeCast S1x2048 b shapeCasts_S2048_S1x2048 (ix2 0 k) = b (ix1 k) := by
  pointwise
theorem V_gain (c : Dev nD) : V m c main_v1 = shapeCast S1x2048 (argG m c) shapeCasts_S2048_S1x2048 := by
  unfold argG
  entry_read
  rfl

/-! ## The blocks at coordinates -/

theorem place_0 (hO : Ok m) (t : Fin (cfgM m hO).N) (y : S256x2048.Idx) (a : Fin 2) :
    ((((cfgM m hO).win 0).rect t).emb y a : ℕ) = (![(BitVec.ofNat 32 (grid0.coords t 0).val).toNat, 0] : Fin 2 → ℕ) a * S256x2048.size a + (y a).val :=
  Pipeline.Window.rect_emb_val ((cfgM m hO).win 0) t y a rfl
theorem rows_blk (hO : Ok m) (c : Dev nD) (t : Fin (cfgM m hO).N) (r : Fin 256) (k : Fin 2048) (i : Fin 36864)
    (hi : i.val = (BitVec.ofNat 32 (grid0.coords t 0).val).toNat * 256 + r.val) :
    (show FVec Ideal S256x2048 .f32 from iblk m hO c 0 t) (ix2 r k) = argX m c (ix2 i k) := by
  refine Eq.trans (b := (V m c main_arg0 : FVec Ideal S36864x2048 .f32) (ix2 i k)) ?_ (congrFun (V_main_arg0 m c) _)
  refine congrArg (V m c main_arg0 : FVec Ideal S36864x2048 .f32) (funext fun a => Fin.ext ((place_0 m hO t (ix2 r k) a).trans ?_))
  match a with
  | ⟨0, _⟩ =>
    show (BitVec.ofNat 32 (grid0.coords t 0).val).toNat * 256 + r.val = i.val
    omega
  | ⟨1, _⟩ =>
    show 0 * 2048 + k.val = k.val
    omega

theorem place_1 (hO : Ok m) (t : Fin (cfgM m hO).N) (y : S1x2048.Idx) (a : Fin 2) :
    ((((cfgM m hO).win 1).rect t).emb y a : ℕ) = (![0, 0] : Fin 2 → ℕ) a * S1x2048.size a + (y a).val :=
  Pipeline.Window.rect_emb_val ((cfgM m hO).win 1) t y a rfl
theorem gain_blk (hO : Ok m) (c : Dev nD) (t : Fin (cfgM m hO).N) (k : Fin 2048) :
    (show FVec Ideal S1x2048 .f32 from iblk m hO c 1 t) (ix2 0 k) = argG m c (ix1 k) := by
  refine Eq.trans (b := (V m c main_v1 : FVec Ideal S1x2048 .f32) (ix2 0 k)) ?_ ((congrFun (V_gain m c) _).trans (row_at _ k))
  refine congrArg (V m c main_v1 : FVec Ideal S1x2048 .f32) (funext fun a => Fin.ext ((place_1 m hO t (ix2 0 k) a).trans ?_))
  match a with
  | ⟨0, _⟩ =>
    show 0 * 1 + 0 = 0
    omega
  | ⟨1, _⟩ =>
    show 0 * 2048 + k.val = k.val
    omega

theorem place_2 (hO : Ok m) (t : Fin (cfgM m hO).N) (y : S1x1x1x2048.Idx) (a : Fin 4) :
    ((((cfgM m hO).win 2).rect t).emb y a : ℕ) = (![(group (tbl m) (grid0.coords t)).toNat, 0, 0, 0] : Fin 4 → ℕ) a * S1x1x1x2048.size a + (y a).val :=
  (Pipeline.Window.rect_emb_val ((cfgM m hO).win 2) t y a rfl).trans
    (congrArg (fun n : ℕ => n * S1x1x1x2048.size a + (y a).val) (congrFun (map_2 (tbl m) (grid0.coords t)) a))
theorem shift_blk (hO : Ok m) (c : Dev nD) (t : Fin (cfgM m hO).N) (k : Fin 2048) (p : Fin 16)
    (hp : (group (tbl m) (grid0.coords t)).toNat = p.val) :
    (show FVec Ideal S1x1x1x2048 .f32 from iblk m hO c 2 t) (ix4 0 0 0 k) = argM m c (ix4 p 0 0 k) := by
  refine Eq.trans (b := (V m c main_arg2 : FVec Ideal S16x6x1x2048 .f32) (ix4 p 0 0 k)) ?_ (congrFun (V_main_arg2 m c) _)
  refine congrArg (V m c main_arg2 : FVec Ideal S16x6x1x2048 .f32) (funext fun a => Fin.ext ((place_2 m hO t (ix4 0 0 0 k) a).trans ?_))
  match a with
  | ⟨0, _⟩ =>
    show (group (tbl m) (grid0.coords t)).toNat * 1 + 0 = p.val
    omega
  | ⟨1, _⟩ =>
    show 0 * 1 + 0 = 0
    omega
  | ⟨2, _⟩ =>
    show 0 * 1 + 0 = 0
    omega
  | ⟨3, _⟩ =>
    show 0 * 2048 + k.val = k.val
    omega

theorem place_3 (hO : Ok m) (t : Fin (cfgM m hO).N) (y : S1x1x1x2048.Idx) (a : Fin 4) :
    ((((cfgM m hO).win 3).rect t).emb y a : ℕ) = (![(group (tbl m) (grid0.coords t)).toNat, 1, 0, 0] : Fin 4 → ℕ) a * S1x1x1x2048.size a + (y a).val :=
  (Pipeline.Window.rect_emb_val ((cfgM m hO).win 3) t y a rfl).trans
    (congrArg (fun n : ℕ => n * S1x1x1x2048.size a + (y a).val) (congrFun (map_3 (tbl m) (grid0.coords t)) a))
theorem scale_blk (hO : Ok m) (c : Dev nD) (t : Fin (cfgM m hO).N) (k : Fin 2048) (p : Fin 16)
    (hp : (group (tbl m) (grid0.coords t)).toNat = p.val) :
    (show FVec Ideal S1x1x1x2048 .f32 from iblk m hO c 3 t) (ix4 0 0 0 k) = argM m c (ix4 p 1 0 k) := by
  refine Eq.trans (b := (V m c main_arg2 : FVec Ideal S16x6x1x2048 .f32) (ix4 p 1 0 k)) ?_ (congrFun (V_main_arg2 m c) _)
  refine congrArg (V m c main_arg2 : FVec Ideal S16x6x1x2048 .f32) (funext fun a => Fin.ext ((place_3 m hO t (ix4 0 0 0 k) a).trans ?_))
  match a with
  | ⟨0, _⟩ =>
    show (group (tbl m) (grid0.coords t)).toNat * 1 + 0 = p.val
    omega
  | ⟨1, _⟩ =>
    show 1 * 1 + 0 = 1
    omega
  | ⟨2, _⟩ =>
    show 0 * 1 + 0 = 0
    omega
  | ⟨3, _⟩ =>
    show 0 * 2048 + k.val = k.val
    omega

theorem place_4 (hO : Ok m) (t : Fin (cfgM m hO).N) (y : S2048x1024.Idx) (a : Fin 2) :
    ((((cfgM m hO).win 4).rect t).emb y a : ℕ) = (![0, (BitVec.ofNat 32 (grid0.coords t 1).val).toNat] : Fin 2 → ℕ) a * S2048x1024.size a + (y a).val :=
  Pipeline.Window.rect_emb_val ((cfgM m hO).win 4) t y a rfl
theorem cols_blk (hO : Ok m) (c : Dev nD) (t : Fin (cfgM m hO).N) (k : Fin 2048) (j : Fin 1024) (q : Fin 6144)
    (hq : q.val = (BitVec.ofNat 32 (grid0.coords t 1).val).toNat * 1024 + j.val) :
    (show FVec Ideal S2048x1024 .bf16 from iblk m hO c 4 t) (ix2 k j) = argW m c (ix2 k q) := by
  refine Eq.trans (b := (V m c main_v0 : FVec Ideal S2048x6144 .bf16) (ix2 k q)) ?_ (congrFun (V_w m c) _)
  refine congrArg (V m c main_v0 : FVec Ideal S2048x6144 .bf16) (funext fun a => Fin.ext ((place_4 m hO t (ix2 k j) a).trans ?_))
  match a with
  | ⟨0, _⟩ =>
    show 0 * 2048 + k.val = k.val
    omega
  | ⟨1, _⟩ =>
    show (BitVec.ofNat 32 (grid0.coords t 1).val).toNat * 1024 + j.val = q.val
    omega

/-! ## What a point leaves -/

theorem scr_first (hO : Ok m) (c : Dev nD) (t : Fin (cfgM m hO).N) (h : t.val % 6 = 0) :
    (outsAt0 m hO c t.val t.isLt).2 = k0_pay1 (F := Ideal) (iblk m hO c 0 t) (iblk m hO c 1 t) (iblk m hO c 2 t) (iblk m hO c 3 t) := by
  rw [outsAt0_A m hO c t h]
  frame_out
  exact congr (congr (congr (congrArg _ (Memref.IsWhole.read_unread _ _)) (Memref.IsWhole.read_unread _ _)) (Memref.IsWhole.read_unread _ _)) (Memref.IsWhole.read_unread _ _)

theorem scr_later (hO : Ok m) (c : Dev nD) (t : Fin (cfgM m hO).N) (h : ¬t.val % 6 = 0) :
    (outsAt0 m hO c t.val t.isLt).2 = (outsAt0 m hO c (t.val - 1) (Nat.lt_of_le_of_lt (Nat.sub_le _ _) t.isLt)).2 := by
  rw [outsAt0_B m hO c t h]
  rfl

theorem out_eq (hO : Ok m) (c : Dev nD) (t : Fin (cfgM m hO).N) :
    (outsAt0 m hO c t.val t.isLt).1 = k0_pay2 (F := Ideal) (outsAt0 m hO c t.val t.isLt).2 (iblk m hO c 4 t) := by
  by_cases h : t.val % 6 = 0
  · rw [outsAt0_A m hO c t h]
    frame_out
    exact congrArg _ (Memref.IsWhole.read_unread _ _)
  · rw [scr_later m hO c t h, outsAt0_B m hO c t h]
    frame_out
    exact congr (congrArg _ (Memref.IsWhole.read_unread _ _)) (Memref.IsWhole.read_unread _ _)

theorem scr_eq (hO : Ok m) (c : Dev nD) (t : Fin (cfgM m hO).N) :
    (outsAt0 m hO c t.val t.isLt).2 = (fun u : Fin (cfgM m hO).N => k0_pay1 (F := Ideal) (iblk m hO c 0 u) (iblk m hO c 1 u) (iblk m hO c 2 u) (iblk m hO c 3 u))
      ⟨6 * (t.val / 6), Pipeline.run_start_lt t⟩ :=
  Pipeline.eq_of_write_hold (fun n h => (outsAt0 m hO c n h).2) 6
    (fun u => k0_pay1 (F := Ideal) (iblk m hO c 0 u) (iblk m hO c 1 u) (iblk m hO c 2 u) (iblk m hO c 3 u))
    (fun t h => scr_first m hO c t h) (fun t h => scr_later m hO c t h) t

theorem row_eq : ∀ t : Fin grid0.N, (grid0.coords t 0).val = t.val / 6 := by decide +kernel
theorem col_eq : ∀ t : Fin grid0.N, (grid0.coords t 1).val = t.val % 6 := by decide +kernel

theorem row_word (t : Fin grid0.N) : (BitVec.ofNat 32 (grid0.coords t 0).val).toNat = t.val / 6 := by
  have hN : t.val < 864 := t.isLt
  rw [row_eq, BitVec.toNat_ofNat]
  omega
theorem col_word (t : Fin grid0.N) : (BitVec.ofNat 32 (grid0.coords t 1).val).toNat = t.val % 6 := by
  rw [col_eq, BitVec.toNat_ofNat]
  omega

/-- The block a point leaves is the reference's. -/
theorem block (hO : Ok m) (c : Dev nD) (t : Fin (cfgM m hO).N) (j : S256x1024.Idx) (i : S36864x6144.Idx)
    (h0 : (i 0).val = t.val / 6 * 256 + (j 0).val) (h1 : (i 1).val = t.val % 6 * 1024 + (j 1).val) :
    (outsAt0 m hO c t.val t.isLt).1 j = proj (argX m c) (argG m c) (argM m c) (argW m c) i := by
  have hN : t.val < 864 := t.isLt
  have hj : (j 0).val < 256 := (j 0).isLt
  rw [out_eq, scr_eq]
  refine (prod_at _ _ j).trans (Eq.trans ?_ (proj_at _ _ _ _ i).symm)
  have hs : 6 * (t.val / 6) / 6 = t.val / 6 := by omega
  have hr : (BitVec.ofNat 32 (grid0.coords ⟨6 * (t.val / 6), Pipeline.run_start_lt t⟩ 0).val).toNat = t.val / 6 := (row_word _).trans hs
  have hg : (group (tbl m) (grid0.coords ⟨6 * (t.val / 6), Pipeline.run_start_lt t⟩)).toNat = t.val / 6 / 16 :=
    (group_eq m _).trans (congrArg (fun n : ℕ => n / 16) ((row_eq _).trans hs))
  have hp : t.val / 6 / 16 < 16 := by omega
  refine Finset.sum_congr rfl fun k _ => congrArg₂ (fun a b : EReal => a * b) ?_ (cols_blk m hO c t k (j 1) (i 1) (by rw [col_word]; exact h1))
  refine (norm_at _ _ _ _ (j 0) k).trans (Eq.trans ?_
    (hidden_at (argX m c) (argG m c) (argM m c) (i 0) k ⟨t.val / 6 / 16, hp⟩ (by show t.val / 6 / 16 = (i 0).val / 4096; omega)).symm)
  exact congr (congr (congr (congrArg (fun row : Fin 2048 → EReal => entry row k) (funext fun q => rows_blk m hO c _ (j 0) q (i 0) (by rw [hr]; exact h0)))
    (gain_blk m hO c _ k)) (scale_blk m hO c _ k ⟨_, hp⟩ hg)) (shift_blk m hO c _ k ⟨_, hp⟩ hg)

theorem nblk_0 (hO : Ok m) : ((cfgM m hO).win 5).nblk (0 : Fin 2) = 144 := by
  show (36864 + 256 - 1) / 256 = 144
  norm_num
theorem nblk_1 (hO : Ok m) : ((cfgM m hO).win 5).nblk (1 : Fin 2) = 6 := by
  show (6144 + 1024 - 1) / 1024 = 6
  norm_num

/-- The result's window walks the 144 by 6 blocks. -/
theorem cov (hO : Ok m) : ((cfgM m hO).win 5).Covers := by
  refine ((cfgM m hO).win 5).covers_of_indexMap_surj rfl (fun a => ?_) fun β => ?_
  · match a with
    | ⟨0, _⟩ => exact (by decide : 0 < 256)
    | ⟨1, _⟩ => exact (by decide : 0 < 1024)
  · have h0 : (β (0 : Fin 2)).val < 144 := lt_of_lt_of_eq (β (0 : Fin 2)).isLt (nblk_0 m hO)
    have h1 : (β (1 : Fin 2)).val < 6 := lt_of_lt_of_eq (β (1 : Fin 2)).isLt (nblk_1 m hO)
    refine ⟨(fun a => match a with | ⟨0, _⟩ => ⟨(β (0 : Fin 2)).val, h0⟩ | ⟨1, _⟩ => ⟨(β (1 : Fin 2)).val, h1⟩ : grid0.Coords), fun a => ?_⟩
    match a with
    | ⟨0, _⟩ =>
      show (BitVec.ofNat 32 (β (0 : Fin 2)).val).toNat = (β (0 : Fin 2)).val
      rw [BitVec.toNat_ofNat]; omega
    | ⟨1, _⟩ =>
      show (BitVec.ofNat 32 (β (1 : Fin 2)).val).toNat = (β (1 : Fin 2)).val
      rw [BitVec.toNat_ofNat]; omega

theorem place_5 (hO : Ok m) (t : Fin (cfgM m hO).N) (y : S256x1024.Idx) (a : Fin 2) :
    ((((cfgM m hO).win 5).rect t).emb y a : ℕ) = (![(BitVec.ofNat 32 (grid0.coords t 0).val).toNat, (BitVec.ofNat 32 (grid0.coords t 1).val).toNat] : Fin 2 → ℕ) a * S256x1024.size a + (y a).val :=
  Pipeline.Window.rect_emb_val ((cfgM m hO).win 5) t y a rfl

theorem final (hO : Ok m) (c : Dev nD) : (dats m hO 0 c).arrAt 5 (cfgM m hO).N = proj (argX m c) (argG m c) (argM m c) (argW m c) := by
  refine (dats m hO 0 c).arrAt_eq_of_covers 5 _ (cov m hO) fun t _ y => ?_
  refine (congrFun (after0_5 m hO c t) y).trans (block m hO c t y _ ?_ ?_)
  · refine (place_5 m hO t y 0).trans ?_
    show (BitVec.ofNat 32 (grid0.coords t 0).val).toNat * 256 + (y (0 : Fin 2)).val = t.val / 6 * 256 + (y (0 : Fin 2)).val
    exact congrArg (fun n : ℕ => n * 256 + (y (0 : Fin 2)).val) (row_word t)
  · refine (place_5 m hO t y 1).trans ?_
    show (BitVec.ofNat 32 (grid0.coords t 1).val).toNat * 1024 + (y (1 : Fin 2)).val = t.val % 6 * 1024 + (y (1 : Fin 2)).val
    exact congrArg (fun n : ℕ => n * 1024 + (y (1 : Fin 2)).val) (col_word t)

end Cert.HyenaInIdeal.Closed

namespace Cert.HyenaInClaims

open Idealize.ShloMosaic Idealize.ShloMosaic.TcCoe Idealize.SL.Sem

theorem algebraic : Cert.algebraic_HyenaInIdeal_HyenaInReferenceIdeal := by
  intro m g m' g' _ hargs
  have hO := Cert.HyenaInIdeal.Hand.ok m
  refine ⟨fun c => Cert.HyenaInReferenceIdeal.Read.proj (Cert.HyenaInIdeal.Closed.argX m c) (Cert.HyenaInIdeal.Closed.argG m c)
    (Cert.HyenaInIdeal.Closed.argM m c) (Cert.HyenaInIdeal.Closed.argW m c), ?_, ?_⟩
  · exact (θ_run Cert.HyenaInIdeal.defs _ _).mono (fun r h c => ⟨((h.1 c).1 5).trans (Cert.HyenaInIdeal.Closed.final m hO c), h.2 c⟩)
      (θ_run_and (Cert.HyenaInIdeal.Gen.run_main m g hO) (Cert.HyenaInIdeal.Gen.unchanged m g hO))
  · refine (θ_run Cert.HyenaInReferenceIdeal.defs _ _).mono (fun r h c => ⟨(h c).1.trans ?_, (h c).2⟩)
      (Cert.HyenaInReferenceIdeal.Value.run m' g')
    obtain ⟨h0, h1, h2, h3⟩ := hargs c
    rw [h0, h1, h2, h3]
    rfl

end Cert.HyenaInClaims

end
-- ==== Proof.FinalPrompt.lean ====
/-
  The final normalisation of the prompt rows: the blocks that the grid's points write back tile the result array, and at
  every index the block's value is the reference's.
-/
module

public import proofs.«01_k».proof.Defs
public import proofs.«01_k».proof.Proof.Gen.FinalPromptIdeal.Value
public import proofs.«01_k».proof.Proof.Gen.FinalPromptReferenceIdeal.Run
public import Idealize.ShloMosaic.Lib.Pipeline.ValueKit
public import Idealize.ShloMosaic.Lib.StableHlo.Run
public import Idealize.ShloMosaic.Lib.Tactic
public import Idealize.ShloMosaic.Lib.Claim

@[expose] public section

set_option maxRecDepth 16384

noncomputable section

namespace Cert.FinalPromptIdeal.Closed

open Idealize.ShloMosaic Idealize.ShloMosaic.TcCoe Idealize.SL.Sem
open Cert.FinalPromptIdeal Cert.FinalPromptIdeal.Gen
open Idealize.ShloMosaic.Pipeline (Dat)

variable (m : (ℓ : Loc nD τ sig) → Buf (Elt Ideal) ℓ)

/-- Where point `t` reads and writes: row block `t` (from the first row of its part), all columns. -/
theorem place : ∀ t : Fin cfg0.N, win0_0.index t = ![t.val, 0] ∧ win0_1.index t = ![0, 0] ∧ win0_2.index t = ![t.val, 0]
    ∧ t.val < 16 :=
  (by decide +kernel : ∀ t : Fin grid0.N, _)

/-- The normalised array over the arguments, index by index. -/
abbrev normed (x : FVec Ideal S36864x2048 .f32) (g : FVec Ideal S2048 .f32) : FVec Ideal S4096x2048 .f32 :=
  shapeCast Cert.FinalPromptReferenceIdeal.S4096x2048 (mulf (mulf (shapeCast Cert.FinalPromptReferenceIdeal.S16x256x2048 (extractStridedSlice Cert.FinalPromptReferenceIdeal.S4096x2048 ![0, 0] x Cert.FinalPromptReferenceIdeal.Gen.slices_S36864x2048_S4096x2048_0_0) Cert.FinalPromptReferenceIdeal.Gen.shapeCasts_S4096x2048_S16x256x2048) (broadcastInDim Cert.FinalPromptReferenceIdeal.S16x256x2048 ![0, 1, 2] Cert.FinalPromptReferenceIdeal.Gen.bcast_S16x256x1_S16x256x2048_0_1_2 (Host.rsqrt (addf (Host.divf (broadcastInDim Cert.FinalPromptReferenceIdeal.S16x256x1 ![0, 1] Cert.FinalPromptReferenceIdeal.Gen.bcast_S16x256_S16x256x1_0_1 (Host.reduceAdd (mulf (shapeCast Cert.FinalPromptReferenceIdeal.S16x256x2048 (extractStridedSlice Cert.FinalPromptReferenceIdeal.S4096x2048 ![0, 0] x Cert.FinalPromptReferenceIdeal.Gen.slices_S36864x2048_S4096x2048_0_0) Cert.FinalPromptReferenceIdeal.Gen.shapeCasts_S4096x2048_S16x256x2048) (shapeCast Cert.FinalPromptReferenceIdeal.S16x256x2048 (extractStridedSlice Cert.FinalPromptReferenceIdeal.S4096x2048 ![0, 0] x Cert.FinalPromptReferenceIdeal.Gen.slices_S36864x2048_S4096x2048_0_0) Cert.FinalPromptReferenceIdeal.Gen.shapeCasts_S4096x2048_S16x256x2048)) (constant Cert.FinalPromptReferenceIdeal.S_ .f32 0x00000000#32) Cert.FinalPromptReferenceIdeal.Gen.reducesTo_S16x256x2048_S16x256_d2 Cert.FinalPromptReferenceIdeal.Gen.h_S_)) (broadcastInDim Cert.FinalPromptReferenceIdeal.S16x256x1 ![] Cert.FinalPromptReferenceIdeal.Gen.bcast_S_S16x256x1 (constant Cert.FinalPromptReferenceIdeal.S_ .f32 0x45000000#32))) (broadcastInDim Cert.FinalPromptReferenceIdeal.S16x256x1 ![] Cert.FinalPromptReferenceIdeal.Gen.bcast_S_S16x256x1 (constant Cert.FinalPromptReferenceIdeal.S_ .f32 0x358637BD#32)))))) (broadcastInDim Cert.FinalPromptReferenceIdeal.S16x256x2048 ![0, 1, 2] Cert.FinalPromptReferenceIdeal.Gen.bcast_S1x1x2048_S16x256x2048_0_1_2 (broadcastInDim Cert.FinalPromptReferenceIdeal.S1x1x2048 ![2] Cert.FinalPromptReferenceIdeal.Gen.bcast_S2048_S1x1x2048_2 g))) Cert.FinalPromptReferenceIdeal.Gen.shapeCasts_S16x256x2048_S4096x2048

/-- The result array after the run. -/
theorem final (c : Dev nD) : (dats m 0 c).arrAt 2 cfg0.N
    = normed (m ((c : Thread nD τ).loc main_arg0)) (m ((c : Thread nD τ).loc main_arg1)) := by
  refine (dats m 0 c).arrAt_eq_of_covers 2 _ (by decide +kernel) fun t hf y => ?_
  blk_simp
  rw [after0_2]; frame_out
  unfold normed
  pointwise [k0_pay1]
  blk_point [iblk, V, place t]

end Cert.FinalPromptIdeal.Closed

namespace Cert.FinalPromptClaims

open Idealize.ShloMosaic Idealize.ShloMosaic.TcCoe Idealize.SL.Sem

theorem algebraic : Cert.algebraic_FinalPromptIdeal_FinalPromptReferenceIdeal := by
  pair_intro
  · run_from Cert.FinalPromptIdeal.Gen.run_main m g
  · run_from Cert.FinalPromptReferenceIdeal.Value.run m' g'
    exact (Cert.FinalPromptIdeal.Closed.final m c).symm

end Cert.FinalPromptClaims

end
-- ==== Proof.FinalSample.lean ====
/-
  The final normalisation of the sample rows: the blocks that the grid's points write back tile the result array, and at
  every index the block's value is the reference's.
-/
module

public import proofs.«01_k».proof.Defs
public import proofs.«01_k».proof.Proof.Gen.FinalSampleIdeal.Value
public import proofs.«01_k».proof.Proof.Gen.FinalSampleReferenceIdeal.Run
public import Idealize.ShloMosaic.Lib.Pipeline.ValueKit
public import Idealize.ShloMosaic.Lib.StableHlo.Run
public import Idealize.ShloMosaic.Lib.Tactic
public import Idealize.ShloMosaic.Lib.Claim

@[expose] public section

set_option maxRecDepth 16384

noncomputable section

namespace Cert.FinalSampleIdeal.Closed

open Idealize.ShloMosaic Idealize.ShloMosaic.TcCoe Idealize.SL.Sem
open Cert.FinalSampleIdeal Cert.FinalSampleIdeal.Gen
open Idealize.ShloMosaic.Pipeline (Dat)

variable (m : (ℓ : Loc nD τ sig) → Buf (Elt Ideal) ℓ)

/-- Where point `t` reads and writes: row block `t` (from the first row of its part), all columns. -/
theorem place : ∀ t : Fin cfg0.N, win0_0.index t = ![16 + t.val, 0] ∧ win0_1.index t = ![0, 0] ∧ win0_2.index t = ![t.val, 0]
    ∧ t.val < 128 :=
  (by decide +kernel : ∀ t : Fin grid0.N, _)

/-- The normalised array over the arguments, index by index. -/
abbrev normed (x : FVec Ideal S36864x2048 .f32) (g : FVec Ideal S2048 .f32) : FVec Ideal S32768x2048 .f32 :=
  shapeCast Cert.FinalSampleReferenceIdeal.S32768x2048 (mulf (mulf (shapeCast Cert.FinalSampleReferenceIdeal.S8x4096x2048 (extractStridedSlice Cert.FinalSampleReferenceIdeal.S32768x2048 ![4096, 0] x Cert.FinalSampleReferenceIdeal.Gen.slices_S36864x2048_S32768x2048_4096_0) Cert.FinalSampleReferenceIdeal.Gen.shapeCasts_S32768x2048_S8x4096x2048) (broadcastInDim Cert.FinalSampleReferenceIdeal.S8x4096x2048 ![0, 1, 2] Cert.FinalSampleReferenceIdeal.Gen.bcast_S8x4096x1_S8x4096x2048_0_1_2 (Host.rsqrt (addf (Host.divf (broadcastInDim Cert.FinalSampleReferenceIdeal.S8x4096x1 ![0, 1] Cert.FinalSampleReferenceIdeal.Gen.bcast_S8x4096_S8x4096x1_0_1 (Host.reduceAdd (mulf (shapeCast Cert.FinalSampleReferenceIdeal.S8x4096x2048 (extractStridedSlice Cert.FinalSampleReferenceIdeal.S32768x2048 ![4096, 0] x Cert.FinalSampleReferenceIdeal.Gen.slices_S36864x2048_S32768x2048_4096_0) Cert.FinalSampleReferenceIdeal.Gen.shapeCasts_S32768x2048_S8x4096x2048) (shapeCast Cert.FinalSampleReferenceIdeal.S8x4096x2048 (extractStridedSlice Cert.FinalSampleReferenceIdeal.S32768x2048 ![4096, 0] x Cert.FinalSampleReferenceIdeal.Gen.slices_S36864x2048_S32768x2048_4096_0) Cert.FinalSampleReferenceIdeal.Gen.shapeCasts_S32768x2048_S8x4096x2048)) (constant Cert.FinalSampleReferenceIdeal.S_ .f32 0x00000000#32) Cert.FinalSampleReferenceIdeal.Gen.reducesTo_S8x4096x2048_S8x4096_d2 Cert.FinalSampleReferenceIdeal.Gen.h_S_)) (broadcastInDim Cert.FinalSampleReferenceIdeal.S8x4096x1 ![] Cert.FinalSampleReferenceIdeal.Gen.bcast_S_S8x4096x1 (constant Cert.FinalSampleReferenceIdeal.S_ .f32 0x45000000#32))) (broadcastInDim Cert.FinalSampleReferenceIdeal.S8x4096x1 ![] Cert.FinalSampleReferenceIdeal.Gen.bcast_S_S8x4096x1 (constant Cert.FinalSampleReferenceIdeal.S_ .f32 0x358637BD#32)))))) (broadcastInDim Cert.FinalSampleReferenceIdeal.S8x4096x2048 ![0, 1, 2] Cert.FinalSampleReferenceIdeal.Gen.bcast_S1x1x2048_S8x4096x2048_0_1_2 (broadcastInDim Cert.FinalSampleReferenceIdeal.S1x1x2048 ![2] Cert.FinalSampleReferenceIdeal.Gen.bcast_S2048_S1x1x2048_2 g))) Cert.FinalSampleReferenceIdeal.Gen.shapeCasts_S8x4096x2048_S32768x2048

/-- The result array after the run. -/
theorem final (c : Dev nD) : (dats m 0 c).arrAt 2 cfg0.N
    = normed (m ((c : Thread nD τ).loc main_arg0)) (m ((c : Thread nD τ).loc main_arg1)) := by
  refine (dats m 0 c).arrAt_eq_of_covers 2 _ (by decide +kernel) fun t hf y => ?_
  blk_simp
  rw [after0_2]; frame_out
  unfold normed
  pointwise [k0_pay1]
  blk_point [iblk, V, place t]

end Cert.FinalSampleIdeal.Closed

namespace Cert.FinalSampleClaims

open Idealize.ShloMosaic Idealize.ShloMosaic.TcCoe Idealize.SL.Sem

theorem algebraic : Cert.algebraic_FinalSampleIdeal_FinalSampleReferenceIdeal := by
  pair_intro
  · run_from Cert.FinalSampleIdeal.Gen.run_main m g
  · run_from Cert.FinalSampleReferenceIdeal.Value.run m' g'
    exact (Cert.FinalSampleIdeal.Closed.final m c).symm

end Cert.FinalSampleClaims

end
-- ==== Proof.Modulation.lean ====
/-
  The modulation: each of the 24 points writes one layer's product of the activated conditions with 1024 of its columns, plus
  the biases, and the blocks tile the result array.
-/
module

public import proofs.«01_k».proof.Defs
public import proofs.«01_k».proof.Proof.Gen.ModulationIdeal.Value
public import proofs.«01_k».proof.Proof.Gen.ModulationReferenceIdeal.Run
public import Idealize.ShloMosaic.Lib.Pipeline.ValueKit
public import Idealize.ShloMosaic.Lib.Pipeline.Covers
public import Idealize.ShloMosaic.Lib.StableHlo.Run
public import Idealize.ShloMosaic.Lib.Tactic
public import Idealize.ShloMosaic.Lib.Claim

@[expose] public section

set_option maxRecDepth 16384

noncomputable section

namespace Cert.ModulationReferenceIdeal.Read

open Idealize.ShloMosaic Idealize.ShloMosaic.TcCoe Idealize.SL.Sem
open Cert.ModulationReferenceIdeal Cert.ModulationReferenceIdeal.Gen

/-- One layer's modulation: its slices of the matrices and of the biases. -/
def layer0 (a : FVec Ideal S16x2048 .f32) (w : FVec Ideal S2x2048x12288 .f32) (b : FVec Ideal S2x12288 .f32) : FVec Ideal S1x16x12288 .f32 :=
  broadcastInDim S1x16x12288 ![1, 2] bcast_S16x12288_S1x16x12288_1_2 (addf (Host.dotGeneral dot_S16x2048_S2048x12288_S16x12288_1_0_0_1_n_n none (mulf a (Host.divf (broadcastInDim S16x2048 ![] bcast_S_S16x2048 (constant S_ .f32 0x3F800000#32)) (addf (broadcastInDim S16x2048 ![] bcast_S_S16x2048 (constant S_ .f32 0x3F800000#32)) (Host.exp (Host.negf a))))) (shapeCast _ (extractStridedSlice S1x2048x12288 ![0, 0, 0] w slices_S2x2048x12288_S1x2048x12288_0_0_0) shapeCasts_S1x2048x12288_S2048x12288)) (broadcastInDim S16x12288 ![0, 1] bcast_S1x12288_S16x12288_0_1 (broadcastInDim S1x12288 ![1] bcast_S12288_S1x12288_1 (shapeCast _ (extractStridedSlice S1x12288 ![0, 0] b slices_S2x12288_S1x12288_0_0) shapeCasts_S1x12288_S12288))))
def layer1 (a : FVec Ideal S16x2048 .f32) (w : FVec Ideal S2x2048x12288 .f32) (b : FVec Ideal S2x12288 .f32) : FVec Ideal S1x16x12288 .f32 :=
  broadcastInDim S1x16x12288 ![1, 2] bcast_S16x12288_S1x16x12288_1_2 (addf (Host.dotGeneral dot_S16x2048_S2048x12288_S16x12288_1_0_0_1_n_n none (mulf a (Host.divf (broadcastInDim S16x2048 ![] bcast_S_S16x2048 (constant S_ .f32 0x3F800000#32)) (addf (broadcastInDim S16x2048 ![] bcast_S_S16x2048 (constant S_ .f32 0x3F800000#32)) (Host.exp (Host.negf a))))) (shapeCast _ (extractStridedSlice S1x2048x12288 ![1, 0, 0] w slices_S2x2048x12288_S1x2048x12288_1_0_0) shapeCasts_S1x2048x12288_S2048x12288)) (broadcastInDim S16x12288 ![0, 1] bcast_S1x12288_S16x12288_0_1 (broadcastInDim S1x12288 ![1] bcast_S12288_S1x12288_1 (shapeCast _ (extractStridedSlice S1x12288 ![1, 0] b slices_S2x12288_S1x12288_1_0) shapeCasts_S1x12288_S12288))))

/-- The two layers' modulations, stacked. -/
def stacked (a : FVec Ideal S16x2048 .f32) (w : FVec Ideal S2x2048x12288 .f32) (b : FVec Ideal S2x12288 .f32) : FVec Ideal S2x16x12288 .f32 :=
  concatenate S2x16x12288 0 [⟨S1x16x12288, layer0 a w b⟩, ⟨S1x16x12288, layer1 a w b⟩] concatenates_S1x16x12288_S1x16x12288_S2x16x12288_d0

/-- An entry after the activation. -/
def act (a : EReal) : EReal := a * Ideal.div 1 (1 + Ideal.exp (-a))

theorem layer0_at (a : FVec Ideal S16x2048 .f32) (w : FVec Ideal S2x2048x12288 .f32) (b : FVec Ideal S2x12288 .f32) (r : Fin 16) (q : Fin 12288) :
    layer0 a w b (ix3 0 r q) = (∑ k : Fin 2048, act (a (ix2 r k)) * w (ix3 0 k q)) + b (ix2 0 q) := by
  pointwise [layer0, act]
theorem layer1_at (a : FVec Ideal S16x2048 .f32) (w : FVec Ideal S2x2048x12288 .f32) (b : FVec Ideal S2x12288 .f32) (r : Fin 16) (q : Fin 12288) :
    layer1 a w b (ix3 0 r q) = (∑ k : Fin 2048, act (a (ix2 r k)) * w (ix3 1 k q)) + b (ix2 1 q) := by
  pointwise [layer1, act]

theorem stacked_0 (a : FVec Ideal S16x2048 .f32) (w : FVec Ideal S2x2048x12288 .f32) (b : FVec Ideal S2x12288 .f32) (r : Fin 16) (q : Fin 12288) :
    stacked a w b (ix3 0 r q) = layer0 a w b (ix3 0 r q) := by
  pointwise [stacked]
theorem stacked_1 (a : FVec Ideal S16x2048 .f32) (w : FVec Ideal S2x2048x12288 .f32) (b : FVec Ideal S2x12288 .f32) (r : Fin 16) (q : Fin 12288) :
    stacked a w b (ix3 1 r q) = layer1 a w b (ix3 0 r q) := by
  pointwise [stacked]

theorem stacked_at (a : FVec Ideal S16x2048 .f32) (w : FVec Ideal S2x2048x12288 .f32) (b : FVec Ideal S2x12288 .f32) (l : Fin 2) (r : Fin 16) (q : Fin 12288) :
    stacked a w b (ix3 l r q) = (∑ k : Fin 2048, act (a (ix2 r k)) * w (ix3 l k q)) + b (ix2 l q) := by
  match l with
  | ⟨0, _⟩ => exact (stacked_0 a w b r q).trans (layer0_at a w b r q)
  | ⟨1, _⟩ => exact (stacked_1 a w b r q).trans (layer1_at a w b r q)

end Cert.ModulationReferenceIdeal.Read

namespace Cert.ModulationIdeal.Closed

open Idealize.ShloMosaic Idealize.ShloMosaic.TcCoe Idealize.SL.Sem
open Cert.ModulationIdeal Cert.ModulationIdeal.Gen
open Cert.ModulationReferenceIdeal.Read (act stacked stacked_at)
open Idealize.ShloMosaic.Pipeline (Dat)

theorem pay_at (a : FVec Ideal S16x2048 .f32) (w : FVec Ideal S1x2048x1024 .f32) (b : FVec Ideal S1x1x1024 .f32) (r : Fin 16) (q : Fin 1024) :
    k0_pay1 (F := Ideal) a w b (ix3 0 r q) = (∑ k : Fin 2048, act (a (ix2 r k)) * w (ix3 0 k q)) + b (ix3 0 0 q) := by
  pointwise [k0_pay1, act, Ideal.logistic]

variable (m : (ℓ : Loc nD τ sig) → Buf (Elt Ideal) ℓ)

/-- The call's arguments: the conditions, the layers' matrices and their biases. -/
def argC (c : Dev nD) : FVec Ideal S16x2048 .f32 := m ((c : Thread nD τ).loc main_arg0)
def argW (c : Dev nD) : FVec Ideal S2x2048x12288 .f32 := m ((c : Thread nD τ).loc main_arg1)
def argB (c : Dev nD) : FVec Ideal S2x12288 .f32 := m ((c : Thread nD τ).loc main_arg2)

theorem V_c (c : Dev nD) : V m c main_arg0 = argC m c := by
  unfold argC
  entry_read
  rfl
theorem V_w (c : Dev nD) : V m c main_arg1 = argW m c := by
  unfold argW
  entry_read
  rfl
theorem V_b (c : Dev nD) : V m c main_v0 = shapeCast S2x1x12288 (argB m c) shapeCasts_S2x12288_S2x1x12288 := by
  unfold argB
  entry_read
  rfl
theorem bias_at (b : FVec Ideal S2x12288 .f32) (l : Fin 2) (q : Fin 12288) :
    shapeCast S2x1x12288 b shapeCasts_S2x12288_S2x1x12288 (ix3 l 0 q) = b (ix2 l q) := by
  pointwise

/-- Where point `t` reads and writes: layer `t / 12`, column block `t % 12`. -/
theorem place : ∀ t : Fin cfg0.N, win0_0.index t = ![0, 0] ∧ win0_1.index t = ![t.val / 12, 0, t.val % 12] ∧ win0_2.index t = ![t.val / 12, 0, t.val % 12]
    ∧ win0_3.index t = ![t.val / 12, 0, t.val % 12] ∧ t.val < 24 :=
  (by decide +kernel : ∀ t : Fin grid0.N, _)

theorem place_0 (t : Fin cfg0.N) (y : S16x2048.Idx) (a : Fin 2) :
    (((cfg0.win 0).rect t).emb y a : ℕ) = (![0, 0] : Fin 2 → ℕ) a * S16x2048.size a + (y a).val :=
  (Pipeline.Window.rect_emb_val (cfg0.win 0) t y a rfl).trans (congrArg (fun f : Fin 2 → ℕ => f a * S16x2048.size a + (y a).val) (place t).1)
theorem cond_blk (c : Dev nD) (t : Fin cfg0.N) (r : Fin 16) (k : Fin 2048) :
    (show FVec Ideal S16x2048 .f32 from iblk m c 0 t) (ix2 r k) = argC m c (ix2 r k) := by
  refine Eq.trans (b := (V m c main_arg0 : FVec Ideal S16x2048 .f32) (ix2 r k)) ?_ (congrFun (V_c m c) _)
  refine congrArg (V m c main_arg0 : FVec Ideal S16x2048 .f32) (funext fun a => Fin.ext ((place_0 t (ix2 r k) a).trans ?_))
  match a with
  | ⟨0, _⟩ =>
    show 0 * 16 + r.val = r.val
    omega
  | ⟨1, _⟩ =>
    show 0 * 2048 + k.val = k.val
    omega

theorem place_1 (t : Fin cfg0.N) (y : S1x2048x1024.Idx) (a : Fin 3) :
    (((cfg0.win 1).rect t).emb y a : ℕ) = (![t.val / 12, 0, t.val % 12] : Fin 3 → ℕ) a * S1x2048x1024.size a + (y a).val :=
  (Pipeline.Window.rect_emb_val (cfg0.win 1) t y a rfl).trans (congrArg (fun f : Fin 3 → ℕ => f a * S1x2048x1024.size a + (y a).val) (place t).2.1)
theorem cols_blk (c : Dev nD) (t : Fin cfg0.N) (k : Fin 2048) (j : Fin 1024) (l : Fin 2) (q : Fin 12288)
    (hl : l.val = t.val / 12) (hq : q.val = t.val % 12 * 1024 + j.val) :
    (show FVec Ideal S1x2048x1024 .f32 from iblk m c 1 t) (ix3 0 k j) = argW m c (ix3 l k q) := by
  refine Eq.trans (b := (V m c main_arg1 : FVec Ideal S2x2048x12288 .f32) (ix3 l k q)) ?_ (congrFun (V_w m c) _)
  refine congrArg (V m c main_arg1 : FVec Ideal S2x2048x12288 .f32) (funext fun a => Fin.ext ((place_1 t (ix3 0 k j) a).trans ?_))
  match a with
  | ⟨0, _⟩ =>
    show t.val / 12 * 1 + 0 = l.val
    omega
  | ⟨1, _⟩ =>
    show 0 * 2048 + k.val = k.val
    omega
  | ⟨2, _⟩ =>
    show t.val % 12 * 1024 + j.val = q.val
    omega

theorem place_2 (t : Fin cfg0.N) (y : S1x1x1024.Idx) (a : Fin 3) :
    (((cfg0.win 2).rect t).emb y a : ℕ) = (![t.val / 12, 0, t.val % 12] : Fin 3 → ℕ) a * S1x1x1024.size a + (y a).val :=
  (Pipeline.Window.rect_emb_val (cfg0.win 2) t y a rfl).trans (congrArg (fun f : Fin 3 → ℕ => f a * S1x1x1024.size a + (y a).val) (place t).2.2.1)
theorem bias_blk (c : Dev nD) (t : Fin cfg0.N) (j : Fin 1024) (l : Fin 2) (q : Fin 12288)
    (hl : l.val = t.val / 12) (hq : q.val = t.val % 12 * 1024 + j.val) :
    (show FVec Ideal S1x1x1024 .f32 from iblk m c 2 t) (ix3 0 0 j) = argB m c (ix2 l q) := by
  refine Eq.trans (b := (V m c main_v0 : FVec Ideal S2x1x12288 .f32) (ix3 l 0 q)) ?_ ((congrFun (V_b m c) _).trans (bias_at _ l q))
  refine congrArg (V m c main_v0 : FVec Ideal S2x1x12288 .f32) (funext fun a => Fin.ext ((place_2 t (ix3 0 0 j) a).trans ?_))
  match a with
  | ⟨0, _⟩ =>
    show t.val / 12 * 1 + 0 = l.val
    omega
  | ⟨1, _⟩ =>
    show 0 * 1 + 0 = 0
    omega
  | ⟨2, _⟩ =>
    show t.val % 12 * 1024 + j.val = q.val
    omega

/-- The block a point leaves is the reference's. -/
theorem block (c : Dev nD) (t : Fin cfg0.N) (r : Fin 16) (j : Fin 1024) (l : Fin 2) (q : Fin 12288)
    (hl : l.val = t.val / 12) (hq : q.val = t.val % 12 * 1024 + j.val) :
    out0_3 (F := Ideal) (iblk m c 0 t) (iblk m c 1 t) (iblk m c 2 t) (ix3 0 r j) = stacked (argC m c) (argW m c) (argB m c) (ix3 l r q) := by
  frame_out
  refine (pay_at _ _ _ r j).trans (Eq.trans ?_ (stacked_at _ _ _ l r q).symm)
  exact congrArg₂ (fun a b : EReal => a + b)
    (Finset.sum_congr rfl fun k _ => congrArg₂ (fun a b : EReal => act a * b) (cond_blk m c t r k) (cols_blk m c t k j l q hl hq))
    (bias_blk m c t j l q hl hq)

theorem place_3 (t : Fin cfg0.N) (y : S1x16x1024.Idx) (a : Fin 3) :
    (((cfg0.win 3).rect t).emb y a : ℕ) = (![t.val / 12, 0, t.val % 12] : Fin 3 → ℕ) a * S1x16x1024.size a + (y a).val :=
  (Pipeline.Window.rect_emb_val (cfg0.win 3) t y a rfl).trans (congrArg (fun f : Fin 3 → ℕ => f a * S1x16x1024.size a + (y a).val) (place t).2.2.2.1)

/-- The result array after the run. -/
theorem final (c : Dev nD) : (dats m 0 c).arrAt 3 cfg0.N = stacked (argC m c) (argW m c) (argB m c) := by
  refine (dats m 0 c).arrAt_eq_of_covers 3 _ (by decide +kernel) fun t _ y => ?_
  have h0 : (y (0 : Fin 3)).val < 1 := (y (0 : Fin 3)).isLt
  have h2 : (y (2 : Fin 3)).val < 1024 := (y (2 : Fin 3)).isLt
  have ht : t.val < 24 := (place t).2.2.2.2
  have hy : y = ix3 (n0 := 1) (n1 := 16) (n2 := 1024) 0 (y 1) (y 2) := funext fun a => match a with
    | ⟨0, _⟩ => Fin.ext (by show (y (0 : Fin 3)).val = 0; omega)
    | ⟨1, _⟩ => rfl
    | ⟨2, _⟩ => rfl
  have hi : ((cfg0.win 3).rect t).emb y = ix3 (n0 := 2) (n1 := 16) (n2 := 12288) ⟨t.val / 12, by omega⟩ (y 1) ⟨t.val % 12 * 1024 + (y (2 : Fin 3)).val, by omega⟩ :=
    funext fun a => Fin.ext ((place_3 t y a).trans (match a with
      | ⟨0, _⟩ => by show t.val / 12 * 1 + (y (0 : Fin 3)).val = t.val / 12; omega
      | ⟨1, _⟩ => by show 0 * 16 + (y (1 : Fin 3)).val = (y (1 : Fin 3)).val; omega
      | ⟨2, _⟩ => rfl))
  refine (congrFun (after0_3 m c t) y).trans ((congrArg _ hy).trans ((block m c t (y 1) (y 2) ⟨t.val / 12, by omega⟩ _ rfl rfl).trans (congrArg _ hi.symm)))

end Cert.ModulationIdeal.Closed

namespace Cert.ModulationClaims

open Idealize.ShloMosaic Idealize.ShloMosaic.TcCoe Idealize.SL.Sem

theorem algebraic : Cert.algebraic_ModulationIdeal_ModulationReferenceIdeal := by
  intro m g m' g' _ hargs
  refine ⟨fun c => Cert.ModulationReferenceIdeal.Read.stacked (Cert.ModulationIdeal.Closed.argC m c) (Cert.ModulationIdeal.Closed.argW m c)
    (Cert.ModulationIdeal.Closed.argB m c), ?_, ?_⟩
  · run_from Cert.ModulationIdeal.Gen.run_main m g
    exact Cert.ModulationIdeal.Closed.final m c
  · refine (θ_run Cert.ModulationReferenceIdeal.defs _ _).mono (fun r h c => ⟨(h c).1.trans ?_, (h c).2⟩)
      (Cert.ModulationReferenceIdeal.Value.run m' g')
    obtain ⟨h0, h1, h2⟩ := hargs c
    rw [h0, h1, h2]
    rfl

end Cert.ModulationClaims

end
-- ==== Proof.DeltaInIdealBody.lean ====
module

public import proofs.«01_k».proof.Proof.Gen.DeltaInIdeal.Launch
public import proofs.«01_k».proof.Proof.Gen.DeltaInIdeal.Skeleton
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp

@[expose] public section

/-!
# The body of the DeltaNet branch's input projection, case by case

A grid point is a block of 256 rows and one block of 1024 columns. At the first column block the normalised and modulated rows
are stored in the scratch, and their product with the narrow matrix in the second result; at every column block the scratch is
multiplied by that block of the wide matrix.
-/

set_option maxRecDepth 16384

noncomputable section

namespace Cert.DeltaInIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DeltaInIdeal Cert.DeltaInIdeal.Gen

variable {F : FTy → Type} [FloatOps F]

local notation "𝕄" => MT nD τ sig Unit (Elt F) ℕ (UR sig nD τ) ℕ

/-- The table of the rows' groups as the body is handed it, held at half the full share. -/
abbrev tabG : Memref sig .tc .smem S144 .i32 := Memref.whole main_c
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- Loads of a whole buffer read its contents. -/
theorem ldX {e : EltTy} (a : Memref sig .tc .vmem S256x2048 e) (v : S256x2048.Idx → Elt F e) (inb) :
    View.readAt (Elt F) a.view (Rect.unit (s := S256x2048) ![0, 0] ![256, 2048] inb).toLoadRect (a.view.rep v) = v := View.readAt_rep_full a.view v inb
theorem ldG {e : EltTy} (a : Memref sig .tc .vmem S1x2048 e) (v : S1x2048.Idx → Elt F e) (inb) :
    View.readAt (Elt F) a.view (Rect.unit (s := S1x2048) ![0, 0] ![1, 2048] inb).toLoadRect (a.view.rep v) = v := View.readAt_rep_full a.view v inb
theorem ldM {e : EltTy} (a : Memref sig .tc .vmem S1x1x1x2048 e) (v : S1x1x1x2048.Idx → Elt F e) (inb) :
    View.readAt (Elt F) a.view (Rect.unit (s := S1x1x1x2048) ![0, 0, 0, 0] ![1, 1, 1, 2048] inb).toLoadRect (a.view.rep v) = v := View.readAt_rep_full a.view v inb
theorem ldW {e : EltTy} (a : Memref sig .tc .vmem S2048x1024 e) (v : S2048x1024.Idx → Elt F e) (inb) :
    View.readAt (Elt F) a.view (Rect.unit (s := S2048x1024) ![0, 0] ![2048, 1024] inb).toLoadRect (a.view.rep v) = v := View.readAt_rep_full a.view v inb
theorem ldS {e : EltTy} (a : Memref sig .tc .vmem S2048x128 e) (v : S2048x128.Idx → Elt F e) (inb) :
    View.readAt (Elt F) a.view (Rect.unit (s := S2048x128) ![0, 0] ![2048, 128] inb).toLoadRect (a.view.rep v) = v := View.readAt_rep_full a.view v inb
/-- After a store of a whole buffer it holds the value stored, and a load reads it. -/
theorem stX {e : EltTy} (a : Memref sig .tc .vmem S256x2048 e) (f : a.view.ty.Contents (Elt F)) (w : S256x2048.Idx → Elt F e) (inb) (L) :
    View.read (Elt F) a.view (a.view.writes (Elt F) f (⟨Rect.unit (s := S256x2048) ![0, 0] ![256, 2048] inb, w⟩ :: L)) = w := View.read_writes_full a.view f inb w L
theorem stP {e : EltTy} (a : Memref sig .tc .vmem S256x1024 e) (f : a.view.ty.Contents (Elt F)) (w : S256x1024.Idx → Elt F e) (inb) (L) :
    View.read (Elt F) a.view (a.view.writes (Elt F) f (⟨Rect.unit (s := S256x1024) ![0, 0] ![256, 1024] inb, w⟩ :: L)) = w := View.read_writes_full a.view f inb w L
theorem stB {e : EltTy} (a : Memref sig .tc .vmem S256x128 e) (f : a.view.ty.Contents (Elt F)) (w : S256x128.Idx → Elt F e) (inb) (L) :
    View.read (Elt F) a.view (a.view.writes (Elt F) f (⟨Rect.unit (s := S256x128) ![0, 0] ![256, 128] inb, w⟩ :: L)) = w := View.read_writes_full a.view f inb w L
theorem cvX {e : EltTy} (a : Memref sig .tc .vmem S256x2048 e) (w : S256x2048.Idx → Elt F e) (inb inb') (L) :
    a.view.readCov (⟨Rect.unit (s := S256x2048) ![0, 0] ![256, 2048] inb', w⟩ :: L) (Rect.unit (s := S256x2048) ![0, 0] ![256, 2048] inb).toLoadRect = w :=
  View.readCov_full a.view inb inb' w L

section Triples

variable (c : Dev nD) (i : grid0.Coords)
  {a3 : Memref sig .tc .vmem S256x2048 .f32} (h3 : a3.IsWhole) {a4 : Memref sig .tc .vmem S1x2048 .f32} (h4 : a4.IsWhole)
  {a5 : Memref sig .tc .vmem S1x1x1x2048 .f32} (h5 : a5.IsWhole) {a6 : Memref sig .tc .vmem S1x1x1x2048 .f32} (h6 : a6.IsWhole)
  {a7 : Memref sig .tc .vmem S2048x1024 .bf16} (h7 : a7.IsWhole) {a8 : Memref sig .tc .vmem S2048x128 .bf16} (h8 : a8.IsWhole)
  {a9 : Memref sig .tc .vmem S256x1024 .bf16} (h9 : a9.IsWhole) {a10 : Memref sig .tc .vmem S256x128 .f32} (h10 : a10.IsWhole)
  {a11 : Memref sig .tc .vmem S256x2048 .bf16} (h11 : a11.IsWhole)
  (x : Vec F S256x2048 .f32) (g : Vec F S1x2048 .f32) (sh sc : Vec F S1x1x1x2048 .f32) (w : Vec F S2048x1024 .bf16)
  (sw : Vec F S2048x128 .bf16) (tg : TabBuf (F := F) c tabG)

set_option maxHeartbeats 1000000

/-- The first column block. -/
theorem run_first (hf : k0_cond1 i = 1#1) (E : Set ℕ) (K : PUnit → sProp 𝕄) :
    iprop((owns (c : Thread nD τ) a3 fullShare x ∗ owns (c : Thread nD τ) a4 fullShare g ∗ owns (c : Thread nD τ) a5 fullShare sh ∗ owns (c : Thread nD τ) a6 fullShare sc ∗ owns (c : Thread nD τ) a7 fullShare w ∗ owns (c : Thread nD τ) a8 fullShare sw ∗ tabPt c tabG tg)
        ∗ (∃ d, owns (c : Thread nD τ) a9 fullShare d) ∗ (∃ d, owns (c : Thread nD τ) a10 fullShare d) ∗ (∃ d, owns (c : Thread nD τ) a11 fullShare d)
        ∗ (iprop((owns (c : Thread nD τ) a3 fullShare x ∗ owns (c : Thread nD τ) a4 fullShare g ∗ owns (c : Thread nD τ) a5 fullShare sh ∗ owns (c : Thread nD τ) a6 fullShare sc ∗ owns (c : Thread nD τ) a7 fullShare w ∗ owns (c : Thread nD τ) a8 fullShare sw ∗ tabPt c tabG tg)
            ∗ owns (c : Thread nD τ) a9 fullShare (k0_pay1 (k0_pay2 x g sh sc) w) ∗ owns (c : Thread nD τ) a10 fullShare (k0_pay3 (k0_pay2 x g sh sc) sw)
            ∗ owns (c : Thread nD τ) a11 fullShare (k0_pay2 x g sh sc)) -∗ K ⟨⟩))
      ⊢ wp frame (wpE (defs₀ (F := F)) Variants.none c none) E
          (cc0_fused_mm i tabG (Memref.isWhole_whole _) a3 h3 a4 h4 a5 h5 a6 h6 a7 h7 a8 h8 a9 h9 a10 h10 a11 h11) K := by
  simp only [cc0_fused_mm_eq_skeleton]; unfold cc0_fused_mm_skel
  simp only [k0_part1_eq_skeleton]; unfold k0_part1_skel
  simp only [owns_eq_rep]
  iintro ⟨⟨H3, H4, H5, H6, H7, H8, HT⟩, ⟨%d9, H9⟩, ⟨%d10, H10⟩, ⟨%d11, H11⟩, Hk⟩
  sl_exec (disch := exact hf)
  sl_step
  iapply Hk
  isplitl [H3 H4 H5 H6 H7 H8 HT]
  · isplitl [H3]; · iexact H3
    isplitl [H4]; · iexact H4
    isplitl [H5]; · iexact H5
    isplitl [H6]; · iexact H6
    isplitl [H7]; · iexact H7
    isplitl [H8]; · iexact H8
    iexact HT
  isplitl [H9]
  · rw [← owns_eq_rep]; unfold owns; iexists _; isplitr
    swap; · iexact H9
    ipureintro
    (try unfold run_first.sl.v38); (try unfold run_first.sl.H11_1); (try unfold run_first.sl.v12); (try unfold run_first.sl.v14)
    simp only [stX, stP, stB, cvX, ldX, ldG, ldM, ldW, ldS]
  isplitl [H10]
  · rw [← owns_eq_rep]; unfold owns; iexists _; isplitr
    swap; · iexact H10
    ipureintro
    (try unfold run_first.sl.v38); (try unfold run_first.sl.H11_1); (try unfold run_first.sl.v12); (try unfold run_first.sl.v14)
    simp only [stX, stP, stB, cvX, ldX, ldG, ldM, ldW, ldS]
  · rw [← owns_eq_rep]; unfold owns; iexists _; isplitr
    swap; · iexact H11
    ipureintro
    (try unfold run_first.sl.H11_1); (try unfold run_first.sl.v12); (try unfold run_first.sl.v14)
    simp only [stX, stP, stB, cvX, ldX, ldG, ldM, ldW, ldS]

/-- A later column block: the scratch and the second result stay as they are. -/
theorem run_later (hf : ¬k0_cond1 i = 1#1) (a : Vec F S256x2048 .bf16) (E : Set ℕ) (K : PUnit → sProp 𝕄) :
    iprop((owns (c : Thread nD τ) a3 fullShare x ∗ owns (c : Thread nD τ) a4 fullShare g ∗ owns (c : Thread nD τ) a5 fullShare sh ∗ owns (c : Thread nD τ) a6 fullShare sc ∗ owns (c : Thread nD τ) a7 fullShare w ∗ owns (c : Thread nD τ) a8 fullShare sw ∗ tabPt c tabG tg)
        ∗ (∃ d, owns (c : Thread nD τ) a9 fullShare d) ∗ owns (c : Thread nD τ) a11 fullShare a
        ∗ (iprop((owns (c : Thread nD τ) a3 fullShare x ∗ owns (c : Thread nD τ) a4 fullShare g ∗ owns (c : Thread nD τ) a5 fullShare sh ∗ owns (c : Thread nD τ) a6 fullShare sc ∗ owns (c : Thread nD τ) a7 fullShare w ∗ owns (c : Thread nD τ) a8 fullShare sw ∗ tabPt c tabG tg)
            ∗ owns (c : Thread nD τ) a9 fullShare (k0_pay1 a w) ∗ owns (c : Thread nD τ) a11 fullShare a) -∗ K ⟨⟩))
      ⊢ wp frame (wpE (defs₀ (F := F)) Variants.none c none) E
          (cc0_fused_mm i tabG (Memref.isWhole_whole _) a3 h3 a4 h4 a5 h5 a6 h6 a7 h7 a8 h8 a9 h9 a10 h10 a11 h11) K := by
  simp only [cc0_fused_mm_eq_skeleton]; unfold cc0_fused_mm_skel
  simp only [owns_eq_rep]
  iintro ⟨⟨H3, H4, H5, H6, H7, H8, HT⟩, ⟨%d9, H9⟩, H11, Hk⟩
  sl_exec (disch := exact hf)
  sl_step
  iapply Hk
  isplitl [H3 H4 H5 H6 H7 H8 HT]
  · isplitl [H3]; · iexact H3
    isplitl [H4]; · iexact H4
    isplitl [H5]; · iexact H5
    isplitl [H6]; · iexact H6
    isplitl [H7]; · iexact H7
    isplitl [H8]; · iexact H8
    iexact HT
  isplitl [H9]
  · rw [← owns_eq_rep]; unfold owns; iexists _; isplitr
    swap; · iexact H9
    ipureintro
    skip
    simp only [stX, stP, stB, cvX, ldX, ldG, ldM, ldW, ldS]
  iexact H11

end Triples

end Cert.DeltaInIdeal.Hand

end
-- ==== Proof.DeltaInIdealFrame.lean ====
module

public import proofs.«01_k».proof.Proof.DeltaInIdealBody
public import Idealize.ShloMosaic.Lib.Quiescent

@[expose] public section

/-!
# The DeltaNet branch's input projection over its grid

What the scratch and the two results' blocks hold at every point, the obligation of the body at every point, the run of the
whole program and its frame, for a table whose every block lies inside its array.
-/

set_option maxRecDepth 16384

noncomputable section

namespace Cert.DeltaInIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DeltaInIdeal Cert.DeltaInIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers when the region is entered: the host operations have run. -/
abbrev V (c : Dev nD) (b : Ref sig .tc) : Buf (Elt F) ((c : Thread nD τ).loc b) := StableHlo.after hostOps0 (fun b => m (c, b)) b

theorem fresh_host : (hostOps0 : List (HloOp τ sig (Elt F))).Forall fun op => op.fresh = ∅ := by
  simp only [List.Forall]; repeat' constructor

set_option maxHeartbeats 800000 in
theorem to_region (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh_host main_chain

/-- The buffers the host operations write. -/
abbrev written : List (Ref sig .tc) := [main_c, main_cst, main_v0, main_v1, main_c_0, main_v2, main_v3, main_v4, main_v5, main_v6, main_v7]

/-- Any other buffer is found as launched. -/
theorem V_arg (c : Dev nD) (b : Ref sig .tc) (hb : b ∉ written) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (fun e => hb (by rw [e]; decide))))

/-! ## The table -/

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The table as one core holds it. -/
def tgT (c : Dev nD) : TabBuf (F := F) c tabG := tbl m 0
/-- Every block the table names lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄) = iprop(tabPt c tabG (tgT m c)) := by
  unfold Pipeline.ΦT Pipeline.prefHeld
  rw [show (Finset.univ : Finset (Fin 1)) = {(0 : Fin 1)} from by decide, bigSep_singleton]
  rfl

abbrev scM : Memref sig .tc .vmem S256x2048 .bf16 := Memref.whole cc0_scratch0
theorem scratch_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-! ## The blocks, and what the body leaves -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The rows of point `t`, normalised and modulated. -/
def hid (hO : Ok m) (c : Dev nD) (t : Fin (cfgM m hO).N) : FVec F S256x2048 .bf16 :=
  k0_pay2 (iblk m hO c 0 t) (iblk m hO c 1 t) (iblk m hO c 2 t) (iblk m hO c 3 t)

/-- The scratch after point `n`: the rows as the first column block left them. -/
def scr (hO : Ok m) (c : Dev nD) : (n : ℕ) → n < (cfgM m hO).N → FVec F S256x2048 .bf16
  | 0, h => hid m hO c ⟨0, h⟩
  | n + 1, h => if (n + 1) % 8 = 0 then hid m hO c ⟨n + 1, h⟩ else scr hO c n (Nat.lt_of_succ_lt h)

/-- The second result's block after point `n`: the narrow product, as the first column block left it. -/
def narrow (hO : Ok m) (c : Dev nD) : (n : ℕ) → n < (cfgM m hO).N → FVec F S256x128 .f32
  | 0, h => k0_pay3 (hid m hO c ⟨0, h⟩) (iblk m hO c 5 ⟨0, h⟩)
  | n + 1, h => if (n + 1) % 8 = 0 then k0_pay3 (hid m hO c ⟨n + 1, h⟩) (iblk m hO c 5 ⟨n + 1, h⟩) else narrow hO c n (Nat.lt_of_succ_lt h)

theorem scr_first (hO : Ok m) (c : Dev nD) (t : Fin (cfgM m hO).N) (h : t.val % 8 = 0) : scr m hO c t.val t.isLt = hid m hO c t := by
  obtain ⟨n, hn⟩ := t
  cases n with
  | zero => rfl
  | succ n => exact if_pos h
theorem narrow_first (hO : Ok m) (c : Dev nD) (t : Fin (cfgM m hO).N) (h : t.val % 8 = 0) :
    narrow m hO c t.val t.isLt = k0_pay3 (hid m hO c t) (iblk m hO c 5 t) := by
  obtain ⟨n, hn⟩ := t
  cases n with
  | zero => rfl
  | succ n => exact if_pos h
theorem scr_succ (hO : Ok m) (c : Dev nD) (n : ℕ) (hn : n + 1 < (cfgM m hO).N) (h : ¬(n + 1) % 8 = 0) :
    scr m hO c (n + 1) hn = scr m hO c n (Nat.lt_of_succ_lt hn) := if_neg h
theorem narrow_succ (hO : Ok m) (c : Dev nD) (n : ℕ) (hn : n + 1 < (cfgM m hO).N) (h : ¬(n + 1) % 8 = 0) :
    narrow m hO c (n + 1) hn = narrow m hO c n (Nat.lt_of_succ_lt hn) := if_neg h

/-- The first result's block: the scratch times the block of the wide matrix, rounded. -/
def wide (hO : Ok m) (c : Dev nD) (t : Fin (cfgM m hO).N) : FVec F S256x1024 .bf16 := k0_pay1 (scr m hO c t.val t.isLt) (iblk m hO c 4 t)

/-- Between points: the scratch at what the point before left, when both are in one block of rows. -/
def Inv (hO : Ok m) (c : Dev nD) (n : ℕ) : sProp 𝕄 :=
  iprop((∃ a, ⌜∀ (k : ℕ) (hk : k < (cfgM m hO).N), n = k + 1 → ¬n % 8 = 0 → a = scr m hO c k hk⌝
      ∗ owns (c : Thread nD τ) scM fullShare a)
    ∗ (∃ r, prngReg c r) ∗ tabPt c tabG (tgT m c))

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => wide m hO c t
    | ⟨7, _⟩ => narrow m hO c t.val t.isLt
  Φ t := Inv m hO c t.val
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = wide m hO c t := by dsimp only [dats]; try rfl
theorem after_7 (hO : Ok m) (c : Dev nD) (t : Fin (cfgM m hO).N) : (dats m hO 0 c).after 7 t = narrow m hO c t.val t.isLt := by dsimp only [dats]; try rfl

/-! An input's buffer holds its block at every point, fetched there or not. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## Which case a point is in -/

theorem first_iff : ∀ t : Fin grid0.N, k0_cond1 (grid0.coords t) = 1#1 ↔ t.val % 8 = 0 := by decide +kernel

theorem idle_word : ∀ p : BitVec 1, (!(p == 1#1)) = true ↔ ¬p = 1#1 := by decide

/-- The second result's window is idle exactly after the first column block. -/
theorem idle_iff (hO : Ok m) (t : Fin (cfgM m hO).N) : (cfgM m hO).idle 7 ((cfgM m hO).grid.coords t) = true ↔ ¬t.val % 8 = 0 :=
  (idle_word (k0_cond1 (grid0.coords t))).trans (not_congr (first_iff t))

theorem flush_iff (a : (pcfg0 (F := F)).Adm) : ∀ t : Fin (cfg0 a).N, ((cfg0 a).win 7).flush t = true ↔ t.val % 8 = 7 :=
  (fun t => Pipeline.Window.flushOf_reads cc0_transform_7 reads0_7 hreads0_7 0 (by decide) (by decide) (Pipeline.Window.sep_of_coord cc0_transform_7 0 0 (fun _ => rfl) (by decide)) (P := 8) (m := 7) (by decide) rfl t : ∀ t : Fin grid0.N, Pipeline.Window.flushOf grid0 true cc0_transform_7 t = true ↔ t.val % 8 = 7)

/-- After the first column block the second result's buffer holds what that block left. -/
theorem found_narrow (hO : Ok m) (c : Dev nD) : ∀ (n : ℕ) (hn : n < (cfgM m hO).N) (_ : ¬n % 8 = 0) (d),
    (dats m hO 0 c).before 7 ⟨n, hn⟩ d = narrow m hO c n hn
  | 0, hn, h, d => absurd (Nat.zero_mod 8) h
  | n + 1, hn, h, d => by
    have hf : ((cfgM m hO).win 7).fetch ⟨n + 1, hn⟩ = false := ((cfgM m hO).win 7).fetch_out rfl _
    have hfl : ((cfgM m hO).win 7).flush ⟨n, Nat.lt_of_succ_lt hn⟩ = false := by
      rw [← Bool.not_eq_true, flush_iff]; show ¬n % 8 = 7; omega
    rw [(dats m hO 0 c).before_of_pos 7 ⟨n + 1, hn⟩ (Nat.succ_ne_zero n) hf d]
    show (if ((cfgM m hO).win 7).flush ⟨n, Nat.lt_of_succ_lt hn⟩ then d else (dats m hO 0 c).left 7 ⟨n, Nat.lt_of_succ_lt hn⟩ d) = _
    rw [hfl, if_neg Bool.false_ne_true, narrow_succ m hO c n hn h]
    unfold Dat.left
    by_cases h0 : n % 8 = 0
    · have hi : (cfgM m hO).idle 7 ((cfgM m hO).grid.coords ⟨n, Nat.lt_of_succ_lt hn⟩) = false := by
        rw [← Bool.not_eq_true, idle_iff]; exact fun h' => h' h0
      rw [hi]
      show (dats m hO 0 c).kept 7 ⟨n, Nat.lt_of_succ_lt hn⟩ d = _
      unfold Dat.kept
      rw [Pipeline.fill_of_clip_none 7 _ (fun _ => rfl) d ((dats m hO 0 c).after 7 _), Window.fill_cut, after_7]
    · have hi : (cfgM m hO).idle 7 ((cfgM m hO).grid.coords ⟨n, Nat.lt_of_succ_lt hn⟩) = true := (idle_iff m hO _).mpr h0
      rw [hi]
      exact found_narrow hO c n (Nat.lt_of_succ_lt hn) h0 d

/-! ## The obligation of the body -/

/-- The body at point `t`. -/
abbrev bodyAt (hO : Ok m) (t : Fin (cfgM m hO).N) : Prog (TpuEff nD τ sig (Elt F) Λ₀ .tc) PUnit :=
  cc0_fused_mm (grid0.coords t) tabG (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (spec0_6.stage ((cfgM m hO).slots t 6)) (hstage0_6 (((cfgM m hO).slots t 6).cast nbuf0_6)) (spec0_7.stage ((cfgM m hO).slots t 7)) (hstage0_7 (((cfgM m hO).slots t 7).cast nbuf0_7)) scM (Memref.isWhole_whole _)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d))
    ∗ (∃ d, owns (c : Thread nD τ) (spec0_6.stage ((cfgM m hO).slots t 6)) fullShare ((dats m hO 0 c).before 6 t d))
    ∗ (∃ d, owns (c : Thread nD τ) (spec0_7.stage ((cfgM m hO).slots t 7)) fullShare ((dats m hO 0 c).before 7 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ owns (c : Thread nD τ) (spec0_5.stage ((cfgM m hO).slots t 5)) fullShare ((dats m hO 0 c).after 5 t)
    ∗ owns (c : Thread nD τ) (spec0_6.stage ((cfgM m hO).slots t 6)) fullShare ((dats m hO 0 c).after 6 t)
    ∗ (dats m hO 0 c).leavesExact 7 t)

theorem defs_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem leaves_first (hO : Ok m) (c : Dev nD) (t : Fin (cfgM m hO).N) (h : t.val % 8 = 0) :
    (dats m hO 0 c).leavesExact 7 t = owns (c : Thread nD τ) (spec0_7.stage ((cfgM m hO).slots t 7)) fullShare (narrow m hO c t.val t.isLt) := by
  have hi : (cfgM m hO).idle 7 ((cfgM m hO).grid.coords t) = false := by
    rw [← Bool.not_eq_true, idle_iff]; exact fun h' => h' h
  unfold Dat.leavesExact; rw [hi, after_7]
  rfl

theorem leaves_last (hO : Ok m) (c : Dev nD) (t : Fin (cfgM m hO).N) (h : t.val % 8 = 7) :
    (dats m hO 0 c).leavesExact 7 t = owns (c : Thread nD τ) (spec0_7.stage ((cfgM m hO).slots t 7)) fullShare (narrow m hO c t.val t.isLt) := by
  have hi : (cfgM m hO).idle 7 ((cfgM m hO).grid.coords t) = true := (idle_iff m hO t).mpr (by omega)
  have hf : ((cfgM m hO).win 7).flush t = true := (flush_iff _ t).mpr h
  unfold Dat.leavesExact; rw [hi, hf, after_7]
  rfl

theorem leaves_middle (hO : Ok m) (c : Dev nD) (t : Fin (cfgM m hO).N) (h0 : ¬t.val % 8 = 0) (h : ¬t.val % 8 = 7) :
    (dats m hO 0 c).leavesExact 7 t = iprop(∃ d, owns (c : Thread nD τ) (spec0_7.stage ((cfgM m hO).slots t 7)) fullShare ((dats m hO 0 c).before 7 t d)) :=
  (dats m hO 0 c).leavesExact_idle 7 t ((idle_iff m hO t).mpr h0) (by rw [← Bool.not_eq_true, flush_iff]; exact h)

/-- After the first column block the scratch is what the point before left. -/
theorem kept (hO : Ok m) (c : Dev nD) (t : Fin (cfgM m hO).N) (h0 : ¬t.val % 8 = 0) {a : FVec F S256x2048 .bf16}
    (ha : ∀ (k : ℕ) (hk : k < (cfgM m hO).N), t.val = k + 1 → ¬t.val % 8 = 0 → a = scr m hO c k hk) : a = scr m hO c t.val t.isLt := by
  obtain ⟨n, hn⟩ := t
  cases n with
  | zero => exact absurd (Nat.zero_mod 8) h0
  | succ n => exact (ha n (Nat.lt_of_succ_lt hn) rfl h0).trans (scr_succ m hO c n hn h0).symm

set_option maxHeartbeats 1600000 in
theorem body_first (hO : Ok m) (c : Dev nD) (t : Fin (cfgM m hO).N) (h0 : t.val % 8 = 0) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5]
  rw [show (dats m hO 0 c).owesAt () t.succ = (dats m hO 0 c).owesAt () t.castSucc from rfl,
    after_0, after_1, after_2, after_3, after_4, after_5, after_6, leaves_first m hO c t h0,
    show (dats m hO 0 c).Φ t.succ = Inv m hO c (t.val + 1) from rfl, show (dats m hO 0 c).Φ t.castSucc = Inv m hO c t.val from rfl]
  conv_lhs => unfold Inv
  iintro ⟨⟨⟨%a, %ha, HS⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c (grid0.coords t) _ _ _ _ _ _ _ _ _ (iblk m hO c 0 t) (iblk m hO c 1 t) (iblk m hO c 2 t) (iblk m hO c 3 t) (iblk m hO c 4 t) (iblk m hO c 5 t) (tgT m c) ((first_iff t).mpr h0) Set.univ _)
  isplitl [H0 H1 H2 H3 H4 H5 HT]
  · isplitl [H0]; · iexact H0
    isplitl [H1]; · iexact H1
    isplitl [H2]; · iexact H2
    isplitl [H3]; · iexact H3
    isplitl [H4]; · iexact H4
    isplitl [H5]; · iexact H5
    iexact HT
  isplitl [H6]; · iexists _; iexact H6
  isplitl [H7]; · iexists _; iexact H7
  isplitl [HS]; · iexists _; iexact HS
  iintro ⟨⟨H0, H1, H2, H3, H4, H5, HT⟩, H6, H7, HS⟩
  isplitl [HS Hg HT]
  · unfold Inv
    isplitl [HS]
    · iexists _; isplitr
      swap; · iexact HS
      ipureintro
      intro k hk e _; obtain rfl : t.val = k := Nat.succ.inj e; exact (scr_first m hO c t h0).symm
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · rw [show wide m hO c t = k0_pay1 (hid m hO c t) (iblk m hO c 4 t) by unfold wide; rw [scr_first m hO c t h0]]; iexact H6
  rw [narrow_first m hO c t h0]; iexact H7

set_option maxHeartbeats 1600000 in
theorem body_middle (hO : Ok m) (c : Dev nD) (t : Fin (cfgM m hO).N) (h0 : ¬t.val % 8 = 0) (h7 : ¬t.val % 8 = 7) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5]
  rw [show (dats m hO 0 c).owesAt () t.succ = (dats m hO 0 c).owesAt () t.castSucc from rfl,
    after_0, after_1, after_2, after_3, after_4, after_5, after_6, leaves_middle m hO c t h0 h7,
    show (dats m hO 0 c).Φ t.succ = Inv m hO c (t.val + 1) from rfl, show (dats m hO 0 c).Φ t.castSucc = Inv m hO c t.val from rfl]
  conv_lhs => unfold Inv
  iintro ⟨⟨⟨%a, %ha, HS⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_later c (grid0.coords t) _ _ _ _ _ _ _ _ _ (iblk m hO c 0 t) (iblk m hO c 1 t) (iblk m hO c 2 t) (iblk m hO c 3 t) (iblk m hO c 4 t) (iblk m hO c 5 t) (tgT m c) (fun h => h0 ((first_iff t).mp h)) a Set.univ _)
  isplitl [H0 H1 H2 H3 H4 H5 HT]
  · isplitl [H0]; · iexact H0
    isplitl [H1]; · iexact H1
    isplitl [H2]; · iexact H2
    isplitl [H3]; · iexact H3
    isplitl [H4]; · iexact H4
    isplitl [H5]; · iexact H5
    iexact HT
  isplitl [H6]; · iexists _; iexact H6
  isplitl [HS]; · iexact HS
  iintro ⟨⟨H0, H1, H2, H3, H4, H5, HT⟩, H6, HS⟩
  isplitl [HS Hg HT]
  · unfold Inv
    isplitl [HS]
    · iexists _; isplitr
      swap; · iexact HS
      ipureintro
      intro k hk e _; obtain rfl : t.val = k := Nat.succ.inj e; exact kept m hO c t h0 ha
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · rw [show wide m hO c t = k0_pay1 a (iblk m hO c 4 t) by unfold wide; rw [← kept m hO c t h0 ha]]; iexact H6
  iexists d7; iexact H7

set_option maxHeartbeats 1600000 in
theorem body_last (hO : Ok m) (c : Dev nD) (t : Fin (cfgM m hO).N) (h0 : ¬t.val % 8 = 0) (h7 : t.val % 8 = 7) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5]
  rw [show (dats m hO 0 c).owesAt () t.succ = (dats m hO 0 c).owesAt () t.castSucc from rfl,
    after_0, after_1, after_2, after_3, after_4, after_5, after_6, leaves_last m hO c t h7,
    show (dats m hO 0 c).Φ t.succ = Inv m hO c (t.val + 1) from rfl, show (dats m hO 0 c).Φ t.castSucc = Inv m hO c t.val from rfl]
  conv_lhs => unfold Inv
  iintro ⟨⟨⟨%a, %ha, HS⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_later c (grid0.coords t) _ _ _ _ _ _ _ _ _ (iblk m hO c 0 t) (iblk m hO c 1 t) (iblk m hO c 2 t) (iblk m hO c 3 t) (iblk m hO c 4 t) (iblk m hO c 5 t) (tgT m c) (fun h => h0 ((first_iff t).mp h)) a Set.univ _)
  isplitl [H0 H1 H2 H3 H4 H5 HT]
  · isplitl [H0]; · iexact H0
    isplitl [H1]; · iexact H1
    isplitl [H2]; · iexact H2
    isplitl [H3]; · iexact H3
    isplitl [H4]; · iexact H4
    isplitl [H5]; · iexact H5
    iexact HT
  isplitl [H6]; · iexists _; iexact H6
  isplitl [HS]; · iexact HS
  iintro ⟨⟨H0, H1, H2, H3, H4, H5, HT⟩, H6, HS⟩
  isplitl [HS Hg HT]
  · unfold Inv
    isplitl [HS]
    · iexists _; isplitr
      swap; · iexact HS
      ipureintro
      intro k hk e _; obtain rfl : t.val = k := Nat.succ.inj e; exact kept m hO c t h0 ha
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · rw [show wide m hO c t = k0_pay1 a (iblk m hO c 4 t) by unfold wide; rw [← kept m hO c t h0 ha]]; iexact H6
  rw [← found_narrow m hO c t.val t.isLt h0 d7]; iexact H7

set_option maxHeartbeats 4000000 in
theorem body_obligation (hO : Ok m) (c : Dev nD) : BodyObligation (dats (F := F) m hO 0 c) (defs₀ (F := F)) Variants.none () Set.univ := fun t => by
  rw [bigSep_W0, bigSep_W0, defs_row m hO]
  have h : bodyPre m hO c t ⊢ wp frame (wpE (defs₀ (F := F)) Variants.none c none) Set.univ (bodyAt m hO t) (fun _ => bodyPost m hO c t) := by
    by_cases h0 : t.val % 8 = 0
    · exact body_first m hO c t h0
    · by_cases h7 : t.val % 8 = 7
      · exact body_last m hO c t h0 h7
      · exact body_middle m hO c t h0 h7
  exact triple_restated h rfl .rfl fun _ => .rfl

theorem enters (hO : Ok m) (c : Dev nD) : iprop(Pipeline.ΦA spec0 c ∗ Pipeline.ΦT pre0 (tbl m) c) ⊢ (dats m hO 0 c).Φ 0 := by
  rw [show (dats m hO 0 c).Φ 0 = Inv m hO c 0 from rfl, scratch_eq, tables_eq]
  unfold Inv
  iintro ⟨⟨⟨%d, HS⟩, Hg⟩, HT⟩
  isplitl [HS]
  · iexists d; isplitr
    · ipureintro; intro k hk e; exact absurd e (Nat.succ_ne_zero k).symm
    iexact HS
  isplitl [Hg]; · iexact Hg
  iexact HT

theorem leavesRegion (hO : Ok m) (c : Dev nD) : (dats m hO 0 c).Φ (Fin.last (cfgM m hO).N) ⊢ Pipeline.ΦA spec0 c := by
  rw [show (dats m hO 0 c).Φ (Fin.last (cfgM m hO).N) = Inv m hO c (cfgM m hO).N from rfl, scratch_eq]
  unfold Inv
  iintro ⟨⟨%a, %ha, HS⟩, Hg, -⟩
  isplitl [HS]
  · iexists _; iexact HS
  iexact Hg

/-! ## The run and the frame -/

set_option backward.isDefEq.respectTransparency.types false in
/-- Every fair run ends with every array at what the blocks left and every counter at zero. -/
theorem run_counters (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := to_region m Variants.none) (hA := A_eq m hO) (hpf := V_pre m)
    (hin := enters m hO) (hout := leavesRegion m hO)

/-- The arguments end as they were, and every counter at zero. -/
theorem quiet (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨((h.1 c).1 0).trans (((dats m hO 0 c).arrAt_in 0 rfl _).trans
      ((A_eq m hO c 0).trans (V_arg m c main_arg0 (by decide)))),
      ((h.1 c).2 main_arg1 (by decide : main_arg1 ∈ Pipeline.restRefs sig spec0)).trans (V_arg m c main_arg1 (by decide)),
      ((h.1 c).1 2).trans (((dats m hO 0 c).arrAt_in 2 rfl _).trans ((A_eq m hO c 2).trans (V_arg m c main_arg2 (by decide)))),
      ((h.1 c).2 main_arg3 (by decide : main_arg3 ∈ Pipeline.restRefs sig spec0)).trans (V_arg m c main_arg3 (by decide))⟩, h.2⟩) (run_counters m ρ hO)

end Cert.DeltaInIdeal.Hand

end
-- ==== Proof.DeltaInIdealOk.lean ====
/-
  The DeltaNet branch's input projection: the table of the rows' groups is a constant, its entries are below 16, so every block
  that it names lies inside its array.
-/
module

public import proofs.«01_k».proof.Defs
public import proofs.«01_k».proof.Proof.DeltaInIdealFrame
public import Idealize.ShloMosaic.Lib.Pointwise.Index
public import Idealize.ShloMosaic.Lib.StableHlo.Run
public import Idealize.ShloMosaic.Lib.Tactic
public import Idealize.ShloMosaic.Lib.Claim

@[expose] public section

set_option maxRecDepth 16384

noncomputable section

namespace Cert.DeltaInIdeal.Hand

open Idealize.ShloMosaic Idealize.ShloMosaic.TcCoe Idealize.SL.Sem
open Cert.DeltaInIdeal Cert.DeltaInIdeal.Gen

variable {F : FTy → Type} [FloatOps F]

/-- The group of the rows of a grid point. -/
def group (pf : pre0.Contents (Elt F)) (i : grid0.Coords) : BitVec 32 := pf 0 (ix1 (⟨(i 0).val, (i 0).isLt⟩ : Fin 144))

theorem at_group (pf : pre0.Contents (Elt F)) (i : grid0.Coords) (h) (h1) :
    pf.at 0 (Rect.unit (s := S144) ![(Scalar.indexCast (BitVec.ofNat 32 (i 0).val)).toNat] S1.size h) h1 = group pf i := by
  unfold group
  refine congrArg (pf 0) (funext fun a => Fin.ext ?_)
  match a with
  | ⟨0, _⟩ =>
    have hi : (i 0).val < 144 := (i 0).isLt
    have e : (Scalar.indexCast (BitVec.ofNat 32 (i 0).val)).toNat = (i 0).val := by
      show (BitVec.ofNat 32 (i 0).val).toNat = _
      rw [BitVec.toNat_ofNat]; omega
    show (Scalar.indexCast (BitVec.ofNat 32 (i 0).val)).toNat + 1 * 0 = (i 0).val
    omega

theorem map_2 (pf : pre0.Contents (Elt F)) (i : grid0.Coords) : cc0_transform_2 k0_off1_inb numel1_S1 pf i = ![(group pf i).toNat, 0, 0, 0] :=
  congrArg (fun a : BitVec 32 => ![a.toNat, 0, 0, 0]) (at_group pf i (k0_off1_inb i) numel1_S1)
theorem map_3 (pf : pre0.Contents (Elt F)) (i : grid0.Coords) : cc0_transform_3 k0_off1_inb numel1_S1 pf i = ![(group pf i).toNat, 1, 0, 0] :=
  congrArg (fun a : BitVec 32 => ![a.toNat, 1, 0, 0]) (at_group pf i (k0_off1_inb i) numel1_S1)

theorem ok_of (pf : pre0.Contents (Elt F)) (h : ∀ i : grid0.Coords, (group pf i).toNat < 16) : ok0 pf := by
  refine ⟨fun i => ⟨fun a => ?_, .inl rfl⟩, fun i => ⟨fun a => ?_, .inl rfl⟩⟩
  · rw [map_2]
    have h0 := h i
    match a with
    | ⟨0, _⟩ => show ((group pf i).toNat + 1) * 1 ≤ 16; omega
    | ⟨1, _⟩ => show (0 + 1) * 1 ≤ 6; omega
    | ⟨2, _⟩ => show (0 + 1) * 1 ≤ 1; omega
    | ⟨3, _⟩ => show (0 + 1) * 2048 ≤ 2048; omega
  · rw [map_3]
    have h0 := h i
    match a with
    | ⟨0, _⟩ => show ((group pf i).toNat + 1) * 1 ≤ 16; omega
    | ⟨1, _⟩ => show (1 + 1) * 1 ≤ 6; omega
    | ⟨2, _⟩ => show (0 + 1) * 1 ≤ 1; omega
    | ⟨3, _⟩ => show (0 + 1) * 2048 ≤ 2048; omega

theorem word_eq : ∀ k : Fin 144, (lit0 k).toNat = k.val / 16 := by decide +kernel

theorem table_eq (m : (ℓ : Loc nD τ sig) → Buf (Elt F) ℓ) : tbl m 0 = (fun i => lit0 (S144.rowMajor i) : IVec S144 32) := by
  show V m (0 : Dev nD) main_c = _
  entry_read
  rfl

theorem row_ix1 (k : Fin 144) : (S144.rowMajor (ix1 k)).val = k.val := by
  show k.val * 1 + 0 = k.val
  omega

theorem group_eq (m : (ℓ : Loc nD τ sig) → Buf (Elt F) ℓ) (i : grid0.Coords) : (group (tbl m) i).toNat = (i 0).val / 16 := by
  have e : group (tbl m) i = lit0 (S144.rowMajor (ix1 (⟨(i 0).val, (i 0).isLt⟩ : Fin 144))) := congrFun (table_eq m) _
  exact (congrArg BitVec.toNat e).trans ((word_eq _).trans (congrArg (fun n : ℕ => n / 16) (row_ix1 _)))

theorem ok (m : (ℓ : Loc nD τ sig) → Buf (Elt F) ℓ) : Ok m := ok_of _ fun i => by
  have hi : (i 0).val < 144 := (i 0).isLt
  rw [group_eq]; omega

end Cert.DeltaInIdeal.Hand

namespace Cert.DeltaInIdeal.Claims

open Idealize.ShloMosaic Idealize.ShloMosaic.TcCoe Idealize.SL.Sem

theorem quiescent : Cert.quiescent_DeltaInIdeal :=
  fun m g _ => Cert.DeltaInIdeal.Hand.quiet m g (Cert.DeltaInIdeal.Hand.ok m)

end Cert.DeltaInIdeal.Claims

end
-- ==== Proof.DeltaInReference.lean ====
/-
  The DeltaNet branch's input projection: the reference read at an index — the row normalised, scaled and shifted for its group,
  times a column of the matrix.
-/
module

public import proofs.«01_k».proof.Defs
public import proofs.«01_k».proof.Proof.Gen.DeltaInReferenceIdeal.Run
public import Idealize.ShloMosaic.Lib.Pointwise
public import Idealize.ShloMosaic.Lib.Pipeline.ValueKit
public import Idealize.ShloMosaic.Lib.KernelVsHost
public import Idealize.ShloMosaic.Lib.Tactic

@[expose] public section

set_option maxRecDepth 16384

noncomputable section

namespace Cert.DeltaInReferenceIdeal.Read

open Idealize.ShloMosaic Idealize.ShloMosaic.TcCoe Idealize.SL.Sem
open Cert.DeltaInReferenceIdeal Cert.DeltaInReferenceIdeal.Gen

/-- The rows before the product. -/
def hidden (x : FVec Ideal S36864x2048 .f32) (g : FVec Ideal S2048 .f32) (md : FVec Ideal S16x6x1x2048 .f32) : FVec Ideal S36864x2048 .f32 :=
  shapeCast _ (addf (mulf (mulf (mulf (shapeCast _ x shapeCasts_S36864x2048_S9x4096x2048) (broadcastInDim S9x4096x2048 ![0, 1, 2] bcast_S9x4096x1_S9x4096x2048_0_1_2 (Host.rsqrt (addf (Host.divf (broadcastInDim S9x4096x1 ![0, 1] bcast_S9x4096_S9x4096x1_0_1 (Host.reduceAdd (mulf (shapeCast _ x shapeCasts_S36864x2048_S9x4096x2048) (shapeCast _ x shapeCasts_S36864x2048_S9x4096x2048)) (constant S_ .f32 0x00000000#32) reducesTo_S9x4096x2048_S9x4096_d2 h_S_)) (broadcastInDim S9x4096x1 ![] bcast_S_S9x4096x1 (constant S_ .f32 0x45000000#32))) (broadcastInDim S9x4096x1 ![] bcast_S_S9x4096x1 (constant S_ .f32 0x358637BD#32)))))) (broadcastInDim S9x4096x2048 ![0, 1, 2] bcast_S1x1x2048_S9x4096x2048_0_1_2 (broadcastInDim S1x1x2048 ![2] bcast_S2048_S1x1x2048_2 g))) (broadcastInDim S9x4096x2048 ![0, 1, 2] bcast_S9x1x2048_S9x4096x2048_0_1_2 (addf (broadcastInDim S9x1x2048 ![] bcast_S_S9x1x2048 (constant S_ .f32 0x3F800000#32)) (shapeCast _ (extractStridedSlice S9x1x1x2048 ![0, 1, 0, 0] md slices_S16x6x1x2048_S9x1x1x2048_0_1_0_0) shapeCasts_S9x1x1x2048_S9x1x2048)))) (broadcastInDim S9x4096x2048 ![0, 1, 2] bcast_S9x1x2048_S9x4096x2048_0_1_2 (shapeCast _ (extractStridedSlice S9x1x1x2048 ![0, 0, 0, 0] md slices_S16x6x1x2048_S9x1x1x2048_0_0_0_0) shapeCasts_S9x1x1x2048_S9x1x2048))) shapeCasts_S9x4096x2048_S36864x2048

/-- The projection over the arguments. -/
def proj (x : FVec Ideal S36864x2048 .f32) (g : FVec Ideal S2048 .f32) (md : FVec Ideal S16x6x1x2048 .f32) (w : FVec Ideal S2048x8256 .f32) : FVec Ideal S36864x8256 .f32 :=
  Host.dotGeneral dot_S36864x2048_S2048x8256_S36864x8256_1_0_0_1_n_n none (hidden x g md) w

/-- The first result: the columns before 8192, rounded. -/
def left (x : FVec Ideal S36864x2048 .f32) (g : FVec Ideal S2048 .f32) (md : FVec Ideal S16x6x1x2048 .f32) (w : FVec Ideal S2048x8256 .f32) : FVec Ideal S36864x8192 .bf16 :=
  truncf .bf16 (extractStridedSlice S36864x8192 ![0, 0] (proj x g md w) slices_S36864x8256_S36864x8192_0_0) bitsLt_bf16_f32

/-- The second result: the other 64 columns, then 64 columns of zeros. -/
def right (x : FVec Ideal S36864x2048 .f32) (g : FVec Ideal S2048 .f32) (md : FVec Ideal S16x6x1x2048 .f32) (w : FVec Ideal S2048x8256 .f32) : FVec Ideal S36864x128 .f32 :=
  pad S36864x128 ![0, 0] ![0, 64] ![0, 0] (extractStridedSlice S36864x64 ![0, 8192] (proj x g md w) slices_S36864x8256_S36864x64_0_8192) (sitofp .f32 (constantI S_ 32 0#32)) pads_S36864x64_S36864x128_000_0640 h_S_

theorem proj_at (x : FVec Ideal S36864x2048 .f32) (g : FVec Ideal S2048 .f32) (md : FVec Ideal S16x6x1x2048 .f32) (w : FVec Ideal S2048x8256 .f32) (r : Fin 36864) (q : Fin 8256) :
    proj x g md w (ix2 r q) = ∑ k : Fin 2048, hidden x g md (ix2 r k) * w (ix2 k q) := by
  pointwise [proj]

theorem left_at (x : FVec Ideal S36864x2048 .f32) (g : FVec Ideal S2048 .f32) (md : FVec Ideal S16x6x1x2048 .f32) (w : FVec Ideal S2048x8256 .f32) (i : S36864x8192.Idx)
    (q : Fin 8256) (hq : q.val = (i 1).val) : left x g md w i = ∑ k : Fin 2048, hidden x g md (ix2 (i 0) k) * w (ix2 k q) := by
  refine Eq.trans (b := proj x g md w (ix2 (i 0) q)) ?_ (proj_at x g md w (i 0) q)
  have e : (⟨(i 1).val, lt_of_lt_of_le (i 1).isLt (by decide : 8192 ≤ 8256)⟩ : Fin 8256) = q := Fin.ext hq.symm
  rw [← e]
  generalize hP : proj x g md w = P
  unfold left
  rw [hP]
  pointwise

theorem right_at (x : FVec Ideal S36864x2048 .f32) (g : FVec Ideal S2048 .f32) (md : FVec Ideal S16x6x1x2048 .f32) (w : FVec Ideal S2048x8256 .f32) (i : S36864x128.Idx)
    (q : Fin 8256) (hq : q.val = 8192 + (i 1).val) : right x g md w i = ∑ k : Fin 2048, hidden x g md (ix2 (i 0) k) * w (ix2 k q) := by
  refine Eq.trans (b := proj x g md w (ix2 (i 0) q)) ?_ (proj_at x g md w (i 0) q)
  generalize hP : proj x g md w = P
  unfold right
  rw [hP]
  pointwise
  have hj : (i 1).val < 64 := by omega
  rw [dif_pos hj]
  exact congrArg P (congrArg (ix2 (i 0)) (Fin.ext hq.symm))

theorem right_zero (x : FVec Ideal S36864x2048 .f32) (g : FVec Ideal S2048 .f32) (md : FVec Ideal S16x6x1x2048 .f32) (w : FVec Ideal S2048x8256 .f32) (i : S36864x128.Idx)
    (hq : 64 ≤ (i 1).val) : right x g md w i = 0 := by
  generalize hP : proj x g md w = P
  unfold right
  rw [hP]
  pointwise
  rw [dif_neg (by omega)]
  exact Idealize.ShloMosaic.sitofp_zero

/-- An entry of a row normalised by its mean square, then scaled and shifted. -/
def entry (row : Fin 2048 → EReal) (k : Fin 2048) (g scale shift : EReal) : EReal :=
  row k * Ideal.rsqrt (Ideal.div (∑ q : Fin 2048, row q * row q) (Ideal.ofBits FTy.f32 1157627904#32) + Ideal.ofBits FTy.f32 897988541#32) * g * (1 + scale) + shift

theorem hidden_at (x : FVec Ideal S36864x2048 .f32) (g : FVec Ideal S2048 .f32) (md : FVec Ideal S16x6x1x2048 .f32) (r : Fin 36864) (k : Fin 2048) (p : Fin 16) (hp : p.val = r.val / 4096) :
    hidden x g md (ix2 r k) = entry (fun q => x (ix2 r q)) k (g (ix1 k)) (md (ix4 p 1 0 k)) (md (ix4 p 0 0 k)) := by
  have e : (⟨r.val / 4096, by omega⟩ : Fin 16) = p := Fin.ext hp.symm
  rw [← e]
  pointwise [hidden, entry]

end Cert.DeltaInReferenceIdeal.Read

end
-- ==== Proof.DeltaInValue.lean ====
/-
  The DeltaNet branch's input projection: the scratch holds a block's normalised rows through its eight column blocks, every point
  writes their product with its columns, the first of the eight also their product with the narrow matrix, and the blocks tile the
  two result arrays.
-/
module

public import proofs.«01_k».proof.Defs
public import proofs.«01_k».proof.Proof.DeltaInIdealOk
public import proofs.«01_k».proof.Proof.DeltaInReference
public import Idealize.ShloMosaic.Lib.Routing.OpsSet
public import Idealize.ShloMosaic.Lib.Pipeline.ValueKit
public import Idealize.ShloMosaic.Lib.Pipeline.ValueKit.Held
public import Idealize.ShloMosaic.Lib.Pipeline.Covers
public import Idealize.ShloMosaic.Lib.Pipeline.ReadBack
public import Idealize.ShloMosaic.Lib.StableHlo.Run
public import Idealize.ShloMosaic.Lib.Tactic
public import Idealize.ShloMosaic.Lib.Claim

@[expose] public section

set_option maxRecDepth 16384

noncomputable section

namespace Cert.DeltaInIdeal.Closed

open Idealize.ShloMosaic Idealize.ShloMosaic.TcCoe Idealize.SL.Sem
open Cert.DeltaInIdeal Cert.DeltaInIdeal.Gen Cert.DeltaInIdeal.Hand
open Cert.DeltaInReferenceIdeal.Read (entry hidden hidden_at left right left_at right_at right_zero)
open Idealize.ShloMosaic.Pipeline (Dat)

variable (m : (ℓ : Loc nD τ sig) → Buf (Elt Ideal) ℓ)

/-- The call's arguments: the rows, the norm's gains, the groups' modulation and the matrix. -/
def argX (c : Dev nD) : FVec Ideal S36864x2048 .f32 := m ((c : Thread nD τ).loc main_arg0)
def argG (c : Dev nD) : FVec Ideal S2048 .f32 := m ((c : Thread nD τ).loc main_arg1)
def argM (c : Dev nD) : FVec Ideal S16x6x1x2048 .f32 := m ((c : Thread nD τ).loc main_arg2)
def argW (c : Dev nD) : FVec Ideal S2048x8256 .f32 := m ((c : Thread nD τ).loc main_arg3)

theorem norm_at (x : FVec Ideal S256x2048 .f32) (g : FVec Ideal S1x2048 .f32) (sh sc : FVec Ideal S1x1x1x2048 .f32) (r : Fin 256) (k : Fin 2048) :
    k0_pay2 (F := Ideal) x g sh sc (ix2 r k) = entry (fun q => x (ix2 r q)) k (g (ix2 0 k)) (sc (ix4 0 0 0 k)) (sh (ix4 0 0 0 k)) := by
  pointwise [k0_pay2, entry]

theorem wide_at (a : FVec Ideal S256x2048 .bf16) (w : FVec Ideal S2048x1024 .bf16) (j : S256x1024.Idx) :
    k0_pay1 (F := Ideal) a w j = ∑ k : Fin 2048, a (ix2 (j 0) k) * w (ix2 k (j 1)) := by
  pointwise [k0_pay1]

theorem narrow_at (a : FVec Ideal S256x2048 .bf16) (w : FVec Ideal S2048x128 .bf16) (j : S256x128.Idx) :
    k0_pay3 (F := Ideal) a w j = ∑ k : Fin 2048, a (ix2 (j 0) k) * w (ix2 k (j 1)) := by
  pointwise [k0_pay3]

/-! ## The narrow matrix: 64 columns, then 64 columns of zeros -/

/-- The columns from 8192 on, written over the first 64 of 128 columns of zeros. -/
def padded (w : FVec Ideal S2048x8256 .f32) : FVec Ideal S2048x128 .f32 :=
  Host.scatter scatter_S2048x128_S1_S2048x64_01_n_1_0 (fun _ b => b) (broadcastInDim S2048x128 ![] bcast_S_S2048x128 (constant S_ .f32 0x00000000#32))
    (broadcastInDim S1 ![] bcast_S_S1 (constantI S_ 32 0#32)) (extractStridedSlice S2048x64 ![0, 8192] w slices_S2048x8256_S2048x64_0_8192)

theorem lands (idx : IVec S1 32) (hidx : idx (ix1 0) = 0#32) (a : Fin 2048) (b : Fin 64) (r : Fin 2048) (q : Fin 128) :
    scatter_S2048x128_S1_S2048x64_01_n_1_0.resultIdx? (ix2 a b) idx = some (ix2 r q) ↔ a.val = r.val ∧ b.val = q.val := by
  have w0 : scatter_S2048x128_S1_S2048x64_01_n_1_0.window (ix2 a b) (0 : Fin 2) = a.val := rfl
  have w1 : scatter_S2048x128_S1_S2048x64_01_n_1_0.window (ix2 a b) (1 : Fin 2) = b.val := rfl
  have s0 : scatter_S2048x128_S1_S2048x64_01_n_1_0.start (ix2 a b) idx (0 : Fin 2) = 0 := rfl
  have s1 : scatter_S2048x128_S1_S2048x64_01_n_1_0.start (ix2 a b) idx (1 : Fin 2) = 0 := by
    refine Eq.trans (b := (idx (scatter_S2048x128_S1_S2048x64_01_n_1_0.siIdx (ix2 a b) (⟨0, Nat.one_pos⟩ : Fin 1))).toInt) rfl ?_
    have e : scatter_S2048x128_S1_S2048x64_01_n_1_0.siIdx (ix2 a b) (⟨0, Nat.one_pos⟩ : Fin 1) = ix1 (0 : Fin 1) := by
      funext u
      match u with
      | ⟨0, _⟩ => exact Subsingleton.elim (α := Fin 1) _ _
    rw [e, hidx]
    rfl
  refine (Routing.resultIdx?_ix2 (R := 2048) (C := 128) scatter_S2048x128_S1_S2048x64_01_n_1_0 (ix2 a b) idx r q).trans ?_
  rw [w0, w1, s0, s1]
  omega

theorem word_at : (broadcastInDim S1 ![] bcast_S_S1 (constantI S_ 32 0#32) : IVec S1 32) (ix1 0) = 0#32 := rfl

theorem update_at (w : FVec Ideal S2048x8256 .f32) (a : Fin 2048) (b : Fin 64) (q : Fin 8256) (hq : q.val = 8192 + b.val) :
    extractStridedSlice S2048x64 ![0, 8192] w slices_S2048x8256_S2048x64_0_8192 (ix2 a b) = w (ix2 a q) := by
  have e : (⟨8192 + b.val, by omega⟩ : Fin 8256) = q := Fin.ext hq.symm
  rw [← e]
  pointwise

theorem padded_at (w : FVec Ideal S2048x8256 .f32) (k : Fin 2048) (j : Fin 128) (q : Fin 8256) (hq : q.val = 8192 + j.val) :
    padded w (ix2 k j) = w (ix2 k q) := by
  have hj : j.val < 64 := by omega
  unfold padded
  refine Routing.scatter_set_hit _ _ _ _ _ _ (fun u hu => ?_) (ix2 k (⟨j.val, hj⟩ : Fin 64)) ((lands _ word_at k ⟨j.val, hj⟩ k j).2 ⟨rfl, rfl⟩)
  obtain ⟨a, b, rfl⟩ : ∃ (a : Fin 2048) (b : Fin 64), u = ix2 a b := ⟨u 0, u 1, ValueIdx.eq_ix2 u⟩
  obtain ⟨h0, h1⟩ := (lands _ word_at a b k j).1 hu
  obtain rfl : a = k := Fin.ext h0
  exact update_at w a b q (by omega)

theorem padded_zero (w : FVec Ideal S2048x8256 .f32) (k : Fin 2048) (j : Fin 128) (hj : 64 ≤ j.val) : padded w (ix2 k j) = 0 := by
  unfold padded
  refine (Routing.scatter_set_miss _ _ _ _ _ fun u hu => ?_).trans ?_
  · obtain ⟨a, b, rfl⟩ : ∃ (a : Fin 2048) (b : Fin 64), u = ix2 a b := ⟨u 0, u 1, ValueIdx.eq_ix2 u⟩
    have h1 := ((lands _ word_at a b k j).1 hu).2
    omega
  · pointwise

/-! ## What the arrays hold when the region starts -/

theorem V_w (c : Dev nD) : V m c main_v6 = extractStridedSlice S2048x8192 ![0, 0] (argW m c) slices_S2048x8256_S2048x8192_0_0 := by
  unfold argW
  entry_read
  rfl
theorem V_n (c : Dev nD) : V m c main_v4 = truncf .bf16 (padded (argW m c)) bitsLt_bf16_f32 := by
  unfold argW padded
  entry_read
  rfl
theorem narrow_entry (a : FVec Ideal S2048x128 .f32) (k : Fin 2048) (j : Fin 128) : (truncf .bf16 a bitsLt_bf16_f32 : FVec Ideal S2048x128 .bf16) (ix2 k j) = a (ix2 k j) := by
  pointwise
theorem left_cols (w : FVec Ideal S2048x8256 .f32) (k : Fin 2048) (j : Fin 8192) (q : Fin 8256) (hq : q.val = j.val) :
    extractStridedSlice S2048x8192 ![0, 0] w slices_S2048x8256_S2048x8192_0_0 (ix2 k j) = w (ix2 k q) := by
  have e : (⟨j.val, by omega⟩ : Fin 8256) = q := Fin.ext hq.symm
  rw [← e]
  pointwise
theorem row_at (b : FVec Ideal S2048 .f32) (k : Fin 2048) : shapeCast S1x2048 b shapeCasts_S2048_S1x2048 (ix2 0 k) = b (ix1 k) := by
  pointwise
theorem V_gain (c : Dev nD) : V m c main_v7 = shapeCast S1x2048 (argG m c) shapeCasts_S2048_S1x2048 := by
  unfold argG
  entry_read
  rfl

/-! ## The blocks at coordinates -/

theorem place_0 (hO : Ok m) (t : Fin (cfgM m hO).N) (y : S256x2048.Idx) (a : Fin 2) :
    ((((cfgM m hO).win 0).rect t).emb y a : ℕ) = (![(BitVec.ofNat 32 (grid0.coords t 0).val).toNat, 0] : Fin 2 → ℕ) a * S256x2048.size a + (y a).val :=
  Pipeline.Window.rect_emb_val ((cfgM m hO).win 0) t y a rfl
theorem rows_blk (hO : Ok m) (c : Dev nD) (t : Fin (cfgM m hO).N) (r : Fin 256) (k : Fin 2048) (i : Fin 36864)
    (hi : i.val = (BitVec.ofNat 32 (grid0.coords t 0).val).toNat * 256 + r.val) :
    (show FVec Ideal S256x2048 .f32 from iblk m hO c 0 t) (ix2 r k) = argX m c (ix2 i k) := by
  refine Eq.trans (b := (V m c main_arg0 : FVec Ideal S36864x2048 .f32) (ix2 i k)) ?_ (congrFun (V_arg m c main_arg0 (by decide)) _)
  refine congrArg (V m c main_arg0 : FVec Ideal S36864x2048 .f32) (funext fun a => Fin.ext ((place_0 m hO t (ix2 r k) a).trans ?_))
  match a with
  | ⟨0, _⟩ =>
    show (BitVec.ofNat 32 (grid0.coords t 0).val).toNat * 256 + r.val = i.val
    omega
  | ⟨1, _⟩ =>
    show 0 * 2048 + k.val = k.val
    omega

theorem place_1 (hO : Ok m) (t : Fin (cfgM m hO).N) (y : S1x2048.Idx) (a : Fin 2) :
    ((((cfgM m hO).win 1).rect t).emb y a : ℕ) = (![0, 0] : Fin 2 → ℕ) a * S1x2048.size a + (y a).val :=
  Pipeline.Window.rect_emb_val ((cfgM m hO).win 1) t y a rfl
theorem gain_blk (hO : Ok m) (c : Dev nD) (t : Fin (cfgM m hO).N) (k : Fin 2048) :
    (show FVec Ideal S1x2048 .f32 from iblk m hO c 1 t) (ix2 0 k) = argG m c (ix1 k) := by
  refine Eq.trans (b := (V m c main_v7 : FVec Ideal S1x2048 .f32) (ix2 0 k)) ?_ ((congrFun (V_gain m c) _).trans (row_at _ k))
  refine congrArg (V m c main_v7 : FVec Ideal S1x2048 .f32) (funext fun a => Fin.ext ((place_1 m hO t (ix2 0 k) a).trans ?_))
  match a with
  | ⟨0, _⟩ =>
    show 0 * 1 + 0 = 0
    omega
  | ⟨1, _⟩ =>
    show 0 * 2048 + k.val = k.val
    omega

theorem place_2 (hO : Ok m) (t : Fin (cfgM m hO).N) (y : S1x1x1x2048.Idx) (a : Fin 4) :
    ((((cfgM m hO).win 2).rect t).emb y a : ℕ) = (![(group (tbl m) (grid0.coords t)).toNat, 0, 0, 0] : Fin 4 → ℕ) a * S1x1x1x2048.size a + (y a).val :=
  (Pipeline.Window.rect_emb_val ((cfgM m hO).win 2) t y a rfl).trans
    (congrArg (fun n : ℕ => n * S1x1x1x2048.size a + (y a).val) (congrFun (map_2 (tbl m) (grid0.coords t)) a))
theorem shift_blk (hO : Ok m) (c : Dev nD) (t : Fin (cfgM m hO).N) (k : Fin 2048) (p : Fin 16)
    (hp : (group (tbl m) (grid0.coords t)).toNat = p.val) :
    (show FVec Ideal S1x1x1x2048 .f32 from iblk m hO c 2 t) (ix4 0 0 0 k) = argM m c (ix4 p 0 0 k) := by
  refine Eq.trans (b := (V m c main_arg2 : FVec Ideal S16x6x1x2048 .f32) (ix4 p 0 0 k)) ?_ (congrFun (V_arg m c main_arg2 (by decide)) _)
  refine congrArg (V m c main_arg2 : FVec Ideal S16x6x1x2048 .f32) (funext fun a => Fin.ext ((place_2 m hO t (ix4 0 0 0 k) a).trans ?_))
  match a with
  | ⟨0, _⟩ =>
    show (group (tbl m) (grid0.coords t)).toNat * 1 + 0 = p.val
    omega
  | ⟨1, _⟩ =>
    show 0 * 1 + 0 = 0
    omega
  | ⟨2, _⟩ =>
    show 0 * 1 + 0 = 0
    omega
  | ⟨3, _⟩ =>
    show 0 * 2048 + k.val = k.val
    omega

theorem place_3 (hO : Ok m) (t : Fin (cfgM m hO).N) (y : S1x1x1x2048.Idx) (a : Fin 4) :
    ((((cfgM m hO).win 3).rect t).emb y a : ℕ) = (![(group (tbl m) (grid0.coords t)).toNat, 1, 0, 0] : Fin 4 → ℕ) a * S1x1x1x2048.size a + (y a).val :=
  (Pipeline.Window.rect_emb_val ((cfgM m hO).win 3) t y a rfl).trans
    (congrArg (fun n : ℕ => n * S1x1x1x2048.size a + (y a).val) (congrFun (map_3 (tbl m) (grid0.coords t)) a))
theorem scale_blk (hO : Ok m) (c : Dev nD) (t : Fin (cfgM m hO).N) (k : Fin 2048) (p : Fin 16)
    (hp : (group (tbl m) (grid0.coords t)).toNat = p.val) :
    (show FVec Ideal S1x1x1x2048 .f32 from iblk m hO c 3 t) (ix4 0 0 0 k) = argM m c (ix4 p 1 0 k) := by
  refine Eq.trans (b := (V m c main_arg2 : FVec Ideal S16x6x1x2048 .f32) (ix4 p 1 0 k)) ?_ (congrFun (V_arg m c main_arg2 (by decide)) _)
  refine congrArg (V m c main_arg2 : FVec Ideal S16x6x1x2048 .f32) (funext fun a => Fin.ext ((place_3 m hO t (ix4 0 0 0 k) a).trans ?_))
  match a with
  | ⟨0, _⟩ =>
    show (group (tbl m) (grid0.coords t)).toNat * 1 + 0 = p.val
    omega
  | ⟨1, _⟩ =>
    show 1 * 1 + 0 = 1
    omega
  | ⟨2, _⟩ =>
    show 0 * 1 + 0 = 0
    omega
  | ⟨3, _⟩ =>
    show 0 * 2048 + k.val = k.val
    omega

theorem place_4 (hO : Ok m) (t : Fin (cfgM m hO).N) (y : S2048x1024.Idx) (a : Fin 2) :
    ((((cfgM m hO).win 4).rect t).emb y a : ℕ) = (![0, (BitVec.ofNat 32 (grid0.coords t 1).val).toNat] : Fin 2 → ℕ) a * S2048x1024.size a + (y a).val :=
  Pipeline.Window.rect_emb_val ((cfgM m hO).win 4) t y a rfl
theorem cols_blk (hO : Ok m) (c : Dev nD) (t : Fin (cfgM m hO).N) (k : Fin 2048) (j : Fin 1024) (q : Fin 8256)
    (hq : q.val = (BitVec.ofNat 32 (grid0.coords t 1).val).toNat * 1024 + j.val) (hw : q.val < 8192) :
    (show FVec Ideal S2048x1024 .bf16 from iblk m hO c 4 t) (ix2 k j) = argW m c (ix2 k q) := by
  refine Eq.trans (b := (V m c main_v6 : FVec Ideal S2048x8192 .bf16) (ix2 k ⟨q.val, hw⟩)) ?_ ((congrFun (V_w m c) _).trans (left_cols (argW m c) k ⟨q.val, hw⟩ q rfl))
  refine congrArg (V m c main_v6 : FVec Ideal S2048x8192 .bf16) (funext fun a => Fin.ext ((place_4 m hO t (ix2 k j) a).trans ?_))
  match a with
  | ⟨0, _⟩ =>
    show 0 * 2048 + k.val = k.val
    omega
  | ⟨1, _⟩ =>
    show (BitVec.ofNat 32 (grid0.coords t 1).val).toNat * 1024 + j.val = q.val
    omega

theorem place_5 (hO : Ok m) (t : Fin (cfgM m hO).N) (y : S2048x128.Idx) (a : Fin 2) :
    ((((cfgM m hO).win 5).rect t).emb y a : ℕ) = (![0, 0] : Fin 2 → ℕ) a * S2048x128.size a + (y a).val :=
  Pipeline.Window.rect_emb_val ((cfgM m hO).win 5) t y a rfl
theorem pad_blk (hO : Ok m) (c : Dev nD) (t : Fin (cfgM m hO).N) (k : Fin 2048) (j : Fin 128) :
    (show FVec Ideal S2048x128 .bf16 from iblk m hO c 5 t) (ix2 k j) = padded (argW m c) (ix2 k j) := by
  refine Eq.trans (b := (V m c main_v4 : FVec Ideal S2048x128 .bf16) (ix2 k j)) ?_ ((congrFun (V_n m c) _).trans (narrow_entry _ k j))
  refine congrArg (V m c main_v4 : FVec Ideal S2048x128 .bf16) (funext fun a => Fin.ext ((place_5 m hO t (ix2 k j) a).trans ?_))
  match a with
  | ⟨0, _⟩ =>
    show 0 * 2048 + k.val = k.val
    omega
  | ⟨1, _⟩ =>
    show 0 * 128 + j.val = j.val
    omega

/-! ## What a point leaves -/

theorem scr_later (hO : Ok m) (c : Dev nD) (t : Fin (cfgM m hO).N) (h : ¬t.val % 8 = 0) :
    scr m hO c t.val t.isLt = scr m hO c (t.val - 1) (Nat.lt_of_le_of_lt (Nat.sub_le _ _) t.isLt) := by
  obtain ⟨n, hn⟩ := t
  cases n with
  | zero => exact absurd (Nat.zero_mod 8) h
  | succ n => exact scr_succ m hO c n hn h

theorem narrow_later (hO : Ok m) (c : Dev nD) (t : Fin (cfgM m hO).N) (h : ¬t.val % 8 = 0) :
    narrow m hO c t.val t.isLt = narrow m hO c (t.val - 1) (Nat.lt_of_le_of_lt (Nat.sub_le _ _) t.isLt) := by
  obtain ⟨n, hn⟩ := t
  cases n with
  | zero => exact absurd (Nat.zero_mod 8) h
  | succ n => exact narrow_succ m hO c n hn h

theorem scr_eq (hO : Ok m) (c : Dev nD) (t : Fin (cfgM m hO).N) :
    scr m hO c t.val t.isLt = hid m hO c ⟨8 * (t.val / 8), Pipeline.run_start_lt t⟩ :=
  Pipeline.eq_of_write_hold (fun n h => scr m hO c n h) 8 (fun u => hid m hO c u)
    (fun t h => scr_first m hO c t h) (fun t h => scr_later m hO c t h) t

theorem narrow_eq (hO : Ok m) (c : Dev nD) (t : Fin (cfgM m hO).N) :
    narrow m hO c t.val t.isLt = (fun u : Fin (cfgM m hO).N => k0_pay3 (F := Ideal) (hid m hO c u) (iblk m hO c 5 u)) ⟨8 * (t.val / 8), Pipeline.run_start_lt t⟩ :=
  Pipeline.eq_of_write_hold (fun n h => narrow m hO c n h) 8 (fun u => k0_pay3 (F := Ideal) (hid m hO c u) (iblk m hO c 5 u))
    (fun t h => narrow_first m hO c t h) (fun t h => narrow_later m hO c t h) t

theorem row_eq : ∀ t : Fin grid0.N, (grid0.coords t 0).val = t.val / 8 := by decide +kernel
theorem col_eq : ∀ t : Fin grid0.N, (grid0.coords t 1).val = t.val % 8 := by decide +kernel

theorem row_word (t : Fin grid0.N) : (BitVec.ofNat 32 (grid0.coords t 0).val).toNat = t.val / 8 := by
  have hN : t.val < 1152 := t.isLt
  rw [row_eq, BitVec.toNat_ofNat]
  omega
theorem col_word (t : Fin grid0.N) : (BitVec.ofNat 32 (grid0.coords t 1).val).toNat = t.val % 8 := by
  rw [col_eq, BitVec.toNat_ofNat]
  omega

/-- The rows that a block of eight points works on are the reference's. -/
theorem hid_at (hO : Ok m) (c : Dev nD) (t : Fin (cfgM m hO).N) (r : Fin 256) (k : Fin 2048) (i : Fin 36864) (hi : i.val = t.val / 8 * 256 + r.val) :
    hid m hO c ⟨8 * (t.val / 8), Pipeline.run_start_lt t⟩ (ix2 r k) = hidden (argX m c) (argG m c) (argM m c) (ix2 i k) := by
  have hN : t.val < 1152 := t.isLt
  have hs : 8 * (t.val / 8) / 8 = t.val / 8 := by omega
  have hr : (BitVec.ofNat 32 (grid0.coords ⟨8 * (t.val / 8), Pipeline.run_start_lt t⟩ 0).val).toNat = t.val / 8 := (row_word _).trans hs
  have hg : (group (tbl m) (grid0.coords ⟨8 * (t.val / 8), Pipeline.run_start_lt t⟩)).toNat = t.val / 8 / 16 :=
    (group_eq m _).trans (congrArg (fun n : ℕ => n / 16) ((row_eq _).trans hs))
  have hp : t.val / 8 / 16 < 16 := by omega
  refine (norm_at _ _ _ _ r k).trans (Eq.trans ?_
    (hidden_at (argX m c) (argG m c) (argM m c) i k ⟨t.val / 8 / 16, hp⟩ (by show t.val / 8 / 16 = i.val / 4096; omega)).symm)
  exact congr (congr (congr (congrArg (fun row : Fin 2048 → EReal => entry row k) (funext fun q => rows_blk m hO c _ r q i (by rw [hr]; exact hi)))
    (gain_blk m hO c _ k)) (scale_blk m hO c _ k ⟨_, hp⟩ hg)) (shift_blk m hO c _ k ⟨_, hp⟩ hg)

/-- The block of the first result that a point leaves is the reference's. -/
theorem block_left (hO : Ok m) (c : Dev nD) (t : Fin (cfgM m hO).N) (j : S256x1024.Idx) (i : S36864x8192.Idx)
    (h0 : (i 0).val = t.val / 8 * 256 + (j 0).val) (h1 : (i 1).val = t.val % 8 * 1024 + (j 1).val) :
    wide m hO c t j = left (argX m c) (argG m c) (argM m c) (argW m c) i := by
  have hi : (i 1).val < 8192 := (i 1).isLt
  unfold wide
  rw [scr_eq]
  refine (wide_at _ _ j).trans (Eq.trans ?_ (left_at _ _ _ _ i ⟨(i 1).val, by omega⟩ rfl).symm)
  exact Finset.sum_congr rfl fun k _ => congrArg₂ (fun a b : EReal => a * b) (hid_at m hO c t (j 0) k (i 0) h0)
    (cols_blk m hO c t k (j 1) ⟨(i 1).val, by omega⟩ (by rw [col_word]; exact h1) hi)

/-- The block of the second result that a point leaves is the reference's. -/
theorem block_right (hO : Ok m) (c : Dev nD) (t : Fin (cfgM m hO).N) (j : S256x128.Idx) (i : S36864x128.Idx)
    (h0 : (i 0).val = t.val / 8 * 256 + (j 0).val) (h1 : (i 1).val = (j 1).val) :
    narrow m hO c t.val t.isLt j = right (argX m c) (argG m c) (argM m c) (argW m c) i := by
  rw [narrow_eq]
  refine (narrow_at _ _ j).trans ?_
  by_cases hj : (j 1).val < 64
  · refine Eq.trans ?_ (right_at _ _ _ _ i ⟨8192 + (j 1).val, by omega⟩ (by rw [h1])).symm
    exact Finset.sum_congr rfl fun k _ => congrArg₂ (fun a b : EReal => a * b) (hid_at m hO c t (j 0) k (i 0) h0)
      ((pad_blk m hO c _ k (j 1)).trans (padded_at _ k (j 1) _ rfl))
  · refine Eq.trans ?_ (right_zero _ _ _ _ i (by omega)).symm
    exact Finset.sum_eq_zero fun k _ => (congrArg (fun b : EReal => _ * b) ((pad_blk m hO c _ k (j 1)).trans (padded_zero _ k (j 1) (by omega)))).trans (mul_zero _)

theorem nblk_6_0 (hO : Ok m) : ((cfgM m hO).win 6).nblk (0 : Fin 2) = 144 := by
  show (36864 + 256 - 1) / 256 = 144
  norm_num
theorem nblk_6_1 (hO : Ok m) : ((cfgM m hO).win 6).nblk (1 : Fin 2) = 8 := by
  show (8192 + 1024 - 1) / 1024 = 8
  norm_num
theorem nblk_7_0 (hO : Ok m) : ((cfgM m hO).win 7).nblk (0 : Fin 2) = 144 := by
  show (36864 + 256 - 1) / 256 = 144
  norm_num
theorem nblk_7_1 (hO : Ok m) : ((cfgM m hO).win 7).nblk (1 : Fin 2) = 1 := by
  show (128 + 128 - 1) / 128 = 1
  norm_num

/-- The first result's window walks the 144 by 8 blocks. -/
theorem cov_left (hO : Ok m) : ((cfgM m hO).win 6).Covers := by
  refine ((cfgM m hO).win 6).covers_of_indexMap_surj rfl (fun a => ?_) fun β => ?_
  · match a with
    | ⟨0, _⟩ => exact (by decide : 0 < 256)
    | ⟨1, _⟩ => exact (by decide : 0 < 1024)
  · have h0 : (β (0 : Fin 2)).val < 144 := lt_of_lt_of_eq (β (0 : Fin 2)).isLt (nblk_6_0 m hO)
    have h1 : (β (1 : Fin 2)).val < 8 := lt_of_lt_of_eq (β (1 : Fin 2)).isLt (nblk_6_1 m hO)
    refine ⟨(fun a => match a with | ⟨0, _⟩ => ⟨(β (0 : Fin 2)).val, h0⟩ | ⟨1, _⟩ => ⟨(β (1 : Fin 2)).val, h1⟩ : grid0.Coords), fun a => ?_⟩
    match a with
    | ⟨0, _⟩ =>
      show (BitVec.ofNat 32 (β (0 : Fin 2)).val).toNat = (β (0 : Fin 2)).val
      rw [BitVec.toNat_ofNat]; omega
    | ⟨1, _⟩ =>
      show (BitVec.ofNat 32 (β (1 : Fin 2)).val).toNat = (β (1 : Fin 2)).val
      rw [BitVec.toNat_ofNat]; omega

/-- The second result's window walks the 144 blocks of rows. -/
theorem cov_right (hO : Ok m) : ((cfgM m hO).win 7).Covers := by
  refine ((cfgM m hO).win 7).covers_of_indexMap_surj rfl (fun a => ?_) fun β => ?_
  · match a with
    | ⟨0, _⟩ => exact (by decide : 0 < 256)
    | ⟨1, _⟩ => exact (by decide : 0 < 128)
  · have h0 : (β (0 : Fin 2)).val < 144 := lt_of_lt_of_eq (β (0 : Fin 2)).isLt (nblk_7_0 m hO)
    have h1 : (β (1 : Fin 2)).val < 1 := lt_of_lt_of_eq (β (1 : Fin 2)).isLt (nblk_7_1 m hO)
    refine ⟨(fun a => match a with | ⟨0, _⟩ => ⟨(β (0 : Fin 2)).val, h0⟩ | ⟨1, _⟩ => ⟨0, (by decide : 0 < 8)⟩ : grid0.Coords), fun a => ?_⟩
    match a with
    | ⟨0, _⟩ =>
      show (BitVec.ofNat 32 (β (0 : Fin 2)).val).toNat = (β (0 : Fin 2)).val
      rw [BitVec.toNat_ofNat]; omega
    | ⟨1, _⟩ =>
      show 0 = (β (1 : Fin 2)).val
      omega

theorem place_6 (hO : Ok m) (t : Fin (cfgM m hO).N) (y : S256x1024.Idx) (a : Fin 2) :
    ((((cfgM m hO).win 6).rect t).emb y a : ℕ) = (![(BitVec.ofNat 32 (grid0.coords t 0).val).toNat, (BitVec.ofNat 32 (grid0.coords t 1).val).toNat] : Fin 2 → ℕ) a * S256x1024.size a + (y a).val :=
  Pipeline.Window.rect_emb_val ((cfgM m hO).win 6) t y a rfl
theorem place_7 (hO : Ok m) (t : Fin (cfgM m hO).N) (y : S256x128.Idx) (a : Fin 2) :
    ((((cfgM m hO).win 7).rect t).emb y a : ℕ) = (![(BitVec.ofNat 32 (grid0.coords t 0).val).toNat, 0] : Fin 2 → ℕ) a * S256x128.size a + (y a).val :=
  Pipeline.Window.rect_emb_val ((cfgM m hO).win 7) t y a rfl

theorem final_left (hO : Ok m) (c : Dev nD) : (dats m hO 0 c).arrAt 6 (cfgM m hO).N = left (argX m c) (argG m c) (argM m c) (argW m c) := by
  refine (dats m hO 0 c).arrAt_eq_of_covers 6 _ (cov_left m hO) fun t _ y => ?_
  refine (congrFun (after_6 m hO c t) y).trans (block_left m hO c t y _ ?_ ?_)
  · refine (place_6 m hO t y 0).trans ?_
    show (BitVec.ofNat 32 (grid0.coords t 0).val).toNat * 256 + (y (0 : Fin 2)).val = t.val / 8 * 256 + (y (0 : Fin 2)).val
    exact congrArg (fun n : ℕ => n * 256 + (y (0 : Fin 2)).val) (row_word t)
  · refine (place_6 m hO t y 1).trans ?_
    show (BitVec.ofNat 32 (grid0.coords t 1).val).toNat * 1024 + (y (1 : Fin 2)).val = t.val % 8 * 1024 + (y (1 : Fin 2)).val
    exact congrArg (fun n : ℕ => n * 1024 + (y (1 : Fin 2)).val) (col_word t)

theorem final_right (hO : Ok m) (c : Dev nD) : (dats m hO 0 c).arrAt 7 (cfgM m hO).N = right (argX m c) (argG m c) (argM m c) (argW m c) := by
  refine (dats m hO 0 c).arrAt_eq_of_covers 7 _ (cov_right m hO) fun t _ y => ?_
  refine (congrFun (after_7 m hO c t) y).trans (block_right m hO c t y _ ?_ ?_)
  · refine (place_7 m hO t y 0).trans ?_
    show (BitVec.ofNat 32 (grid0.coords t 0).val).toNat * 256 + (y (0 : Fin 2)).val = t.val / 8 * 256 + (y (0 : Fin 2)).val
    exact congrArg (fun n : ℕ => n * 256 + (y (0 : Fin 2)).val) (row_word t)
  · refine (place_7 m hO t y 1).trans ?_
    show 0 * 128 + (y (1 : Fin 2)).val = (y (1 : Fin 2)).val
    omega

end Cert.DeltaInIdeal.Closed

namespace Cert.DeltaInClaims

open Idealize.ShloMosaic Idealize.ShloMosaic.TcCoe Idealize.SL.Sem

theorem algebraic : Cert.algebraic_DeltaInIdeal_DeltaInReferenceIdeal := by
  intro m g m' g' _ hargs
  have hO := Cert.DeltaInIdeal.Hand.ok m
  refine ⟨fun c => Cert.DeltaInReferenceIdeal.Read.left (Cert.DeltaInIdeal.Closed.argX m c) (Cert.DeltaInIdeal.Closed.argG m c)
      (Cert.DeltaInIdeal.Closed.argM m c) (Cert.DeltaInIdeal.Closed.argW m c),
    fun c => Cert.DeltaInReferenceIdeal.Read.right (Cert.DeltaInIdeal.Closed.argX m c) (Cert.DeltaInIdeal.Closed.argG m c)
      (Cert.DeltaInIdeal.Closed.argM m c) (Cert.DeltaInIdeal.Closed.argW m c), ?_, ?_⟩
  · exact (θ_run Cert.DeltaInIdeal.defs _ _).mono (fun r h c => ⟨((h.1.1 c).1 6).trans (Cert.DeltaInIdeal.Closed.final_left m hO c),
      ((h.1.1 c).1 7).trans (Cert.DeltaInIdeal.Closed.final_right m hO c), h.2.1 c⟩)
      (θ_run_and (Cert.DeltaInIdeal.Hand.run_counters m g hO) (Cert.DeltaInIdeal.Hand.quiet m g hO))
  · refine (θ_run Cert.DeltaInReferenceIdeal.defs _ _).mono (fun r h c => ⟨(h c).1.trans ?_, (h c).2.1.trans ?_, (h c).2.2⟩)
      (Cert.DeltaInReferenceIdeal.Value.run m' g')
    · obtain ⟨h0, h1, h2, h3⟩ := hargs c
      rw [h0, h1, h2, h3]
      rfl
    · obtain ⟨h0, h1, h2, h3⟩ := hargs c
      rw [h0, h1, h2, h3]
      rfl

end Cert.DeltaInClaims

end
-- ==== Proof.DeltaOutIdealOk.lean ====
/-
  The DeltaNet branch's output projection: the table of the rows' groups is a constant, its entries are below 16, so every block
  that it names lies inside its array.
-/
module

public import proofs.«01_k».proof.Defs
public import proofs.«01_k».proof.Proof.Gen.DeltaOutIdeal.Frame
public import Idealize.ShloMosaic.Lib.Pointwise.Index
public import Idealize.ShloMosaic.Lib.StableHlo.Run
public import Idealize.ShloMosaic.Lib.Tactic
public import Idealize.ShloMosaic.Lib.Claim

@[expose] public section

set_option maxRecDepth 16384

noncomputable section

namespace Cert.DeltaOutIdeal.Hand

open Idealize.ShloMosaic Idealize.ShloMosaic.TcCoe Idealize.SL.Sem
open Cert.DeltaOutIdeal Cert.DeltaOutIdeal.Gen

variable {F : FTy → Type} [FloatOps F]

/-- The group of the rows of a grid point. -/
def group (pf : pre0.Contents (Elt F)) (i : grid0.Coords) : BitVec 32 := pf 0 (ix1 (⟨(i 0).val, (i 0).isLt⟩ : Fin 144))

theorem at_group (pf : pre0.Contents (Elt F)) (i : grid0.Coords) (h) (h1) :
    pf.at 0 (Rect.unit (s := S144) ![(Scalar.indexCast (BitVec.ofNat 32 (i 0).val)).toNat] S1.size h) h1 = group pf i := by
  unfold group
  refine congrArg (pf 0) (funext fun a => Fin.ext ?_)
  match a with
  | ⟨0, _⟩ =>
    have hi : (i 0).val < 144 := (i 0).isLt
    have e : (Scalar.indexCast (BitVec.ofNat 32 (i 0).val)).toNat = (i 0).val := by
      show (BitVec.ofNat 32 (i 0).val).toNat = _
      rw [BitVec.toNat_ofNat]; omega
    show (Scalar.indexCast (BitVec.ofNat 32 (i 0).val)).toNat + 1 * 0 = (i 0).val
    omega

theorem map_3 (pf : pre0.Contents (Elt F)) (i : grid0.Coords) :
    cc0_transform_3 k0_off1_inb numel1_S1 pf i = ![(group pf i).toNat, 2, 0, (BitVec.ofNat 32 (i 1).val).toNat] :=
  congrArg (fun a : BitVec 32 => ![a.toNat, 2, 0, (BitVec.ofNat 32 (i 1).val).toNat]) (at_group pf i (k0_off1_inb i) numel1_S1)

theorem ok_of (pf : pre0.Contents (Elt F)) (h : ∀ i : grid0.Coords, (group pf i).toNat < 16) : ok0 pf := by
  refine fun i => ⟨fun a => ?_, .inl rfl⟩
  rw [map_3]
  have h0 := h i
  have h1 : (i 1).val < 2 := (i 1).isLt
  match a with
  | ⟨0, _⟩ => show ((group pf i).toNat + 1) * 1 ≤ 16; omega
  | ⟨1, _⟩ => show (2 + 1) * 1 ≤ 6; omega
  | ⟨2, _⟩ => show (0 + 1) * 1 ≤ 1; omega
  | ⟨3, _⟩ => show ((BitVec.ofNat 32 (i 1).val).toNat + 1) * 1024 ≤ 2048; rw [BitVec.toNat_ofNat]; omega

theorem word_eq : ∀ k : Fin 144, (lit0 k).toNat = k.val / 16 := by decide +kernel

theorem table_eq (m : (ℓ : Loc nD τ sig) → Buf (Elt F) ℓ) : tbl m 0 = (fun i => lit0 (S144.rowMajor i) : IVec S144 32) := by
  show V m (0 : Dev nD) main_c = _
  entry_read
  rfl

theorem row_ix1 (k : Fin 144) : (S144.rowMajor (ix1 k)).val = k.val := by
  show k.val * 1 + 0 = k.val
  omega

theorem group_eq (m : (ℓ : Loc nD τ sig) → Buf (Elt F) ℓ) (i : grid0.Coords) : (group (tbl m) i).toNat = (i 0).val / 16 := by
  have e : group (tbl m) i = lit0 (S144.rowMajor (ix1 (⟨(i 0).val, (i 0).isLt⟩ : Fin 144))) := congrFun (table_eq m) _
  exact (congrArg BitVec.toNat e).trans ((word_eq _).trans (congrArg (fun n : ℕ => n / 16) (row_ix1 _)))

theorem ok (m : (ℓ : Loc nD τ sig) → Buf (Elt F) ℓ) : Ok m := ok_of _ fun i => by
  have hi : (i 0).val < 144 := (i 0).isLt
  rw [group_eq]; omega

end Cert.DeltaOutIdeal.Hand

namespace Cert.DeltaOutIdeal.Claims

open Idealize.ShloMosaic Idealize.ShloMosaic.TcCoe Idealize.SL.Sem

theorem quiescent : Cert.quiescent_DeltaOutIdeal :=
  fun m g _ => Cert.DeltaOutIdeal.Gen.frame m g (Cert.DeltaOutIdeal.Hand.ok m)

end Cert.DeltaOutIdeal.Claims

end
-- ==== Proof.DeltaOutReference.lean ====
/-
  The DeltaNet branch's output projection: the reference read at an index — the residual plus the group's gate times a row's product with a column of the matrix.
-/
module

public import proofs.«01_k».proof.Defs
public import proofs.«01_k».proof.Proof.Gen.DeltaOutReferenceIdeal.Run
public import Idealize.ShloMosaic.Lib.Pointwise
public import Idealize.ShloMosaic.Lib.Pipeline.ValueKit
public import Idealize.ShloMosaic.Lib.Tactic

@[expose] public section

set_option maxRecDepth 16384

noncomputable section

namespace Cert.DeltaOutReferenceIdeal.Read

open Idealize.ShloMosaic Idealize.ShloMosaic.TcCoe Idealize.SL.Sem
open Cert.DeltaOutReferenceIdeal Cert.DeltaOutReferenceIdeal.Gen

/-- The rows before the product. -/
def hidden (og : FVec Ideal S36864x2048 .bf16) : FVec Ideal S36864x2048 .f32 :=
  extf .f32 og bitsLt_bf16_f32

theorem hidden_at (og : FVec Ideal S36864x2048 .bf16) (r : Fin 36864) (k : Fin 2048) : hidden og (ix2 r k) = og (ix2 r k) := by
  pointwise [hidden]

/-- The gated sum over the arguments. -/
def gated (og : FVec Ideal S36864x2048 .bf16) (w : FVec Ideal S2048x2048 .f32) (md : FVec Ideal S16x6x1x2048 .f32) (res : FVec Ideal S36864x2048 .f32) : FVec Ideal S36864x2048 .f32 :=
  shapeCast _ (addf (shapeCast _ res shapeCasts_S36864x2048_S9x4096x2048) (mulf (broadcastInDim S9x4096x2048 ![0, 1, 2] bcast_S9x1x2048_S9x4096x2048_0_1_2 (shapeCast _ (extractStridedSlice S9x1x1x2048 ![0, 2, 0, 0] md slices_S16x6x1x2048_S9x1x1x2048_0_2_0_0) shapeCasts_S9x1x1x2048_S9x1x2048)) (shapeCast _ (Host.dotGeneral dot_S36864x2048_S2048x2048_S36864x2048_1_0_0_1_n_n none (hidden og) w) shapeCasts_S36864x2048_S9x4096x2048))) shapeCasts_S9x4096x2048_S36864x2048

theorem gated_at (og : FVec Ideal S36864x2048 .bf16) (w : FVec Ideal S2048x2048 .f32) (md : FVec Ideal S16x6x1x2048 .f32) (res : FVec Ideal S36864x2048 .f32) (r : Fin 36864) (q : Fin 2048) (p : Fin 16) (hp : p.val = r.val / 4096) :
    gated og w md res (ix2 r q) = res (ix2 r q) + md (ix4 p 2 0 q) * ∑ k : Fin 2048, hidden og (ix2 r k) * w (ix2 k q) := by
  have e : (⟨r.val / 4096, by omega⟩ : Fin 16) = p := Fin.ext hp.symm
  rw [← e]
  pointwise [gated]

end Cert.DeltaOutReferenceIdeal.Read

end
-- ==== Proof.DeltaOutValue.lean ====
/-
  The DeltaNet branch's output projection: the scratch holds a block's rows through its two column blocks, every point writes the residual's block
  plus the group's gate times their product, and the 288 blocks tile the result array.
-/
module

public import proofs.«01_k».proof.Defs
public import proofs.«01_k».proof.Proof.DeltaOutIdealOk
public import proofs.«01_k».proof.Proof.DeltaOutReference
public import Idealize.ShloMosaic.Lib.Pipeline.ValueKit
public import Idealize.ShloMosaic.Lib.Pipeline.ValueKit.Held
public import Idealize.ShloMosaic.Lib.Pipeline.Covers
public import Idealize.ShloMosaic.Lib.Pipeline.ReadBack
public import Idealize.ShloMosaic.Lib.StableHlo.Run
public import Idealize.ShloMosaic.Lib.Tactic
public import Idealize.ShloMosaic.Lib.Claim

@[expose] public section

set_option maxRecDepth 16384

noncomputable section

namespace Cert.DeltaOutIdeal.Closed

open Idealize.ShloMosaic Idealize.ShloMosaic.TcCoe Idealize.SL.Sem
open Cert.DeltaOutIdeal Cert.DeltaOutIdeal.Gen Cert.DeltaOutIdeal.Hand
open Cert.DeltaOutReferenceIdeal.Read (hidden hidden_at gated gated_at)
open Idealize.ShloMosaic.Pipeline (Dat)

variable (m : (ℓ : Loc nD τ sig) → Buf (Elt Ideal) ℓ)

/-- The call's arguments: the rows, the matrix, the groups' modulation and the residual. -/
def argO (c : Dev nD) : FVec Ideal S36864x2048 .bf16 := m ((c : Thread nD τ).loc main_arg0)
def argW (c : Dev nD) : FVec Ideal S2048x2048 .f32 := m ((c : Thread nD τ).loc main_arg1)
def argM (c : Dev nD) : FVec Ideal S16x6x1x2048 .f32 := m ((c : Thread nD τ).loc main_arg2)
def argR (c : Dev nD) : FVec Ideal S36864x2048 .f32 := m ((c : Thread nD τ).loc main_arg3)

theorem copy_at (x : FVec Ideal S256x2048 .bf16) (r : Fin 256) (k : Fin 2048) : k0_pay1 (F := Ideal) x (ix2 r k) = x (ix2 r k) := by
  pointwise [k0_pay1]

theorem sum_at (a : FVec Ideal S256x2048 .bf16) (w : FVec Ideal S2048x1024 .bf16) (r : FVec Ideal S256x1024 .f32) (g : FVec Ideal S1x1x1x1024 .f32)
    (j : Fin 256) (l : Fin 1024) :
    k0_pay2 (F := Ideal) a w r g (ix2 j l) = r (ix2 j l) + g (ix4 0 0 0 l) * ∑ k : Fin 2048, a (ix2 j k) * w (ix2 k l) := by
  pointwise [k0_pay2]

/-! ## What the arrays hold when the region starts -/

theorem V_w (c : Dev nD) : V m c main_v0 = argW m c := by
  unfold argW
  entry_read
  rfl

/-! ## The blocks at coordinates -/

theorem place_0 (hO : Ok m) (t : Fin (cfgM m hO).N) (y : S256x2048.Idx) (a : Fin 2) :
    ((((cfgM m hO).win 0).rect t).emb y a : ℕ) = (![(BitVec.ofNat 32 (grid0.coords t 0).val).toNat, 0] : Fin 2 → ℕ) a * S256x2048.size a + (y a).val :=
  Pipeline.Window.rect_emb_val ((cfgM m hO).win 0) t y a rfl
theorem rows_o (hO : Ok m) (c : Dev nD) (t : Fin (cfgM m hO).N) (r : Fin 256) (k : Fin 2048) (i : Fin 36864)
    (hi : i.val = (BitVec.ofNat 32 (grid0.coords t 0).val).toNat * 256 + r.val) :
    (show FVec Ideal S256x2048 .bf16 from iblk m hO c 0 t) (ix2 r k) = argO m c (ix2 i k) := by
  refine Eq.trans (b := (V m c main_arg0 : FVec Ideal S36864x2048 .bf16) (ix2 i k)) ?_ (congrFun (V_main_arg0 m c) _)
  refine congrArg (V m c main_arg0 : FVec Ideal S36864x2048 .bf16) (funext fun a => Fin.ext ((place_0 m hO t (ix2 r k) a).trans ?_))
  match a with
  | ⟨0, _⟩ =>
    show (BitVec.ofNat 32 (grid0.coords t 0).val).toNat * 256 + r.val = i.val
    omega
  | ⟨1, _⟩ =>
    show 0 * 2048 + k.val = k.val
    omega

theorem place_1 (hO : Ok m) (t : Fin (cfgM m hO).N) (y : S2048x1024.Idx) (a : Fin 2) :
    ((((cfgM m hO).win 1).rect t).emb y a : ℕ) = (![0, (BitVec.ofNat 32 (grid0.coords t 1).val).toNat] : Fin 2 → ℕ) a * S2048x1024.size a + (y a).val :=
  Pipeline.Window.rect_emb_val ((cfgM m hO).win 1) t y a rfl
theorem cols_blk (hO : Ok m) (c : Dev nD) (t : Fin (cfgM m hO).N) (k : Fin 2048) (j : Fin 1024) (q : Fin 2048)
    (hq : q.val = (BitVec.ofNat 32 (grid0.coords t 1).val).toNat * 1024 + j.val) :
    (show FVec Ideal S2048x1024 .bf16 from iblk m hO c 1 t) (ix2 k j) = argW m c (ix2 k q) := by
  refine Eq.trans (b := (V m c main_v0 : FVec Ideal S2048x2048 .bf16) (ix2 k q)) ?_ (congrFun (V_w m c) _)
  refine congrArg (V m c main_v0 : FVec Ideal S2048x2048 .bf16) (funext fun a => Fin.ext ((place_1 m hO t (ix2 k j) a).trans ?_))
  match a with
  | ⟨0, _⟩ =>
    show 0 * 2048 + k.val = k.val
    omega
  | ⟨1, _⟩ =>
    show (BitVec.ofNat 32 (grid0.coords t 1).val).toNat * 1024 + j.val = q.val
    omega

theorem place_2 (hO : Ok m) (t : Fin (cfgM m hO).N) (y : S256x1024.Idx) (a : Fin 2) :
    ((((cfgM m hO).win 2).rect t).emb y a : ℕ) = (![(BitVec.ofNat 32 (grid0.coords t 0).val).toNat, (BitVec.ofNat 32 (grid0.coords t 1).val).toNat] : Fin 2 → ℕ) a * S256x1024.size a + (y a).val :=
  Pipeline.Window.rect_emb_val ((cfgM m hO).win 2) t y a rfl
theorem res_blk (hO : Ok m) (c : Dev nD) (t : Fin (cfgM m hO).N) (r : Fin 256) (j : Fin 1024) (i : Fin 36864) (q : Fin 2048)
    (hi : i.val = (BitVec.ofNat 32 (grid0.coords t 0).val).toNat * 256 + r.val) (hq : q.val = (BitVec.ofNat 32 (grid0.coords t 1).val).toNat * 1024 + j.val) :
    (show FVec Ideal S256x1024 .f32 from iblk m hO c 2 t) (ix2 r j) = argR m c (ix2 i q) := by
  refine Eq.trans (b := (V m c main_arg3 : FVec Ideal S36864x2048 .f32) (ix2 i q)) ?_ (congrFun (V_main_arg3 m c) _)
  refine congrArg (V m c main_arg3 : FVec Ideal S36864x2048 .f32) (funext fun a => Fin.ext ((place_2 m hO t (ix2 r j) a).trans ?_))
  match a with
  | ⟨0, _⟩ =>
    show (BitVec.ofNat 32 (grid0.coords t 0).val).toNat * 256 + r.val = i.val
    omega
  | ⟨1, _⟩ =>
    show (BitVec.ofNat 32 (grid0.coords t 1).val).toNat * 1024 + j.val = q.val
    omega

theorem place_3 (hO : Ok m) (t : Fin (cfgM m hO).N) (y : S1x1x1x1024.Idx) (a : Fin 4) :
    ((((cfgM m hO).win 3).rect t).emb y a : ℕ) = (![(group (tbl m) (grid0.coords t)).toNat, 2, 0, (BitVec.ofNat 32 (grid0.coords t 1).val).toNat] : Fin 4 → ℕ) a * S1x1x1x1024.size a + (y a).val :=
  (Pipeline.Window.rect_emb_val ((cfgM m hO).win 3) t y a rfl).trans
    (congrArg (fun n : ℕ => n * S1x1x1x1024.size a + (y a).val) (congrFun (map_3 (tbl m) (grid0.coords t)) a))
theorem gate_blk (hO : Ok m) (c : Dev nD) (t : Fin (cfgM m hO).N) (j : Fin 1024) (q : Fin 2048) (p : Fin 16)
    (hp : (group (tbl m) (grid0.coords t)).toNat = p.val) (hq : q.val = (BitVec.ofNat 32 (grid0.coords t 1).val).toNat * 1024 + j.val) :
    (show FVec Ideal S1x1x1x1024 .f32 from iblk m hO c 3 t) (ix4 0 0 0 j) = argM m c (ix4 p 2 0 q) := by
  refine Eq.trans (b := (V m c main_arg2 : FVec Ideal S16x6x1x2048 .f32) (ix4 p 2 0 q)) ?_ (congrFun (V_main_arg2 m c) _)
  refine congrArg (V m c main_arg2 : FVec Ideal S16x6x1x2048 .f32) (funext fun a => Fin.ext ((place_3 m hO t (ix4 0 0 0 j) a).trans ?_))
  match a with
  | ⟨0, _⟩ =>
    show (group (tbl m) (grid0.coords t)).toNat * 1 + 0 = p.val
    omega
  | ⟨1, _⟩ =>
    show 2 * 1 + 0 = 2
    omega
  | ⟨2, _⟩ =>
    show 0 * 1 + 0 = 0
    omega
  | ⟨3, _⟩ =>
    show (BitVec.ofNat 32 (grid0.coords t 1).val).toNat * 1024 + j.val = q.val
    omega

/-! ## What a point leaves -/

theorem scr_first (hO : Ok m) (c : Dev nD) (t : Fin (cfgM m hO).N) (h : t.val % 2 = 0) :
    (outsAt0 m hO c t.val t.isLt).2 = k0_pay1 (F := Ideal) (iblk m hO c 0 t) := by
  rw [outsAt0_A m hO c t h]
  frame_out
  exact congrArg _ (Memref.IsWhole.read_unread _ _)

theorem scr_later (hO : Ok m) (c : Dev nD) (t : Fin (cfgM m hO).N) (h : ¬t.val % 2 = 0) :
    (outsAt0 m hO c t.val t.isLt).2 = (outsAt0 m hO c (t.val - 1) (Nat.lt_of_le_of_lt (Nat.sub_le _ _) t.isLt)).2 := by
  rw [outsAt0_B m hO c t h]
  rfl

theorem out_eq (hO : Ok m) (c : Dev nD) (t : Fin (cfgM m hO).N) :
    (outsAt0 m hO c t.val t.isLt).1 = k0_pay2 (F := Ideal) (outsAt0 m hO c t.val t.isLt).2 (iblk m hO c 1 t) (iblk m hO c 2 t) (iblk m hO c 3 t) := by
  by_cases h : t.val % 2 = 0
  · rw [outsAt0_A m hO c t h]
    frame_out
    exact congr (congr (congrArg _ (Memref.IsWhole.read_unread _ _)) (Memref.IsWhole.read_unread _ _)) (Memref.IsWhole.read_unread _ _)
  · rw [scr_later m hO c t h, outsAt0_B m hO c t h]
    frame_out
    exact congr (congr (congr (congrArg _ (Memref.IsWhole.read_unread _ _)) (Memref.IsWhole.read_unread _ _)) (Memref.IsWhole.read_unread _ _)) (Memref.IsWhole.read_unread _ _)

theorem scr_eq (hO : Ok m) (c : Dev nD) (t : Fin (cfgM m hO).N) :
    (outsAt0 m hO c t.val t.isLt).2 = (fun u : Fin (cfgM m hO).N => k0_pay1 (F := Ideal) (iblk m hO c 0 u))
      ⟨2 * (t.val / 2), Pipeline.run_start_lt t⟩ :=
  Pipeline.eq_of_write_hold (fun n h => (outsAt0 m hO c n h).2) 2
    (fun u => k0_pay1 (F := Ideal) (iblk m hO c 0 u))
    (fun t h => scr_first m hO c t h) (fun t h => scr_later m hO c t h) t

theorem row_eq : ∀ t : Fin grid0.N, (grid0.coords t 0).val = t.val / 2 := by decide +kernel
theorem col_eq : ∀ t : Fin grid0.N, (grid0.coords t 1).val = t.val % 2 := by decide +kernel

theorem row_word (t : Fin grid0.N) : (BitVec.ofNat 32 (grid0.coords t 0).val).toNat = t.val / 2 := by
  have hN : t.val < 288 := t.isLt
  rw [row_eq, BitVec.toNat_ofNat]
  omega
theorem col_word (t : Fin grid0.N) : (BitVec.ofNat 32 (grid0.coords t 1).val).toNat = t.val % 2 := by
  rw [col_eq, BitVec.toNat_ofNat]
  omega

/-- The block a point leaves is the reference's. -/
theorem block (hO : Ok m) (c : Dev nD) (t : Fin (cfgM m hO).N) (r : Fin 256) (l : Fin 1024) (i : Fin 36864) (q : Fin 2048)
    (h0 : i.val = t.val / 2 * 256 + r.val) (h1 : q.val = t.val % 2 * 1024 + l.val) :
    (outsAt0 m hO c t.val t.isLt).1 (ix2 r l) = gated (argO m c) (argW m c) (argM m c) (argR m c) (ix2 i q) := by
  have hN : t.val < 288 := t.isLt
  have hj : r.val < 256 := r.isLt
  rw [out_eq, scr_eq]
  have hs : 2 * (t.val / 2) / 2 = t.val / 2 := by omega
  have hr : (BitVec.ofNat 32 (grid0.coords ⟨2 * (t.val / 2), Pipeline.run_start_lt t⟩ 0).val).toNat = t.val / 2 := (row_word _).trans hs
  have hg : (group (tbl m) (grid0.coords t)).toNat = t.val / 2 / 16 :=
    (group_eq m _).trans (congrArg (fun n : ℕ => n / 16) (row_eq _))
  have hp : t.val / 2 / 16 < 16 := by omega
  have hc : q.val = (BitVec.ofNat 32 (grid0.coords t 1).val).toNat * 1024 + l.val := by rw [col_word]; exact h1
  have ht : i.val = (BitVec.ofNat 32 (grid0.coords t 0).val).toNat * 256 + r.val := by rw [row_word]; exact h0
  refine (sum_at _ _ _ _ r l).trans (Eq.trans ?_ (gated_at (argO m c) (argW m c) (argM m c) (argR m c) i q ⟨t.val / 2 / 16, hp⟩ (by show t.val / 2 / 16 = i.val / 4096; omega)).symm)
  refine congrArg₂ (fun a b : EReal => a + b) (res_blk m hO c t r l i q ht hc) (congrArg₂ (fun a b : EReal => a * b) (gate_blk m hO c t l q _ hg hc) ?_)
  refine Finset.sum_congr rfl fun k _ => congrArg₂ (fun a b : EReal => a * b) ?_ (cols_blk m hO c t k l q hc)
  exact (copy_at _ r k).trans ((rows_o m hO c _ r k i (by rw [hr]; exact h0)).trans (hidden_at (argO m c) i k).symm)

theorem nblk_0 (hO : Ok m) : ((cfgM m hO).win 4).nblk (0 : Fin 2) = 144 := by
  show (36864 + 256 - 1) / 256 = 144
  norm_num
theorem nblk_1 (hO : Ok m) : ((cfgM m hO).win 4).nblk (1 : Fin 2) = 2 := by
  show (2048 + 1024 - 1) / 1024 = 2
  norm_num

/-- The result's window walks the 144 by 2 blocks. -/
theorem cov (hO : Ok m) : ((cfgM m hO).win 4).Covers := by
  refine ((cfgM m hO).win 4).covers_of_indexMap_surj rfl (fun a => ?_) fun β => ?_
  · match a with
    | ⟨0, _⟩ => exact (by decide : 0 < 256)
    | ⟨1, _⟩ => exact (by decide : 0 < 1024)
  · have h0 : (β (0 : Fin 2)).val < 144 := lt_of_lt_of_eq (β (0 : Fin 2)).isLt (nblk_0 m hO)
    have h1 : (β (1 : Fin 2)).val < 2 := lt_of_lt_of_eq (β (1 : Fin 2)).isLt (nblk_1 m hO)
    refine ⟨(fun a => match a with | ⟨0, _⟩ => ⟨(β (0 : Fin 2)).val, h0⟩ | ⟨1, _⟩ => ⟨(β (1 : Fin 2)).val, h1⟩ : grid0.Coords), fun a => ?_⟩
    match a with
    | ⟨0, _⟩ =>
      show (BitVec.ofNat 32 (β (0 : Fin 2)).val).toNat = (β (0 : Fin 2)).val
      rw [BitVec.toNat_ofNat]; omega
    | ⟨1, _⟩ =>
      show (BitVec.ofNat 32 (β (1 : Fin 2)).val).toNat = (β (1 : Fin 2)).val
      rw [BitVec.toNat_ofNat]; omega

theorem place_4 (hO : Ok m) (t : Fin (cfgM m hO).N) (y : S256x1024.Idx) (a : Fin 2) :
    ((((cfgM m hO).win 4).rect t).emb y a : ℕ) = (![(BitVec.ofNat 32 (grid0.coords t 0).val).toNat, (BitVec.ofNat 32 (grid0.coords t 1).val).toNat] : Fin 2 → ℕ) a * S256x1024.size a + (y a).val :=
  Pipeline.Window.rect_emb_val ((cfgM m hO).win 4) t y a rfl

theorem final (hO : Ok m) (c : Dev nD) : (dats m hO 0 c).arrAt 4 (cfgM m hO).N = gated (argO m c) (argW m c) (argM m c) (argR m c) := by
  refine (dats m hO 0 c).arrAt_eq_of_covers 4 _ (cov m hO) fun t _ y => ?_
  refine (congrFun (after0_4 m hO c t) y).trans ?_
  have e0 : ((((cfgM m hO).win 4).rect t).emb y (0 : Fin 2) : ℕ) = t.val / 2 * 256 + (y (0 : Fin 2)).val :=
    (place_4 m hO t y 0).trans (congrArg (fun n : ℕ => n * 256 + (y (0 : Fin 2)).val) (row_word t))
  have e1 : ((((cfgM m hO).win 4).rect t).emb y (1 : Fin 2) : ℕ) = t.val % 2 * 1024 + (y (1 : Fin 2)).val :=
    (place_4 m hO t y 1).trans (congrArg (fun n : ℕ => n * 1024 + (y (1 : Fin 2)).val) (col_word t))
  have ey : (y : S256x1024.Idx) = ix2 (y (0 : Fin 2)) (y (1 : Fin 2)) := funext fun a => match a with | ⟨0, _⟩ => rfl | ⟨1, _⟩ => rfl
  have ei : (show S36864x2048.Idx from (((cfgM m hO).win 4).rect t).emb y) =
      ix2 ((show S36864x2048.Idx from (((cfgM m hO).win 4).rect t).emb y) (0 : Fin 2)) ((show S36864x2048.Idx from (((cfgM m hO).win 4).rect t).emb y) (1 : Fin 2)) :=
    funext fun a => match a with | ⟨0, _⟩ => rfl | ⟨1, _⟩ => rfl
  exact (congrArg (outsAt0 m hO c t.val t.isLt).1 ey).trans ((block m hO c t _ _ _ _ e0 e1).trans
    (congrArg (gated (argO m c) (argW m c) (argM m c) (argR m c)) ei.symm))

end Cert.DeltaOutIdeal.Closed

namespace Cert.DeltaOutClaims

open Idealize.ShloMosaic Idealize.ShloMosaic.TcCoe Idealize.SL.Sem

theorem algebraic : Cert.algebraic_DeltaOutIdeal_DeltaOutReferenceIdeal := by
  intro m g m' g' _ hargs
  have hO := Cert.DeltaOutIdeal.Hand.ok m
  refine ⟨fun c => Cert.DeltaOutReferenceIdeal.Read.gated (Cert.DeltaOutIdeal.Closed.argO m c) (Cert.DeltaOutIdeal.Closed.argW m c) (Cert.DeltaOutIdeal.Closed.argM m c) (Cert.DeltaOutIdeal.Closed.argR m c), ?_, ?_⟩
  · exact (θ_run Cert.DeltaOutIdeal.defs _ _).mono (fun r h c => ⟨((h.1 c).1 4).trans (Cert.DeltaOutIdeal.Closed.final m hO c), h.2 c⟩)
      (θ_run_and (Cert.DeltaOutIdeal.Gen.run_main m g hO) (Cert.DeltaOutIdeal.Gen.unchanged m g hO))
  · refine (θ_run Cert.DeltaOutReferenceIdeal.defs _ _).mono (fun r h c => ⟨(h c).1.trans ?_, (h c).2⟩)
      (Cert.DeltaOutReferenceIdeal.Value.run m' g')
    obtain ⟨h0, h1, h2, h3⟩ := hargs c
    rw [h0, h1, h2, h3]
    rfl

end Cert.DeltaOutClaims

end
-- ==== Proof.HyenaOutIdealOk.lean ====
/-
  The Hyena branch's output projection: the table of the rows' groups is a constant, its entries are below 16, so every block
  that it names lies inside its array.
-/
module

public import proofs.«01_k».proof.Defs
public import proofs.«01_k».proof.Proof.Gen.HyenaOutIdeal.Frame
public import Idealize.ShloMosaic.Lib.Pointwise.Index
public import Idealize.ShloMosaic.Lib.StableHlo.Run
public import Idealize.ShloMosaic.Lib.Tactic
public import Idealize.ShloMosaic.Lib.Claim

@[expose] public section

set_option maxRecDepth 16384

noncomputable section

namespace Cert.HyenaOutIdeal.Hand

open Idealize.ShloMosaic Idealize.ShloMosaic.TcCoe Idealize.SL.Sem
open Cert.HyenaOutIdeal Cert.HyenaOutIdeal.Gen

variable {F : FTy → Type} [FloatOps F]

/-- The group of the rows of a grid point. -/
def group (pf : pre0.Contents (Elt F)) (i : grid0.Coords) : BitVec 32 := pf 0 (ix1 (⟨(i 0).val, (i 0).isLt⟩ : Fin 144))

theorem at_group (pf : pre0.Contents (Elt F)) (i : grid0.Coords) (h) (h1) :
    pf.at 0 (Rect.unit (s := S144) ![(Scalar.indexCast (BitVec.ofNat 32 (i 0).val)).toNat] S1.size h) h1 = group pf i := by
  unfold group
  refine congrArg (pf 0) (funext fun a => Fin.ext ?_)
  match a with
  | ⟨0, _⟩ =>
    have hi : (i 0).val < 144 := (i 0).isLt
    have e : (Scalar.indexCast (BitVec.ofNat 32 (i 0).val)).toNat = (i 0).val := by
      show (BitVec.ofNat 32 (i 0).val).toNat = _
      rw [BitVec.toNat_ofNat]; omega
    show (Scalar.indexCast (BitVec.ofNat 32 (i 0).val)).toNat + 1 * 0 = (i 0).val
    omega

theorem map_6 (pf : pre0.Contents (Elt F)) (i : grid0.Coords) :
    cc0_transform_6 k0_off1_inb numel1_S1 pf i = ![(group pf i).toNat, 2, 0, (BitVec.ofNat 32 (i 1).val).toNat] :=
  congrArg (fun a : BitVec 32 => ![a.toNat, 2, 0, (BitVec.ofNat 32 (i 1).val).toNat]) (at_group pf i (k0_off1_inb i) numel1_S1)

theorem ok_of (pf : pre0.Contents (Elt F)) (h : ∀ i : grid0.Coords, (group pf i).toNat < 16) : ok0 pf := by
  refine fun i => ⟨fun a => ?_, .inl rfl⟩
  rw [map_6]
  have h0 := h i
  have h1 : (i 1).val < 2 := (i 1).isLt
  match a with
  | ⟨0, _⟩ => show ((group pf i).toNat + 1) * 1 ≤ 16; omega
  | ⟨1, _⟩ => show (2 + 1) * 1 ≤ 6; omega
  | ⟨2, _⟩ => show (0 + 1) * 1 ≤ 1; omega
  | ⟨3, _⟩ => show ((BitVec.ofNat 32 (i 1).val).toNat + 1) * 1024 ≤ 2048; rw [BitVec.toNat_ofNat]; omega

theorem word_eq : ∀ k : Fin 144, (lit0 k).toNat = k.val / 16 := by decide +kernel

theorem table_eq (m : (ℓ : Loc nD τ sig) → Buf (Elt F) ℓ) : tbl m 0 = (fun i => lit0 (S144.rowMajor i) : IVec S144 32) := by
  show V m (0 : Dev nD) main_c = _
  entry_read
  rfl

theorem row_ix1 (k : Fin 144) : (S144.rowMajor (ix1 k)).val = k.val := by
  show k.val * 1 + 0 = k.val
  omega

theorem group_eq (m : (ℓ : Loc nD τ sig) → Buf (Elt F) ℓ) (i : grid0.Coords) : (group (tbl m) i).toNat = (i 0).val / 16 := by
  have e : group (tbl m) i = lit0 (S144.rowMajor (ix1 (⟨(i 0).val, (i 0).isLt⟩ : Fin 144))) := congrFun (table_eq m) _
  exact (congrArg BitVec.toNat e).trans ((word_eq _).trans (congrArg (fun n : ℕ => n / 16) (row_ix1 _)))

theorem ok (m : (ℓ : Loc nD τ sig) → Buf (Elt F) ℓ) : Ok m := ok_of _ fun i => by
  have hi : (i 0).val < 144 := (i 0).isLt
  rw [group_eq]; omega

end Cert.HyenaOutIdeal.Hand

namespace Cert.HyenaOutIdeal.Claims

open Idealize.ShloMosaic Idealize.ShloMosaic.TcCoe Idealize.SL.Sem

theorem quiescent : Cert.quiescent_HyenaOutIdeal :=
  fun m g _ => Cert.HyenaOutIdeal.Gen.frame m g (Cert.HyenaOutIdeal.Hand.ok m)

end Cert.HyenaOutIdeal.Claims

end
-- ==== Proof.HyenaOutReference.lean ====
/-
  The Hyena branch's output projection: the reference read at an index — the residual plus the group's gate times the product of a gated row with a column of the matrix.
-/
module

public import proofs.«01_k».proof.Defs
public import proofs.«01_k».proof.Proof.Gen.HyenaOutReferenceIdeal.Run
public import Idealize.ShloMosaic.Lib.Pointwise
public import Idealize.ShloMosaic.Lib.Pipeline.ValueKit
public import Idealize.ShloMosaic.Lib.Tactic

@[expose] public section

set_option maxRecDepth 16384

noncomputable section

namespace Cert.HyenaOutReferenceIdeal.Read

open Idealize.ShloMosaic Idealize.ShloMosaic.TcCoe Idealize.SL.Sem
open Cert.HyenaOutReferenceIdeal Cert.HyenaOutReferenceIdeal.Gen

/-- The rows before the product. -/
def hidden (x0 cv s : FVec Ideal S36864x2048 .bf16) (b : FVec Ideal S2048 .f32) : FVec Ideal S36864x2048 .f32 :=
  mulf (extf .f32 x0 bitsLt_bf16_f32) (addf (extf .f32 cv bitsLt_bf16_f32) (mulf (extf .f32 s bitsLt_bf16_f32) (broadcastInDim S36864x2048 ![0, 1] bcast_S1x2048_S36864x2048_0_1 (broadcastInDim S1x2048 ![1] bcast_S2048_S1x2048_1 b))))

theorem hidden_at (x0 cv s : FVec Ideal S36864x2048 .bf16) (b : FVec Ideal S2048 .f32) (r : Fin 36864) (k : Fin 2048) : hidden x0 cv s b (ix2 r k) = x0 (ix2 r k) * (cv (ix2 r k) + s (ix2 r k) * b (ix1 k)) := by
  pointwise [hidden]

/-- The gated sum over the arguments. -/
def gated (x0 cv s : FVec Ideal S36864x2048 .bf16) (b : FVec Ideal S2048 .f32) (w : FVec Ideal S2048x2048 .f32) (md : FVec Ideal S16x6x1x2048 .f32) (res : FVec Ideal S36864x2048 .f32) : FVec Ideal S36864x2048 .f32 :=
  shapeCast _ (addf (shapeCast _ res shapeCasts_S36864x2048_S9x4096x2048) (mulf (broadcastInDim S9x4096x2048 ![0, 1, 2] bcast_S9x1x2048_S9x4096x2048_0_1_2 (shapeCast _ (extractStridedSlice S9x1x1x2048 ![0, 2, 0, 0] md slices_S16x6x1x2048_S9x1x1x2048_0_2_0_0) shapeCasts_S9x1x1x2048_S9x1x2048)) (shapeCast _ (Host.dotGeneral dot_S36864x2048_S2048x2048_S36864x2048_1_0_0_1_n_n none (hidden x0 cv s b) w) shapeCasts_S36864x2048_S9x4096x2048))) shapeCasts_S9x4096x2048_S36864x2048

theorem gated_at (x0 cv s : FVec Ideal S36864x2048 .bf16) (b : FVec Ideal S2048 .f32) (w : FVec Ideal S2048x2048 .f32) (md : FVec Ideal S16x6x1x2048 .f32) (res : FVec Ideal S36864x2048 .f32) (r : Fin 36864) (q : Fin 2048) (p : Fin 16) (hp : p.val = r.val / 4096) :
    gated x0 cv s b w md res (ix2 r q) = res (ix2 r q) + md (ix4 p 2 0 q) * ∑ k : Fin 2048, hidden x0 cv s b (ix2 r k) * w (ix2 k q) := by
  have e : (⟨r.val / 4096, by omega⟩ : Fin 16) = p := Fin.ext hp.symm
  rw [← e]
  pointwise [gated]

end Cert.HyenaOutReferenceIdeal.Read

end
-- ==== Proof.HyenaOutValue.lean ====
/-
  The Hyena branch's output projection: the scratch holds a block's gated rows through its two column blocks, every point writes the residual's block
  plus the group's gate times their product, and the 288 blocks tile the result array.
-/
module

public import proofs.«01_k».proof.Defs
public import proofs.«01_k».proof.Proof.HyenaOutIdealOk
public import proofs.«01_k».proof.Proof.HyenaOutReference
public import Idealize.ShloMosaic.Lib.Pipeline.ValueKit
public import Idealize.ShloMosaic.Lib.Pipeline.ValueKit.Held
public import Idealize.ShloMosaic.Lib.Pipeline.Covers
public import Idealize.ShloMosaic.Lib.Pipeline.ReadBack
public import Idealize.ShloMosaic.Lib.StableHlo.Run
public import Idealize.ShloMosaic.Lib.Tactic
public import Idealize.ShloMosaic.Lib.Claim

@[expose] public section

set_option maxRecDepth 16384

noncomputable section

namespace Cert.HyenaOutIdeal.Closed

open Idealize.ShloMosaic Idealize.ShloMosaic.TcCoe Idealize.SL.Sem
open Cert.HyenaOutIdeal Cert.HyenaOutIdeal.Gen Cert.HyenaOutIdeal.Hand
open Cert.HyenaOutReferenceIdeal.Read (hidden hidden_at gated gated_at)
open Idealize.ShloMosaic.Pipeline (Dat)

variable (m : (ℓ : Loc nD τ sig) → Buf (Elt Ideal) ℓ)

/-- The call's arguments: the rows, the gains, the matrix, the groups' modulation and the residual. -/
def argX (c : Dev nD) : FVec Ideal S36864x2048 .bf16 := m ((c : Thread nD τ).loc main_arg0)
def argC (c : Dev nD) : FVec Ideal S36864x2048 .bf16 := m ((c : Thread nD τ).loc main_arg1)
def argS (c : Dev nD) : FVec Ideal S36864x2048 .bf16 := m ((c : Thread nD τ).loc main_arg2)
def argB (c : Dev nD) : FVec Ideal S2048 .f32 := m ((c : Thread nD τ).loc main_arg3)
def argW (c : Dev nD) : FVec Ideal S2048x2048 .f32 := m ((c : Thread nD τ).loc main_arg4)
def argM (c : Dev nD) : FVec Ideal S16x6x1x2048 .f32 := m ((c : Thread nD τ).loc main_arg5)
def argR (c : Dev nD) : FVec Ideal S36864x2048 .f32 := m ((c : Thread nD τ).loc main_arg6)

theorem row_at (b : FVec Ideal S2048 .f32) (k : Fin 2048) : shapeCast S1x2048 b shapeCasts_S2048_S1x2048 (ix2 0 k) = b (ix1 k) := by
  pointwise

theorem gate_at (x y s : FVec Ideal S256x2048 .bf16) (b : FVec Ideal S1x2048 .f32) (r : Fin 256) (k : Fin 2048) :
    k0_pay1 (F := Ideal) x y s b (ix2 r k) = x (ix2 r k) * (y (ix2 r k) + s (ix2 r k) * b (ix2 0 k)) := by
  pointwise [k0_pay1]

theorem sum_at (a : FVec Ideal S256x2048 .bf16) (w : FVec Ideal S2048x1024 .bf16) (r : FVec Ideal S256x1024 .f32) (g : FVec Ideal S1x1x1x1024 .f32)
    (j : Fin 256) (l : Fin 1024) :
    k0_pay2 (F := Ideal) a w r g (ix2 j l) = r (ix2 j l) + g (ix4 0 0 0 l) * ∑ k : Fin 2048, a (ix2 j k) * w (ix2 k l) := by
  pointwise [k0_pay2]

/-! ## What the arrays hold when the region starts -/

theorem V_w (c : Dev nD) : V m c main_v0 = argW m c := by
  unfold argW
  entry_read
  rfl
theorem V_gain (c : Dev nD) : V m c main_v1 = shapeCast S1x2048 (argB m c) shapeCasts_S2048_S1x2048 := by
  unfold argB
  entry_read
  rfl

/-! ## The blocks at coordinates -/

theorem place_0 (hO : Ok m) (t : Fin (cfgM m hO).N) (y : S256x2048.Idx) (a : Fin 2) :
    ((((cfgM m hO).win 0).rect t).emb y a : ℕ) = (![(BitVec.ofNat 32 (grid0.coords t 0).val).toNat, 0] : Fin 2 → ℕ) a * S256x2048.size a + (y a).val :=
  Pipeline.Window.rect_emb_val ((cfgM m hO).win 0) t y a rfl
theorem rows_x (hO : Ok m) (c : Dev nD) (t : Fin (cfgM m hO).N) (r : Fin 256) (k : Fin 2048) (i : Fin 36864)
    (hi : i.val = (BitVec.ofNat 32 (grid0.coords t 0).val).toNat * 256 + r.val) :
    (show FVec Ideal S256x2048 .bf16 from iblk m hO c 0 t) (ix2 r k) = argX m c (ix2 i k) := by
  refine Eq.trans (b := (V m c main_arg0 : FVec Ideal S36864x2048 .bf16) (ix2 i k)) ?_ (congrFun (V_main_arg0 m c) _)
  refine congrArg (V m c main_arg0 : FVec Ideal S36864x2048 .bf16) (funext fun a => Fin.ext ((place_0 m hO t (ix2 r k) a).trans ?_))
  match a with
  | ⟨0, _⟩ =>
    show (BitVec.ofNat 32 (grid0.coords t 0).val).toNat * 256 + r.val = i.val
    omega
  | ⟨1, _⟩ =>
    show 0 * 2048 + k.val = k.val
    omega

theorem place_1 (hO : Ok m) (t : Fin (cfgM m hO).N) (y : S256x2048.Idx) (a : Fin 2) :
    ((((cfgM m hO).win 1).rect t).emb y a : ℕ) = (![(BitVec.ofNat 32 (grid0.coords t 0).val).toNat, 0] : Fin 2 → ℕ) a * S256x2048.size a + (y a).val :=
  Pipeline.Window.rect_emb_val ((cfgM m hO).win 1) t y a rfl
theorem rows_c (hO : Ok m) (c : Dev nD) (t : Fin (cfgM m hO).N) (r : Fin 256) (k : Fin 2048) (i : Fin 36864)
    (hi : i.val = (BitVec.ofNat 32 (grid0.coords t 0).val).toNat * 256 + r.val) :
    (show FVec Ideal S256x2048 .bf16 from iblk m hO c 1 t) (ix2 r k) = argC m c (ix2 i k) := by
  refine Eq.trans (b := (V m c main_arg1 : FVec Ideal S36864x2048 .bf16) (ix2 i k)) ?_ (congrFun (V_main_arg1 m c) _)
  refine congrArg (V m c main_arg1 : FVec Ideal S36864x2048 .bf16) (funext fun a => Fin.ext ((place_1 m hO t (ix2 r k) a).trans ?_))
  match a with
  | ⟨0, _⟩ =>
    show (BitVec.ofNat 32 (grid0.coords t 0).val).toNat * 256 + r.val = i.val
    omega
  | ⟨1, _⟩ =>
    show 0 * 2048 + k.val = k.val
    omega

theorem place_2 (hO : Ok m) (t : Fin (cfgM m hO).N) (y : S256x2048.Idx) (a : Fin 2) :
    ((((cfgM m hO).win 2).rect t).emb y a : ℕ) = (![(BitVec.ofNat 32 (grid0.coords t 0).val).toNat, 0] : Fin 2 → ℕ) a * S256x2048.size a + (y a).val :=
  Pipeline.Window.rect_emb_val ((cfgM m hO).win 2) t y a rfl
theorem rows_s (hO : Ok m) (c : Dev nD) (t : Fin (cfgM m hO).N) (r : Fin 256) (k : Fin 2048) (i : Fin 36864)
    (hi : i.val = (BitVec.ofNat 32 (grid0.coords t 0).val).toNat * 256 + r.val) :
    (show FVec Ideal S256x2048 .bf16 from iblk m hO c 2 t) (ix2 r k) = argS m c (ix2 i k) := by
  refine Eq.trans (b := (V m c main_arg2 : FVec Ideal S36864x2048 .bf16) (ix2 i k)) ?_ (congrFun (V_main_arg2 m c) _)
  refine congrArg (V m c main_arg2 : FVec Ideal S36864x2048 .bf16) (funext fun a => Fin.ext ((place_2 m hO t (ix2 r k) a).trans ?_))
  match a with
  | ⟨0, _⟩ =>
    show (BitVec.ofNat 32 (grid0.coords t 0).val).toNat * 256 + r.val = i.val
    omega
  | ⟨1, _⟩ =>
    show 0 * 2048 + k.val = k.val
    omega

theorem place_3 (hO : Ok m) (t : Fin (cfgM m hO).N) (y : S1x2048.Idx) (a : Fin 2) :
    ((((cfgM m hO).win 3).rect t).emb y a : ℕ) = (![0, 0] : Fin 2 → ℕ) a * S1x2048.size a + (y a).val :=
  Pipeline.Window.rect_emb_val ((cfgM m hO).win 3) t y a rfl
theorem gain_blk (hO : Ok m) (c : Dev nD) (t : Fin (cfgM m hO).N) (k : Fin 2048) :
    (show FVec Ideal S1x2048 .f32 from iblk m hO c 3 t) (ix2 0 k) = argB m c (ix1 k) := by
  refine Eq.trans (b := (V m c main_v1 : FVec Ideal S1x2048 .f32) (ix2 0 k)) ?_ ((congrFun (V_gain m c) _).trans (row_at _ k))
  refine congrArg (V m c main_v1 : FVec Ideal S1x2048 .f32) (funext fun a => Fin.ext ((place_3 m hO t (ix2 0 k) a).trans ?_))
  match a with
  | ⟨0, _⟩ =>
    show 0 * 1 + 0 = 0
    omega
  | ⟨1, _⟩ =>
    show 0 * 2048 + k.val = k.val
    omega

theorem place_4 (hO : Ok m) (t : Fin (cfgM m hO).N) (y : S2048x1024.Idx) (a : Fin 2) :
    ((((cfgM m hO).win 4).rect t).emb y a : ℕ) = (![0, (BitVec.ofNat 32 (grid0.coords t 1).val).toNat] : Fin 2 → ℕ) a * S2048x1024.size a + (y a).val :=
  Pipeline.Window.rect_emb_val ((cfgM m hO).win 4) t y a rfl
theorem cols_blk (hO : Ok m) (c : Dev nD) (t : Fin (cfgM m hO).N) (k : Fin 2048) (j : Fin 1024) (q : Fin 2048)
    (hq : q.val = (BitVec.ofNat 32 (grid0.coords t 1).val).toNat * 1024 + j.val) :
    (show FVec Ideal S2048x1024 .bf16 from iblk m hO c 4 t) (ix2 k j) = argW m c (ix2 k q) := by
  refine Eq.trans (b := (V m c main_v0 : FVec Ideal S2048x2048 .bf16) (ix2 k q)) ?_ (congrFun (V_w m c) _)
  refine congrArg (V m c main_v0 : FVec Ideal S2048x2048 .bf16) (funext fun a => Fin.ext ((place_4 m hO t (ix2 k j) a).trans ?_))
  match a with
  | ⟨0, _⟩ =>
    show 0 * 2048 + k.val = k.val
    omega
  | ⟨1, _⟩ =>
    show (BitVec.ofNat 32 (grid0.coords t 1).val).toNat * 1024 + j.val = q.val
    omega

theorem place_5 (hO : Ok m) (t : Fin (cfgM m hO).N) (y : S256x1024.Idx) (a : Fin 2) :
    ((((cfgM m hO).win 5).rect t).emb y a : ℕ) = (![(BitVec.ofNat 32 (grid0.coords t 0).val).toNat, (BitVec.ofNat 32 (grid0.coords t 1).val).toNat] : Fin 2 → ℕ) a * S256x1024.size a + (y a).val :=
  Pipeline.Window.rect_emb_val ((cfgM m hO).win 5) t y a rfl
theorem res_blk (hO : Ok m) (c : Dev nD) (t : Fin (cfgM m hO).N) (r : Fin 256) (j : Fin 1024) (i : Fin 36864) (q : Fin 2048)
    (hi : i.val = (BitVec.ofNat 32 (grid0.coords t 0).val).toNat * 256 + r.val) (hq : q.val = (BitVec.ofNat 32 (grid0.coords t 1).val).toNat * 1024 + j.val) :
    (show FVec Ideal S256x1024 .f32 from iblk m hO c 5 t) (ix2 r j) = argR m c (ix2 i q) := by
  refine Eq.trans (b := (V m c main_arg6 : FVec Ideal S36864x2048 .f32) (ix2 i q)) ?_ (congrFun (V_main_arg6 m c) _)
  refine congrArg (V m c main_arg6 : FVec Ideal S36864x2048 .f32) (funext fun a => Fin.ext ((place_5 m hO t (ix2 r j) a).trans ?_))
  match a with
  | ⟨0, _⟩ =>
    show (BitVec.ofNat 32 (grid0.coords t 0).val).toNat * 256 + r.val = i.val
    omega
  | ⟨1, _⟩ =>
    show (BitVec.ofNat 32 (grid0.coords t 1).val).toNat * 1024 + j.val = q.val
    omega

theorem place_6 (hO : Ok m) (t : Fin (cfgM m hO).N) (y : S1x1x1x1024.Idx) (a : Fin 4) :
    ((((cfgM m hO).win 6).rect t).emb y a : ℕ) = (![(group (tbl m) (grid0.coords t)).toNat, 2, 0, (BitVec.ofNat 32 (grid0.coords t 1).val).toNat] : Fin 4 → ℕ) a * S1x1x1x1024.size a + (y a).val :=
  (Pipeline.Window.rect_emb_val ((cfgM m hO).win 6) t y a rfl).trans
    (congrArg (fun n : ℕ => n * S1x1x1x1024.size a + (y a).val) (congrFun (map_6 (tbl m) (grid0.coords t)) a))
theorem gate_blk (hO : Ok m) (c : Dev nD) (t : Fin (cfgM m hO).N) (j : Fin 1024) (q : Fin 2048) (p : Fin 16)
    (hp : (group (tbl m) (grid0.coords t)).toNat = p.val) (hq : q.val = (BitVec.ofNat 32 (grid0.coords t 1).val).toNat * 1024 + j.val) :
    (show FVec Ideal S1x1x1x1024 .f32 from iblk m hO c 6 t) (ix4 0 0 0 j) = argM m c (ix4 p 2 0 q) := by
  refine Eq.trans (b := (V m c main_arg5 : FVec Ideal S16x6x1x2048 .f32) (ix4 p 2 0 q)) ?_ (congrFun (V_main_arg5 m c) _)
  refine congrArg (V m c main_arg5 : FVec Ideal S16x6x1x2048 .f32) (funext fun a => Fin.ext ((place_6 m hO t (ix4 0 0 0 j) a).trans ?_))
  match a with
  | ⟨0, _⟩ =>
    show (group (tbl m) (grid0.coords t)).toNat * 1 + 0 = p.val
    omega
  | ⟨1, _⟩ =>
    show 2 * 1 + 0 = 2
    omega
  | ⟨2, _⟩ =>
    show 0 * 1 + 0 = 0
    omega
  | ⟨3, _⟩ =>
    show (BitVec.ofNat 32 (grid0.coords t 1).val).toNat * 1024 + j.val = q.val
    omega

/-! ## What a point leaves -/

theorem scr_first (hO : Ok m) (c : Dev nD) (t : Fin (cfgM m hO).N) (h : t.val % 2 = 0) :
    (outsAt0 m hO c t.val t.isLt).2 = k0_pay1 (F := Ideal) (iblk m hO c 0 t) (iblk m hO c 1 t) (iblk m hO c 2 t) (iblk m hO c 3 t) := by
  rw [outsAt0_A m hO c t h]
  frame_out
  exact congr (congr (congr (congrArg _ (Memref.IsWhole.read_unread _ _)) (Memref.IsWhole.read_unread _ _)) (Memref.IsWhole.read_unread _ _)) (Memref.IsWhole.read_unread _ _)

theorem scr_later (hO : Ok m) (c : Dev nD) (t : Fin (cfgM m hO).N) (h : ¬t.val % 2 = 0) :
    (outsAt0 m hO c t.val t.isLt).2 = (outsAt0 m hO c (t.val - 1) (Nat.lt_of_le_of_lt (Nat.sub_le _ _) t.isLt)).2 := by
  rw [outsAt0_B m hO c t h]
  rfl

theorem out_eq (hO : Ok m) (c : Dev nD) (t : Fin (cfgM m hO).N) :
    (outsAt0 m hO c t.val t.isLt).1 = k0_pay2 (F := Ideal) (outsAt0 m hO c t.val t.isLt).2 (iblk m hO c 4 t) (iblk m hO c 5 t) (iblk m hO c 6 t) := by
  by_cases h : t.val % 2 = 0
  · rw [outsAt0_A m hO c t h]
    frame_out
    exact congr (congr (congrArg _ (Memref.IsWhole.read_unread _ _)) (Memref.IsWhole.read_unread _ _)) (Memref.IsWhole.read_unread _ _)
  · rw [scr_later m hO c t h, outsAt0_B m hO c t h]
    frame_out
    exact congr (congr (congr (congrArg _ (Memref.IsWhole.read_unread _ _)) (Memref.IsWhole.read_unread _ _)) (Memref.IsWhole.read_unread _ _)) (Memref.IsWhole.read_unread _ _)

theorem scr_eq (hO : Ok m) (c : Dev nD) (t : Fin (cfgM m hO).N) :
    (outsAt0 m hO c t.val t.isLt).2 = (fun u : Fin (cfgM m hO).N => k0_pay1 (F := Ideal) (iblk m hO c 0 u) (iblk m hO c 1 u) (iblk m hO c 2 u) (iblk m hO c 3 u))
      ⟨2 * (t.val / 2), Pipeline.run_start_lt t⟩ :=
  Pipeline.eq_of_write_hold (fun n h => (outsAt0 m hO c n h).2) 2
    (fun u => k0_pay1 (F := Ideal) (iblk m hO c 0 u) (iblk m hO c 1 u) (iblk m hO c 2 u) (iblk m hO c 3 u))
    (fun t h => scr_first m hO c t h) (fun t h => scr_later m hO c t h) t

theorem row_eq : ∀ t : Fin grid0.N, (grid0.coords t 0).val = t.val / 2 := by decide +kernel
theorem col_eq : ∀ t : Fin grid0.N, (grid0.coords t 1).val = t.val % 2 := by decide +kernel

theorem row_word (t : Fin grid0.N) : (BitVec.ofNat 32 (grid0.coords t 0).val).toNat = t.val / 2 := by
  have hN : t.val < 288 := t.isLt
  rw [row_eq, BitVec.toNat_ofNat]
  omega
theorem col_word (t : Fin grid0.N) : (BitVec.ofNat 32 (grid0.coords t 1).val).toNat = t.val % 2 := by
  rw [col_eq, BitVec.toNat_ofNat]
  omega

/-- The block a point leaves is the reference's. -/
theorem block (hO : Ok m) (c : Dev nD) (t : Fin (cfgM m hO).N) (r : Fin 256) (l : Fin 1024) (i : Fin 36864) (q : Fin 2048)
    (h0 : i.val = t.val / 2 * 256 + r.val) (h1 : q.val = t.val % 2 * 1024 + l.val) :
    (outsAt0 m hO c t.val t.isLt).1 (ix2 r l) = gated (argX m c) (argC m c) (argS m c) (argB m c) (argW m c) (argM m c) (argR m c) (ix2 i q) := by
  have hN : t.val < 288 := t.isLt
  have hj : r.val < 256 := r.isLt
  rw [out_eq, scr_eq]
  have hs : 2 * (t.val / 2) / 2 = t.val / 2 := by omega
  have hr : (BitVec.ofNat 32 (grid0.coords ⟨2 * (t.val / 2), Pipeline.run_start_lt t⟩ 0).val).toNat = t.val / 2 := (row_word _).trans hs
  have hg : (group (tbl m) (grid0.coords t)).toNat = t.val / 2 / 16 :=
    (group_eq m _).trans (congrArg (fun n : ℕ => n / 16) (row_eq _))
  have hp : t.val / 2 / 16 < 16 := by omega
  have hc : q.val = (BitVec.ofNat 32 (grid0.coords t 1).val).toNat * 1024 + l.val := by rw [col_word]; exact h1
  have ht : i.val = (BitVec.ofNat 32 (grid0.coords t 0).val).toNat * 256 + r.val := by rw [row_word]; exact h0
  refine (sum_at _ _ _ _ r l).trans (Eq.trans ?_ (gated_at (argX m c) (argC m c) (argS m c) (argB m c) (argW m c) (argM m c) (argR m c) i q ⟨t.val / 2 / 16, hp⟩ (by show t.val / 2 / 16 = i.val / 4096; omega)).symm)
  refine congrArg₂ (fun a b : EReal => a + b) (res_blk m hO c t r l i q ht hc) (congrArg₂ (fun a b : EReal => a * b) (gate_blk m hO c t l q _ hg hc) ?_)
  refine Finset.sum_congr rfl fun k _ => congrArg₂ (fun a b : EReal => a * b) ?_ (cols_blk m hO c t k l q hc)
  refine (gate_at _ _ _ _ r k).trans (Eq.trans ?_ (hidden_at (argX m c) (argC m c) (argS m c) (argB m c) i k).symm)
  exact congrArg₂ (fun a b : EReal => a * b) (rows_x m hO c _ r k i (by rw [hr]; exact h0))
    (congrArg₂ (fun a b : EReal => a + b) (rows_c m hO c _ r k i (by rw [hr]; exact h0))
      (congrArg₂ (fun a b : EReal => a * b) (rows_s m hO c _ r k i (by rw [hr]; exact h0)) (gain_blk m hO c _ k)))

theorem nblk_0 (hO : Ok m) : ((cfgM m hO).win 7).nblk (0 : Fin 2) = 144 := by
  show (36864 + 256 - 1) / 256 = 144
  norm_num
theorem nblk_1 (hO : Ok m) : ((cfgM m hO).win 7).nblk (1 : Fin 2) = 2 := by
  show (2048 + 1024 - 1) / 1024 = 2
  norm_num

/-- The result's window walks the 144 by 2 blocks. -/
theorem cov (hO : Ok m) : ((cfgM m hO).win 7).Covers := by
  refine ((cfgM m hO).win 7).covers_of_indexMap_surj rfl (fun a => ?_) fun β => ?_
  · match a with
    | ⟨0, _⟩ => exact (by decide : 0 < 256)
    | ⟨1, _⟩ => exact (by decide : 0 < 1024)
  · have h0 : (β (0 : Fin 2)).val < 144 := lt_of_lt_of_eq (β (0 : Fin 2)).isLt (nblk_0 m hO)
    have h1 : (β (1 : Fin 2)).val < 2 := lt_of_lt_of_eq (β (1 : Fin 2)).isLt (nblk_1 m hO)
    refine ⟨(fun a => match a with | ⟨0, _⟩ => ⟨(β (0 : Fin 2)).val, h0⟩ | ⟨1, _⟩ => ⟨(β (1 : Fin 2)).val, h1⟩ : grid0.Coords), fun a => ?_⟩
    match a with
    | ⟨0, _⟩ =>
      show (BitVec.ofNat 32 (β (0 : Fin 2)).val).toNat = (β (0 : Fin 2)).val
      rw [BitVec.toNat_ofNat]; omega
    | ⟨1, _⟩ =>
      show (BitVec.ofNat 32 (β (1 : Fin 2)).val).toNat = (β (1 : Fin 2)).val
      rw [BitVec.toNat_ofNat]; omega

theorem place_7 (hO : Ok m) (t : Fin (cfgM m hO).N) (y : S256x1024.Idx) (a : Fin 2) :
    ((((cfgM m hO).win 7).rect t).emb y a : ℕ) = (![(BitVec.ofNat 32 (grid0.coords t 0).val).toNat, (BitVec.ofNat 32 (grid0.coords t 1).val).toNat] : Fin 2 → ℕ) a * S256x1024.size a + (y a).val :=
  Pipeline.Window.rect_emb_val ((cfgM m hO).win 7) t y a rfl

theorem final (hO : Ok m) (c : Dev nD) : (dats m hO 0 c).arrAt 7 (cfgM m hO).N = gated (argX m c) (argC m c) (argS m c) (argB m c) (argW m c) (argM m c) (argR m c) := by
  refine (dats m hO 0 c).arrAt_eq_of_covers 7 _ (cov m hO) fun t _ y => ?_
  refine (congrFun (after0_7 m hO c t) y).trans ?_
  have e0 : ((((cfgM m hO).win 7).rect t).emb y (0 : Fin 2) : ℕ) = t.val / 2 * 256 + (y (0 : Fin 2)).val :=
    (place_7 m hO t y 0).trans (congrArg (fun n : ℕ => n * 256 + (y (0 : Fin 2)).val) (row_word t))
  have e1 : ((((cfgM m hO).win 7).rect t).emb y (1 : Fin 2) : ℕ) = t.val % 2 * 1024 + (y (1 : Fin 2)).val :=
    (place_7 m hO t y 1).trans (congrArg (fun n : ℕ => n * 1024 + (y (1 : Fin 2)).val) (col_word t))
  have ey : (y : S256x1024.Idx) = ix2 (y (0 : Fin 2)) (y (1 : Fin 2)) := funext fun a => match a with | ⟨0, _⟩ => rfl | ⟨1, _⟩ => rfl
  have ei : (show S36864x2048.Idx from (((cfgM m hO).win 7).rect t).emb y) =
      ix2 ((show S36864x2048.Idx from (((cfgM m hO).win 7).rect t).emb y) (0 : Fin 2)) ((show S36864x2048.Idx from (((cfgM m hO).win 7).rect t).emb y) (1 : Fin 2)) :=
    funext fun a => match a with | ⟨0, _⟩ => rfl | ⟨1, _⟩ => rfl
  exact (congrArg (outsAt0 m hO c t.val t.isLt).1 ey).trans ((block m hO c t _ _ _ _ e0 e1).trans
    (congrArg (gated (argX m c) (argC m c) (argS m c) (argB m c) (argW m c) (argM m c) (argR m c)) ei.symm))

end Cert.HyenaOutIdeal.Closed

namespace Cert.HyenaOutClaims

open Idealize.ShloMosaic Idealize.ShloMosaic.TcCoe Idealize.SL.Sem

theorem algebraic : Cert.algebraic_HyenaOutIdeal_HyenaOutReferenceIdeal := by
  intro m g m' g' _ hargs
  have hO := Cert.HyenaOutIdeal.Hand.ok m
  refine ⟨fun c => Cert.HyenaOutReferenceIdeal.Read.gated (Cert.HyenaOutIdeal.Closed.argX m c) (Cert.HyenaOutIdeal.Closed.argC m c) (Cert.HyenaOutIdeal.Closed.argS m c) (Cert.HyenaOutIdeal.Closed.argB m c) (Cert.HyenaOutIdeal.Closed.argW m c) (Cert.HyenaOutIdeal.Closed.argM m c) (Cert.HyenaOutIdeal.Closed.argR m c), ?_, ?_⟩
  · exact (θ_run Cert.HyenaOutIdeal.defs _ _).mono (fun r h c => ⟨((h.1 c).1 7).trans (Cert.HyenaOutIdeal.Closed.final m hO c), h.2 c⟩)
      (θ_run_and (Cert.HyenaOutIdeal.Gen.run_main m g hO) (Cert.HyenaOutIdeal.Gen.unchanged m g hO))
  · refine (θ_run Cert.HyenaOutReferenceIdeal.defs _ _).mono (fun r h c => ⟨(h c).1.trans ?_, (h c).2⟩)
      (Cert.HyenaOutReferenceIdeal.Value.run m' g')
    obtain ⟨h0, h1, h2, h3, h4, h5, h6⟩ := hargs c
    rw [h0, h1, h2, h3, h4, h5, h6]
    rfl

end Cert.HyenaOutClaims

end
-- ==== Proof.HyenaConvIdealOk.lean ====
/-
  The Hyena branch's short convolution: the two tables are constants, a block has a block before it unless its number is below
  17 or a multiple of 16, and one after it unless its number is below 16 or one less than a multiple of 16; so the block of
  the following rows that the second table chooses lies inside its array.
-/
module

public import proofs.«01_k».proof.Defs
public import proofs.«01_k».proof.Proof.Gen.HyenaConvIdeal.Frame
public import Idealize.ShloMosaic.Lib.Pointwise.Index
public import Idealize.ShloMosaic.Lib.StableHlo.Run
public import Idealize.ShloMosaic.Lib.Tactic
public import Idealize.ShloMosaic.Lib.Claim

@[expose] public section

set_option maxRecDepth 16384

noncomputable section

namespace Cert.HyenaConvIdeal.Hand

open Idealize.ShloMosaic Idealize.ShloMosaic.TcCoe Idealize.SL.Sem
open Cert.HyenaConvIdeal Cert.HyenaConvIdeal.Gen

variable {F : FTy → Type} [FloatOps F]

/-- Whether a block of rows follows within the same sequence. -/
def following (pf : pre0.Contents (Elt F)) (i : grid0.Coords) : BitVec 32 := pf 1 (ix1 (⟨(i 0).val, (i 0).isLt⟩ : Fin 144))

theorem at_following (pf : pre0.Contents (Elt F)) (i : grid0.Coords) (h) (h1) :
    pf.at 1 (Rect.unit (s := S144) ![(Scalar.indexCast (BitVec.ofNat 32 (i 0).val)).toNat] S1.size h) h1 = following pf i := by
  unfold following
  refine congrArg (pf 1) (funext fun a => Fin.ext ?_)
  match a with
  | ⟨0, _⟩ =>
    have hi : (i 0).val < 144 := (i 0).isLt
    have e : (Scalar.indexCast (BitVec.ofNat 32 (i 0).val)).toNat = (i 0).val := by
      show (BitVec.ofNat 32 (i 0).val).toNat = _
      rw [BitVec.toNat_ofNat]; omega
    show (Scalar.indexCast (BitVec.ofNat 32 (i 0).val)).toNat + 1 * 0 = (i 0).val
    omega

theorem map_2 (pf : pre0.Contents (Elt F)) (i : grid0.Coords) :
    cc0_transform_2 k0_off1_inb numel1_S1 pf i = ![((BitVec.ofNat 32 (i 0).val + 1#32) * 16#32 * following pf i).toNat, 0] :=
  congrArg (fun a : BitVec 32 => ![((BitVec.ofNat 32 (i 0).val + 1#32) * 16#32 * a).toNat, 0]) (at_following pf i (k0_off1_inb i) numel1_S1)

theorem previous_words : ∀ k : Fin 144, lit0 k = if k.val < 17 ∨ k.val % 16 = 0 then 0#32 else 1#32 := by decide +kernel
theorem following_words : ∀ k : Fin 144, lit1 k = if k.val < 16 ∨ k.val % 16 = 15 then 0#32 else 1#32 := by decide +kernel

theorem table_0 (m : (ℓ : Loc nD τ sig) → Buf (Elt F) ℓ) : tbl m 0 = (fun i => lit0 (S144.rowMajor i) : IVec S144 32) := by
  show V m (0 : Dev nD) main_c = _
  entry_read
  rfl
theorem table_1 (m : (ℓ : Loc nD τ sig) → Buf (Elt F) ℓ) : tbl m 1 = (fun i => lit1 (S144.rowMajor i) : IVec S144 32) := by
  show V m (0 : Dev nD) main_c_0 = _
  entry_read
  rfl

theorem row_ix1 (k : Fin 144) : S144.rowMajor (ix1 k) = k := by
  refine Fin.ext ?_
  show k.val * 1 + 0 = k.val
  omega

theorem previous_eq (m : (ℓ : Loc nD τ sig) → Buf (Elt F) ℓ) (k : Fin 144) :
    (tbl m 0 : IVec S144 32) (ix1 k) = if k.val < 17 ∨ k.val % 16 = 0 then 0#32 else 1#32 := by
  refine (congrFun (table_0 m) _).trans ?_
  show lit0 (S144.rowMajor (ix1 k)) = _
  rw [row_ix1]
  exact previous_words k
theorem following_eq (m : (ℓ : Loc nD τ sig) → Buf (Elt F) ℓ) (k : Fin 144) :
    (tbl m 1 : IVec S144 32) (ix1 k) = if k.val < 16 ∨ k.val % 16 = 15 then 0#32 else 1#32 := by
  refine (congrFun (table_1 m) _).trans ?_
  show lit1 (S144.rowMajor (ix1 k)) = _
  rw [row_ix1]
  exact following_words k

/-- The block of the following rows: the next block's first rows, or the array's first where there are none. -/
theorem block_eq (m : (ℓ : Loc nD τ sig) → Buf (Elt F) ℓ) (i : grid0.Coords) :
    ((BitVec.ofNat 32 (i 0).val + 1#32) * 16#32 * following (tbl m) i).toNat
      = if (i 0).val < 16 ∨ (i 0).val % 16 = 15 then 0 else ((i 0).val + 1) * 16 := by
  have hi : (i 0).val < 144 := (i 0).isLt
  have h : following (tbl m) i = if (i 0).val < 16 ∨ (i 0).val % 16 = 15 then 0#32 else 1#32 := following_eq m ⟨(i 0).val, (i 0).isLt⟩
  rw [h]
  by_cases hc : (i 0).val < 16 ∨ (i 0).val % 16 = 15
  · rw [if_pos hc, if_pos hc]; simp
  · rw [if_neg hc, if_neg hc]
    simp only [BitVec.mul_one, BitVec.toNat_mul, BitVec.toNat_add, BitVec.toNat_ofNat]
    omega

theorem ok (m : (ℓ : Loc nD τ sig) → Buf (Elt F) ℓ) : Ok m := by
  refine fun i => ⟨fun a => ?_, .inr ?_⟩
  · rw [map_2]
    have hb := block_eq m i
    have hi : (i 0).val < 144 := (i 0).isLt
    match a with
    | ⟨0, _⟩ =>
      show (((BitVec.ofNat 32 (i 0).val + 1#32) * 16#32 * following (tbl m) i).toNat + 1) * 16 ≤ 36864
      rw [hb]
      split <;> omega
    | ⟨1, _⟩ => show (0 + 1) * 6144 ≤ 6144; omega
  · exact Affine.block_words_dvd (of_decide_eq_true rfl) (by decide)

end Cert.HyenaConvIdeal.Hand

namespace Cert.HyenaConvIdeal.Claims

open Idealize.ShloMosaic Idealize.ShloMosaic.TcCoe Idealize.SL.Sem

theorem quiescent : Cert.quiescent_HyenaConvIdeal :=
  fun m g _ => Cert.HyenaConvIdeal.Gen.frame m g (Cert.HyenaConvIdeal.Hand.ok m)

end Cert.HyenaConvIdeal.Claims

end
-- ==== Proof.HyenaConvReference.lean ====
/-
  The reference of the Hyena branch's short convolution, read at an index: three taps along a sequence's rows, zero past its
  ends; the first 4096 rows are sequences of 256, the others sequences of 4096.
-/
module

public import proofs.«01_k».proof.Defs
public import proofs.«01_k».proof.Proof.Gen.HyenaConvReferenceIdeal.Run
public import Idealize.ShloMosaic.Lib.Pipeline.ValueKit
public import Idealize.ShloMosaic.Lib.Pointwise
public import Idealize.ShloMosaic.Lib.KernelVsHost

@[expose] public section

set_option maxRecDepth 16384

noncomputable section

namespace Cert.HyenaConvReferenceIdeal.Read

open Idealize.ShloMosaic Idealize.ShloMosaic.TcCoe
open Cert.HyenaConvReferenceIdeal Cert.HyenaConvReferenceIdeal.Gen

/-- The taps of the short sequences and of the long ones. -/
def short (x : FVec Ideal S16x256x6144 .f32) (w : FVec Ideal S3x6144 .f32) : FVec Ideal S16x256x6144 .f32 :=
  addf (addf (addf (broadcastInDim S16x256x6144 ![] bcast_S_S16x256x6144 (constant S_ .f32 0x00000000#32)) (mulf (extractStridedSlice S16x256x6144 ![0, 0, 0] (pad S16x258x6144 ![0, 1, 0] ![0, 1, 0] ![0, 0, 0] x (sitofp .f32 (constantI S_ 32 0#32)) pads_S16x256x6144_S16x258x6144_000_110_000 h_S_) slices_S16x258x6144_S16x256x6144_0_0_0) (broadcastInDim S16x256x6144 ![0, 1, 2] bcast_S1x1x6144_S16x256x6144_0_1_2 (broadcastInDim S1x1x6144 ![2] bcast_S6144_S1x1x6144_2 (shapeCast _ (extractStridedSlice S1x6144 ![0, 0] w slices_S3x6144_S1x6144_0_0) shapeCasts_S1x6144_S6144))))) (mulf (extractStridedSlice S16x256x6144 ![0, 1, 0] (pad S16x258x6144 ![0, 1, 0] ![0, 1, 0] ![0, 0, 0] x (sitofp .f32 (constantI S_ 32 0#32)) pads_S16x256x6144_S16x258x6144_000_110_000 h_S_) slices_S16x258x6144_S16x256x6144_0_1_0) (broadcastInDim S16x256x6144 ![0, 1, 2] bcast_S1x1x6144_S16x256x6144_0_1_2 (broadcastInDim S1x1x6144 ![2] bcast_S6144_S1x1x6144_2 (shapeCast _ (extractStridedSlice S1x6144 ![1, 0] w slices_S3x6144_S1x6144_1_0) shapeCasts_S1x6144_S6144))))) (mulf (extractStridedSlice S16x256x6144 ![0, 2, 0] (pad S16x258x6144 ![0, 1, 0] ![0, 1, 0] ![0, 0, 0] x (sitofp .f32 (constantI S_ 32 0#32)) pads_S16x256x6144_S16x258x6144_000_110_000 h_S_) slices_S16x258x6144_S16x256x6144_0_2_0) (broadcastInDim S16x256x6144 ![0, 1, 2] bcast_S1x1x6144_S16x256x6144_0_1_2 (broadcastInDim S1x1x6144 ![2] bcast_S6144_S1x1x6144_2 (shapeCast _ (extractStridedSlice S1x6144 ![2, 0] w slices_S3x6144_S1x6144_2_0) shapeCasts_S1x6144_S6144))))
def long (x : FVec Ideal S8x4096x6144 .f32) (w : FVec Ideal S3x6144 .f32) : FVec Ideal S8x4096x6144 .f32 :=
  addf (addf (addf (broadcastInDim S8x4096x6144 ![] bcast_S_S8x4096x6144 (constant S_ .f32 0x00000000#32)) (mulf (extractStridedSlice S8x4096x6144 ![0, 0, 0] (pad S8x4098x6144 ![0, 1, 0] ![0, 1, 0] ![0, 0, 0] x (sitofp .f32 (constantI S_ 32 0#32)) pads_S8x4096x6144_S8x4098x6144_000_110_000 h_S_) slices_S8x4098x6144_S8x4096x6144_0_0_0) (broadcastInDim S8x4096x6144 ![0, 1, 2] bcast_S1x1x6144_S8x4096x6144_0_1_2 (broadcastInDim S1x1x6144 ![2] bcast_S6144_S1x1x6144_2 (shapeCast _ (extractStridedSlice S1x6144 ![0, 0] w slices_S3x6144_S1x6144_0_0) shapeCasts_S1x6144_S6144))))) (mulf (extractStridedSlice S8x4096x6144 ![0, 1, 0] (pad S8x4098x6144 ![0, 1, 0] ![0, 1, 0] ![0, 0, 0] x (sitofp .f32 (constantI S_ 32 0#32)) pads_S8x4096x6144_S8x4098x6144_000_110_000 h_S_) slices_S8x4098x6144_S8x4096x6144_0_1_0) (broadcastInDim S8x4096x6144 ![0, 1, 2] bcast_S1x1x6144_S8x4096x6144_0_1_2 (broadcastInDim S1x1x6144 ![2] bcast_S6144_S1x1x6144_2 (shapeCast _ (extractStridedSlice S1x6144 ![1, 0] w slices_S3x6144_S1x6144_1_0) shapeCasts_S1x6144_S6144))))) (mulf (extractStridedSlice S8x4096x6144 ![0, 2, 0] (pad S8x4098x6144 ![0, 1, 0] ![0, 1, 0] ![0, 0, 0] x (sitofp .f32 (constantI S_ 32 0#32)) pads_S8x4096x6144_S8x4098x6144_000_110_000 h_S_) slices_S8x4098x6144_S8x4096x6144_0_2_0) (broadcastInDim S8x4096x6144 ![0, 1, 2] bcast_S1x1x6144_S8x4096x6144_0_1_2 (broadcastInDim S1x1x6144 ![2] bcast_S6144_S1x1x6144_2 (shapeCast _ (extractStridedSlice S1x6144 ![2, 0] w slices_S3x6144_S1x6144_2_0) shapeCasts_S1x6144_S6144))))

/-- The convolution of all the rows. -/
def rows (u : FVec Ideal S36864x6144 .bf16) (w : FVec Ideal S3x6144 .f32) : FVec Ideal S36864x6144 .f32 :=
  concatenate S36864x6144 0 [⟨S4096x6144, (shapeCast _ (short (shapeCast S16x256x6144 (extractStridedSlice S4096x6144 ![0, 0] (extf .f32 u bitsLt_bf16_f32) slices_S36864x6144_S4096x6144_0_0) shapeCasts_S4096x6144_S16x256x6144) w) shapeCasts_S16x256x6144_S4096x6144)⟩, ⟨S32768x6144, (shapeCast _ (long (shapeCast S8x4096x6144 (extractStridedSlice S32768x6144 ![4096, 0] (extf .f32 u bitsLt_bf16_f32) slices_S36864x6144_S32768x6144_4096_0) shapeCasts_S32768x6144_S8x4096x6144) w) shapeCasts_S8x4096x6144_S32768x6144)⟩] concatenates_S4096x6144_S32768x6144_S36864x6144_d0

/-- The results over the arguments. -/
def first (u : FVec Ideal S36864x6144 .bf16) (w : FVec Ideal S3x6144 .f32) : FVec Ideal S36864x2048 .bf16 :=
  truncf .bf16 (extractStridedSlice S36864x2048 ![0, 0] (rows u w) slices_S36864x6144_S36864x2048_0_0) bitsLt_bf16_f32
def gated (u : FVec Ideal S36864x6144 .bf16) (w : FVec Ideal S3x6144 .f32) : FVec Ideal S36864x2048 .bf16 :=
  truncf .bf16 (mulf (extractStridedSlice S36864x2048 ![0, 2048] (rows u w) slices_S36864x6144_S36864x2048_0_2048) (extractStridedSlice S36864x2048 ![0, 4096] (rows u w) slices_S36864x6144_S36864x2048_0_4096)) bitsLt_bf16_f32

theorem first_eq (m : (ℓ : Loc nD τ sig) → Buf (Elt Ideal) ℓ) (c : Dev nD) :
    Cert.HyenaConvReferenceIdeal.Value.res_main_v57 (F := Ideal) m c = first (m ((c.tc : Thread nD τ).loc main_arg0)) (m ((c.tc : Thread nD τ).loc main_arg1)) := by
  unfold Cert.HyenaConvReferenceIdeal.Value.res_main_v57 first rows short long
  rfl
theorem gated_eq (m : (ℓ : Loc nD τ sig) → Buf (Elt Ideal) ℓ) (c : Dev nD) :
    Cert.HyenaConvReferenceIdeal.Value.res_main_v59 (F := Ideal) m c = gated (m ((c.tc : Thread nD τ).loc main_arg0)) (m ((c.tc : Thread nD τ).loc main_arg1)) := by
  unfold Cert.HyenaConvReferenceIdeal.Value.res_main_v59 gated rows short long
  rfl

theorem zero_word : (FloatOps.sitofp (F := Ideal) FTy.f32 0#32 : EReal) = 0 := by
  show (((0#32 : BitVec 32).toInt : ℝ) : EReal) = 0
  simp

theorem short_at (x : FVec Ideal S16x256x6144 .f32) (w : FVec Ideal S3x6144 .f32) (b : Fin 16) (t : Fin 256) (q : Fin 6144) :
    short x w (ix3 b t q) = (if h : t.val = 0 then 0 else x (ix3 b ⟨t.val - 1, by omega⟩ q)) * w (ix2 0 q) + x (ix3 b t q) * w (ix2 1 q)
      + (if h : t.val = 255 then 0 else x (ix3 b ⟨t.val + 1, by omega⟩ q)) * w (ix2 2 q) := by
  unfold short
  pointwise
  refine congrArg₂ (fun a b : EReal => a + b) (congrArg (fun a : EReal => a * w (ix2 0 q) + x (ix3 b t q) * w (ix2 1 q)) ?_) (congrArg (fun a : EReal => a * w (ix2 2 q)) ?_)
  · by_cases h : t.val = 0
    · rw [dif_pos h, dif_neg (by omega)]
      exact zero_word
    · rw [dif_neg h, dif_pos (by omega)]
  · by_cases h : t.val = 255
    · rw [dif_pos h, dif_neg (by omega)]
      exact zero_word
    · rw [dif_neg h, dif_pos (by omega)]
      exact congrArg (fun k : Fin 256 => x (ix3 b k q)) (Fin.ext (by show 2 + t.val - 1 = t.val + 1; omega))

theorem long_at (x : FVec Ideal S8x4096x6144 .f32) (w : FVec Ideal S3x6144 .f32) (b : Fin 8) (t : Fin 4096) (q : Fin 6144) :
    long x w (ix3 b t q) = (if h : t.val = 0 then 0 else x (ix3 b ⟨t.val - 1, by omega⟩ q)) * w (ix2 0 q) + x (ix3 b t q) * w (ix2 1 q)
      + (if h : t.val = 4095 then 0 else x (ix3 b ⟨t.val + 1, by omega⟩ q)) * w (ix2 2 q) := by
  unfold long
  pointwise
  refine congrArg₂ (fun a b : EReal => a + b) (congrArg (fun a : EReal => a * w (ix2 0 q) + x (ix3 b t q) * w (ix2 1 q)) ?_) (congrArg (fun a : EReal => a * w (ix2 2 q)) ?_)
  · by_cases h : t.val = 0
    · rw [dif_pos h, dif_neg (by omega)]
      exact zero_word
    · rw [dif_neg h, dif_pos (by omega)]
  · by_cases h : t.val = 4095
    · rw [dif_pos h, dif_neg (by omega)]
      exact zero_word
    · rw [dif_neg h, dif_pos (by omega)]
      exact congrArg (fun k : Fin 4096 => x (ix3 b k q)) (Fin.ext (by show 2 + t.val - 1 = t.val + 1; omega))

theorem short_in (u : FVec Ideal S36864x6144 .bf16) (b : Fin 16) (t : Fin 256) (q : Fin 6144) (i : Fin 36864) (hi : i.val = 0 + (b.val * 256 + t.val)) :
    (shapeCast S16x256x6144 (extractStridedSlice S4096x6144 ![0, 0] (extf .f32 u bitsLt_bf16_f32) slices_S36864x6144_S4096x6144_0_0) shapeCasts_S4096x6144_S16x256x6144) (ix3 b t q) = u (ix2 i q) := by
  pointwise
  exact congrArg (fun k : Fin 36864 => u (ix2 k q)) (Fin.ext (by simp only [hi]; try omega))

theorem long_in (u : FVec Ideal S36864x6144 .bf16) (b : Fin 8) (t : Fin 4096) (q : Fin 6144) (i : Fin 36864) (hi : i.val = 4096 + (b.val * 4096 + t.val)) :
    (shapeCast S8x4096x6144 (extractStridedSlice S32768x6144 ![4096, 0] (extf .f32 u bitsLt_bf16_f32) slices_S36864x6144_S32768x6144_4096_0) shapeCasts_S32768x6144_S8x4096x6144) (ix3 b t q) = u (ix2 i q) := by
  pointwise
  exact congrArg (fun k : Fin 36864 => u (ix2 k q)) (Fin.ext (by simp only [hi]; try omega))

/-- Where a sequence starts and where it ends. -/
def Starts (i : Fin 36864) : Prop := (i.val < 4096 ∧ i.val % 256 = 0) ∨ i.val % 4096 = 0
def Ends (i : Fin 36864) : Prop := (i.val < 4096 ∧ i.val % 256 = 255) ∨ i.val % 4096 = 4095

instance (i : Fin 36864) : Decidable (Starts i) := by unfold Starts; infer_instance
instance (i : Fin 36864) : Decidable (Ends i) := by unfold Ends; infer_instance

/-- The rows before and after. -/
def before (i : Fin 36864) : Fin 36864 := ⟨i.val - 1, by omega⟩
def after (i : Fin 36864) : Fin 36864 := ⟨min (i.val + 1) 36863, by omega⟩

/-- One entry of the convolution. -/
def tap (u : FVec Ideal S36864x6144 .bf16) (w : FVec Ideal S3x6144 .f32) (i : Fin 36864) (q : Fin 6144) : EReal :=
  (if Starts i then 0 else u (ix2 (before i) q)) * w (ix2 0 q) + u (ix2 i q) * w (ix2 1 q) + (if Ends i then 0 else u (ix2 (after i) q)) * w (ix2 2 q)

theorem rows_at (u : FVec Ideal S36864x6144 .bf16) (w : FVec Ideal S3x6144 .f32) (i : Fin 36864) (q : Fin 6144) :
    rows u w (ix2 i q) = tap u w i q := by
  unfold rows
  pointwise
  by_cases h : i.val < 4096
  · rw [dif_pos h]
    refine (short_at _ w _ _ q).trans ?_
    unfold tap
    refine congrArg₂ (fun a b : EReal => a + b) (congrArg₂ (fun a b : EReal => a + b) (congrArg (fun a : EReal => a * w (ix2 0 q)) ?_) (congrArg (fun a : EReal => a * w (ix2 1 q)) ?_)) (congrArg (fun a : EReal => a * w (ix2 2 q)) ?_)
    · by_cases hs : i.val % 256 = 0
      · have e : Starts i := by unfold Starts; omega
        exact (dif_pos hs).trans (if_pos e).symm
      · have e : ¬ Starts i := by unfold Starts; omega
        refine (dif_neg hs).trans (Eq.trans ?_ (if_neg e).symm)
        exact short_in u _ _ q (before i) (by show i.val - 1 = 0 + (i.val / 256 * 256 + (i.val % 256 - 1)); omega)
    · exact short_in u _ _ q i (by show i.val = 0 + (i.val / 256 * 256 + i.val % 256); omega)
    · by_cases hs : i.val % 256 = 255
      · have e : Ends i := by unfold Ends; omega
        exact (dif_pos hs).trans (if_pos e).symm
      · have e : ¬ Ends i := by unfold Ends; omega
        refine (dif_neg hs).trans (Eq.trans ?_ (if_neg e).symm)
        exact short_in u _ _ q (after i) (by show min (i.val + 1) 36863 = 0 + (i.val / 256 * 256 + (i.val % 256 + 1)); omega)
  · rw [dif_neg h]
    refine (long_at _ w _ _ q).trans ?_
    unfold tap
    refine congrArg₂ (fun a b : EReal => a + b) (congrArg₂ (fun a b : EReal => a + b) (congrArg (fun a : EReal => a * w (ix2 0 q)) ?_) (congrArg (fun a : EReal => a * w (ix2 1 q)) ?_)) (congrArg (fun a : EReal => a * w (ix2 2 q)) ?_)
    · by_cases hs : (i.val - 4096) % 4096 = 0
      · have e : Starts i := by unfold Starts; omega
        exact (dif_pos hs).trans (if_pos e).symm
      · have e : ¬ Starts i := by unfold Starts; omega
        refine (dif_neg hs).trans (Eq.trans ?_ (if_neg e).symm)
        exact long_in u _ _ q (before i) (by show i.val - 1 = 4096 + ((i.val - 4096) / 4096 * 4096 + ((i.val - 4096) % 4096 - 1)); omega)
    · exact long_in u _ _ q i (by show i.val = 4096 + ((i.val - 4096) / 4096 * 4096 + (i.val - 4096) % 4096); omega)
    · by_cases hs : (i.val - 4096) % 4096 = 4095
      · have e : Ends i := by unfold Ends; omega
        exact (dif_pos hs).trans (if_pos e).symm
      · have e : ¬ Ends i := by unfold Ends; omega
        refine (dif_neg hs).trans (Eq.trans ?_ (if_neg e).symm)
        exact long_in u _ _ q (after i) (by show min (i.val + 1) 36863 = 4096 + ((i.val - 4096) / 4096 * 4096 + ((i.val - 4096) % 4096 + 1)); omega)

theorem first_at (u : FVec Ideal S36864x6144 .bf16) (w : FVec Ideal S3x6144 .f32) (i : Fin 36864) (q : Fin 2048) :
    first u w (ix2 i q) = tap u w i ⟨q.val, by omega⟩ := by
  unfold first
  pointwise
  exact rows_at u w i _
theorem gated_at (u : FVec Ideal S36864x6144 .bf16) (w : FVec Ideal S3x6144 .f32) (i : Fin 36864) (q : Fin 2048) :
    gated u w (ix2 i q) = tap u w i ⟨2048 + q.val, by omega⟩ * tap u w i ⟨4096 + q.val, by omega⟩ := by
  unfold gated
  pointwise
  exact congrArg₂ (fun a b : EReal => a * b) (rows_at u w i _) (rows_at u w i _)

end Cert.HyenaConvReferenceIdeal.Read

end
-- ==== Proof.HyenaConvValue.lean ====
/-
  The Hyena branch's short convolution: each point convolves its block's columns in squares, the outer rows taking the
  neighbouring blocks' rows scaled by the tables' flags, and the 144 blocks tile the two result arrays.
-/
module

public import proofs.«01_k».proof.Defs
public import proofs.«01_k».proof.Proof.HyenaConvIdealOk
public import proofs.«01_k».proof.Proof.HyenaConvReference
public import Idealize.ShloMosaic.Lib.Pipeline.ValueKit
public import Idealize.ShloMosaic.Lib.Pipeline.Covers
public import Idealize.ShloMosaic.Lib.Pipeline.ReadBack
public import Idealize.ShloMosaic.Lib.Pointwise
public import Idealize.ShloMosaic.Lib.WholeRead
public import Idealize.ShloMosaic.Lib.StableHlo.Run
public import Idealize.ShloMosaic.Lib.Tactic
public import Idealize.ShloMosaic.Lib.Claim

@[expose] public section

set_option maxRecDepth 16384

noncomputable section

namespace Cert.HyenaConvIdeal.Closed

open Idealize.ShloMosaic Idealize.ShloMosaic.TcCoe Idealize.SL.Sem
open Cert.HyenaConvIdeal Cert.HyenaConvIdeal.Gen Cert.HyenaConvIdeal.Hand
open Cert.HyenaConvReferenceIdeal.Read (tap Starts Ends before after)
open Idealize.ShloMosaic.Pipeline (Dat)

/-- Three taps along the rows of a square of columns: a row's own entry, the one above and the one below, which the first and
    the last row take from the neighbouring blocks' rows, scaled by a flag. -/
def taps (v1 v4 : BitVec 32) (x : FVec Ideal S256x256 .bf16) (p n : FVec Ideal S16x256 .bf16) (w : FVec Ideal S3x256 .f32) : FVec Ideal S256x256 .f32 :=
  k0_pay77 (F := Ideal) (k0_pay2 v1) (k0_pay3 v4) (iota .tc S256x256 32 [0] iota_S256x256_d0_w32) x p n w

/-- The row above in a circle of 256. -/
def up (r : Fin 256) : Fin 256 := ⟨(r.val + 256 - 1) % 256, by omega⟩
/-- The row below in a circle of 256. -/
def down (r : Fin 256) : Fin 256 := ⟨(r.val + 256 - 255) % 256, by omega⟩

theorem pick (k : ℕ) (hk : k < 256) (r : Fin 256) (a b : EReal) :
    Scalar.select (IntOp.cmpi CmpIPredicate.eq (BitVec.ofNat 32 r.val) (BitVec.ofNat 32 k)) a b = if r.val = k then a else b := by
  have h : (BitVec.ofNat 32 r.val = BitVec.ofNat 32 k) ↔ r.val = k := by
    constructor
    · intro e
      have := congrArg BitVec.toNat e
      simp only [BitVec.toNat_ofNat] at this
      omega
    · intro e; rw [e]
  by_cases hc : r.val = k
  · rw [if_pos hc, h.mpr hc]; simp [IntOp.cmpi, Scalar.select]
  · rw [if_neg hc]
    have hb : ¬ BitVec.ofNat 32 r.val = BitVec.ofNat 32 k := fun e => hc (h.mp e)
    have e : IntOp.cmpi CmpIPredicate.eq (BitVec.ofNat 32 r.val) (BitVec.ofNat 32 k) = 0#1 := by
      simp only [IntOp.cmpi]
      rw [show (BitVec.ofNat 32 r.val == BitVec.ofNat 32 k) = false from beq_eq_false_iff_ne.mpr hb]
      rfl
    rw [e]
    rfl

theorem taps_at (v1 v4 : BitVec 32) (x : FVec Ideal S256x256 .bf16) (p n : FVec Ideal S16x256 .bf16) (w : FVec Ideal S3x256 .f32) (r q : Fin 256) :
    taps v1 v4 x p n w (ix2 r q)
      = (if r.val = 0 then p (ix2 15 q) * (show EReal from Scalar.sitofp (F := Ideal) .f32 v1) else x (ix2 (up r) q)) * w (ix2 0 q) + x (ix2 r q) * w (ix2 1 q)
        + (if r.val = 255 then n (ix2 0 q) * (show EReal from Scalar.sitofp (F := Ideal) .f32 v4) else x (ix2 (down r) q)) * w (ix2 2 q) := by
  unfold taps k0_pay77 k0_pay2 k0_pay3
  pointwise
  rw [← pick 0 (by omega) r, ← pick 255 (by omega) r]
  rfl

/-- The same over all the columns. -/
def conv (v1 v4 : BitVec 32) (x0 : FVec Ideal S256x6144 .bf16) (x1 x2 : FVec Ideal S16x6144 .bf16) (x3 : FVec Ideal S3x6144 .f32) (r : Fin 256) (q : Fin 6144) : EReal :=
  (if r.val = 0 then x1 (ix2 15 q) * (show EReal from Scalar.sitofp (F := Ideal) .f32 v1) else x0 (ix2 (up r) q)) * x3 (ix2 0 q) + x0 (ix2 r q) * x3 (ix2 1 q)
    + (if r.val = 255 then x2 (ix2 0 q) * (show EReal from Scalar.sitofp (F := Ideal) .f32 v4) else x0 (ix2 (down r) q)) * x3 (ix2 2 q)

theorem cols_in (d o : ℕ) (ho : o + 256 ≤ 6144) : ∀ a : Fin 2, (![0, o] : Fin 2 → ℕ) a + (![d, 256] : Fin 2 → ℕ) a ≤ (![d, 6144] : Fin 2 → ℕ) a := fun a => by
  match a with
  | ⟨0, _⟩ => show 0 + d ≤ d; omega
  | ⟨1, _⟩ => exact ho

section Pieces

variable (arg3 : Memref sig .tc .vmem S256x6144 .bf16) (harg3 : arg3.IsWhole) (arg4 : Memref sig .tc .vmem S16x6144 .bf16) (harg4 : arg4.IsWhole) (arg5 : Memref sig .tc .vmem S16x6144 .bf16) (harg5 : arg5.IsWhole) (arg6 : Memref sig .tc .vmem S3x6144 .f32) (harg6 : arg6.IsWhole)
  (v1 v4 : BitVec 32) (x0 : Vec Ideal S256x6144 .bf16) (x1 : Vec Ideal S16x6144 .bf16) (x2 : Vec Ideal S16x6144 .bf16) (x3 : Vec Ideal S3x6144 .f32)

/-- The taps of the 256 columns from `o`. -/
def part (o : ℕ) (ho : o + 256 ≤ 6144) : FVec Ideal S256x256 .f32 :=
  taps v1 v4 (View.readAt (Elt Ideal) arg3.view (Rect.unit (s := S256x6144) ![0, o] ![256, 256] (cols_in 256 o ho)).toLoadRect (harg3.unread x0))
    (View.readAt (Elt Ideal) arg4.view (Rect.unit (s := S16x6144) ![0, o] ![16, 256] (cols_in 16 o ho)).toLoadRect (harg4.unread x1))
    (View.readAt (Elt Ideal) arg5.view (Rect.unit (s := S16x6144) ![0, o] ![16, 256] (cols_in 16 o ho)).toLoadRect (harg5.unread x2))
    (View.readAt (Elt Ideal) arg6.view (Rect.unit (s := S3x6144) ![0, o] ![3, 256] (cols_in 3 o ho)).toLoadRect (harg6.unread x3))

theorem part_at (o : ℕ) (ho : o + 256 ≤ 6144) (r q : Fin 256) :
    part arg3 harg3 arg4 harg4 arg5 harg5 arg6 harg6 v1 v4 x0 x1 x2 x3 o ho (ix2 r q) = conv v1 v4 x0 x1 x2 x3 r ⟨o + q.val, by omega⟩ := by
  unfold part
  rw [taps_at]
  unfold conv
  have e0 (h : ∀ a, (![0, o] : Fin 2 → ℕ) a + (![256, 256] : Fin 2 → ℕ) a ≤ S256x6144.size a) (r : Fin 256) :
      (View.readAt (Elt Ideal) arg3.view (Rect.unit (s := S256x6144) ![0, o] ![256, 256] h).toLoadRect (harg3.unread x0) : FVec Ideal S256x256 .bf16) (ix2 r q) = x0 (ix2 r ⟨o + q.val, by omega⟩) := by
    refine (harg3.readAt_unread x0 _ _).trans (congrArg x0 (funext fun a => Fin.ext ?_))
    match a with
    | ⟨0, _⟩ => show 0 + 1 * r.val = r.val; omega
    | ⟨1, _⟩ => show o + 1 * q.val = o + q.val; omega
  have e1 (h : ∀ a, (![0, o] : Fin 2 → ℕ) a + (![16, 256] : Fin 2 → ℕ) a ≤ S16x6144.size a) (r : Fin 16) :
      (View.readAt (Elt Ideal) arg4.view (Rect.unit (s := S16x6144) ![0, o] ![16, 256] h).toLoadRect (harg4.unread x1) : FVec Ideal S16x256 .bf16) (ix2 r q) = x1 (ix2 r ⟨o + q.val, by omega⟩) := by
    refine (harg4.readAt_unread x1 _ _).trans (congrArg x1 (funext fun a => Fin.ext ?_))
    match a with
    | ⟨0, _⟩ => show 0 + 1 * r.val = r.val; omega
    | ⟨1, _⟩ => show o + 1 * q.val = o + q.val; omega
  have e2 (h : ∀ a, (![0, o] : Fin 2 → ℕ) a + (![16, 256] : Fin 2 → ℕ) a ≤ S16x6144.size a) (r : Fin 16) :
      (View.readAt (Elt Ideal) arg5.view (Rect.unit (s := S16x6144) ![0, o] ![16, 256] h).toLoadRect (harg5.unread x2) : FVec Ideal S16x256 .bf16) (ix2 r q) = x2 (ix2 r ⟨o + q.val, by omega⟩) := by
    refine (harg5.readAt_unread x2 _ _).trans (congrArg x2 (funext fun a => Fin.ext ?_))
    match a with
    | ⟨0, _⟩ => show 0 + 1 * r.val = r.val; omega
    | ⟨1, _⟩ => show o + 1 * q.val = o + q.val; omega
  have e3 (h : ∀ a, (![0, o] : Fin 2 → ℕ) a + (![3, 256] : Fin 2 → ℕ) a ≤ S3x6144.size a) (r : Fin 3) :
      (View.readAt (Elt Ideal) arg6.view (Rect.unit (s := S3x6144) ![0, o] ![3, 256] h).toLoadRect (harg6.unread x3) : FVec Ideal S3x256 .f32) (ix2 r q) = x3 (ix2 r ⟨o + q.val, by omega⟩) := by
    refine (harg6.readAt_unread x3 _ _).trans (congrArg x3 (funext fun a => Fin.ext ?_))
    match a with
    | ⟨0, _⟩ => show 0 + 1 * r.val = r.val; omega
    | ⟨1, _⟩ => show o + 1 * q.val = o + q.val; omega
  rw [e0, e0, e0, e1, e2, e3, e3, e3]

/-- The first third of the columns, and the product of the second and the last. -/
def firstAt (r : Fin 256) (q : Fin 2048) : EReal := conv v1 v4 x0 x1 x2 x3 r ⟨q.val, by omega⟩
def gatedAt (r : Fin 256) (q : Fin 2048) : EReal :=
  conv v1 v4 x0 x1 x2 x3 r ⟨2048 + q.val, by omega⟩ * conv v1 v4 x0 x1 x2 x3 r ⟨4096 + q.val, by omega⟩
def first (y : S256x2048.Idx) : EReal := firstAt v1 v4 x0 x1 x2 x3 (y 0) (y 1)
def gated (y : S256x2048.Idx) : EReal := gatedAt v1 v4 x0 x1 x2 x3 (y 0) (y 1)

theorem first_piece (o : ℕ) (ho : o + 256 ≤ 2048) (h : ∀ a, (![0, o] : Fin 2 → ℕ) a + (![256, 256] : Fin 2 → ℕ) a ≤ S256x2048.size a) (x : S256x256.Idx) :
    truncf .bf16 (part arg3 harg3 arg4 harg4 arg5 harg5 arg6 harg6 v1 v4 x0 x1 x2 x3 o (by omega)) bitsLt_bf16_f32 x
      = first v1 v4 x0 x1 x2 x3 ((Rect.unit (s := S256x2048) ![0, o] ![256, 256] h).emb x) := by
  obtain ⟨r, q, rfl⟩ : ∃ r q : Fin 256, x = ix2 r q := ⟨x 0, x 1, funext fun a => match a with | ⟨0, _⟩ => rfl | ⟨1, _⟩ => rfl⟩
  refine (part_at arg3 harg3 arg4 harg4 arg5 harg5 arg6 harg6 v1 v4 x0 x1 x2 x3 o (by omega) r q).trans ?_
  unfold first firstAt
  refine congrArg₂ (conv v1 v4 x0 x1 x2 x3) (Fin.ext ?_) (Fin.ext ?_)
  · show r.val = 0 + 1 * r.val; omega
  · show o + q.val = o + 1 * q.val; omega

theorem gated_piece (o : ℕ) (ho : o + 256 ≤ 2048) (h : ∀ a, (![0, o] : Fin 2 → ℕ) a + (![256, 256] : Fin 2 → ℕ) a ≤ S256x2048.size a) (x : S256x256.Idx) :
    truncf .bf16 (mulf (part arg3 harg3 arg4 harg4 arg5 harg5 arg6 harg6 v1 v4 x0 x1 x2 x3 (2048 + o) (by omega))
        (part arg3 harg3 arg4 harg4 arg5 harg5 arg6 harg6 v1 v4 x0 x1 x2 x3 (4096 + o) (by omega))) bitsLt_bf16_f32 x
      = gated v1 v4 x0 x1 x2 x3 ((Rect.unit (s := S256x2048) ![0, o] ![256, 256] h).emb x) := by
  obtain ⟨r, q, rfl⟩ : ∃ r q : Fin 256, x = ix2 r q := ⟨x 0, x 1, funext fun a => match a with | ⟨0, _⟩ => rfl | ⟨1, _⟩ => rfl⟩
  refine (congrArg₂ (fun a b : EReal => a * b) (part_at arg3 harg3 arg4 harg4 arg5 harg5 arg6 harg6 v1 v4 x0 x1 x2 x3 (2048 + o) (by omega) r q)
    (part_at arg3 harg3 arg4 harg4 arg5 harg5 arg6 harg6 v1 v4 x0 x1 x2 x3 (4096 + o) (by omega) r q)).trans ?_
  unfold gated gatedAt
  refine congrArg₂ (fun a b : EReal => a * b) (congrArg₂ (conv v1 v4 x0 x1 x2 x3) (Fin.ext ?_) (Fin.ext ?_)) (congrArg₂ (conv v1 v4 x0 x1 x2 x3) (Fin.ext ?_) (Fin.ext ?_))
  · show r.val = 0 + 1 * r.val; omega
  · show 2048 + o + q.val = 2048 + (o + 1 * q.val); omega
  · show r.val = 0 + 1 * r.val; omega
  · show 4096 + o + q.val = 4096 + (o + 1 * q.val); omega

end Pieces

/-- The two flags of a grid point. -/
def flag0 (c : Dev nD) (i : grid0.Coords) (xt0 : TbBuf0 (F := Ideal) c tbM0_0) : BitVec 32 :=
  View.readAt (Elt Ideal) (View.whole main_c) (Rect.unit (s := S144) (k0_off1 i) ![1] (k0_off1_inb i)).toLoadRect xt0 (Shape.Idx.first (show 0 < S1.numel by decide))
def flag1 (c : Dev nD) (i : grid0.Coords) (xt1 : TbBuf0 (F := Ideal) c tbM0_1) : BitVec 32 :=
  View.readAt (Elt Ideal) (View.whole main_c_0) (Rect.unit (s := S144) (k0_off1 i) ![1] (k0_off1_inb i)).toLoadRect xt1 (Shape.Idx.first (show 0 < S1.numel by decide))

theorem out_4 (c : Dev nD) (i : grid0.Coords) (arg3 : Memref sig .tc .vmem S256x6144 .bf16) (harg3 : arg3.IsWhole) (arg4 : Memref sig .tc .vmem S16x6144 .bf16) (harg4 : arg4.IsWhole) (arg5 : Memref sig .tc .vmem S16x6144 .bf16) (harg5 : arg5.IsWhole) (arg6 : Memref sig .tc .vmem S3x6144 .f32) (harg6 : arg6.IsWhole) (arg7 : Memref sig .tc .vmem S256x2048 .bf16) (harg7 : arg7.IsWhole) (arg8 : Memref sig .tc .vmem S256x2048 .bf16) (harg8 : arg8.IsWhole)
    (x0 : Vec Ideal S256x6144 .bf16) (x1 : Vec Ideal S16x6144 .bf16) (x2 : Vec Ideal S16x6144 .bf16) (x3 : Vec Ideal S3x6144 .f32) (xt0 : TbBuf0 (F := Ideal) c tbM0_0) (xt1 : TbBuf0 (F := Ideal) c tbM0_1) (y : S256x2048.Idx) :
    out0_A_4 (F := Ideal) c i arg3 harg3 arg4 harg4 arg5 harg5 arg6 harg6 arg7 harg7 arg8 harg8 x0 x1 x2 x3 xt0 xt1 y
      = first (flag0 c i xt0) (flag1 c i xt1) x0 x1 x2 x3 y := by
  unfold out0_A_4
  refine View.read_writes_apply_of_pieces _ _ (first (flag0 c i xt0) (flag1 c i xt1) x0 x1 x2 x3) _ (View.PiecesOf.mem ?_) y
    (cover0_A_4 (F := Ideal) c i arg3 harg3 arg4 harg4 arg5 harg5 arg6 harg6 arg7 harg7 arg8 harg8 x0 x1 x2 x3 xt0 xt1 y)
  dsimp only [kernelRun0_A]
  refine ⟨first_piece arg3 harg3 arg4 harg4 arg5 harg5 arg6 harg6 (flag0 c i xt0) (flag1 c i xt1) x0 x1 x2 x3 1792 (by omega) inb_S256x2048_S256x256_0_1792,
    first_piece arg3 harg3 arg4 harg4 arg5 harg5 arg6 harg6 (flag0 c i xt0) (flag1 c i xt1) x0 x1 x2 x3 1536 (by omega) inb_S256x2048_S256x256_0_1536,
    first_piece arg3 harg3 arg4 harg4 arg5 harg5 arg6 harg6 (flag0 c i xt0) (flag1 c i xt1) x0 x1 x2 x3 1280 (by omega) inb_S256x2048_S256x256_0_1280,
    first_piece arg3 harg3 arg4 harg4 arg5 harg5 arg6 harg6 (flag0 c i xt0) (flag1 c i xt1) x0 x1 x2 x3 1024 (by omega) inb_S256x2048_S256x256_0_1024,
    first_piece arg3 harg3 arg4 harg4 arg5 harg5 arg6 harg6 (flag0 c i xt0) (flag1 c i xt1) x0 x1 x2 x3 768 (by omega) inb_S256x2048_S256x256_0_768,
    first_piece arg3 harg3 arg4 harg4 arg5 harg5 arg6 harg6 (flag0 c i xt0) (flag1 c i xt1) x0 x1 x2 x3 512 (by omega) inb_S256x2048_S256x256_0_512,
    first_piece arg3 harg3 arg4 harg4 arg5 harg5 arg6 harg6 (flag0 c i xt0) (flag1 c i xt1) x0 x1 x2 x3 256 (by omega) inb_S256x2048_S256x256_0_256,
    first_piece arg3 harg3 arg4 harg4 arg5 harg5 arg6 harg6 (flag0 c i xt0) (flag1 c i xt1) x0 x1 x2 x3 0 (by omega) inb_S256x2048_S256x256_0_0, trivial⟩

theorem out_5 (c : Dev nD) (i : grid0.Coords) (arg3 : Memref sig .tc .vmem S256x6144 .bf16) (harg3 : arg3.IsWhole) (arg4 : Memref sig .tc .vmem S16x6144 .bf16) (harg4 : arg4.IsWhole) (arg5 : Memref sig .tc .vmem S16x6144 .bf16) (harg5 : arg5.IsWhole) (arg6 : Memref sig .tc .vmem S3x6144 .f32) (harg6 : arg6.IsWhole) (arg7 : Memref sig .tc .vmem S256x2048 .bf16) (harg7 : arg7.IsWhole) (arg8 : Memref sig .tc .vmem S256x2048 .bf16) (harg8 : arg8.IsWhole)
    (x0 : Vec Ideal S256x6144 .bf16) (x1 : Vec Ideal S16x6144 .bf16) (x2 : Vec Ideal S16x6144 .bf16) (x3 : Vec Ideal S3x6144 .f32) (xt0 : TbBuf0 (F := Ideal) c tbM0_0) (xt1 : TbBuf0 (F := Ideal) c tbM0_1) (y : S256x2048.Idx) :
    out0_A_5 (F := Ideal) c i arg3 harg3 arg4 harg4 arg5 harg5 arg6 harg6 arg7 harg7 arg8 harg8 x0 x1 x2 x3 xt0 xt1 y
      = gated (flag0 c i xt0) (flag1 c i xt1) x0 x1 x2 x3 y := by
  unfold out0_A_5
  refine View.read_writes_apply_of_pieces _ _ (gated (flag0 c i xt0) (flag1 c i xt1) x0 x1 x2 x3) _ (View.PiecesOf.mem ?_) y
    (cover0_A_5 (F := Ideal) c i arg3 harg3 arg4 harg4 arg5 harg5 arg6 harg6 arg7 harg7 arg8 harg8 x0 x1 x2 x3 xt0 xt1 y)
  dsimp only [kernelRun0_A]
  refine ⟨gated_piece arg3 harg3 arg4 harg4 arg5 harg5 arg6 harg6 (flag0 c i xt0) (flag1 c i xt1) x0 x1 x2 x3 1792 (by omega) inb_S256x2048_S256x256_0_1792,
    gated_piece arg3 harg3 arg4 harg4 arg5 harg5 arg6 harg6 (flag0 c i xt0) (flag1 c i xt1) x0 x1 x2 x3 1536 (by omega) inb_S256x2048_S256x256_0_1536,
    gated_piece arg3 harg3 arg4 harg4 arg5 harg5 arg6 harg6 (flag0 c i xt0) (flag1 c i xt1) x0 x1 x2 x3 1280 (by omega) inb_S256x2048_S256x256_0_1280,
    gated_piece arg3 harg3 arg4 harg4 arg5 harg5 arg6 harg6 (flag0 c i xt0) (flag1 c i xt1) x0 x1 x2 x3 1024 (by omega) inb_S256x2048_S256x256_0_1024,
    gated_piece arg3 harg3 arg4 harg4 arg5 harg5 arg6 harg6 (flag0 c i xt0) (flag1 c i xt1) x0 x1 x2 x3 768 (by omega) inb_S256x2048_S256x256_0_768,
    gated_piece arg3 harg3 arg4 harg4 arg5 harg5 arg6 harg6 (flag0 c i xt0) (flag1 c i xt1) x0 x1 x2 x3 512 (by omega) inb_S256x2048_S256x256_0_512,
    gated_piece arg3 harg3 arg4 harg4 arg5 harg5 arg6 harg6 (flag0 c i xt0) (flag1 c i xt1) x0 x1 x2 x3 256 (by omega) inb_S256x2048_S256x256_0_256,
    gated_piece arg3 harg3 arg4 harg4 arg5 harg5 arg6 harg6 (flag0 c i xt0) (flag1 c i xt1) x0 x1 x2 x3 0 (by omega) inb_S256x2048_S256x256_0_0, trivial⟩

/-! ## The taps of a block are the convolution's -/

theorem flag_zero : (show EReal from Scalar.sitofp (F := Ideal) .f32 0#32) = 0 := by
  show (((0#32 : BitVec 32).toInt : ℝ) : EReal) = 0
  simp
theorem flag_one : (show EReal from Scalar.sitofp (F := Ideal) .f32 1#32) = 1 := by
  show (((1#32 : BitVec 32).toInt : ℝ) : EReal) = 1
  have h : (1#32 : BitVec 32).toInt = 1 := by decide
  rw [h]
  simp

theorem conv_eq (u : FVec Ideal S36864x6144 .bf16) (w : FVec Ideal S3x6144 .f32) (g : ℕ) (hg : g < 144) (v1 v4 : BitVec 32)
    (x0 : FVec Ideal S256x6144 .bf16) (x1 x2 : FVec Ideal S16x6144 .bf16) (x3 : FVec Ideal S3x6144 .f32)
    (h1 : v1 = if g < 17 ∨ g % 16 = 0 then 0#32 else 1#32) (h4 : v4 = if g < 16 ∨ g % 16 = 15 then 0#32 else 1#32)
    (hx0 : ∀ (r : Fin 256) (q : Fin 6144) (i : Fin 36864), i.val = g * 256 + r.val → x0 (ix2 r q) = u (ix2 i q))
    (hx1 : ∀ (q : Fin 6144) (i : Fin 36864), i.val = (g * 16 - 1) * 16 + 15 → x1 (ix2 15 q) = u (ix2 i q))
    (hx2 : ¬ (g < 16 ∨ g % 16 = 15) → ∀ (q : Fin 6144) (i : Fin 36864), i.val = (g + 1) * 256 → x2 (ix2 0 q) = u (ix2 i q))
    (hx3 : ∀ (k : Fin 3) (q : Fin 6144), x3 (ix2 k q) = w (ix2 k q))
    (r : Fin 256) (q : Fin 6144) (i : Fin 36864) (hi : i.val = g * 256 + r.val) :
    conv v1 v4 x0 x1 x2 x3 r q = tap u w i q := by
  unfold conv tap
  rw [hx0 r q i hi, hx3, hx3, hx3]
  have hr := r.isLt
  refine congrArg₂ (fun a b : EReal => a + b) (congrArg (fun a : EReal => a * w (ix2 0 q) + u (ix2 i q) * w (ix2 1 q)) ?_) (congrArg (fun a : EReal => a * w (ix2 2 q)) ?_)
  · by_cases h0 : r.val = 0
    · refine (if_pos h0).trans ?_
      by_cases hc : g < 17 ∨ g % 16 = 0
      · have e : Starts i := by unfold Starts; omega
        rw [h1, if_pos hc, if_pos e, flag_zero, mul_zero]
      · have e : ¬ Starts i := by unfold Starts; omega
        rw [h1, if_neg hc, if_neg e, flag_one, mul_one]
        exact hx1 q (before i) (by show i.val - 1 = (g * 16 - 1) * 16 + 15; omega)
    · have e : ¬ Starts i := by unfold Starts; omega
      refine (if_neg h0).trans (Eq.trans ?_ (if_neg e).symm)
      exact hx0 (up r) q (before i) (by show i.val - 1 = g * 256 + (r.val + 256 - 1) % 256; omega)
  · by_cases h0 : r.val = 255
    · refine (if_pos h0).trans ?_
      by_cases hc : g < 16 ∨ g % 16 = 15
      · have e : Ends i := by unfold Ends; omega
        rw [h4, if_pos hc, if_pos e, flag_zero, mul_zero]
      · have e : ¬ Ends i := by unfold Ends; omega
        rw [h4, if_neg hc, if_neg e, flag_one, mul_one]
        exact hx2 hc q (after i) (by show min (i.val + 1) 36863 = (g + 1) * 256; omega)
    · have e : ¬ Ends i := by unfold Ends; omega
      refine (if_neg h0).trans (Eq.trans ?_ (if_neg e).symm)
      exact hx0 (down r) q (after i) (by show min (i.val + 1) 36863 = g * 256 + (r.val + 256 - 255) % 256; omega)

variable (m : (ℓ : Loc nD τ sig) → Buf (Elt Ideal) ℓ)

/-- The call's arguments: the rows and the taps' weights. -/
def argU (c : Dev nD) : FVec Ideal S36864x6144 .bf16 := m ((c : Thread nD τ).loc main_arg0)
def argW (c : Dev nD) : FVec Ideal S3x6144 .f32 := m ((c : Thread nD τ).loc main_arg1)

/-! ## The blocks at coordinates -/

/-- The number of a point's block. -/
def num (hO : Ok m) (t : Fin (cfgM m hO).N) : ℕ := (grid0.coords t 0).val
theorem num_lt (hO : Ok m) (t : Fin (cfgM m hO).N) : num m hO t < 144 := (grid0.coords t 0).isLt
theorem word (k : ℕ) (hk : k < 144) : (BitVec.ofNat 32 k).toNat = k := by rw [BitVec.toNat_ofNat]; omega
theorem word_above : ∀ k : Fin 144, (Scalar.maxsi (Scalar.subi (Scalar.muli (BitVec.ofNat 32 k.val) 16#32) 1#32) 0#32).toNat = k.val * 16 - 1 := by
  decide +kernel

theorem place_0 (hO : Ok m) (t : Fin (cfgM m hO).N) (y : S256x6144.Idx) (a : Fin 2) :
    ((((cfgM m hO).win 0).rect t).emb y a : ℕ) = (![(BitVec.ofNat 32 (grid0.coords t 0).val).toNat, 0] : Fin 2 → ℕ) a * S256x6144.size a + (y a).val :=
  Pipeline.Window.rect_emb_val ((cfgM m hO).win 0) t y a rfl
theorem rows_blk (hO : Ok m) (c : Dev nD) (t : Fin (cfgM m hO).N) (r : Fin 256) (q : Fin 6144) (i : Fin 36864) (hi : i.val = num m hO t * 256 + r.val) :
    (show FVec Ideal S256x6144 .bf16 from iblk m hO c 0 t) (ix2 r q) = argU m c (ix2 i q) := by
  refine Eq.trans (b := (V m c main_arg0 : FVec Ideal S36864x6144 .bf16) (ix2 i q)) ?_ (congrFun (V_main_arg0 m c) _)
  refine congrArg (V m c main_arg0 : FVec Ideal S36864x6144 .bf16) (funext fun a => Fin.ext ((place_0 m hO t (ix2 r q) a).trans ?_))
  match a with
  | ⟨0, _⟩ =>
    show (BitVec.ofNat 32 (num m hO t)).toNat * 256 + r.val = i.val
    rw [word _ (num_lt m hO t), hi]
  | ⟨1, _⟩ =>
    show 0 * 6144 + q.val = q.val
    omega

theorem place_1 (hO : Ok m) (t : Fin (cfgM m hO).N) (y : S16x6144.Idx) (a : Fin 2) :
    ((((cfgM m hO).win 1).rect t).emb y a : ℕ) = (![(Scalar.maxsi (Scalar.subi (Scalar.muli (BitVec.ofNat 32 (grid0.coords t 0).val) 16#32) 1#32) 0#32).toNat, 0] : Fin 2 → ℕ) a * S16x6144.size a + (y a).val :=
  Pipeline.Window.rect_emb_val ((cfgM m hO).win 1) t y a rfl
theorem above_blk (hO : Ok m) (c : Dev nD) (t : Fin (cfgM m hO).N) (q : Fin 6144) (i : Fin 36864) (hi : i.val = (num m hO t * 16 - 1) * 16 + 15) :
    (show FVec Ideal S16x6144 .bf16 from iblk m hO c 1 t) (ix2 15 q) = argU m c (ix2 i q) := by
  refine Eq.trans (b := (V m c main_arg0 : FVec Ideal S36864x6144 .bf16) (ix2 i q)) ?_ (congrFun (V_main_arg0 m c) _)
  refine congrArg (V m c main_arg0 : FVec Ideal S36864x6144 .bf16) (funext fun a => Fin.ext ((place_1 m hO t (ix2 15 q) a).trans ?_))
  match a with
  | ⟨0, _⟩ =>
    refine Eq.trans ?_ hi.symm
    exact congrArg (fun n : ℕ => n * 16 + 15) (word_above ⟨num m hO t, num_lt m hO t⟩)
  | ⟨1, _⟩ =>
    show 0 * 6144 + q.val = q.val
    omega

theorem place_2 (hO : Ok m) (t : Fin (cfgM m hO).N) (y : S16x6144.Idx) (a : Fin 2) :
    ((((cfgM m hO).win 2).rect t).emb y a : ℕ)
      = (![((BitVec.ofNat 32 (grid0.coords t 0).val + 1#32) * 16#32 * following (tbl m) (grid0.coords t)).toNat, 0] : Fin 2 → ℕ) a * S16x6144.size a + (y a).val :=
  (Pipeline.Window.rect_emb_val ((cfgM m hO).win 2) t y a rfl).trans
    (congrArg (fun n : ℕ => n * S16x6144.size a + (y a).val) (congrFun (map_2 (tbl m) (grid0.coords t)) a))
theorem below_blk (hO : Ok m) (c : Dev nD) (t : Fin (cfgM m hO).N) (hc : ¬ (num m hO t < 16 ∨ num m hO t % 16 = 15)) (q : Fin 6144) (i : Fin 36864)
    (hi : i.val = (num m hO t + 1) * 256) :
    (show FVec Ideal S16x6144 .bf16 from iblk m hO c 2 t) (ix2 0 q) = argU m c (ix2 i q) := by
  refine Eq.trans (b := (V m c main_arg0 : FVec Ideal S36864x6144 .bf16) (ix2 i q)) ?_ (congrFun (V_main_arg0 m c) _)
  refine congrArg (V m c main_arg0 : FVec Ideal S36864x6144 .bf16) (funext fun a => Fin.ext ((place_2 m hO t (ix2 0 q) a).trans ?_))
  match a with
  | ⟨0, _⟩ =>
    refine (congrArg (fun n : ℕ => n * 16 + 0) ((block_eq m (grid0.coords t)).trans (if_neg hc))).trans ?_
    show (num m hO t + 1) * 16 * 16 + 0 = i.val
    omega
  | ⟨1, _⟩ =>
    show 0 * 6144 + q.val = q.val
    omega

theorem place_3 (hO : Ok m) (t : Fin (cfgM m hO).N) (y : S3x6144.Idx) (a : Fin 2) :
    ((((cfgM m hO).win 3).rect t).emb y a : ℕ) = (![0, 0] : Fin 2 → ℕ) a * S3x6144.size a + (y a).val :=
  Pipeline.Window.rect_emb_val ((cfgM m hO).win 3) t y a rfl
theorem weights_blk (hO : Ok m) (c : Dev nD) (t : Fin (cfgM m hO).N) (k : Fin 3) (q : Fin 6144) :
    (show FVec Ideal S3x6144 .f32 from iblk m hO c 3 t) (ix2 k q) = argW m c (ix2 k q) := by
  refine Eq.trans (b := (V m c main_arg1 : FVec Ideal S3x6144 .f32) (ix2 k q)) ?_ (congrFun (V_main_arg1 m c) _)
  refine congrArg (V m c main_arg1 : FVec Ideal S3x6144 .f32) (funext fun a => Fin.ext ((place_3 m hO t (ix2 k q) a).trans ?_))
  match a with
  | ⟨0, _⟩ =>
    show 0 * 3 + k.val = k.val
    omega
  | ⟨1, _⟩ =>
    show 0 * 6144 + q.val = q.val
    omega

theorem index_eq (i : grid0.Coords) : (Scalar.indexCast (BitVec.ofNat 32 (i 0).val)).toNat = (i 0).val := word _ (i 0).isLt
theorem flag0_eq (c : Dev nD) (i : grid0.Coords) : flag0 c i (tbl m 0) = if (i 0).val < 17 ∨ (i 0).val % 16 = 0 then 0#32 else 1#32 := by
  refine Eq.trans ?_ (previous_eq m ⟨(i 0).val, (i 0).isLt⟩)
  refine congrArg (tbl m 0 : IVec S144 32) (funext fun a => Fin.ext ?_)
  match a with
  | ⟨0, _⟩ =>
    show (Scalar.indexCast (BitVec.ofNat 32 (i 0).val)).toNat + 1 * 0 = (i 0).val
    exact index_eq i
theorem flag1_eq (c : Dev nD) (i : grid0.Coords) : flag1 c i (tbl m 1) = if (i 0).val < 16 ∨ (i 0).val % 16 = 15 then 0#32 else 1#32 := by
  refine Eq.trans ?_ (following_eq m ⟨(i 0).val, (i 0).isLt⟩)
  refine congrArg (tbl m 1 : IVec S144 32) (funext fun a => Fin.ext ?_)
  match a with
  | ⟨0, _⟩ =>
    show (Scalar.indexCast (BitVec.ofNat 32 (i 0).val)).toNat + 1 * 0 = (i 0).val
    exact index_eq i

theorem conv_blk (hO : Ok m) (c : Dev nD) (t : Fin (cfgM m hO).N) (r : Fin 256) (q : Fin 6144) (i : Fin 36864) (hi : i.val = num m hO t * 256 + r.val) :
    conv (flag0 c (grid0.coords t) (tbl m 0)) (flag1 c (grid0.coords t) (tbl m 1)) (iblk m hO c 0 t) (iblk m hO c 1 t) (iblk m hO c 2 t) (iblk m hO c 3 t) r q
      = tap (argU m c) (argW m c) i q :=
  conv_eq (argU m c) (argW m c) (num m hO t) (num_lt m hO t) _ _ (iblk m hO c 0 t) (iblk m hO c 1 t) (iblk m hO c 2 t) (iblk m hO c 3 t)
    (flag0_eq m c (grid0.coords t)) (flag1_eq m c (grid0.coords t)) (rows_blk m hO c t) (above_blk m hO c t) (below_blk m hO c t) (weights_blk m hO c t) r q i hi

theorem wrote_4 (hO : Ok m) (c : Dev nD) (t : Fin (cfgM m hO).N) :
    (outsAt0 m hO c t).1 = out0_A_4 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) := by
  unfold outsAt0
  rfl

theorem outs_4 (hO : Ok m) (c : Dev nD) (t : Fin (cfgM m hO).N) (y : S256x2048.Idx) :
    (outsAt0 m hO c t).1 y = first (flag0 c (grid0.coords t) (tbl m 0)) (flag1 c (grid0.coords t) (tbl m 1)) (iblk m hO c 0 t) (iblk m hO c 1 t) (iblk m hO c 2 t) (iblk m hO c 3 t) y := by
  rw [wrote_4 m hO c t]
  exact out_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) y

theorem first_at (hO : Ok m) (c : Dev nD) (t : Fin (cfgM m hO).N) (r : Fin 256) (q : Fin 2048) (i : Fin 36864) (h0 : i.val = num m hO t * 256 + r.val) :
    firstAt (flag0 c (grid0.coords t) (tbl m 0)) (flag1 c (grid0.coords t) (tbl m 1)) (iblk m hO c 0 t) (iblk m hO c 1 t) (iblk m hO c 2 t) (iblk m hO c 3 t) r q = Cert.HyenaConvReferenceIdeal.Read.first (argU m c) (argW m c) (ix2 i q) :=
  (conv_blk m hO c t r _ i h0).trans (Cert.HyenaConvReferenceIdeal.Read.first_at (argU m c) (argW m c) i q).symm

theorem first_blk (hO : Ok m) (c : Dev nD) (t : Fin (cfgM m hO).N) (y : S256x2048.Idx) (z : S36864x2048.Idx)
    (h0 : (z 0).val = num m hO t * 256 + (y 0).val) (h1 : (z 1).val = (y 1).val) :
    (outsAt0 m hO c t).1 y = Cert.HyenaConvReferenceIdeal.Read.first (argU m c) (argW m c) z := by
  have e : z = ix2 (z 0) (y 1) := by
    funext a
    match a with
    | ⟨0, _⟩ => rfl
    | ⟨1, _⟩ => exact Fin.ext h1
  rw [e]
  exact (outs_4 m hO c t y).trans (first_at m hO c t (y 0) (y 1) (z 0) h0)

theorem wrote_5 (hO : Ok m) (c : Dev nD) (t : Fin (cfgM m hO).N) :
    (outsAt0 m hO c t).2 = out0_A_5 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) := by
  unfold outsAt0
  rfl

theorem outs_5 (hO : Ok m) (c : Dev nD) (t : Fin (cfgM m hO).N) (y : S256x2048.Idx) :
    (outsAt0 m hO c t).2 y = gated (flag0 c (grid0.coords t) (tbl m 0)) (flag1 c (grid0.coords t) (tbl m 1)) (iblk m hO c 0 t) (iblk m hO c 1 t) (iblk m hO c 2 t) (iblk m hO c 3 t) y := by
  rw [wrote_5 m hO c t]
  exact out_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (tbl m 0) (tbl m 1) y

theorem gated_at (hO : Ok m) (c : Dev nD) (t : Fin (cfgM m hO).N) (r : Fin 256) (q : Fin 2048) (i : Fin 36864) (h0 : i.val = num m hO t * 256 + r.val) :
    gatedAt (flag0 c (grid0.coords t) (tbl m 0)) (flag1 c (grid0.coords t) (tbl m 1)) (iblk m hO c 0 t) (iblk m hO c 1 t) (iblk m hO c 2 t) (iblk m hO c 3 t) r q = Cert.HyenaConvReferenceIdeal.Read.gated (argU m c) (argW m c) (ix2 i q) :=
  (congrArg₂ (fun a b : EReal => a * b) (conv_blk m hO c t r _ i h0) (conv_blk m hO c t r _ i h0)).trans
    (Cert.HyenaConvReferenceIdeal.Read.gated_at (argU m c) (argW m c) i q).symm

theorem gated_blk (hO : Ok m) (c : Dev nD) (t : Fin (cfgM m hO).N) (y : S256x2048.Idx) (z : S36864x2048.Idx)
    (h0 : (z 0).val = num m hO t * 256 + (y 0).val) (h1 : (z 1).val = (y 1).val) :
    (outsAt0 m hO c t).2 y = Cert.HyenaConvReferenceIdeal.Read.gated (argU m c) (argW m c) z := by
  have e : z = ix2 (z 0) (y 1) := by
    funext a
    match a with
    | ⟨0, _⟩ => rfl
    | ⟨1, _⟩ => exact Fin.ext h1
  rw [e]
  exact (outs_5 m hO c t y).trans (gated_at m hO c t (y 0) (y 1) (z 0) h0)

theorem rows_4 (hO : Ok m) : ((cfgM m hO).win 4).nblk (0 : Fin 2) = 144 := by
  show (36864 + 256 - 1) / 256 = 144
  norm_num
theorem cols_4 (hO : Ok m) : ((cfgM m hO).win 4).nblk (1 : Fin 2) = 1 := by
  show (2048 + 2048 - 1) / 2048 = 1
  norm_num

/-- The window walks the 144 blocks. -/
theorem cov_4 (hO : Ok m) : ((cfgM m hO).win 4).Covers := by
  refine ((cfgM m hO).win 4).covers_of_indexMap_surj rfl (fun a => ?_) fun β => ?_
  · match a with
    | ⟨0, _⟩ => exact (by decide : 0 < 256)
    | ⟨1, _⟩ => exact (by decide : 0 < 2048)
  · have h0 : (β (0 : Fin 2)).val < 144 := lt_of_lt_of_eq (β (0 : Fin 2)).isLt (rows_4 m hO)
    have h1 : (β (1 : Fin 2)).val < 1 := lt_of_lt_of_eq (β (1 : Fin 2)).isLt (cols_4 m hO)
    refine ⟨(fun a => match a with | ⟨0, _⟩ => ⟨(β (0 : Fin 2)).val, h0⟩ : grid0.Coords), fun a => ?_⟩
    match a with
    | ⟨0, _⟩ =>
      show (BitVec.ofNat 32 (β (0 : Fin 2)).val).toNat = (β (0 : Fin 2)).val
      rw [BitVec.toNat_ofNat]; omega
    | ⟨1, _⟩ =>
      show 0 = (β (1 : Fin 2)).val
      omega

theorem place_4 (hO : Ok m) (t : Fin (cfgM m hO).N) (y : S256x2048.Idx) (a : Fin 2) :
    ((((cfgM m hO).win 4).rect t).emb y a : ℕ) = (![(BitVec.ofNat 32 (grid0.coords t 0).val).toNat, 0] : Fin 2 → ℕ) a * S256x2048.size a + (y a).val :=
  Pipeline.Window.rect_emb_val ((cfgM m hO).win 4) t y a rfl

theorem final_4 (hO : Ok m) (c : Dev nD) : (dats m hO 0 c).arrAt 4 (cfgM m hO).N = Cert.HyenaConvReferenceIdeal.Read.first (argU m c) (argW m c) := by
  refine (dats m hO 0 c).arrAt_eq_of_covers 4 _ (cov_4 m hO) fun t _ y => ?_
  refine (congrFun (after0_4 m hO c t) y).trans (first_blk m hO c t y _ ?_ ?_)
  · refine (place_4 m hO t y 0).trans ?_
    exact congrArg (fun n : ℕ => n * 256 + (y (0 : Fin 2)).val) (word _ (num_lt m hO t))
  · refine (place_4 m hO t y 1).trans ?_
    show 0 * 2048 + (y (1 : Fin 2)).val = (y (1 : Fin 2)).val
    omega

theorem rows_5 (hO : Ok m) : ((cfgM m hO).win 5).nblk (0 : Fin 2) = 144 := by
  show (36864 + 256 - 1) / 256 = 144
  norm_num
theorem cols_5 (hO : Ok m) : ((cfgM m hO).win 5).nblk (1 : Fin 2) = 1 := by
  show (2048 + 2048 - 1) / 2048 = 1
  norm_num

/-- The window walks the 144 blocks. -/
theorem cov_5 (hO : Ok m) : ((cfgM m hO).win 5).Covers := by
  refine ((cfgM m hO).win 5).covers_of_indexMap_surj rfl (fun a => ?_) fun β => ?_
  · match a with
    | ⟨0, _⟩ => exact (by decide : 0 < 256)
    | ⟨1, _⟩ => exact (by decide : 0 < 2048)
  · have h0 : (β (0 : Fin 2)).val < 144 := lt_of_lt_of_eq (β (0 : Fin 2)).isLt (rows_5 m hO)
    have h1 : (β (1 : Fin 2)).val < 1 := lt_of_lt_of_eq (β (1 : Fin 2)).isLt (cols_5 m hO)
    refine ⟨(fun a => match a with | ⟨0, _⟩ => ⟨(β (0 : Fin 2)).val, h0⟩ : grid0.Coords), fun a => ?_⟩
    match a with
    | ⟨0, _⟩ =>
      show (BitVec.ofNat 32 (β (0 : Fin 2)).val).toNat = (β (0 : Fin 2)).val
      rw [BitVec.toNat_ofNat]; omega
    | ⟨1, _⟩ =>
      show 0 = (β (1 : Fin 2)).val
      omega

theorem place_5 (hO : Ok m) (t : Fin (cfgM m hO).N) (y : S256x2048.Idx) (a : Fin 2) :
    ((((cfgM m hO).win 5).rect t).emb y a : ℕ) = (![(BitVec.ofNat 32 (grid0.coords t 0).val).toNat, 0] : Fin 2 → ℕ) a * S256x2048.size a + (y a).val :=
  Pipeline.Window.rect_emb_val ((cfgM m hO).win 5) t y a rfl

theorem final_5 (hO : Ok m) (c : Dev nD) : (dats m hO 0 c).arrAt 5 (cfgM m hO).N = Cert.HyenaConvReferenceIdeal.Read.gated (argU m c) (argW m c) := by
  refine (dats m hO 0 c).arrAt_eq_of_covers 5 _ (cov_5 m hO) fun t _ y => ?_
  refine (congrFun (after0_5 m hO c t) y).trans (gated_blk m hO c t y _ ?_ ?_)
  · refine (place_5 m hO t y 0).trans ?_
    exact congrArg (fun n : ℕ => n * 256 + (y (0 : Fin 2)).val) (word _ (num_lt m hO t))
  · refine (place_5 m hO t y 1).trans ?_
    show 0 * 2048 + (y (1 : Fin 2)).val = (y (1 : Fin 2)).val
    omega

end Cert.HyenaConvIdeal.Closed

namespace Cert.HyenaConvClaims

open Idealize.ShloMosaic Idealize.ShloMosaic.TcCoe Idealize.SL.Sem

theorem algebraic : Cert.algebraic_HyenaConvIdeal_HyenaConvReferenceIdeal := by
  intro m g m' g' _ hargs
  have hO := Cert.HyenaConvIdeal.Hand.ok m
  refine ⟨fun c => Cert.HyenaConvReferenceIdeal.Read.first (Cert.HyenaConvIdeal.Closed.argU m c) (Cert.HyenaConvIdeal.Closed.argW m c),
    fun c => Cert.HyenaConvReferenceIdeal.Read.gated (Cert.HyenaConvIdeal.Closed.argU m c) (Cert.HyenaConvIdeal.Closed.argW m c), ?_, ?_⟩
  · exact (θ_run Cert.HyenaConvIdeal.defs _ _).mono
      (fun r h c => ⟨((h.1 c).1 4).trans (Cert.HyenaConvIdeal.Closed.final_4 m hO c), ((h.1 c).1 5).trans (Cert.HyenaConvIdeal.Closed.final_5 m hO c), h.2 c⟩)
      (θ_run_and (Cert.HyenaConvIdeal.Gen.run_main m g hO) (Cert.HyenaConvIdeal.Gen.unchanged m g hO))
  · refine (θ_run Cert.HyenaConvReferenceIdeal.defs _ _).mono (fun r h c => ⟨(h c).1.trans ?_, (h c).2.1.trans ?_, (h c).2.2⟩)
      (Cert.HyenaConvReferenceIdeal.Value.run m' g')
    · refine (Cert.HyenaConvReferenceIdeal.Read.first_eq m' c).trans ?_
      rw [(hargs c).1, (hargs c).2]
      rfl
    · refine (Cert.HyenaConvReferenceIdeal.Read.gated_eq m' c).trans ?_
      rw [(hargs c).1, (hargs c).2]
      rfl

end Cert.HyenaConvClaims

end
-- ==== Proof.lean ====
/-
  The claims about the routed experts, the input and output projections of the DeltaNet and Hyena branches, the final
  normalisation of the prompt rows and of the sample rows, the modulation of the layers, and the Hyena branch's short
  convolution.
-/
module

public import proofs.«01_k».proof.Defs
public import proofs.«01_k».proof.Proof.Gen.Pre_moe_pre
public import proofs.«01_k».proof.Proof.Gen.ReferenceIdeal.Run
public import proofs.«01_k».proof.Proof.Gen.FinalPrompt.Frame
public import proofs.«01_k».proof.Proof.Gen.FinalSample.Frame
public import proofs.«01_k».proof.Proof.ExpertsOk
public import proofs.«01_k».proof.Proof.ExpertsIdealOk
public import proofs.«01_k».proof.Proof.ExpertsValue
public import proofs.«01_k».proof.Proof.HyenaInOk
public import proofs.«01_k».proof.Proof.HyenaInIdealOk
public import proofs.«01_k».proof.Proof.HyenaInValue
public import proofs.«01_k».proof.Proof.FinalPrompt
public import proofs.«01_k».proof.Proof.FinalSample
public import proofs.«01_k».proof.Proof.Gen.Modulation.Frame
public import proofs.«01_k».proof.Proof.Modulation
public import proofs.«01_k».proof.Proof.DeltaInOk
public import proofs.«01_k».proof.Proof.DeltaInIdealOk
public import proofs.«01_k».proof.Proof.DeltaInValue
public import proofs.«01_k».proof.Proof.DeltaOutOk
public import proofs.«01_k».proof.Proof.DeltaOutIdealOk
public import proofs.«01_k».proof.Proof.DeltaOutValue
public import proofs.«01_k».proof.Proof.HyenaOutOk
public import proofs.«01_k».proof.Proof.HyenaOutIdealOk
public import proofs.«01_k».proof.Proof.HyenaOutValue
public import proofs.«01_k».proof.Proof.HyenaConvOk
public import proofs.«01_k».proof.Proof.HyenaConvIdealOk
public import proofs.«01_k».proof.Proof.HyenaConvValue
public import Idealize.ShloMosaic.Lib.Quiescent

@[expose] public section

noncomputable section

namespace Cert.Proof

open Idealize.ShloMosaic Idealize.SL.Sem

theorem quiescent_experts_reference : Cert.quiescent_ReferenceIdeal := fun m g _ =>
  θ_run_mono (Cert.ReferenceIdeal.Value.run m g) fun r h => ⟨fun c => (h c).2, sem_eq_zero_of_no_sems rfl r.2⟩

theorem quiescent_hyena_reference : Cert.quiescent_HyenaInReferenceIdeal := fun m g _ =>
  θ_run_mono (Cert.HyenaInReferenceIdeal.Value.run m g) fun r h => ⟨fun c => (h c).2, sem_eq_zero_of_no_sems rfl r.2⟩

theorem quiescent_prompt_reference : Cert.quiescent_FinalPromptReferenceIdeal := fun m g _ =>
  θ_run_mono (Cert.FinalPromptReferenceIdeal.Value.run m g) fun r h => ⟨fun c => (h c).2, sem_eq_zero_of_no_sems rfl r.2⟩

theorem quiescent_sample_reference : Cert.quiescent_FinalSampleReferenceIdeal := fun m g _ =>
  θ_run_mono (Cert.FinalSampleReferenceIdeal.Value.run m g) fun r h => ⟨fun c => (h c).2, sem_eq_zero_of_no_sems rfl r.2⟩

theorem quiescent_delta_in_reference : Cert.quiescent_DeltaInReferenceIdeal := fun m g _ =>
  θ_run_mono (Cert.DeltaInReferenceIdeal.Value.run m g) fun r h => ⟨fun c => (h c).2.2, sem_eq_zero_of_no_sems rfl r.2⟩

theorem quiescent_delta_out_reference : Cert.quiescent_DeltaOutReferenceIdeal := fun m g _ =>
  θ_run_mono (Cert.DeltaOutReferenceIdeal.Value.run m g) fun r h => ⟨fun c => (h c).2, sem_eq_zero_of_no_sems rfl r.2⟩

theorem quiescent_hyena_out_reference : Cert.quiescent_HyenaOutReferenceIdeal := fun m g _ =>
  θ_run_mono (Cert.HyenaOutReferenceIdeal.Value.run m g) fun r h => ⟨fun c => (h c).2, sem_eq_zero_of_no_sems rfl r.2⟩

theorem quiescent_modulation_reference : Cert.quiescent_ModulationReferenceIdeal := fun m g _ =>
  θ_run_mono (Cert.ModulationReferenceIdeal.Value.run m g) fun r h => ⟨fun c => (h c).2, sem_eq_zero_of_no_sems rfl r.2⟩

theorem quiescent_hyena_conv_reference : Cert.quiescent_HyenaConvReferenceIdeal := fun m g _ =>
  θ_run_mono (Cert.HyenaConvReferenceIdeal.Value.run m g) fun r h => ⟨fun c => (h c).2.2, sem_eq_zero_of_no_sems rfl r.2⟩

theorem claim : Cert.Claim :=
  ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    Cert.Experts.Claims.quiescent, Cert.ExpertsIdeal.Claims.quiescent, quiescent_experts_reference,
    Cert.HyenaIn.Claims.quiescent, Cert.HyenaInIdeal.Claims.quiescent, quiescent_hyena_reference,
    fun m g _ => Cert.FinalPrompt.Gen.frame m g, fun m g _ => Cert.FinalPromptIdeal.Gen.frame m g, quiescent_prompt_reference,
    fun m g _ => Cert.FinalSample.Gen.frame m g, fun m g _ => Cert.FinalSampleIdeal.Gen.frame m g, quiescent_sample_reference,
    Cert.DeltaIn.Claims.quiescent, Cert.DeltaInIdeal.Claims.quiescent, quiescent_delta_in_reference,
    Cert.DeltaOut.Claims.quiescent, Cert.DeltaOutIdeal.Claims.quiescent, quiescent_delta_out_reference,
    Cert.HyenaOut.Claims.quiescent, Cert.HyenaOutIdeal.Claims.quiescent, quiescent_hyena_out_reference,
    fun m g _ => Cert.Modulation.Gen.frame m g, fun m g _ => Cert.ModulationIdeal.Gen.frame m g, quiescent_modulation_reference,
    Cert.HyenaConv.Claims.quiescent, Cert.HyenaConvIdeal.Claims.quiescent, quiescent_hyena_conv_reference,
    trivial, Cert.ExpertsClaims.algebraic, trivial, Cert.HyenaInClaims.algebraic,
    trivial, Cert.FinalPromptClaims.algebraic, trivial, Cert.FinalSampleClaims.algebraic,
    trivial, Cert.DeltaInClaims.algebraic,
    trivial, Cert.DeltaOutClaims.algebraic,
    trivial, Cert.HyenaOutClaims.algebraic,
    trivial, Cert.ModulationClaims.algebraic,
    trivial, Cert.HyenaConvClaims.algebraic⟩

end Cert.Proof

end
